-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_sq" .f32 0x3EF5FDF0#32 (((Real.log 2) * (Real.log 2) : ℝ) : EReal)

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S4x1024x2048 : Shape := ⟨3, ![4, 1024, 2048]⟩
abbrev S4x1024 : Shape := ⟨2, ![4, 1024]⟩
abbrev S50304x2048 : Shape := ⟨2, ![50304, 2048]⟩
abbrev S393x16 : Shape := ⟨2, ![393, 16]⟩
abbrev S4x1024x7 : Shape := ⟨3, ![4, 1024, 7]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S50304x2048 : S_.BroadcastsInDim S50304x2048 (![] : Fin 0 → Fin S50304x2048.rank)
  reducesTo_S50304x2048_S_d0_1 : S50304x2048.ReducesTo [0, 1] S_
  bcast_S_S4x1024 : S_.BroadcastsInDim S4x1024 (![] : Fin 0 → Fin S4x1024.rank)
  reducesTo_S4x1024_S_d0_1 : S4x1024.ReducesTo [0, 1] S_
  bcast_S_S393x16 : S_.BroadcastsInDim S393x16 (![] : Fin 0 → Fin S393x16.rank)
  reducesTo_S393x16_S_d0_1 : S393x16.ReducesTo [0, 1] S_
  bcast_S_S4x1024x7 : S_.BroadcastsInDim S4x1024x7 (![] : Fin 0 → Fin S4x1024x7.rank)
  reducesTo_S4x1024x7_S_d0_1_2 : S4x1024x7.ReducesTo [0, 1, 2] S_

variable [Facts]

def fn_part2 {F : FTy → Type} [FloatOps F] (main_v28 : IVec S_ 1) (main_v33 : IVec S4x1024x7 1) : IVec S_ 1 :=
  let main_c_12 : IVec S_ 1 := constantI S_ 1 1#1
  let main_v34 : IVec S_ 1 := (fun x v => Host.reduce IntOp.andi x v reducesTo_S4x1024x7_S_d0_1_2 h_S_) main_v33 main_c_12
  let main_v35 : IVec S_ 1 := andi main_v28 main_v34
  main_v35

def fn_part1 {F : FTy → Type} [FloatOps F] (main_arg1 : FVec F S4x1024 .f32) (main_arg3 : FVec F S393x16 .f32) (main_arg4 : IVec S4x1024x7 32) (main_v12 : IVec S_ 1) (main_v14 : IVec S4x1024 1) (main_v15 : FVec F S_ .f32) : IVec S_ 1 :=
  let main_v16 : FVec F S4x1024 .f32 := broadcastInDim S4x1024 ![] bcast_S_S4x1024 main_v15
  let main_v17 : IVec S4x1024 1 := cmpf .oge main_arg1 main_v16
  let main_v18 : IVec S4x1024 1 := andi main_v14 main_v17
  let main_c_6 : IVec S_ 1 := constantI S_ 1 1#1
  let main_v19 : IVec S_ 1 := (fun x v => Host.reduce IntOp.andi x v reducesTo_S4x1024_S_d0_1 h_S_) main_v18 main_c_6
  let main_v20 : IVec S_ 1 := andi main_v12 main_v19
  let main_cst_7 : FVec F S_ .f32 := constant S_ .f32 0x7F7FFFFF#32
  let main_v21 : FVec F S393x16 .f32 := broadcastInDim S393x16 ![] bcast_S_S393x16 main_cst_7
  let main_v22 : IVec S393x16 1 := cmpf .ole main_arg3 main_v21
  let main_cst_8 : FVec F S_ .f32 := constant S_ .f32 0x7F7FFFFF#32
  let main_v23 : FVec F S_ .f32 := Host.negf main_cst_8
  let main_v24 : FVec F S393x16 .f32 := broadcastInDim S393x16 ![] bcast_S_S393x16 main_v23
  let main_v25 : IVec S393x16 1 := cmpf .oge main_arg3 main_v24
  let main_v26 : IVec S393x16 1 := andi main_v22 main_v25
  let main_c_9 : IVec S_ 1 := constantI S_ 1 1#1
  let main_v27 : IVec S_ 1 := (fun x v => Host.reduce IntOp.andi x v reducesTo_S393x16_S_d0_1 h_S_) main_v26 main_c_9
  let main_v28 : IVec S_ 1 := andi main_v20 main_v27
  let main_c_10 : IVec S_ 32 := constantI S_ 32 0#32
  let main_v29 : IVec S4x1024x7 32 := broadcastInDim S4x1024x7 ![] bcast_S_S4x1024x7 main_c_10
  let main_v30 : IVec S4x1024x7 1 := cmpi .sge main_arg4 main_v29
  let main_c_11 : IVec S_ 32 := constantI S_ 32 50304#32
  let main_v31 : IVec S4x1024x7 32 := broadcastInDim S4x1024x7 ![] bcast_S_S4x1024x7 main_c_11
  let main_v32 : IVec S4x1024x7 1 := cmpi .slt main_arg4 main_v31
  let main_v33 : IVec S4x1024x7 1 := andi main_v30 main_v32
  fn_part2 (F := F) main_v28 main_v33

def fn {F : FTy → Type} [FloatOps F] (main_arg0 : IVec S4x1024x2048 8) (main_arg1 : FVec F S4x1024 .f32) (main_arg2 : IVec S50304x2048 8) (main_arg3 : FVec F S393x16 .f32) (main_arg4 : IVec S4x1024x7 32) : IVec S_ 1 :=
  let main_c : IVec S_ 8 := constantI S_ 8 127#8
  let main_v0 : IVec S4x1024x2048 8 := broadcastInDim S4x1024x2048 ![] bcast_S_S4x1024x2048 main_c
  let main_v1 : IVec S4x1024x2048 1 := cmpi .ne main_arg0 main_v0
  let main_c_0 : IVec S_ 8 := constantI S_ 8 255#8
  let main_v2 : IVec S4x1024x2048 8 := broadcastInDim S4x1024x2048 ![] bcast_S_S4x1024x2048 main_c_0
  let main_v3 : IVec S4x1024x2048 1 := cmpi .ne main_arg0 main_v2
  let main_v4 : IVec S4x1024x2048 1 := andi main_v1 main_v3
  let main_c_1 : IVec S_ 1 := constantI S_ 1 1#1
  let main_v5 : IVec S_ 1 := (fun x v => Host.reduce IntOp.andi x v reducesTo_S4x1024x2048_S_d0_1_2 h_S_) main_v4 main_c_1
  let main_c_2 : IVec S_ 8 := constantI S_ 8 127#8
  let main_v6 : IVec S50304x2048 8 := broadcastInDim S50304x2048 ![] bcast_S_S50304x2048 main_c_2
  let main_v7 : IVec S50304x2048 1 := cmpi .ne main_arg2 main_v6
  let main_c_3 : IVec S_ 8 := constantI S_ 8 255#8
  let main_v8 : IVec S50304x2048 8 := broadcastInDim S50304x2048 ![] bcast_S_S50304x2048 main_c_3
  let main_v9 : IVec S50304x2048 1 := cmpi .ne main_arg2 main_v8
  let main_v10 : IVec S50304x2048 1 := andi main_v7 main_v9
  let main_c_4 : IVec S_ 1 := constantI S_ 1 1#1
  let main_v11 : IVec S_ 1 := (fun x v => Host.reduce IntOp.andi x v reducesTo_S50304x2048_S_d0_1 h_S_) main_v10 main_c_4
  let main_v12 : IVec S_ 1 := andi main_v5 main_v11
  let main_cst : FVec F S_ .f32 := constant S_ .f32 0x7F7FFFFF#32
  let main_v13 : FVec F S4x1024 .f32 := broadcastInDim S4x1024 ![] bcast_S_S4x1024 main_cst
  let main_v14 : IVec S4x1024 1 := cmpf .ole main_arg1 main_v13
  let main_cst_5 : FVec F S_ .f32 := constant S_ .f32 0x7F7FFFFF#32
  let main_v15 : FVec F S_ .f32 := Host.negf main_cst_5
  fn_part1 (F := F) main_arg1 main_arg3 main_arg4 main_v12 main_v14 main_v15
-- ==== Kernel.lean ====
abbrev S4x1024x2048 : Shape := ⟨3, ![4, 1024, 2048]⟩
abbrev S4x1024 : Shape := ⟨2, ![4, 1024]⟩
abbrev S50304x2048 : Shape := ⟨2, ![50304, 2048]⟩
abbrev S393x16 : Shape := ⟨2, ![393, 16]⟩
abbrev S4x1024x7 : Shape := ⟨3, ![4, 1024, 7]⟩
abbrev S4096x2048 : Shape := ⟨2, ![4096, 2048]⟩
abbrev S1x4096 : Shape := ⟨2, ![1, 4096]⟩
abbrev S8x4096 : Shape := ⟨2, ![8, 4096]⟩
abbrev S393x16x128 : Shape := ⟨3, ![393, 16, 128]⟩
abbrev S393x2048 : Shape := ⟨2, ![393, 2048]⟩
abbrev S131x3x2048 : Shape := ⟨3, ![131, 3, 2048]⟩
abbrev S4096x7 : Shape := ⟨2, ![4096, 7]⟩
abbrev S7x4096 : Shape := ⟨2, ![7, 4096]⟩
abbrev S384x2048 : Shape := ⟨2, ![384, 2048]⟩
abbrev S1x3x2048 : Shape := ⟨3, ![1, 3, 2048]⟩
abbrev S2x384x512 : Shape := ⟨3, ![2, 384, 512]⟩
abbrev S7x8x4096 : Shape := ⟨3, ![7, 8, 4096]⟩
abbrev S384x512 : Shape := ⟨2, ![384, 512]⟩
abbrev S1x384x512 : Shape := ⟨3, ![1, 384, 512]⟩
abbrev S1x1x2048 : Shape := ⟨3, ![1, 1, 2048]⟩
abbrev S1x2048 : Shape := ⟨2, ![1, 2048]⟩
abbrev S128x2048 : Shape := ⟨2, ![128, 2048]⟩
abbrev S512x2048 : Shape := ⟨2, ![512, 2048]⟩
abbrev S1x8x128 : Shape := ⟨3, ![1, 8, 128]⟩
abbrev S8x128 : Shape := ⟨2, ![8, 128]⟩
abbrev S1x128 : Shape := ⟨2, ![1, 128]⟩
abbrev S4096 : Shape := ⟨1, ![4096]⟩
abbrev S1x8x4096 : Shape := ⟨3, ![1, 8, 4096]⟩

abbrev nBuf : Space → Nat
  | .hbm => 18
  | .vmem => 17
  | .smem => 0
  | _ => 0

abbrev bufTy : (tb : Table) → Fin (tcTables nBuf tb) → BufTy
  | .hbm, ⟨0, _⟩ => ⟨S4x1024x2048, .i8⟩
  | .hbm, ⟨1, _⟩ => ⟨S4x1024, .f32⟩
  | .hbm, ⟨2, _⟩ => ⟨S50304x2048, .i8⟩
  | .hbm, ⟨3, _⟩ => ⟨S393x16, .f32⟩
  | .hbm, ⟨4, _⟩ => ⟨S4x1024x7, .i32⟩
  | .hbm, ⟨5, _⟩ => ⟨S4x1024x2048, .fp8e4m3⟩
  | .hbm, ⟨6, _⟩ => ⟨S50304x2048, .fp8e4m3⟩
  | .hbm, ⟨7, _⟩ => ⟨S4096x2048, .fp8e4m3⟩
  | .hbm, ⟨8, _⟩ => ⟨S1x4096, .f32⟩
  | .hbm, ⟨9, _⟩ => ⟨S8x4096, .f32⟩
  | .hbm, ⟨10, _⟩ => ⟨S393x16x128, .f32⟩
  | .hbm, ⟨11, _⟩ => ⟨S393x2048, .f32⟩
  | .hbm, ⟨12, _⟩ => ⟨S131x3x2048, .f32⟩
  | .hbm, ⟨13, _⟩ => ⟨S4096x7, .i32⟩
  | .hbm, ⟨14, _⟩ => ⟨S7x4096, .i32⟩
  | .hbm, ⟨15, _⟩ => ⟨S1x4096, .f32⟩
  | .hbm, ⟨16, _⟩ => ⟨S1x4096, .f32⟩
  | .hbm, ⟨17, _⟩ => ⟨S7x4096, .f32⟩
  | .local _ .vmem, ⟨0, _⟩ => ⟨S4096x2048, .fp8e4m3⟩
  | .local _ .vmem, ⟨1, _⟩ => ⟨S384x2048, .fp8e4m3⟩
  | .local _ .vmem, ⟨2, _⟩ => ⟨S384x2048, .fp8e4m3⟩
  | .local _ .vmem, ⟨3, _⟩ => ⟨S1x3x2048, .f32⟩
  | .local _ .vmem, ⟨4, _⟩ => ⟨S1x3x2048, .f32⟩
  | .local _ .vmem, ⟨5, _⟩ => ⟨S8x4096, .f32⟩
  | .local _ .vmem, ⟨6, _⟩ => ⟨S7x4096, .i32⟩
  | .local _ .vmem, ⟨7, _⟩ => ⟨S1x4096, .f32⟩
  | .local _ .vmem, ⟨8, _⟩ => ⟨S1x4096, .f32⟩
  | .local _ .vmem, ⟨9, _⟩ => ⟨S7x4096, .f32⟩
  | .local _ .vmem, ⟨10, _⟩ => ⟨S384x2048, .bf16⟩
  | .local _ .vmem, ⟨11, _⟩ => ⟨S2x384x512, .f32⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | .local _ .vmem, ⟨15, _⟩ => ⟨S8x4096, .f32⟩
  | .local _ .vmem, ⟨16, _⟩ => ⟨S7x8x4096, .f32⟩
  | _, _ => ⟨S4x1024x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![131], ![false]⟩

@[reducible] def k0_t1_loop : Scf.Loop 32 :=
  let c0_i32_17 : BitVec 32 := 0#32
  let c8_i32 : BitVec 32 := 8#32
  let v36 : BitVec 32 := Scalar.addi c0_i32_17 c8_i32
  let c1_i32 : BitVec 32 := 1#32
  ⟨c0_i32_17, v36, c1_i32⟩
def k0_mult1 (k0_t1 : Fin k0_t1_loop.trips) : BitVec 32 :=
  let c0_i32_17 : BitVec 32 := 0#32
  let c1_i32 : BitVec 32 := 1#32
  let arg16 : BitVec 32 := Scf.iv c0_i32_17 c1_i32 k0_t1
  let c512_i32 : BitVec 32 := 512#32
  let v41 : BitVec 32 := Scalar.muli arg16 c512_i32
  v41
def k0_off1 (k0_t1 : Fin k0_t1_loop.trips) : Fin 2 → Nat :=
  let c0_i32_17 : BitVec 32 := 0#32
  let c1_i32 : BitVec 32 := 1#32
  let arg16 : BitVec 32 := Scf.iv c0_i32_17 c1_i32 k0_t1
  let c512_i32 : BitVec 32 := 512#32
  let v41 : BitVec 32 := Scalar.muli arg16 c512_i32
  let v42 : BitVec 32 := v41
  let v43 : Index := Scalar.indexCast v42
  let c0_22 : Index := 0#32
  ![v43.toNat, 0]
def k0_off2 (k0_t1 : Fin k0_t1_loop.trips) : Fin 3 → Nat :=
  let c0_i32_17 : BitVec 32 := 0#32
  let c1_i32 : BitVec 32 := 1#32
  let arg16 : BitVec 32 := Scf.iv c0_i32_17 c1_i32 k0_t1
  let c2_i32 : BitVec 32 := 2#32
  let v47 : BitVec 32 := Scalar.remsi arg16 c2_i32
  let v48 : Index := Scalar.indexCast v47
  let c0_23 : Index := 0#32
  let c0_24 : Index := 0#32
  ![v48.toNat, 0, 0]
@[reducible] def k0_t2_loop : Scf.Loop 32 :=
  let c0_i32_34 : BitVec 32 := 0#32
  let c4_i32 : BitVec 32 := 4#32
  let v65 : BitVec 32 := Scalar.addi c0_i32_34 c4_i32
  let c1_i32_35 : BitVec 32 := 1#32
  ⟨c0_i32_34, v65, c1_i32_35⟩
def k0_mult2 (k0_t1 : Fin k0_t1_loop.trips) (k0_t2 : Fin k0_t2_loop.trips) : BitVec 32 :=
  let c0_i32_17 : BitVec 32 := 0#32
  let c1_i32 : BitVec 32 := 1#32
  let arg16 : BitVec 32 := Scf.iv c0_i32_17 c1_i32 k0_t1
  let c0_i32_25 : BitVec 32 := 0#32
  let v52 : BitVec 1 := Scalar.cmpi .sgt arg16 c0_i32_25
  let c1_i32_26 : BitVec 32 := 1#32
  let v53 : BitVec 32 := Scalar.subi arg16 c1_i32_26
  let c7_i32 : BitVec 32 := 7#32
  let v54 : BitVec 32 := Scalar.select v52 v53 c7_i32
  let c512_i32_33 : BitVec 32 := 512#32
  let v64 : BitVec 32 := Scalar.muli v54 c512_i32_33
  let c0_i32_34 : BitVec 32 := 0#32
  let c1_i32_35 : BitVec 32 := 1#32
  let arg17 : BitVec 32 := Scf.iv c0_i32_34 c1_i32_35 k0_t2
  let c128_i32 : BitVec 32 := 128#32
  let v71 : BitVec 32 := Scalar.muli arg17 c128_i32
  let v72 : BitVec 32 := Scalar.addi v64 v71
  v72
def k0_mult3 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_44 : BitVec 32 := 128#32
  let v74 : BitVec 32 := Scalar.muli arg17 c128_i32_44
  v74
def k0_off3 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v76 : Index := Scalar.indexCast v63
  let c0_45 : Index := 0#32
  let c0_i32_34 : BitVec 32 := 0#32
  let c1_i32_35 : BitVec 32 := 1#32
  let arg17 : BitVec 32 := Scf.iv c0_i32_34 c1_i32_35 k0_t2
  let c128_i32_44 : BitVec 32 := 128#32
  let v74 : BitVec 32 := Scalar.muli arg17 c128_i32_44
  let v75 : BitVec 32 := v74
  let v77 : Index := Scalar.indexCast v75
  ![v76.toNat, 0, v77.toNat]
def k0_mult4 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_46 : BitVec 32 := 128#32
  let v80 : BitVec 32 := Scalar.muli arg17 c128_i32_46
  v80
def k0_off4 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v82 : Index := Scalar.indexCast v63
  let c8 : Index := 8#32
  let c0_i32_34 : BitVec 32 := 0#32
  let c1_i32_35 : BitVec 32 := 1#32
  let arg17 : BitVec 32 := Scf.iv c0_i32_34 c1_i32_35 k0_t2
  let c128_i32_46 : BitVec 32 := 128#32
  let v80 : BitVec 32 := Scalar.muli arg17 c128_i32_46
  let v81 : BitVec 32 := v80
  let v83 : Index := Scalar.indexCast v81
  ![v82.toNat, 8, v83.toNat]
def k0_mult5 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_47 : BitVec 32 := 128#32
  let v87 : BitVec 32 := Scalar.muli arg17 c128_i32_47
  v87
def k0_off5 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v89 : Index := Scalar.indexCast v63
  let c16 : Index := 16#32
  let c0_i32_34 : BitVec 32 := 0#32
  let c1_i32_35 : BitVec 32 := 1#32
  let arg17 : BitVec 32 := Scf.iv c0_i32_34 c1_i32_35 k0_t2
  let c128_i32_47 : BitVec 32 := 128#32
  let v87 : BitVec 32 := Scalar.muli arg17 c128_i32_47
  let v88 : BitVec 32 := v87
  let v90 : Index := Scalar.indexCast v88
  ![v89.toNat, 16, v90.toNat]
def k0_mult6 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_48 : BitVec 32 := 128#32
  let v94 : BitVec 32 := Scalar.muli arg17 c128_i32_48
  v94
def k0_off6 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v96 : Index := Scalar.indexCast v63
  let c24 : Index := 24#32
  let c0_i32_34 : BitVec 32 := 0#32
  let c1_i32_35 : BitVec 32 := 1#32
  let arg17 : BitVec 32 := Scf.iv c0_i32_34 c1_i32_35 k0_t2
  let c128_i32_48 : BitVec 32 := 128#32
  let v94 : BitVec 32 := Scalar.muli arg17 c128_i32_48
  let v95 : BitVec 32 := v94
  let v97 : Index := Scalar.indexCast v95
  ![v96.toNat, 24, v97.toNat]
def k0_mult7 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_49 : BitVec 32 := 128#32
  let v101 : BitVec 32 := Scalar.muli arg17 c128_i32_49
  v101
def k0_off7 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v103 : Index := Scalar.indexCast v63
  let c32 : Index := 32#32
  let c0_i32_34 : BitVec 32 := 0#32
  let c1_i32_35 : BitVec 32 := 1#32
  let arg17 : BitVec 32 := Scf.iv c0_i32_34 c1_i32_35 k0_t2
  let c128_i32_49 : BitVec 32 := 128#32
  let v101 : BitVec 32 := Scalar.muli arg17 c128_i32_49
  let v102 : BitVec 32 := v101
  let v104 : Index := Scalar.indexCast v102
  ![v103.toNat, 32, v104.toNat]
def k0_mult8 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_50 : BitVec 32 := 128#32
  let v108 : BitVec 32 := Scalar.muli arg17 c128_i32_50
  v108
def k0_off8 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v110 : Index := Scalar.indexCast v63
  let c40 : Index := 40#32
  let c0_i32_34 : BitVec 32 := 0#32
  let c1_i32_35 : BitVec 32 := 1#32
  let arg17 : BitVec 32 := Scf.iv c0_i32_34 c1_i32_35 k0_t2
  let c128_i32_50 : BitVec 32 := 128#32
  let v108 : BitVec 32 := Scalar.muli arg17 c128_i32_50
  let v109 : BitVec 32 := v108
  let v111 : Index := Scalar.indexCast v109
  ![v110.toNat, 40, v111.toNat]
def k0_mult9 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_51 : BitVec 32 := 128#32
  let v115 : BitVec 32 := Scalar.muli arg17 c128_i32_51
  v115
def k0_off9 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v117 : Index := Scalar.indexCast v63
  let c48 : Index := 48#32
  let c0_i32_34 : BitVec 32 := 0#32
  let c1_i32_35 : BitVec 32 := 1#32
  let arg17 : BitVec 32 := Scf.iv c0_i32_34 c1_i32_35 k0_t2
  let c128_i32_51 : BitVec 32 := 128#32
  let v115 : BitVec 32 := Scalar.muli arg17 c128_i32_51
  let v116 : BitVec 32 := v115
  let v118 : Index := Scalar.indexCast v116
  ![v117.toNat, 48, v118.toNat]
def k0_mult10 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_52 : BitVec 32 := 128#32
  let v122 : BitVec 32 := Scalar.muli arg17 c128_i32_52
  v122
def k0_off10 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v124 : Index := Scalar.indexCast v63
  let c56 : Index := 56#32
  let c0_i32_34 : BitVec 32 := 0#32
  let c1_i32_35 : BitVec 32 := 1#32
  let arg17 : BitVec 32 := Scf.iv c0_i32_34 c1_i32_35 k0_t2
  let c128_i32_52 : BitVec 32 := 128#32
  let v122 : BitVec 32 := Scalar.muli arg17 c128_i32_52
  let v123 : BitVec 32 := v122
  let v125 : Index := Scalar.indexCast v123
  ![v124.toNat, 56, v125.toNat]
def k0_mult11 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_53 : BitVec 32 := 128#32
  let v129 : BitVec 32 := Scalar.muli arg17 c128_i32_53
  v129
def k0_off11 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v131 : Index := Scalar.indexCast v63
  let c64 : Index := 64#32
  let c0_i32_34 : BitVec 32 := 0#32
  let c1_i32_35 : BitVec 32 := 1#32
  let arg17 : BitVec 32 := Scf.iv c0_i32_34 c1_i32_35 k0_t2
  let c128_i32_53 : BitVec 32 := 128#32
  let v129 : BitVec 32 := Scalar.muli arg17 c128_i32_53
  let v130 : BitVec 32 := v129
  let v132 : Index := Scalar.indexCast v130
  ![v131.toNat, 64, v132.toNat]
def k0_mult12 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_54 : BitVec 32 := 128#32
  let v136 : BitVec 32 := Scalar.muli arg17 c128_i32_54
  v136
def k0_off12 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v138 : Index := Scalar.indexCast v63
  let c72 : Index := 72#32
  let c0_i32_34 : BitVec 32 := 0#32
  let c1_i32_35 : BitVec 32 := 1#32
  let arg17 : BitVec 32 := Scf.iv c0_i32_34 c1_i32_35 k0_t2
  let c128_i32_54 : BitVec 32 := 128#32
  let v136 : BitVec 32 := Scalar.muli arg17 c128_i32_54
  let v137 : BitVec 32 := v136
  let v139 : Index := Scalar.indexCast v137
  ![v138.toNat, 72, v139.toNat]
def k0_mult13 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_55 : BitVec 32 := 128#32
  let v143 : BitVec 32 := Scalar.muli arg17 c128_i32_55
  v143
def k0_off13 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v145 : Index := Scalar.indexCast v63
  let c80 : Index := 80#32
  let c0_i32_34 : BitVec 32 := 0#32
  let c1_i32_35 : BitVec 32 := 1#32
  let arg17 : BitVec 32 := Scf.iv c0_i32_34 c1_i32_35 k0_t2
  let c128_i32_55 : BitVec 32 := 128#32
  let v143 : BitVec 32 := Scalar.muli arg17 c128_i32_55
  let v144 : BitVec 32 := v143
  let v146 : Index := Scalar.indexCast v144
  ![v145.toNat, 80, v146.toNat]
def k0_mult14 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_56 : BitVec 32 := 128#32
  let v150 : BitVec 32 := Scalar.muli arg17 c128_i32_56
  v150
def k0_off14 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v152 : Index := Scalar.indexCast v63
  let c88 : Index := 88#32
  let c0_i32_34 : BitVec 32 := 0#32
  let c1_i32_35 : BitVec 32 := 1#32
  let arg17 : BitVec 32 := Scf.iv c0_i32_34 c1_i32_35 k0_t2
  let c128_i32_56 : BitVec 32 := 128#32
  let v150 : BitVec 32 := Scalar.muli arg17 c128_i32_56
  let v151 : BitVec 32 := v150
  let v153 : Index := Scalar.indexCast v151
  ![v152.toNat, 88, v153.toNat]
def k0_mult15 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_57 : BitVec 32 := 128#32
  let v157 : BitVec 32 := Scalar.muli arg17 c128_i32_57
  v157
def k0_off15 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v159 : Index := Scalar.indexCast v63
  let c96 : Index := 96#32
  let c0_i32_34 : BitVec 32 := 0#32
  let c1_i32_35 : BitVec 32 := 1#32
  let arg17 : BitVec 32 := Scf.iv c0_i32_34 c1_i32_35 k0_t2
  let c128_i32_57 : BitVec 32 := 128#32
  let v157 : BitVec 32 := Scalar.muli arg17 c128_i32_57
  let v158 : BitVec 32 := v157
  let v160 : Index := Scalar.indexCast v158
  ![v159.toNat, 96, v160.toNat]
def k0_mult16 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_58 : BitVec 32 := 128#32
  let v164 : BitVec 32 := Scalar.muli arg17 c128_i32_58
  v164
def k0_off16 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v166 : Index := Scalar.indexCast v63
  let c104 : Index := 104#32
  let c0_i32_34 : BitVec 32 := 0#32
  let c1_i32_35 : BitVec 32 := 1#32
  let arg17 : BitVec 32 := Scf.iv c0_i32_34 c1_i32_35 k0_t2
  let c128_i32_58 : BitVec 32 := 128#32
  let v164 : BitVec 32 := Scalar.muli arg17 c128_i32_58
  let v165 : BitVec 32 := v164
  let v167 : Index := Scalar.indexCast v165
  ![v166.toNat, 104, v167.toNat]
def k0_mult17 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_59 : BitVec 32 := 128#32
  let v171 : BitVec 32 := Scalar.muli arg17 c128_i32_59
  v171
def k0_off17 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v173 : Index := Scalar.indexCast v63
  let c112 : Index := 112#32
  let c0_i32_34 : BitVec 32 := 0#32
  let c1_i32_35 : BitVec 32 := 1#32
  let arg17 : BitVec 32 := Scf.iv c0_i32_34 c1_i32_35 k0_t2
  let c128_i32_59 : BitVec 32 := 128#32
  let v171 : BitVec 32 := Scalar.muli arg17 c128_i32_59
  let v172 : BitVec 32 := v171
  let v174 : Index := Scalar.indexCast v172
  ![v173.toNat, 112, v174.toNat]
def k0_mult18 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_60 : BitVec 32 := 128#32
  let v178 : BitVec 32 := Scalar.muli arg17 c128_i32_60
  v178
def k0_off18 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v180 : Index := Scalar.indexCast v63
  let c120 : Index := 120#32
  let c0_i32_34 : BitVec 32 := 0#32
  let c1_i32_35 : BitVec 32 := 1#32
  let arg17 : BitVec 32 := Scf.iv c0_i32_34 c1_i32_35 k0_t2
  let c128_i32_60 : BitVec 32 := 128#32
  let v178 : BitVec 32 := Scalar.muli arg17 c128_i32_60
  let v179 : BitVec 32 := v178
  let v181 : Index := Scalar.indexCast v179
  ![v180.toNat, 120, v181.toNat]
def k0_mult19 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_61 : BitVec 32 := 128#32
  let v185 : BitVec 32 := Scalar.muli arg17 c128_i32_61
  v185
def k0_off19 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v187 : Index := Scalar.indexCast v63
  let c128_62 : Index := 128#32
  let c0_i32_34 : BitVec 32 := 0#32
  let c1_i32_35 : BitVec 32 := 1#32
  let arg17 : BitVec 32 := Scf.iv c0_i32_34 c1_i32_35 k0_t2
  let c128_i32_61 : BitVec 32 := 128#32
  let v185 : BitVec 32 := Scalar.muli arg17 c128_i32_61
  let v186 : BitVec 32 := v185
  let v188 : Index := Scalar.indexCast v186
  ![v187.toNat, 128, v188.toNat]
def k0_mult20 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_63 : BitVec 32 := 128#32
  let v192 : BitVec 32 := Scalar.muli arg17 c128_i32_63
  v192
def k0_off20 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v194 : Index := Scalar.indexCast v63
  let c136 : Index := 136#32
  let c0_i32_34 : BitVec 32 := 0#32
  let c1_i32_35 : BitVec 32 := 1#32
  let arg17 : BitVec 32 := Scf.iv c0_i32_34 c1_i32_35 k0_t2
  let c128_i32_63 : BitVec 32 := 128#32
  let v192 : BitVec 32 := Scalar.muli arg17 c128_i32_63
  let v193 : BitVec 32 := v192
  let v195 : Index := Scalar.indexCast v193
  ![v194.toNat, 136, v195.toNat]
def k0_mult21 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_64 : BitVec 32 := 128#32
  let v199 : BitVec 32 := Scalar.muli arg17 c128_i32_64
  v199
def k0_off21 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v201 : Index := Scalar.indexCast v63
  let c144 : Index := 144#32
  let c0_i32_34 : BitVec 32 := 0#32
  let c1_i32_35 : BitVec 32 := 1#32
  let arg17 : BitVec 32 := Scf.iv c0_i32_34 c1_i32_35 k0_t2
  let c128_i32_64 : BitVec 32 := 128#32
  let v199 : BitVec 32 := Scalar.muli arg17 c128_i32_64
  let v200 : BitVec 32 := v199
  let v202 : Index := Scalar.indexCast v200
  ![v201.toNat, 144, v202.toNat]
def k0_mult22 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_65 : BitVec 32 := 128#32
  let v206 : BitVec 32 := Scalar.muli arg17 c128_i32_65
  v206
def k0_off22 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v208 : Index := Scalar.indexCast v63
  let c152 : Index := 152#32
  let c0_i32_34 : BitVec 32 := 0#32
  let c1_i32_35 : BitVec 32 := 1#32
  let arg17 : BitVec 32 := Scf.iv c0_i32_34 c1_i32_35 k0_t2
  let c128_i32_65 : BitVec 32 := 128#32
  let v206 : BitVec 32 := Scalar.muli arg17 c128_i32_65
  let v207 : BitVec 32 := v206
  let v209 : Index := Scalar.indexCast v207
  ![v208.toNat, 152, v209.toNat]
def k0_mult23 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_66 : BitVec 32 := 128#32
  let v213 : BitVec 32 := Scalar.muli arg17 c128_i32_66
  v213
def k0_off23 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v215 : Index := Scalar.indexCast v63
  let c160 : Index := 160#32
  let c0_i32_34 : BitVec 32 := 0#32
  let c1_i32_35 : BitVec 32 := 1#32
  let arg17 : BitVec 32 := Scf.iv c0_i32_34 c1_i32_35 k0_t2
  let c128_i32_66 : BitVec 32 := 128#32
  let v213 : BitVec 32 := Scalar.muli arg17 c128_i32_66
  let v214 : BitVec 32 := v213
  let v216 : Index := Scalar.indexCast v214
  ![v215.toNat, 160, v216.toNat]
def k0_mult24 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_67 : BitVec 32 := 128#32
  let v220 : BitVec 32 := Scalar.muli arg17 c128_i32_67
  v220
def k0_off24 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v222 : Index := Scalar.indexCast v63
  let c168 : Index := 168#32
  let c0_i32_34 : BitVec 32 := 0#32
  let c1_i32_35 : BitVec 32 := 1#32
  let arg17 : BitVec 32 := Scf.iv c0_i32_34 c1_i32_35 k0_t2
  let c128_i32_67 : BitVec 32 := 128#32
  let v220 : BitVec 32 := Scalar.muli arg17 c128_i32_67
  let v221 : BitVec 32 := v220
  let v223 : Index := Scalar.indexCast v221
  ![v222.toNat, 168, v223.toNat]
def k0_mult25 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_68 : BitVec 32 := 128#32
  let v227 : BitVec 32 := Scalar.muli arg17 c128_i32_68
  v227
def k0_off25 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v229 : Index := Scalar.indexCast v63
  let c176 : Index := 176#32
  let c0_i32_34 : BitVec 32 := 0#32
  let c1_i32_35 : BitVec 32 := 1#32
  let arg17 : BitVec 32 := Scf.iv c0_i32_34 c1_i32_35 k0_t2
  let c128_i32_68 : BitVec 32 := 128#32
  let v227 : BitVec 32 := Scalar.muli arg17 c128_i32_68
  let v228 : BitVec 32 := v227
  let v230 : Index := Scalar.indexCast v228
  ![v229.toNat, 176, v230.toNat]
def k0_mult26 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_69 : BitVec 32 := 128#32
  let v234 : BitVec 32 := Scalar.muli arg17 c128_i32_69
  v234
def k0_off26 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v236 : Index := Scalar.indexCast v63
  let c184 : Index := 184#32
  let c0_i32_34 : BitVec 32 := 0#32
  let c1_i32_35 : BitVec 32 := 1#32
  let arg17 : BitVec 32 := Scf.iv c0_i32_34 c1_i32_35 k0_t2
  let c128_i32_69 : BitVec 32 := 128#32
  let v234 : BitVec 32 := Scalar.muli arg17 c128_i32_69
  let v235 : BitVec 32 := v234
  let v237 : Index := Scalar.indexCast v235
  ![v236.toNat, 184, v237.toNat]
def k0_mult27 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_70 : BitVec 32 := 128#32
  let v241 : BitVec 32 := Scalar.muli arg17 c128_i32_70
  v241
def k0_off27 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v243 : Index := Scalar.indexCast v63
  let c192 : Index := 192#32
  let c0_i32_34 : BitVec 32 := 0#32
  let c1_i32_35 : BitVec 32 := 1#32
  let arg17 : BitVec 32 := Scf.iv c0_i32_34 c1_i32_35 k0_t2
  let c128_i32_70 : BitVec 32 := 128#32
  let v241 : BitVec 32 := Scalar.muli arg17 c128_i32_70
  let v242 : BitVec 32 := v241
  let v244 : Index := Scalar.indexCast v242
  ![v243.toNat, 192, v244.toNat]
def k0_mult28 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_71 : BitVec 32 := 128#32
  let v248 : BitVec 32 := Scalar.muli arg17 c128_i32_71
  v248
def k0_off28 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v250 : Index := Scalar.indexCast v63
  let c200 : Index := 200#32
  let c0_i32_34 : BitVec 32 := 0#32
  let c1_i32_35 : BitVec 32 := 1#32
  let arg17 : BitVec 32 := Scf.iv c0_i32_34 c1_i32_35 k0_t2
  let c128_i32_71 : BitVec 32 := 128#32
  let v248 : BitVec 32 := Scalar.muli arg17 c128_i32_71
  let v249 : BitVec 32 := v248
  let v251 : Index := Scalar.indexCast v249
  ![v250.toNat, 200, v251.toNat]
def k0_mult29 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_72 : BitVec 32 := 128#32
  let v255 : BitVec 32 := Scalar.muli arg17 c128_i32_72
  v255
def k0_off29 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v257 : Index := Scalar.indexCast v63
  let c208 : Index := 208#32
  let c0_i32_34 : BitVec 32 := 0#32
  let c1_i32_35 : BitVec 32 := 1#32
  let arg17 : BitVec 32 := Scf.iv c0_i32_34 c1_i32_35 k0_t2
  let c128_i32_72 : BitVec 32 := 128#32
  let v255 : BitVec 32 := Scalar.muli arg17 c128_i32_72
  let v256 : BitVec 32 := v255
  let v258 : Index := Scalar.indexCast v256
  ![v257.toNat, 208, v258.toNat]
def k0_mult30 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_73 : BitVec 32 := 128#32
  let v262 : BitVec 32 := Scalar.muli arg17 c128_i32_73
  v262
def k0_off30 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v264 : Index := Scalar.indexCast v63
  let c216 : Index := 216#32
  let c0_i32_34 : BitVec 32 := 0#32
  let c1_i32_35 : BitVec 32 := 1#32
  let arg17 : BitVec 32 := Scf.iv c0_i32_34 c1_i32_35 k0_t2
  let c128_i32_73 : BitVec 32 := 128#32
  let v262 : BitVec 32 := Scalar.muli arg17 c128_i32_73
  let v263 : BitVec 32 := v262
  let v265 : Index := Scalar.indexCast v263
  ![v264.toNat, 216, v265.toNat]
def k0_mult31 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_74 : BitVec 32 := 128#32
  let v269 : BitVec 32 := Scalar.muli arg17 c128_i32_74
  v269
def k0_off31 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v271 : Index := Scalar.indexCast v63
  let c224 : Index := 224#32
  let c0_i32_34 : BitVec 32 := 0#32
  let c1_i32_35 : BitVec 32 := 1#32
  let arg17 : BitVec 32 := Scf.iv c0_i32_34 c1_i32_35 k0_t2
  let c128_i32_74 : BitVec 32 := 128#32
  let v269 : BitVec 32 := Scalar.muli arg17 c128_i32_74
  let v270 : BitVec 32 := v269
  let v272 : Index := Scalar.indexCast v270
  ![v271.toNat, 224, v272.toNat]
def k0_mult32 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_75 : BitVec 32 := 128#32
  let v276 : BitVec 32 := Scalar.muli arg17 c128_i32_75
  v276
def k0_off32 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v278 : Index := Scalar.indexCast v63
  let c232 : Index := 232#32
  let c0_i32_34 : BitVec 32 := 0#32
  let c1_i32_35 : BitVec 32 := 1#32
  let arg17 : BitVec 32 := Scf.iv c0_i32_34 c1_i32_35 k0_t2
  let c128_i32_75 : BitVec 32 := 128#32
  let v276 : BitVec 32 := Scalar.muli arg17 c128_i32_75
  let v277 : BitVec 32 := v276
  let v279 : Index := Scalar.indexCast v277
  ![v278.toNat, 232, v279.toNat]
def k0_mult33 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_76 : BitVec 32 := 128#32
  let v283 : BitVec 32 := Scalar.muli arg17 c128_i32_76
  v283
def k0_off33 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v285 : Index := Scalar.indexCast v63
  let c240 : Index := 240#32
  let c0_i32_34 : BitVec 32 := 0#32
  let c1_i32_35 : BitVec 32 := 1#32
  let arg17 : BitVec 32 := Scf.iv c0_i32_34 c1_i32_35 k0_t2
  let c128_i32_76 : BitVec 32 := 128#32
  let v283 : BitVec 32 := Scalar.muli arg17 c128_i32_76
  let v284 : BitVec 32 := v283
  let v286 : Index := Scalar.indexCast v284
  ![v285.toNat, 240, v286.toNat]
def k0_mult34 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_77 : BitVec 32 := 128#32
  let v290 : BitVec 32 := Scalar.muli arg17 c128_i32_77
  v290
def k0_off34 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v292 : Index := Scalar.indexCast v63
  let c248 : Index := 248#32
  let c0_i32_34 : BitVec 32 := 0#32
  let c1_i32_35 : BitVec 32 := 1#32
  let arg17 : BitVec 32 := Scf.iv c0_i32_34 c1_i32_35 k0_t2
  let c128_i32_77 : BitVec 32 := 128#32
  let v290 : BitVec 32 := Scalar.muli arg17 c128_i32_77
  let v291 : BitVec 32 := v290
  let v293 : Index := Scalar.indexCast v291
  ![v292.toNat, 248, v293.toNat]
def k0_mult35 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_78 : BitVec 32 := 128#32
  let v297 : BitVec 32 := Scalar.muli arg17 c128_i32_78
  v297
def k0_off35 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v299 : Index := Scalar.indexCast v63
  let c256_79 : Index := 256#32
  let c0_i32_34 : BitVec 32 := 0#32
  let c1_i32_35 : BitVec 32 := 1#32
  let arg17 : BitVec 32 := Scf.iv c0_i32_34 c1_i32_35 k0_t2
  let c128_i32_78 : BitVec 32 := 128#32
  let v297 : BitVec 32 := Scalar.muli arg17 c128_i32_78
  let v298 : BitVec 32 := v297
  let v300 : Index := Scalar.indexCast v298
  ![v299.toNat, 256, v300.toNat]
def k0_mult36 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_80 : BitVec 32 := 128#32
  let v304 : BitVec 32 := Scalar.muli arg17 c128_i32_80
  v304
def k0_off36 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v306 : Index := Scalar.indexCast v63
  let c264 : Index := 264#32
  let c0_i32_34 : BitVec 32 := 0#32
  let c1_i32_35 : BitVec 32 := 1#32
  let arg17 : BitVec 32 := Scf.iv c0_i32_34 c1_i32_35 k0_t2
  let c128_i32_80 : BitVec 32 := 128#32
  let v304 : BitVec 32 := Scalar.muli arg17 c128_i32_80
  let v305 : BitVec 32 := v304
  let v307 : Index := Scalar.indexCast v305
  ![v306.toNat, 264, v307.toNat]
def k0_mult37 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_81 : BitVec 32 := 128#32
  let v311 : BitVec 32 := Scalar.muli arg17 c128_i32_81
  v311
def k0_off37 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v313 : Index := Scalar.indexCast v63
  let c272 : Index := 272#32
  let c0_i32_34 : BitVec 32 := 0#32
  let c1_i32_35 : BitVec 32 := 1#32
  let arg17 : BitVec 32 := Scf.iv c0_i32_34 c1_i32_35 k0_t2
  let c128_i32_81 : BitVec 32 := 128#32
  let v311 : BitVec 32 := Scalar.muli arg17 c128_i32_81
  let v312 : BitVec 32 := v311
  let v314 : Index := Scalar.indexCast v312
  ![v313.toNat, 272, v314.toNat]
def k0_mult38 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_82 : BitVec 32 := 128#32
  let v318 : BitVec 32 := Scalar.muli arg17 c128_i32_82
  v318
def k0_off38 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v320 : Index := Scalar.indexCast v63
  let c280 : Index := 280#32
  let c0_i32_34 : BitVec 32 := 0#32
  let c1_i32_35 : BitVec 32 := 1#32
  let arg17 : BitVec 32 := Scf.iv c0_i32_34 c1_i32_35 k0_t2
  let c128_i32_82 : BitVec 32 := 128#32
  let v318 : BitVec 32 := Scalar.muli arg17 c128_i32_82
  let v319 : BitVec 32 := v318
  let v321 : Index := Scalar.indexCast v319
  ![v320.toNat, 280, v321.toNat]
def k0_mult39 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_83 : BitVec 32 := 128#32
  let v325 : BitVec 32 := Scalar.muli arg17 c128_i32_83
  v325
def k0_off39 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v327 : Index := Scalar.indexCast v63
  let c288 : Index := 288#32
  let c0_i32_34 : BitVec 32 := 0#32
  let c1_i32_35 : BitVec 32 := 1#32
  let arg17 : BitVec 32 := Scf.iv c0_i32_34 c1_i32_35 k0_t2
  let c128_i32_83 : BitVec 32 := 128#32
  let v325 : BitVec 32 := Scalar.muli arg17 c128_i32_83
  let v326 : BitVec 32 := v325
  let v328 : Index := Scalar.indexCast v326
  ![v327.toNat, 288, v328.toNat]
def k0_mult40 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_84 : BitVec 32 := 128#32
  let v332 : BitVec 32 := Scalar.muli arg17 c128_i32_84
  v332
def k0_off40 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v334 : Index := Scalar.indexCast v63
  let c296 : Index := 296#32
  let c0_i32_34 : BitVec 32 := 0#32
  let c1_i32_35 : BitVec 32 := 1#32
  let arg17 : BitVec 32 := Scf.iv c0_i32_34 c1_i32_35 k0_t2
  let c128_i32_84 : BitVec 32 := 128#32
  let v332 : BitVec 32 := Scalar.muli arg17 c128_i32_84
  let v333 : BitVec 32 := v332
  let v335 : Index := Scalar.indexCast v333
  ![v334.toNat, 296, v335.toNat]
def k0_mult41 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_85 : BitVec 32 := 128#32
  let v339 : BitVec 32 := Scalar.muli arg17 c128_i32_85
  v339
def k0_off41 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v341 : Index := Scalar.indexCast v63
  let c304 : Index := 304#32
  let c0_i32_34 : BitVec 32 := 0#32
  let c1_i32_35 : BitVec 32 := 1#32
  let arg17 : BitVec 32 := Scf.iv c0_i32_34 c1_i32_35 k0_t2
  let c128_i32_85 : BitVec 32 := 128#32
  let v339 : BitVec 32 := Scalar.muli arg17 c128_i32_85
  let v340 : BitVec 32 := v339
  let v342 : Index := Scalar.indexCast v340
  ![v341.toNat, 304, v342.toNat]
def k0_mult42 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_86 : BitVec 32 := 128#32
  let v346 : BitVec 32 := Scalar.muli arg17 c128_i32_86
  v346
def k0_off42 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v348 : Index := Scalar.indexCast v63
  let c312 : Index := 312#32
  let c0_i32_34 : BitVec 32 := 0#32
  let c1_i32_35 : BitVec 32 := 1#32
  let arg17 : BitVec 32 := Scf.iv c0_i32_34 c1_i32_35 k0_t2
  let c128_i32_86 : BitVec 32 := 128#32
  let v346 : BitVec 32 := Scalar.muli arg17 c128_i32_86
  let v347 : BitVec 32 := v346
  let v349 : Index := Scalar.indexCast v347
  ![v348.toNat, 312, v349.toNat]
def k0_mult43 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_87 : BitVec 32 := 128#32
  let v353 : BitVec 32 := Scalar.muli arg17 c128_i32_87
  v353
def k0_off43 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v355 : Index := Scalar.indexCast v63
  let c320 : Index := 320#32
  let c0_i32_34 : BitVec 32 := 0#32
  let c1_i32_35 : BitVec 32 := 1#32
  let arg17 : BitVec 32 := Scf.iv c0_i32_34 c1_i32_35 k0_t2
  let c128_i32_87 : BitVec 32 := 128#32
  let v353 : BitVec 32 := Scalar.muli arg17 c128_i32_87
  let v354 : BitVec 32 := v353
  let v356 : Index := Scalar.indexCast v354
  ![v355.toNat, 320, v356.toNat]
def k0_mult44 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_88 : BitVec 32 := 128#32
  let v360 : BitVec 32 := Scalar.muli arg17 c128_i32_88
  v360
def k0_off44 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v362 : Index := Scalar.indexCast v63
  let c328 : Index := 328#32
  let c0_i32_34 : BitVec 32 := 0#32
  let c1_i32_35 : BitVec 32 := 1#32
  let arg17 : BitVec 32 := Scf.iv c0_i32_34 c1_i32_35 k0_t2
  let c128_i32_88 : BitVec 32 := 128#32
  let v360 : BitVec 32 := Scalar.muli arg17 c128_i32_88
  let v361 : BitVec 32 := v360
  let v363 : Index := Scalar.indexCast v361
  ![v362.toNat, 328, v363.toNat]
def k0_mult45 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_89 : BitVec 32 := 128#32
  let v367 : BitVec 32 := Scalar.muli arg17 c128_i32_89
  v367
def k0_off45 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v369 : Index := Scalar.indexCast v63
  let c336 : Index := 336#32
  let c0_i32_34 : BitVec 32 := 0#32
  let c1_i32_35 : BitVec 32 := 1#32
  let arg17 : BitVec 32 := Scf.iv c0_i32_34 c1_i32_35 k0_t2
  let c128_i32_89 : BitVec 32 := 128#32
  let v367 : BitVec 32 := Scalar.muli arg17 c128_i32_89
  let v368 : BitVec 32 := v367
  let v370 : Index := Scalar.indexCast v368
  ![v369.toNat, 336, v370.toNat]
def k0_mult46 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_90 : BitVec 32 := 128#32
  let v374 : BitVec 32 := Scalar.muli arg17 c128_i32_90
  v374
def k0_off46 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v376 : Index := Scalar.indexCast v63
  let c344 : Index := 344#32
  let c0_i32_34 : BitVec 32 := 0#32
  let c1_i32_35 : BitVec 32 := 1#32
  let arg17 : BitVec 32 := Scf.iv c0_i32_34 c1_i32_35 k0_t2
  let c128_i32_90 : BitVec 32 := 128#32
  let v374 : BitVec 32 := Scalar.muli arg17 c128_i32_90
  let v375 : BitVec 32 := v374
  let v377 : Index := Scalar.indexCast v375
  ![v376.toNat, 344, v377.toNat]
def k0_mult47 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_91 : BitVec 32 := 128#32
  let v381 : BitVec 32 := Scalar.muli arg17 c128_i32_91
  v381
def k0_off47 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v383 : Index := Scalar.indexCast v63
  let c352 : Index := 352#32
  let c0_i32_34 : BitVec 32 := 0#32
  let c1_i32_35 : BitVec 32 := 1#32
  let arg17 : BitVec 32 := Scf.iv c0_i32_34 c1_i32_35 k0_t2
  let c128_i32_91 : BitVec 32 := 128#32
  let v381 : BitVec 32 := Scalar.muli arg17 c128_i32_91
  let v382 : BitVec 32 := v381
  let v384 : Index := Scalar.indexCast v382
  ![v383.toNat, 352, v384.toNat]
def k0_mult48 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_92 : BitVec 32 := 128#32
  let v388 : BitVec 32 := Scalar.muli arg17 c128_i32_92
  v388
def k0_off48 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v390 : Index := Scalar.indexCast v63
  let c360 : Index := 360#32
  let c0_i32_34 : BitVec 32 := 0#32
  let c1_i32_35 : BitVec 32 := 1#32
  let arg17 : BitVec 32 := Scf.iv c0_i32_34 c1_i32_35 k0_t2
  let c128_i32_92 : BitVec 32 := 128#32
  let v388 : BitVec 32 := Scalar.muli arg17 c128_i32_92
  let v389 : BitVec 32 := v388
  let v391 : Index := Scalar.indexCast v389
  ![v390.toNat, 360, v391.toNat]
def k0_mult49 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_93 : BitVec 32 := 128#32
  let v395 : BitVec 32 := Scalar.muli arg17 c128_i32_93
  v395
def k0_off49 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v397 : Index := Scalar.indexCast v63
  let c368 : Index := 368#32
  let c0_i32_34 : BitVec 32 := 0#32
  let c1_i32_35 : BitVec 32 := 1#32
  let arg17 : BitVec 32 := Scf.iv c0_i32_34 c1_i32_35 k0_t2
  let c128_i32_93 : BitVec 32 := 128#32
  let v395 : BitVec 32 := Scalar.muli arg17 c128_i32_93
  let v396 : BitVec 32 := v395
  let v398 : Index := Scalar.indexCast v396
  ![v397.toNat, 368, v398.toNat]
def k0_mult50 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_94 : BitVec 32 := 128#32
  let v402 : BitVec 32 := Scalar.muli arg17 c128_i32_94
  v402
def k0_off50 (k0_t1 : Fin k0_t1_loop.trips) (k0_t2 : Fin k0_t2_loop.trips) : Fin 3 → Nat :=
  let c0_i32_17 : BitVec 32 := 0#32
  let c1_i32 : BitVec 32 := 1#32
  let arg16 : BitVec 32 := Scf.iv c0_i32_17 c1_i32 k0_t1
  let c1_i32_31 : BitVec 32 := 1#32
  let v62 : BitVec 32 := Scalar.addi arg16 c1_i32_31
  let c2_i32_32 : BitVec 32 := 2#32
  let v63 : BitVec 32 := Scalar.remsi v62 c2_i32_32
  let v404 : Index := Scalar.indexCast v63
  let c376 : Index := 376#32
  let c0_i32_34 : BitVec 32 := 0#32
  let c1_i32_35 : BitVec 32 := 1#32
  let arg17 : BitVec 32 := Scf.iv c0_i32_34 c1_i32_35 k0_t2
  let c128_i32_94 : BitVec 32 := 128#32
  let v402 : BitVec 32 := Scalar.muli arg17 c128_i32_94
  let v403 : BitVec 32 := v402
  let v405 : Index := Scalar.indexCast v403
  ![v404.toNat, 376, v405.toNat]
def k0_off51 (k0_t1 : Fin k0_t1_loop.trips) (k0_t2 : Fin k0_t2_loop.trips) : Fin 2 → Nat :=
  let c0_95 : Index := 0#32
  let c0_i32_17 : BitVec 32 := 0#32
  let c1_i32 : BitVec 32 := 1#32
  let arg16 : BitVec 32 := Scf.iv c0_i32_17 c1_i32 k0_t1
  let c0_i32_25 : BitVec 32 := 0#32
  let v52 : BitVec 1 := Scalar.cmpi .sgt arg16 c0_i32_25
  let c1_i32_26 : BitVec 32 := 1#32
  let v53 : BitVec 32 := Scalar.subi arg16 c1_i32_26
  let c7_i32 : BitVec 32 := 7#32
  let v54 : BitVec 32 := Scalar.select v52 v53 c7_i32
  let c512_i32_33 : BitVec 32 := 512#32
  let v64 : BitVec 32 := Scalar.muli v54 c512_i32_33
  let c0_i32_34 : BitVec 32 := 0#32
  let c1_i32_35 : BitVec 32 := 1#32
  let arg17 : BitVec 32 := Scf.iv c0_i32_34 c1_i32_35 k0_t2
  let c128_i32 : BitVec 32 := 128#32
  let v71 : BitVec 32 := Scalar.muli arg17 c128_i32
  let v72 : BitVec 32 := Scalar.addi v64 v71
  let v73 : BitVec 32 := v72
  let v409 : Index := Scalar.indexCast v73
  ![0, v409.toNat]
def k0_mult51 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_98 : BitVec 32 := 128#32
  let v418 : BitVec 32 := Scalar.muli arg17 c128_i32_98
  v418
def k0_mult52 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_100 : BitVec 32 := 128#32
  let v429 : BitVec 32 := Scalar.muli arg17 c128_i32_100
  v429
def k0_mult53 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_102 : BitVec 32 := 128#32
  let v443 : BitVec 32 := Scalar.muli arg17 c128_i32_102
  v443
def k0_mult54 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_104 : BitVec 32 := 128#32
  let v457 : BitVec 32 := Scalar.muli arg17 c128_i32_104
  v457
def k0_mult55 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_106 : BitVec 32 := 128#32
  let v471 : BitVec 32 := Scalar.muli arg17 c128_i32_106
  v471
def k0_mult56 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_108 : BitVec 32 := 128#32
  let v485 : BitVec 32 := Scalar.muli arg17 c128_i32_108
  v485
def k0_mult57 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_110 : BitVec 32 := 128#32
  let v499 : BitVec 32 := Scalar.muli arg17 c128_i32_110
  v499
def k0_mult58 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_112 : BitVec 32 := 128#32
  let v513 : BitVec 32 := Scalar.muli arg17 c128_i32_112
  v513
def k0_mult59 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_114 : BitVec 32 := 128#32
  let v527 : BitVec 32 := Scalar.muli arg17 c128_i32_114
  v527
def k0_mult60 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_116 : BitVec 32 := 128#32
  let v541 : BitVec 32 := Scalar.muli arg17 c128_i32_116
  v541
def k0_mult61 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_118 : BitVec 32 := 128#32
  let v555 : BitVec 32 := Scalar.muli arg17 c128_i32_118
  v555
def k0_mult62 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_120 : BitVec 32 := 128#32
  let v569 : BitVec 32 := Scalar.muli arg17 c128_i32_120
  v569
def k0_mult63 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_122 : BitVec 32 := 128#32
  let v583 : BitVec 32 := Scalar.muli arg17 c128_i32_122
  v583
def k0_mult64 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_124 : BitVec 32 := 128#32
  let v597 : BitVec 32 := Scalar.muli arg17 c128_i32_124
  v597
def k0_mult65 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_126 : BitVec 32 := 128#32
  let v611 : BitVec 32 := Scalar.muli arg17 c128_i32_126
  v611
def k0_mult66 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_128 : BitVec 32 := 128#32
  let v625 : BitVec 32 := Scalar.muli arg17 c128_i32_128
  v625
def k0_mult67 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_130 : BitVec 32 := 128#32
  let v639 : BitVec 32 := Scalar.muli arg17 c128_i32_130
  v639
def k0_mult68 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_132 : BitVec 32 := 128#32
  let v653 : BitVec 32 := Scalar.muli arg17 c128_i32_132
  v653
def k0_mult69 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_134 : BitVec 32 := 128#32
  let v667 : BitVec 32 := Scalar.muli arg17 c128_i32_134
  v667
def k0_mult70 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_136 : BitVec 32 := 128#32
  let v681 : BitVec 32 := Scalar.muli arg17 c128_i32_136
  v681
def k0_mult71 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_138 : BitVec 32 := 128#32
  let v695 : BitVec 32 := Scalar.muli arg17 c128_i32_138
  v695
def k0_mult72 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_140 : BitVec 32 := 128#32
  let v709 : BitVec 32 := Scalar.muli arg17 c128_i32_140
  v709
def k0_mult73 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_142 : BitVec 32 := 128#32
  let v723 : BitVec 32 := Scalar.muli arg17 c128_i32_142
  v723
def k0_mult74 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_144 : BitVec 32 := 128#32
  let v737 : BitVec 32 := Scalar.muli arg17 c128_i32_144
  v737
def k0_mult75 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_146 : BitVec 32 := 128#32
  let v751 : BitVec 32 := Scalar.muli arg17 c128_i32_146
  v751
def k0_mult76 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_148 : BitVec 32 := 128#32
  let v765 : BitVec 32 := Scalar.muli arg17 c128_i32_148
  v765
def k0_mult77 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_150 : BitVec 32 := 128#32
  let v779 : BitVec 32 := Scalar.muli arg17 c128_i32_150
  v779
def k0_mult78 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_152 : BitVec 32 := 128#32
  let v793 : BitVec 32 := Scalar.muli arg17 c128_i32_152
  v793
def k0_mult79 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_154 : BitVec 32 := 128#32
  let v807 : BitVec 32 := Scalar.muli arg17 c128_i32_154
  v807
def k0_mult80 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_156 : BitVec 32 := 128#32
  let v821 : BitVec 32 := Scalar.muli arg17 c128_i32_156
  v821
def k0_mult81 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_158 : BitVec 32 := 128#32
  let v835 : BitVec 32 := Scalar.muli arg17 c128_i32_158
  v835
def k0_mult82 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_160 : BitVec 32 := 128#32
  let v849 : BitVec 32 := Scalar.muli arg17 c128_i32_160
  v849
def k0_mult83 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_162 : BitVec 32 := 128#32
  let v863 : BitVec 32 := Scalar.muli arg17 c128_i32_162
  v863
def k0_mult84 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_164 : BitVec 32 := 128#32
  let v877 : BitVec 32 := Scalar.muli arg17 c128_i32_164
  v877
def k0_mult85 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_166 : BitVec 32 := 128#32
  let v891 : BitVec 32 := Scalar.muli arg17 c128_i32_166
  v891
def k0_mult86 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_168 : BitVec 32 := 128#32
  let v905 : BitVec 32 := Scalar.muli arg17 c128_i32_168
  v905
def k0_mult87 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_170 : BitVec 32 := 128#32
  let v919 : BitVec 32 := Scalar.muli arg17 c128_i32_170
  v919
def k0_mult88 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_172 : BitVec 32 := 128#32
  let v933 : BitVec 32 := Scalar.muli arg17 c128_i32_172
  v933
def k0_mult89 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_174 : BitVec 32 := 128#32
  let v947 : BitVec 32 := Scalar.muli arg17 c128_i32_174
  v947
def k0_mult90 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_176 : BitVec 32 := 128#32
  let v961 : BitVec 32 := Scalar.muli arg17 c128_i32_176
  v961
def k0_mult91 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_178 : BitVec 32 := 128#32
  let v975 : BitVec 32 := Scalar.muli arg17 c128_i32_178
  v975
def k0_mult92 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_180 : BitVec 32 := 128#32
  let v989 : BitVec 32 := Scalar.muli arg17 c128_i32_180
  v989
def k0_mult93 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_182 : BitVec 32 := 128#32
  let v1003 : BitVec 32 := Scalar.muli arg17 c128_i32_182
  v1003
def k0_mult94 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_184 : BitVec 32 := 128#32
  let v1017 : BitVec 32 := Scalar.muli arg17 c128_i32_184
  v1017
def k0_mult95 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_186 : BitVec 32 := 128#32
  let v1031 : BitVec 32 := Scalar.muli arg17 c128_i32_186
  v1031
def k0_mult96 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_188 : BitVec 32 := 128#32
  let v1045 : BitVec 32 := Scalar.muli arg17 c128_i32_188
  v1045
def k0_mult97 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_190 : BitVec 32 := 128#32
  let v1059 : BitVec 32 := Scalar.muli arg17 c128_i32_190
  v1059
def k0_mult98 (k0_t2 : Fin k0_t2_loop.trips) : BitVec 32 :=
  let c0_i32_34 : BitVec 32 := 0#32
  let c1_i32_35 : BitVec 32 := 1#32
  let arg17 : BitVec 32 := Scf.iv c0_i32_34 c1_i32_35 k0_t2
  let c128_i32_192 : BitVec 32 := 128#32
  let v1073 : BitVec 32 := Scalar.muli arg17 c128_i32_192
  v1073
@[reducible] def k0_t3_loop : Scf.Loop 32 :=
  let c0_i32_40 : BitVec 32 := 0#32
  let c4_i32_41 : BitVec 32 := 4#32
  let v70 : BitVec 32 := Scalar.addi c0_i32_40 c4_i32_41
  let c1_i32_42 : BitVec 32 := 1#32
  ⟨c0_i32_40, v70, c1_i32_42⟩
def k0_mult99 (k0_t1 : Fin k0_t1_loop.trips) (k0_t3 : Fin k0_t3_loop.trips) : BitVec 32 :=
  let c0_i32_17 : BitVec 32 := 0#32
  let c1_i32 : BitVec 32 := 1#32
  let arg16 : BitVec 32 := Scf.iv c0_i32_17 c1_i32 k0_t1
  let c0_i32_25 : BitVec 32 := 0#32
  let v52 : BitVec 1 := Scalar.cmpi .sgt arg16 c0_i32_25
  let c1_i32_26 : BitVec 32 := 1#32
  let v53 : BitVec 32 := Scalar.subi arg16 c1_i32_26
  let c7_i32 : BitVec 32 := 7#32
  let v54 : BitVec 32 := Scalar.select v52 v53 c7_i32
  let c512_i32_39 : BitVec 32 := 512#32
  let v68 : BitVec 32 := Scalar.muli v54 c512_i32_39
  let c0_i32_40 : BitVec 32 := 0#32
  let c1_i32_42 : BitVec 32 := 1#32
  let arg17 : BitVec 32 := Scf.iv c0_i32_40 c1_i32_42 k0_t3
  let c128_i32 : BitVec 32 := 128#32
  let v71 : BitVec 32 := Scalar.muli arg17 c128_i32
  let v72 : BitVec 32 := Scalar.addi v68 v71
  v72
@[reducible] def k0_t4_loop : Scf.Loop 32 :=
  let c0_i32_44 : BitVec 32 := 0#32
  let c7_i32_45 : BitVec 32 := 7#32
  let v74 : BitVec 32 := Scalar.addi c0_i32_44 c7_i32_45
  let c1_i32_46 : BitVec 32 := 1#32
  ⟨c0_i32_44, v74, c1_i32_46⟩
def k0_off52 (k0_t1 : Fin k0_t1_loop.trips) (k0_t3 : Fin k0_t3_loop.trips) (k0_t4 : Fin k0_t4_loop.trips) : Fin 2 → Nat :=
  let c0_i32_44 : BitVec 32 := 0#32
  let c1_i32_46 : BitVec 32 := 1#32
  let arg18 : BitVec 32 := Scf.iv c0_i32_44 c1_i32_46 k0_t4
  let v75 : Index := Scalar.indexCast arg18
  let c0_i32_17 : BitVec 32 := 0#32
  let c1_i32 : BitVec 32 := 1#32
  let arg16 : BitVec 32 := Scf.iv c0_i32_17 c1_i32 k0_t1
  let c0_i32_25 : BitVec 32 := 0#32
  let v52 : BitVec 1 := Scalar.cmpi .sgt arg16 c0_i32_25
  let c1_i32_26 : BitVec 32 := 1#32
  let v53 : BitVec 32 := Scalar.subi arg16 c1_i32_26
  let c7_i32 : BitVec 32 := 7#32
  let v54 : BitVec 32 := Scalar.select v52 v53 c7_i32
  let c512_i32_39 : BitVec 32 := 512#32
  let v68 : BitVec 32 := Scalar.muli v54 c512_i32_39
  let c0_i32_40 : BitVec 32 := 0#32
  let c1_i32_42 : BitVec 32 := 1#32
  let arg17 : BitVec 32 := Scf.iv c0_i32_40 c1_i32_42 k0_t3
  let c128_i32 : BitVec 32 := 128#32
  let v71 : BitVec 32 := Scalar.muli arg17 c128_i32
  let v72 : BitVec 32 := Scalar.addi v68 v71
  let v73 : BitVec 32 := v72
  let v76 : Index := Scalar.indexCast v73
  ![v75.toNat, v76.toNat]
def k0_mult100 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_48 : BitVec 32 := 128#32
  let v83 : BitVec 32 := Scalar.muli arg17 c128_i32_48
  v83
def k0_off53 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v85 : Index := Scalar.indexCast v67
  let c0_49 : Index := 0#32
  let c0_i32_40 : BitVec 32 := 0#32
  let c1_i32_42 : BitVec 32 := 1#32
  let arg17 : BitVec 32 := Scf.iv c0_i32_40 c1_i32_42 k0_t3
  let c128_i32_48 : BitVec 32 := 128#32
  let v83 : BitVec 32 := Scalar.muli arg17 c128_i32_48
  let v84 : BitVec 32 := v83
  let v86 : Index := Scalar.indexCast v84
  ![v85.toNat, 0, v86.toNat]
def k0_mult101 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_50 : BitVec 32 := 128#32
  let v89 : BitVec 32 := Scalar.muli arg17 c128_i32_50
  v89
def k0_off54 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v91 : Index := Scalar.indexCast v67
  let c8 : Index := 8#32
  let c0_i32_40 : BitVec 32 := 0#32
  let c1_i32_42 : BitVec 32 := 1#32
  let arg17 : BitVec 32 := Scf.iv c0_i32_40 c1_i32_42 k0_t3
  let c128_i32_50 : BitVec 32 := 128#32
  let v89 : BitVec 32 := Scalar.muli arg17 c128_i32_50
  let v90 : BitVec 32 := v89
  let v92 : Index := Scalar.indexCast v90
  ![v91.toNat, 8, v92.toNat]
def k0_mult102 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_51 : BitVec 32 := 128#32
  let v95 : BitVec 32 := Scalar.muli arg17 c128_i32_51
  v95
def k0_off55 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v97 : Index := Scalar.indexCast v67
  let c16 : Index := 16#32
  let c0_i32_40 : BitVec 32 := 0#32
  let c1_i32_42 : BitVec 32 := 1#32
  let arg17 : BitVec 32 := Scf.iv c0_i32_40 c1_i32_42 k0_t3
  let c128_i32_51 : BitVec 32 := 128#32
  let v95 : BitVec 32 := Scalar.muli arg17 c128_i32_51
  let v96 : BitVec 32 := v95
  let v98 : Index := Scalar.indexCast v96
  ![v97.toNat, 16, v98.toNat]
def k0_mult103 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_52 : BitVec 32 := 128#32
  let v101 : BitVec 32 := Scalar.muli arg17 c128_i32_52
  v101
def k0_off56 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v103 : Index := Scalar.indexCast v67
  let c24 : Index := 24#32
  let c0_i32_40 : BitVec 32 := 0#32
  let c1_i32_42 : BitVec 32 := 1#32
  let arg17 : BitVec 32 := Scf.iv c0_i32_40 c1_i32_42 k0_t3
  let c128_i32_52 : BitVec 32 := 128#32
  let v101 : BitVec 32 := Scalar.muli arg17 c128_i32_52
  let v102 : BitVec 32 := v101
  let v104 : Index := Scalar.indexCast v102
  ![v103.toNat, 24, v104.toNat]
def k0_mult104 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_53 : BitVec 32 := 128#32
  let v107 : BitVec 32 := Scalar.muli arg17 c128_i32_53
  v107
def k0_off57 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v109 : Index := Scalar.indexCast v67
  let c32 : Index := 32#32
  let c0_i32_40 : BitVec 32 := 0#32
  let c1_i32_42 : BitVec 32 := 1#32
  let arg17 : BitVec 32 := Scf.iv c0_i32_40 c1_i32_42 k0_t3
  let c128_i32_53 : BitVec 32 := 128#32
  let v107 : BitVec 32 := Scalar.muli arg17 c128_i32_53
  let v108 : BitVec 32 := v107
  let v110 : Index := Scalar.indexCast v108
  ![v109.toNat, 32, v110.toNat]
def k0_mult105 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_54 : BitVec 32 := 128#32
  let v113 : BitVec 32 := Scalar.muli arg17 c128_i32_54
  v113
def k0_off58 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v115 : Index := Scalar.indexCast v67
  let c40 : Index := 40#32
  let c0_i32_40 : BitVec 32 := 0#32
  let c1_i32_42 : BitVec 32 := 1#32
  let arg17 : BitVec 32 := Scf.iv c0_i32_40 c1_i32_42 k0_t3
  let c128_i32_54 : BitVec 32 := 128#32
  let v113 : BitVec 32 := Scalar.muli arg17 c128_i32_54
  let v114 : BitVec 32 := v113
  let v116 : Index := Scalar.indexCast v114
  ![v115.toNat, 40, v116.toNat]
def k0_mult106 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_55 : BitVec 32 := 128#32
  let v119 : BitVec 32 := Scalar.muli arg17 c128_i32_55
  v119
def k0_off59 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v121 : Index := Scalar.indexCast v67
  let c48 : Index := 48#32
  let c0_i32_40 : BitVec 32 := 0#32
  let c1_i32_42 : BitVec 32 := 1#32
  let arg17 : BitVec 32 := Scf.iv c0_i32_40 c1_i32_42 k0_t3
  let c128_i32_55 : BitVec 32 := 128#32
  let v119 : BitVec 32 := Scalar.muli arg17 c128_i32_55
  let v120 : BitVec 32 := v119
  let v122 : Index := Scalar.indexCast v120
  ![v121.toNat, 48, v122.toNat]
def k0_mult107 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_56 : BitVec 32 := 128#32
  let v125 : BitVec 32 := Scalar.muli arg17 c128_i32_56
  v125
def k0_off60 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v127 : Index := Scalar.indexCast v67
  let c56 : Index := 56#32
  let c0_i32_40 : BitVec 32 := 0#32
  let c1_i32_42 : BitVec 32 := 1#32
  let arg17 : BitVec 32 := Scf.iv c0_i32_40 c1_i32_42 k0_t3
  let c128_i32_56 : BitVec 32 := 128#32
  let v125 : BitVec 32 := Scalar.muli arg17 c128_i32_56
  let v126 : BitVec 32 := v125
  let v128 : Index := Scalar.indexCast v126
  ![v127.toNat, 56, v128.toNat]
def k0_mult108 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_57 : BitVec 32 := 128#32
  let v131 : BitVec 32 := Scalar.muli arg17 c128_i32_57
  v131
def k0_off61 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v133 : Index := Scalar.indexCast v67
  let c64 : Index := 64#32
  let c0_i32_40 : BitVec 32 := 0#32
  let c1_i32_42 : BitVec 32 := 1#32
  let arg17 : BitVec 32 := Scf.iv c0_i32_40 c1_i32_42 k0_t3
  let c128_i32_57 : BitVec 32 := 128#32
  let v131 : BitVec 32 := Scalar.muli arg17 c128_i32_57
  let v132 : BitVec 32 := v131
  let v134 : Index := Scalar.indexCast v132
  ![v133.toNat, 64, v134.toNat]
def k0_mult109 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_58 : BitVec 32 := 128#32
  let v137 : BitVec 32 := Scalar.muli arg17 c128_i32_58
  v137
def k0_off62 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v139 : Index := Scalar.indexCast v67
  let c72 : Index := 72#32
  let c0_i32_40 : BitVec 32 := 0#32
  let c1_i32_42 : BitVec 32 := 1#32
  let arg17 : BitVec 32 := Scf.iv c0_i32_40 c1_i32_42 k0_t3
  let c128_i32_58 : BitVec 32 := 128#32
  let v137 : BitVec 32 := Scalar.muli arg17 c128_i32_58
  let v138 : BitVec 32 := v137
  let v140 : Index := Scalar.indexCast v138
  ![v139.toNat, 72, v140.toNat]
def k0_mult110 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_59 : BitVec 32 := 128#32
  let v143 : BitVec 32 := Scalar.muli arg17 c128_i32_59
  v143
def k0_off63 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v145 : Index := Scalar.indexCast v67
  let c80 : Index := 80#32
  let c0_i32_40 : BitVec 32 := 0#32
  let c1_i32_42 : BitVec 32 := 1#32
  let arg17 : BitVec 32 := Scf.iv c0_i32_40 c1_i32_42 k0_t3
  let c128_i32_59 : BitVec 32 := 128#32
  let v143 : BitVec 32 := Scalar.muli arg17 c128_i32_59
  let v144 : BitVec 32 := v143
  let v146 : Index := Scalar.indexCast v144
  ![v145.toNat, 80, v146.toNat]
def k0_mult111 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_60 : BitVec 32 := 128#32
  let v149 : BitVec 32 := Scalar.muli arg17 c128_i32_60
  v149
def k0_off64 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v151 : Index := Scalar.indexCast v67
  let c88 : Index := 88#32
  let c0_i32_40 : BitVec 32 := 0#32
  let c1_i32_42 : BitVec 32 := 1#32
  let arg17 : BitVec 32 := Scf.iv c0_i32_40 c1_i32_42 k0_t3
  let c128_i32_60 : BitVec 32 := 128#32
  let v149 : BitVec 32 := Scalar.muli arg17 c128_i32_60
  let v150 : BitVec 32 := v149
  let v152 : Index := Scalar.indexCast v150
  ![v151.toNat, 88, v152.toNat]
def k0_mult112 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_61 : BitVec 32 := 128#32
  let v155 : BitVec 32 := Scalar.muli arg17 c128_i32_61
  v155
def k0_off65 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v157 : Index := Scalar.indexCast v67
  let c96 : Index := 96#32
  let c0_i32_40 : BitVec 32 := 0#32
  let c1_i32_42 : BitVec 32 := 1#32
  let arg17 : BitVec 32 := Scf.iv c0_i32_40 c1_i32_42 k0_t3
  let c128_i32_61 : BitVec 32 := 128#32
  let v155 : BitVec 32 := Scalar.muli arg17 c128_i32_61
  let v156 : BitVec 32 := v155
  let v158 : Index := Scalar.indexCast v156
  ![v157.toNat, 96, v158.toNat]
def k0_mult113 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_62 : BitVec 32 := 128#32
  let v161 : BitVec 32 := Scalar.muli arg17 c128_i32_62
  v161
def k0_off66 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v163 : Index := Scalar.indexCast v67
  let c104 : Index := 104#32
  let c0_i32_40 : BitVec 32 := 0#32
  let c1_i32_42 : BitVec 32 := 1#32
  let arg17 : BitVec 32 := Scf.iv c0_i32_40 c1_i32_42 k0_t3
  let c128_i32_62 : BitVec 32 := 128#32
  let v161 : BitVec 32 := Scalar.muli arg17 c128_i32_62
  let v162 : BitVec 32 := v161
  let v164 : Index := Scalar.indexCast v162
  ![v163.toNat, 104, v164.toNat]
def k0_mult114 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_63 : BitVec 32 := 128#32
  let v167 : BitVec 32 := Scalar.muli arg17 c128_i32_63
  v167
def k0_off67 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v169 : Index := Scalar.indexCast v67
  let c112 : Index := 112#32
  let c0_i32_40 : BitVec 32 := 0#32
  let c1_i32_42 : BitVec 32 := 1#32
  let arg17 : BitVec 32 := Scf.iv c0_i32_40 c1_i32_42 k0_t3
  let c128_i32_63 : BitVec 32 := 128#32
  let v167 : BitVec 32 := Scalar.muli arg17 c128_i32_63
  let v168 : BitVec 32 := v167
  let v170 : Index := Scalar.indexCast v168
  ![v169.toNat, 112, v170.toNat]
def k0_mult115 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_64 : BitVec 32 := 128#32
  let v173 : BitVec 32 := Scalar.muli arg17 c128_i32_64
  v173
def k0_off68 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v175 : Index := Scalar.indexCast v67
  let c120 : Index := 120#32
  let c0_i32_40 : BitVec 32 := 0#32
  let c1_i32_42 : BitVec 32 := 1#32
  let arg17 : BitVec 32 := Scf.iv c0_i32_40 c1_i32_42 k0_t3
  let c128_i32_64 : BitVec 32 := 128#32
  let v173 : BitVec 32 := Scalar.muli arg17 c128_i32_64
  let v174 : BitVec 32 := v173
  let v176 : Index := Scalar.indexCast v174
  ![v175.toNat, 120, v176.toNat]
def k0_mult116 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_65 : BitVec 32 := 128#32
  let v179 : BitVec 32 := Scalar.muli arg17 c128_i32_65
  v179
def k0_off69 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v181 : Index := Scalar.indexCast v67
  let c128_66 : Index := 128#32
  let c0_i32_40 : BitVec 32 := 0#32
  let c1_i32_42 : BitVec 32 := 1#32
  let arg17 : BitVec 32 := Scf.iv c0_i32_40 c1_i32_42 k0_t3
  let c128_i32_65 : BitVec 32 := 128#32
  let v179 : BitVec 32 := Scalar.muli arg17 c128_i32_65
  let v180 : BitVec 32 := v179
  let v182 : Index := Scalar.indexCast v180
  ![v181.toNat, 128, v182.toNat]
def k0_mult117 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_67 : BitVec 32 := 128#32
  let v185 : BitVec 32 := Scalar.muli arg17 c128_i32_67
  v185
def k0_off70 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v187 : Index := Scalar.indexCast v67
  let c136 : Index := 136#32
  let c0_i32_40 : BitVec 32 := 0#32
  let c1_i32_42 : BitVec 32 := 1#32
  let arg17 : BitVec 32 := Scf.iv c0_i32_40 c1_i32_42 k0_t3
  let c128_i32_67 : BitVec 32 := 128#32
  let v185 : BitVec 32 := Scalar.muli arg17 c128_i32_67
  let v186 : BitVec 32 := v185
  let v188 : Index := Scalar.indexCast v186
  ![v187.toNat, 136, v188.toNat]
def k0_mult118 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_68 : BitVec 32 := 128#32
  let v191 : BitVec 32 := Scalar.muli arg17 c128_i32_68
  v191
def k0_off71 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v193 : Index := Scalar.indexCast v67
  let c144 : Index := 144#32
  let c0_i32_40 : BitVec 32 := 0#32
  let c1_i32_42 : BitVec 32 := 1#32
  let arg17 : BitVec 32 := Scf.iv c0_i32_40 c1_i32_42 k0_t3
  let c128_i32_68 : BitVec 32 := 128#32
  let v191 : BitVec 32 := Scalar.muli arg17 c128_i32_68
  let v192 : BitVec 32 := v191
  let v194 : Index := Scalar.indexCast v192
  ![v193.toNat, 144, v194.toNat]
def k0_mult119 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_69 : BitVec 32 := 128#32
  let v197 : BitVec 32 := Scalar.muli arg17 c128_i32_69
  v197
def k0_off72 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v199 : Index := Scalar.indexCast v67
  let c152 : Index := 152#32
  let c0_i32_40 : BitVec 32 := 0#32
  let c1_i32_42 : BitVec 32 := 1#32
  let arg17 : BitVec 32 := Scf.iv c0_i32_40 c1_i32_42 k0_t3
  let c128_i32_69 : BitVec 32 := 128#32
  let v197 : BitVec 32 := Scalar.muli arg17 c128_i32_69
  let v198 : BitVec 32 := v197
  let v200 : Index := Scalar.indexCast v198
  ![v199.toNat, 152, v200.toNat]
def k0_mult120 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_70 : BitVec 32 := 128#32
  let v203 : BitVec 32 := Scalar.muli arg17 c128_i32_70
  v203
def k0_off73 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v205 : Index := Scalar.indexCast v67
  let c160 : Index := 160#32
  let c0_i32_40 : BitVec 32 := 0#32
  let c1_i32_42 : BitVec 32 := 1#32
  let arg17 : BitVec 32 := Scf.iv c0_i32_40 c1_i32_42 k0_t3
  let c128_i32_70 : BitVec 32 := 128#32
  let v203 : BitVec 32 := Scalar.muli arg17 c128_i32_70
  let v204 : BitVec 32 := v203
  let v206 : Index := Scalar.indexCast v204
  ![v205.toNat, 160, v206.toNat]
def k0_mult121 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_71 : BitVec 32 := 128#32
  let v209 : BitVec 32 := Scalar.muli arg17 c128_i32_71
  v209
def k0_off74 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v211 : Index := Scalar.indexCast v67
  let c168 : Index := 168#32
  let c0_i32_40 : BitVec 32 := 0#32
  let c1_i32_42 : BitVec 32 := 1#32
  let arg17 : BitVec 32 := Scf.iv c0_i32_40 c1_i32_42 k0_t3
  let c128_i32_71 : BitVec 32 := 128#32
  let v209 : BitVec 32 := Scalar.muli arg17 c128_i32_71
  let v210 : BitVec 32 := v209
  let v212 : Index := Scalar.indexCast v210
  ![v211.toNat, 168, v212.toNat]
def k0_mult122 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_72 : BitVec 32 := 128#32
  let v215 : BitVec 32 := Scalar.muli arg17 c128_i32_72
  v215
def k0_off75 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v217 : Index := Scalar.indexCast v67
  let c176 : Index := 176#32
  let c0_i32_40 : BitVec 32 := 0#32
  let c1_i32_42 : BitVec 32 := 1#32
  let arg17 : BitVec 32 := Scf.iv c0_i32_40 c1_i32_42 k0_t3
  let c128_i32_72 : BitVec 32 := 128#32
  let v215 : BitVec 32 := Scalar.muli arg17 c128_i32_72
  let v216 : BitVec 32 := v215
  let v218 : Index := Scalar.indexCast v216
  ![v217.toNat, 176, v218.toNat]
def k0_mult123 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_73 : BitVec 32 := 128#32
  let v221 : BitVec 32 := Scalar.muli arg17 c128_i32_73
  v221
def k0_off76 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v223 : Index := Scalar.indexCast v67
  let c184 : Index := 184#32
  let c0_i32_40 : BitVec 32 := 0#32
  let c1_i32_42 : BitVec 32 := 1#32
  let arg17 : BitVec 32 := Scf.iv c0_i32_40 c1_i32_42 k0_t3
  let c128_i32_73 : BitVec 32 := 128#32
  let v221 : BitVec 32 := Scalar.muli arg17 c128_i32_73
  let v222 : BitVec 32 := v221
  let v224 : Index := Scalar.indexCast v222
  ![v223.toNat, 184, v224.toNat]
def k0_mult124 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_74 : BitVec 32 := 128#32
  let v227 : BitVec 32 := Scalar.muli arg17 c128_i32_74
  v227
def k0_off77 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v229 : Index := Scalar.indexCast v67
  let c192 : Index := 192#32
  let c0_i32_40 : BitVec 32 := 0#32
  let c1_i32_42 : BitVec 32 := 1#32
  let arg17 : BitVec 32 := Scf.iv c0_i32_40 c1_i32_42 k0_t3
  let c128_i32_74 : BitVec 32 := 128#32
  let v227 : BitVec 32 := Scalar.muli arg17 c128_i32_74
  let v228 : BitVec 32 := v227
  let v230 : Index := Scalar.indexCast v228
  ![v229.toNat, 192, v230.toNat]
def k0_mult125 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_75 : BitVec 32 := 128#32
  let v233 : BitVec 32 := Scalar.muli arg17 c128_i32_75
  v233
def k0_off78 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v235 : Index := Scalar.indexCast v67
  let c200 : Index := 200#32
  let c0_i32_40 : BitVec 32 := 0#32
  let c1_i32_42 : BitVec 32 := 1#32
  let arg17 : BitVec 32 := Scf.iv c0_i32_40 c1_i32_42 k0_t3
  let c128_i32_75 : BitVec 32 := 128#32
  let v233 : BitVec 32 := Scalar.muli arg17 c128_i32_75
  let v234 : BitVec 32 := v233
  let v236 : Index := Scalar.indexCast v234
  ![v235.toNat, 200, v236.toNat]
def k0_mult126 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_76 : BitVec 32 := 128#32
  let v239 : BitVec 32 := Scalar.muli arg17 c128_i32_76
  v239
def k0_off79 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v241 : Index := Scalar.indexCast v67
  let c208 : Index := 208#32
  let c0_i32_40 : BitVec 32 := 0#32
  let c1_i32_42 : BitVec 32 := 1#32
  let arg17 : BitVec 32 := Scf.iv c0_i32_40 c1_i32_42 k0_t3
  let c128_i32_76 : BitVec 32 := 128#32
  let v239 : BitVec 32 := Scalar.muli arg17 c128_i32_76
  let v240 : BitVec 32 := v239
  let v242 : Index := Scalar.indexCast v240
  ![v241.toNat, 208, v242.toNat]
def k0_mult127 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_77 : BitVec 32 := 128#32
  let v245 : BitVec 32 := Scalar.muli arg17 c128_i32_77
  v245
def k0_off80 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v247 : Index := Scalar.indexCast v67
  let c216 : Index := 216#32
  let c0_i32_40 : BitVec 32 := 0#32
  let c1_i32_42 : BitVec 32 := 1#32
  let arg17 : BitVec 32 := Scf.iv c0_i32_40 c1_i32_42 k0_t3
  let c128_i32_77 : BitVec 32 := 128#32
  let v245 : BitVec 32 := Scalar.muli arg17 c128_i32_77
  let v246 : BitVec 32 := v245
  let v248 : Index := Scalar.indexCast v246
  ![v247.toNat, 216, v248.toNat]
def k0_mult128 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_78 : BitVec 32 := 128#32
  let v251 : BitVec 32 := Scalar.muli arg17 c128_i32_78
  v251
def k0_off81 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v253 : Index := Scalar.indexCast v67
  let c224 : Index := 224#32
  let c0_i32_40 : BitVec 32 := 0#32
  let c1_i32_42 : BitVec 32 := 1#32
  let arg17 : BitVec 32 := Scf.iv c0_i32_40 c1_i32_42 k0_t3
  let c128_i32_78 : BitVec 32 := 128#32
  let v251 : BitVec 32 := Scalar.muli arg17 c128_i32_78
  let v252 : BitVec 32 := v251
  let v254 : Index := Scalar.indexCast v252
  ![v253.toNat, 224, v254.toNat]
def k0_mult129 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_79 : BitVec 32 := 128#32
  let v257 : BitVec 32 := Scalar.muli arg17 c128_i32_79
  v257
def k0_off82 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v259 : Index := Scalar.indexCast v67
  let c232 : Index := 232#32
  let c0_i32_40 : BitVec 32 := 0#32
  let c1_i32_42 : BitVec 32 := 1#32
  let arg17 : BitVec 32 := Scf.iv c0_i32_40 c1_i32_42 k0_t3
  let c128_i32_79 : BitVec 32 := 128#32
  let v257 : BitVec 32 := Scalar.muli arg17 c128_i32_79
  let v258 : BitVec 32 := v257
  let v260 : Index := Scalar.indexCast v258
  ![v259.toNat, 232, v260.toNat]
def k0_mult130 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_80 : BitVec 32 := 128#32
  let v263 : BitVec 32 := Scalar.muli arg17 c128_i32_80
  v263
def k0_off83 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v265 : Index := Scalar.indexCast v67
  let c240 : Index := 240#32
  let c0_i32_40 : BitVec 32 := 0#32
  let c1_i32_42 : BitVec 32 := 1#32
  let arg17 : BitVec 32 := Scf.iv c0_i32_40 c1_i32_42 k0_t3
  let c128_i32_80 : BitVec 32 := 128#32
  let v263 : BitVec 32 := Scalar.muli arg17 c128_i32_80
  let v264 : BitVec 32 := v263
  let v266 : Index := Scalar.indexCast v264
  ![v265.toNat, 240, v266.toNat]
def k0_mult131 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_81 : BitVec 32 := 128#32
  let v269 : BitVec 32 := Scalar.muli arg17 c128_i32_81
  v269
def k0_off84 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v271 : Index := Scalar.indexCast v67
  let c248 : Index := 248#32
  let c0_i32_40 : BitVec 32 := 0#32
  let c1_i32_42 : BitVec 32 := 1#32
  let arg17 : BitVec 32 := Scf.iv c0_i32_40 c1_i32_42 k0_t3
  let c128_i32_81 : BitVec 32 := 128#32
  let v269 : BitVec 32 := Scalar.muli arg17 c128_i32_81
  let v270 : BitVec 32 := v269
  let v272 : Index := Scalar.indexCast v270
  ![v271.toNat, 248, v272.toNat]
def k0_mult132 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_82 : BitVec 32 := 128#32
  let v275 : BitVec 32 := Scalar.muli arg17 c128_i32_82
  v275
def k0_off85 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v277 : Index := Scalar.indexCast v67
  let c256_83 : Index := 256#32
  let c0_i32_40 : BitVec 32 := 0#32
  let c1_i32_42 : BitVec 32 := 1#32
  let arg17 : BitVec 32 := Scf.iv c0_i32_40 c1_i32_42 k0_t3
  let c128_i32_82 : BitVec 32 := 128#32
  let v275 : BitVec 32 := Scalar.muli arg17 c128_i32_82
  let v276 : BitVec 32 := v275
  let v278 : Index := Scalar.indexCast v276
  ![v277.toNat, 256, v278.toNat]
def k0_mult133 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_84 : BitVec 32 := 128#32
  let v281 : BitVec 32 := Scalar.muli arg17 c128_i32_84
  v281
def k0_off86 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v283 : Index := Scalar.indexCast v67
  let c264 : Index := 264#32
  let c0_i32_40 : BitVec 32 := 0#32
  let c1_i32_42 : BitVec 32 := 1#32
  let arg17 : BitVec 32 := Scf.iv c0_i32_40 c1_i32_42 k0_t3
  let c128_i32_84 : BitVec 32 := 128#32
  let v281 : BitVec 32 := Scalar.muli arg17 c128_i32_84
  let v282 : BitVec 32 := v281
  let v284 : Index := Scalar.indexCast v282
  ![v283.toNat, 264, v284.toNat]
def k0_mult134 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_85 : BitVec 32 := 128#32
  let v287 : BitVec 32 := Scalar.muli arg17 c128_i32_85
  v287
def k0_off87 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v289 : Index := Scalar.indexCast v67
  let c272 : Index := 272#32
  let c0_i32_40 : BitVec 32 := 0#32
  let c1_i32_42 : BitVec 32 := 1#32
  let arg17 : BitVec 32 := Scf.iv c0_i32_40 c1_i32_42 k0_t3
  let c128_i32_85 : BitVec 32 := 128#32
  let v287 : BitVec 32 := Scalar.muli arg17 c128_i32_85
  let v288 : BitVec 32 := v287
  let v290 : Index := Scalar.indexCast v288
  ![v289.toNat, 272, v290.toNat]
def k0_mult135 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_86 : BitVec 32 := 128#32
  let v293 : BitVec 32 := Scalar.muli arg17 c128_i32_86
  v293
def k0_off88 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v295 : Index := Scalar.indexCast v67
  let c280 : Index := 280#32
  let c0_i32_40 : BitVec 32 := 0#32
  let c1_i32_42 : BitVec 32 := 1#32
  let arg17 : BitVec 32 := Scf.iv c0_i32_40 c1_i32_42 k0_t3
  let c128_i32_86 : BitVec 32 := 128#32
  let v293 : BitVec 32 := Scalar.muli arg17 c128_i32_86
  let v294 : BitVec 32 := v293
  let v296 : Index := Scalar.indexCast v294
  ![v295.toNat, 280, v296.toNat]
def k0_mult136 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_87 : BitVec 32 := 128#32
  let v299 : BitVec 32 := Scalar.muli arg17 c128_i32_87
  v299
def k0_off89 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v301 : Index := Scalar.indexCast v67
  let c288 : Index := 288#32
  let c0_i32_40 : BitVec 32 := 0#32
  let c1_i32_42 : BitVec 32 := 1#32
  let arg17 : BitVec 32 := Scf.iv c0_i32_40 c1_i32_42 k0_t3
  let c128_i32_87 : BitVec 32 := 128#32
  let v299 : BitVec 32 := Scalar.muli arg17 c128_i32_87
  let v300 : BitVec 32 := v299
  let v302 : Index := Scalar.indexCast v300
  ![v301.toNat, 288, v302.toNat]
def k0_mult137 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_88 : BitVec 32 := 128#32
  let v305 : BitVec 32 := Scalar.muli arg17 c128_i32_88
  v305
def k0_off90 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v307 : Index := Scalar.indexCast v67
  let c296 : Index := 296#32
  let c0_i32_40 : BitVec 32 := 0#32
  let c1_i32_42 : BitVec 32 := 1#32
  let arg17 : BitVec 32 := Scf.iv c0_i32_40 c1_i32_42 k0_t3
  let c128_i32_88 : BitVec 32 := 128#32
  let v305 : BitVec 32 := Scalar.muli arg17 c128_i32_88
  let v306 : BitVec 32 := v305
  let v308 : Index := Scalar.indexCast v306
  ![v307.toNat, 296, v308.toNat]
def k0_mult138 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_89 : BitVec 32 := 128#32
  let v311 : BitVec 32 := Scalar.muli arg17 c128_i32_89
  v311
def k0_off91 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v313 : Index := Scalar.indexCast v67
  let c304 : Index := 304#32
  let c0_i32_40 : BitVec 32 := 0#32
  let c1_i32_42 : BitVec 32 := 1#32
  let arg17 : BitVec 32 := Scf.iv c0_i32_40 c1_i32_42 k0_t3
  let c128_i32_89 : BitVec 32 := 128#32
  let v311 : BitVec 32 := Scalar.muli arg17 c128_i32_89
  let v312 : BitVec 32 := v311
  let v314 : Index := Scalar.indexCast v312
  ![v313.toNat, 304, v314.toNat]
def k0_mult139 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_90 : BitVec 32 := 128#32
  let v317 : BitVec 32 := Scalar.muli arg17 c128_i32_90
  v317
def k0_off92 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v319 : Index := Scalar.indexCast v67
  let c312 : Index := 312#32
  let c0_i32_40 : BitVec 32 := 0#32
  let c1_i32_42 : BitVec 32 := 1#32
  let arg17 : BitVec 32 := Scf.iv c0_i32_40 c1_i32_42 k0_t3
  let c128_i32_90 : BitVec 32 := 128#32
  let v317 : BitVec 32 := Scalar.muli arg17 c128_i32_90
  let v318 : BitVec 32 := v317
  let v320 : Index := Scalar.indexCast v318
  ![v319.toNat, 312, v320.toNat]
def k0_mult140 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_91 : BitVec 32 := 128#32
  let v323 : BitVec 32 := Scalar.muli arg17 c128_i32_91
  v323
def k0_off93 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v325 : Index := Scalar.indexCast v67
  let c320 : Index := 320#32
  let c0_i32_40 : BitVec 32 := 0#32
  let c1_i32_42 : BitVec 32 := 1#32
  let arg17 : BitVec 32 := Scf.iv c0_i32_40 c1_i32_42 k0_t3
  let c128_i32_91 : BitVec 32 := 128#32
  let v323 : BitVec 32 := Scalar.muli arg17 c128_i32_91
  let v324 : BitVec 32 := v323
  let v326 : Index := Scalar.indexCast v324
  ![v325.toNat, 320, v326.toNat]
def k0_mult141 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_92 : BitVec 32 := 128#32
  let v329 : BitVec 32 := Scalar.muli arg17 c128_i32_92
  v329
def k0_off94 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v331 : Index := Scalar.indexCast v67
  let c328 : Index := 328#32
  let c0_i32_40 : BitVec 32 := 0#32
  let c1_i32_42 : BitVec 32 := 1#32
  let arg17 : BitVec 32 := Scf.iv c0_i32_40 c1_i32_42 k0_t3
  let c128_i32_92 : BitVec 32 := 128#32
  let v329 : BitVec 32 := Scalar.muli arg17 c128_i32_92
  let v330 : BitVec 32 := v329
  let v332 : Index := Scalar.indexCast v330
  ![v331.toNat, 328, v332.toNat]
def k0_mult142 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_93 : BitVec 32 := 128#32
  let v335 : BitVec 32 := Scalar.muli arg17 c128_i32_93
  v335
def k0_off95 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v337 : Index := Scalar.indexCast v67
  let c336 : Index := 336#32
  let c0_i32_40 : BitVec 32 := 0#32
  let c1_i32_42 : BitVec 32 := 1#32
  let arg17 : BitVec 32 := Scf.iv c0_i32_40 c1_i32_42 k0_t3
  let c128_i32_93 : BitVec 32 := 128#32
  let v335 : BitVec 32 := Scalar.muli arg17 c128_i32_93
  let v336 : BitVec 32 := v335
  let v338 : Index := Scalar.indexCast v336
  ![v337.toNat, 336, v338.toNat]
def k0_mult143 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_94 : BitVec 32 := 128#32
  let v341 : BitVec 32 := Scalar.muli arg17 c128_i32_94
  v341
def k0_off96 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v343 : Index := Scalar.indexCast v67
  let c344 : Index := 344#32
  let c0_i32_40 : BitVec 32 := 0#32
  let c1_i32_42 : BitVec 32 := 1#32
  let arg17 : BitVec 32 := Scf.iv c0_i32_40 c1_i32_42 k0_t3
  let c128_i32_94 : BitVec 32 := 128#32
  let v341 : BitVec 32 := Scalar.muli arg17 c128_i32_94
  let v342 : BitVec 32 := v341
  let v344 : Index := Scalar.indexCast v342
  ![v343.toNat, 344, v344.toNat]
def k0_mult144 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_95 : BitVec 32 := 128#32
  let v347 : BitVec 32 := Scalar.muli arg17 c128_i32_95
  v347
def k0_off97 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v349 : Index := Scalar.indexCast v67
  let c352 : Index := 352#32
  let c0_i32_40 : BitVec 32 := 0#32
  let c1_i32_42 : BitVec 32 := 1#32
  let arg17 : BitVec 32 := Scf.iv c0_i32_40 c1_i32_42 k0_t3
  let c128_i32_95 : BitVec 32 := 128#32
  let v347 : BitVec 32 := Scalar.muli arg17 c128_i32_95
  let v348 : BitVec 32 := v347
  let v350 : Index := Scalar.indexCast v348
  ![v349.toNat, 352, v350.toNat]
def k0_mult145 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_96 : BitVec 32 := 128#32
  let v353 : BitVec 32 := Scalar.muli arg17 c128_i32_96
  v353
def k0_off98 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v355 : Index := Scalar.indexCast v67
  let c360 : Index := 360#32
  let c0_i32_40 : BitVec 32 := 0#32
  let c1_i32_42 : BitVec 32 := 1#32
  let arg17 : BitVec 32 := Scf.iv c0_i32_40 c1_i32_42 k0_t3
  let c128_i32_96 : BitVec 32 := 128#32
  let v353 : BitVec 32 := Scalar.muli arg17 c128_i32_96
  let v354 : BitVec 32 := v353
  let v356 : Index := Scalar.indexCast v354
  ![v355.toNat, 360, v356.toNat]
def k0_mult146 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_97 : BitVec 32 := 128#32
  let v359 : BitVec 32 := Scalar.muli arg17 c128_i32_97
  v359
def k0_off99 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v361 : Index := Scalar.indexCast v67
  let c368 : Index := 368#32
  let c0_i32_40 : BitVec 32 := 0#32
  let c1_i32_42 : BitVec 32 := 1#32
  let arg17 : BitVec 32 := Scf.iv c0_i32_40 c1_i32_42 k0_t3
  let c128_i32_97 : BitVec 32 := 128#32
  let v359 : BitVec 32 := Scalar.muli arg17 c128_i32_97
  let v360 : BitVec 32 := v359
  let v362 : Index := Scalar.indexCast v360
  ![v361.toNat, 368, v362.toNat]
def k0_mult147 (k0_t3 : Fin k0_t3_loop.trips) : BitVec 32 :=
  let c0_i32_40 : BitVec 32 := 0#32
  let c1_i32_42 : BitVec 32 := 1#32
  let arg17 : BitVec 32 := Scf.iv c0_i32_40 c1_i32_42 k0_t3
  let c128_i32_98 : BitVec 32 := 128#32
  let v365 : BitVec 32 := Scalar.muli arg17 c128_i32_98
  v365
def k0_off100 (k0_t1 : Fin k0_t1_loop.trips) (k0_t3 : Fin k0_t3_loop.trips) : Fin 3 → Nat :=
  let c0_i32_17 : BitVec 32 := 0#32
  let c1_i32 : BitVec 32 := 1#32
  let arg16 : BitVec 32 := Scf.iv c0_i32_17 c1_i32 k0_t1
  let c1_i32_37 : BitVec 32 := 1#32
  let v66 : BitVec 32 := Scalar.addi arg16 c1_i32_37
  let c2_i32_38 : BitVec 32 := 2#32
  let v67 : BitVec 32 := Scalar.remsi v66 c2_i32_38
  let v367 : Index := Scalar.indexCast v67
  let c376 : Index := 376#32
  let c0_i32_40 : BitVec 32 := 0#32
  let c1_i32_42 : BitVec 32 := 1#32
  let arg17 : BitVec 32 := Scf.iv c0_i32_40 c1_i32_42 k0_t3
  let c128_i32_98 : BitVec 32 := 128#32
  let v365 : BitVec 32 := Scalar.muli arg17 c128_i32_98
  let v366 : BitVec 32 := v365
  let v368 : Index := Scalar.indexCast v366
  ![v367.toNat, 376, v368.toNat]
def k0_off101 (k0_t1 : Fin k0_t1_loop.trips) (k0_t3 : Fin k0_t3_loop.trips) (k0_t4 : Fin k0_t4_loop.trips) : Fin 3 → Nat :=
  let c0_i32_44 : BitVec 32 := 0#32
  let c1_i32_46 : BitVec 32 := 1#32
  let arg18 : BitVec 32 := Scf.iv c0_i32_44 c1_i32_46 k0_t4
  let v453 : Index := Scalar.indexCast arg18
  let c0_111 : Index := 0#32
  let c0_i32_17 : BitVec 32 := 0#32
  let c1_i32 : BitVec 32 := 1#32
  let arg16 : BitVec 32 := Scf.iv c0_i32_17 c1_i32 k0_t1
  let c0_i32_25 : BitVec 32 := 0#32
  let v52 : BitVec 1 := Scalar.cmpi .sgt arg16 c0_i32_25
  let c1_i32_26 : BitVec 32 := 1#32
  let v53 : BitVec 32 := Scalar.subi arg16 c1_i32_26
  let c7_i32 : BitVec 32 := 7#32
  let v54 : BitVec 32 := Scalar.select v52 v53 c7_i32
  let c512_i32_39 : BitVec 32 := 512#32
  let v68 : BitVec 32 := Scalar.muli v54 c512_i32_39
  let c0_i32_40 : BitVec 32 := 0#32
  let c1_i32_42 : BitVec 32 := 1#32
  let arg17 : BitVec 32 := Scf.iv c0_i32_40 c1_i32_42 k0_t3
  let c128_i32 : BitVec 32 := 128#32
  let v71 : BitVec 32 := Scalar.muli arg17 c128_i32
  let v72 : BitVec 32 := Scalar.addi v68 v71
  let v73 : BitVec 32 := v72
  let v454 : Index := Scalar.indexCast v73
  ![v453.toNat, 0, v454.toNat]
def k0_cond2 (i : grid0.Coords) : BitVec 1 :=
  let arg0 : BitVec 32 := BitVec.ofNat 32 (i 0).val
  let c130_i32 : BitVec 32 := 130#32
  let v37 : BitVec 1 := Scalar.cmpi .eq arg0 c130_i32
  let v38 : BitVec 32 := Scalar.extui v37
  let c0_i32_19 : BitVec 32 := 0#32
  let v39 : BitVec 1 := Scalar.cmpi .ne v38 c0_i32_19
  v39

@[reducible] def k0_t5_loop : Scf.Loop 32 :=
  let c0_i32_20 : BitVec 32 := 0#32
  let c4_i32 : BitVec 32 := 4#32
  let v40 : BitVec 32 := Scalar.addi c0_i32_20 c4_i32
  let c1_i32_21 : BitVec 32 := 1#32
  ⟨c0_i32_20, v40, c1_i32_21⟩
def k0_mult148 (k0_t5 : Fin k0_t5_loop.trips) : BitVec 32 :=
  let c3584_i32 : BitVec 32 := 3584#32
  let c0_i32_20 : BitVec 32 := 0#32
  let c1_i32_21 : BitVec 32 := 1#32
  let arg16 : BitVec 32 := Scf.iv c0_i32_20 c1_i32_21 k0_t5
  let c128_i32 : BitVec 32 := 128#32
  let v176 : BitVec 32 := Scalar.muli arg16 c128_i32
  let v177 : BitVec 32 := Scalar.addi c3584_i32 v176
  v177
def k0_mult149 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_112 : BitVec 32 := 128#32
  let v179 : BitVec 32 := Scalar.muli arg16 c128_i32_112
  v179
def k0_off102 (k0_t5 : Fin k0_t5_loop.trips) : Fin 3 → Nat :=
  let c1_113 : Index := 1#32
  let c0_114 : Index := 0#32
  let c0_i32_20 : BitVec 32 := 0#32
  let c1_i32_21 : BitVec 32 := 1#32
  let arg16 : BitVec 32 := Scf.iv c0_i32_20 c1_i32_21 k0_t5
  let c128_i32_112 : BitVec 32 := 128#32
  let v179 : BitVec 32 := Scalar.muli arg16 c128_i32_112
  let v180 : BitVec 32 := v179
  let v181 : Index := Scalar.indexCast v180
  ![1, 0, v181.toNat]
def k0_mult150 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_115 : BitVec 32 := 128#32
  let v184 : BitVec 32 := Scalar.muli arg16 c128_i32_115
  v184
def k0_off103 (k0_t5 : Fin k0_t5_loop.trips) : Fin 3 → Nat :=
  let c1_116 : Index := 1#32
  let c8 : Index := 8#32
  let c0_i32_20 : BitVec 32 := 0#32
  let c1_i32_21 : BitVec 32 := 1#32
  let arg16 : BitVec 32 := Scf.iv c0_i32_20 c1_i32_21 k0_t5
  let c128_i32_115 : BitVec 32 := 128#32
  let v184 : BitVec 32 := Scalar.muli arg16 c128_i32_115
  let v185 : BitVec 32 := v184
  let v186 : Index := Scalar.indexCast v185
  ![1, 8, v186.toNat]
def k0_mult151 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_117 : BitVec 32 := 128#32
  let v190 : BitVec 32 := Scalar.muli arg16 c128_i32_117
  v190
def k0_off104 (k0_t5 : Fin k0_t5_loop.trips) : Fin 3 → Nat :=
  let c1_118 : Index := 1#32
  let c16 : Index := 16#32
  let c0_i32_20 : BitVec 32 := 0#32
  let c1_i32_21 : BitVec 32 := 1#32
  let arg16 : BitVec 32 := Scf.iv c0_i32_20 c1_i32_21 k0_t5
  let c128_i32_117 : BitVec 32 := 128#32
  let v190 : BitVec 32 := Scalar.muli arg16 c128_i32_117
  let v191 : BitVec 32 := v190
  let v192 : Index := Scalar.indexCast v191
  ![1, 16, v192.toNat]
def k0_mult152 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_119 : BitVec 32 := 128#32
  let v196 : BitVec 32 := Scalar.muli arg16 c128_i32_119
  v196
def k0_off105 (k0_t5 : Fin k0_t5_loop.trips) : Fin 3 → Nat :=
  let c1_120 : Index := 1#32
  let c24 : Index := 24#32
  let c0_i32_20 : BitVec 32 := 0#32
  let c1_i32_21 : BitVec 32 := 1#32
  let arg16 : BitVec 32 := Scf.iv c0_i32_20 c1_i32_21 k0_t5
  let c128_i32_119 : BitVec 32 := 128#32
  let v196 : BitVec 32 := Scalar.muli arg16 c128_i32_119
  let v197 : BitVec 32 := v196
  let v198 : Index := Scalar.indexCast v197
  ![1, 24, v198.toNat]
def k0_mult153 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_121 : BitVec 32 := 128#32
  let v202 : BitVec 32 := Scalar.muli arg16 c128_i32_121
  v202
def k0_off106 (k0_t5 : Fin k0_t5_loop.trips) : Fin 3 → Nat :=
  let c1_122 : Index := 1#32
  let c32 : Index := 32#32
  let c0_i32_20 : BitVec 32 := 0#32
  let c1_i32_21 : BitVec 32 := 1#32
  let arg16 : BitVec 32 := Scf.iv c0_i32_20 c1_i32_21 k0_t5
  let c128_i32_121 : BitVec 32 := 128#32
  let v202 : BitVec 32 := Scalar.muli arg16 c128_i32_121
  let v203 : BitVec 32 := v202
  let v204 : Index := Scalar.indexCast v203
  ![1, 32, v204.toNat]
def k0_mult154 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_123 : BitVec 32 := 128#32
  let v208 : BitVec 32 := Scalar.muli arg16 c128_i32_123
  v208
def k0_off107 (k0_t5 : Fin k0_t5_loop.trips) : Fin 3 → Nat :=
  let c1_124 : Index := 1#32
  let c40 : Index := 40#32
  let c0_i32_20 : BitVec 32 := 0#32
  let c1_i32_21 : BitVec 32 := 1#32
  let arg16 : BitVec 32 := Scf.iv c0_i32_20 c1_i32_21 k0_t5
  let c128_i32_123 : BitVec 32 := 128#32
  let v208 : BitVec 32 := Scalar.muli arg16 c128_i32_123
  let v209 : BitVec 32 := v208
  let v210 : Index := Scalar.indexCast v209
  ![1, 40, v210.toNat]
def k0_mult155 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_125 : BitVec 32 := 128#32
  let v214 : BitVec 32 := Scalar.muli arg16 c128_i32_125
  v214
def k0_off108 (k0_t5 : Fin k0_t5_loop.trips) : Fin 3 → Nat :=
  let c1_126 : Index := 1#32
  let c48 : Index := 48#32
  let c0_i32_20 : BitVec 32 := 0#32
  let c1_i32_21 : BitVec 32 := 1#32
  let arg16 : BitVec 32 := Scf.iv c0_i32_20 c1_i32_21 k0_t5
  let c128_i32_125 : BitVec 32 := 128#32
  let v214 : BitVec 32 := Scalar.muli arg16 c128_i32_125
  let v215 : BitVec 32 := v214
  let v216 : Index := Scalar.indexCast v215
  ![1, 48, v216.toNat]
def k0_mult156 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_127 : BitVec 32 := 128#32
  let v220 : BitVec 32 := Scalar.muli arg16 c128_i32_127
  v220
def k0_off109 (k0_t5 : Fin k0_t5_loop.trips) : Fin 3 → Nat :=
  let c1_128 : Index := 1#32
  let c56 : Index := 56#32
  let c0_i32_20 : BitVec 32 := 0#32
  let c1_i32_21 : BitVec 32 := 1#32
  let arg16 : BitVec 32 := Scf.iv c0_i32_20 c1_i32_21 k0_t5
  let c128_i32_127 : BitVec 32 := 128#32
  let v220 : BitVec 32 := Scalar.muli arg16 c128_i32_127
  let v221 : BitVec 32 := v220
  let v222 : Index := Scalar.indexCast v221
  ![1, 56, v222.toNat]
def k0_mult157 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_129 : BitVec 32 := 128#32
  let v226 : BitVec 32 := Scalar.muli arg16 c128_i32_129
  v226
def k0_off110 (k0_t5 : Fin k0_t5_loop.trips) : Fin 3 → Nat :=
  let c1_130 : Index := 1#32
  let c64 : Index := 64#32
  let c0_i32_20 : BitVec 32 := 0#32
  let c1_i32_21 : BitVec 32 := 1#32
  let arg16 : BitVec 32 := Scf.iv c0_i32_20 c1_i32_21 k0_t5
  let c128_i32_129 : BitVec 32 := 128#32
  let v226 : BitVec 32 := Scalar.muli arg16 c128_i32_129
  let v227 : BitVec 32 := v226
  let v228 : Index := Scalar.indexCast v227
  ![1, 64, v228.toNat]
def k0_mult158 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_131 : BitVec 32 := 128#32
  let v232 : BitVec 32 := Scalar.muli arg16 c128_i32_131
  v232
def k0_off111 (k0_t5 : Fin k0_t5_loop.trips) : Fin 3 → Nat :=
  let c1_132 : Index := 1#32
  let c72 : Index := 72#32
  let c0_i32_20 : BitVec 32 := 0#32
  let c1_i32_21 : BitVec 32 := 1#32
  let arg16 : BitVec 32 := Scf.iv c0_i32_20 c1_i32_21 k0_t5
  let c128_i32_131 : BitVec 32 := 128#32
  let v232 : BitVec 32 := Scalar.muli arg16 c128_i32_131
  let v233 : BitVec 32 := v232
  let v234 : Index := Scalar.indexCast v233
  ![1, 72, v234.toNat]
def k0_mult159 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_133 : BitVec 32 := 128#32
  let v238 : BitVec 32 := Scalar.muli arg16 c128_i32_133
  v238
def k0_off112 (k0_t5 : Fin k0_t5_loop.trips) : Fin 3 → Nat :=
  let c1_134 : Index := 1#32
  let c80 : Index := 80#32
  let c0_i32_20 : BitVec 32 := 0#32
  let c1_i32_21 : BitVec 32 := 1#32
  let arg16 : BitVec 32 := Scf.iv c0_i32_20 c1_i32_21 k0_t5
  let c128_i32_133 : BitVec 32 := 128#32
  let v238 : BitVec 32 := Scalar.muli arg16 c128_i32_133
  let v239 : BitVec 32 := v238
  let v240 : Index := Scalar.indexCast v239
  ![1, 80, v240.toNat]
def k0_mult160 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_135 : BitVec 32 := 128#32
  let v244 : BitVec 32 := Scalar.muli arg16 c128_i32_135
  v244
def k0_off113 (k0_t5 : Fin k0_t5_loop.trips) : Fin 3 → Nat :=
  let c1_136 : Index := 1#32
  let c88 : Index := 88#32
  let c0_i32_20 : BitVec 32 := 0#32
  let c1_i32_21 : BitVec 32 := 1#32
  let arg16 : BitVec 32 := Scf.iv c0_i32_20 c1_i32_21 k0_t5
  let c128_i32_135 : BitVec 32 := 128#32
  let v244 : BitVec 32 := Scalar.muli arg16 c128_i32_135
  let v245 : BitVec 32 := v244
  let v246 : Index := Scalar.indexCast v245
  ![1, 88, v246.toNat]
def k0_mult161 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_137 : BitVec 32 := 128#32
  let v250 : BitVec 32 := Scalar.muli arg16 c128_i32_137
  v250
def k0_off114 (k0_t5 : Fin k0_t5_loop.trips) : Fin 3 → Nat :=
  let c1_138 : Index := 1#32
  let c96 : Index := 96#32
  let c0_i32_20 : BitVec 32 := 0#32
  let c1_i32_21 : BitVec 32 := 1#32
  let arg16 : BitVec 32 := Scf.iv c0_i32_20 c1_i32_21 k0_t5
  let c128_i32_137 : BitVec 32 := 128#32
  let v250 : BitVec 32 := Scalar.muli arg16 c128_i32_137
  let v251 : BitVec 32 := v250
  let v252 : Index := Scalar.indexCast v251
  ![1, 96, v252.toNat]
def k0_mult162 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_139 : BitVec 32 := 128#32
  let v256 : BitVec 32 := Scalar.muli arg16 c128_i32_139
  v256
def k0_off115 (k0_t5 : Fin k0_t5_loop.trips) : Fin 3 → Nat :=
  let c1_140 : Index := 1#32
  let c104 : Index := 104#32
  let c0_i32_20 : BitVec 32 := 0#32
  let c1_i32_21 : BitVec 32 := 1#32
  let arg16 : BitVec 32 := Scf.iv c0_i32_20 c1_i32_21 k0_t5
  let c128_i32_139 : BitVec 32 := 128#32
  let v256 : BitVec 32 := Scalar.muli arg16 c128_i32_139
  let v257 : BitVec 32 := v256
  let v258 : Index := Scalar.indexCast v257
  ![1, 104, v258.toNat]
def k0_mult163 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_141 : BitVec 32 := 128#32
  let v262 : BitVec 32 := Scalar.muli arg16 c128_i32_141
  v262
def k0_off116 (k0_t5 : Fin k0_t5_loop.trips) : Fin 3 → Nat :=
  let c1_142 : Index := 1#32
  let c112 : Index := 112#32
  let c0_i32_20 : BitVec 32 := 0#32
  let c1_i32_21 : BitVec 32 := 1#32
  let arg16 : BitVec 32 := Scf.iv c0_i32_20 c1_i32_21 k0_t5
  let c128_i32_141 : BitVec 32 := 128#32
  let v262 : BitVec 32 := Scalar.muli arg16 c128_i32_141
  let v263 : BitVec 32 := v262
  let v264 : Index := Scalar.indexCast v263
  ![1, 112, v264.toNat]
def k0_mult164 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_143 : BitVec 32 := 128#32
  let v268 : BitVec 32 := Scalar.muli arg16 c128_i32_143
  v268
def k0_off117 (k0_t5 : Fin k0_t5_loop.trips) : Fin 3 → Nat :=
  let c1_144 : Index := 1#32
  let c120 : Index := 120#32
  let c0_i32_20 : BitVec 32 := 0#32
  let c1_i32_21 : BitVec 32 := 1#32
  let arg16 : BitVec 32 := Scf.iv c0_i32_20 c1_i32_21 k0_t5
  let c128_i32_143 : BitVec 32 := 128#32
  let v268 : BitVec 32 := Scalar.muli arg16 c128_i32_143
  let v269 : BitVec 32 := v268
  let v270 : Index := Scalar.indexCast v269
  ![1, 120, v270.toNat]
def k0_mult165 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_145 : BitVec 32 := 128#32
  let v274 : BitVec 32 := Scalar.muli arg16 c128_i32_145
  v274
def k0_off118 (k0_t5 : Fin k0_t5_loop.trips) : Fin 3 → Nat :=
  let c1_146 : Index := 1#32
  let c128_147 : Index := 128#32
  let c0_i32_20 : BitVec 32 := 0#32
  let c1_i32_21 : BitVec 32 := 1#32
  let arg16 : BitVec 32 := Scf.iv c0_i32_20 c1_i32_21 k0_t5
  let c128_i32_145 : BitVec 32 := 128#32
  let v274 : BitVec 32 := Scalar.muli arg16 c128_i32_145
  let v275 : BitVec 32 := v274
  let v276 : Index := Scalar.indexCast v275
  ![1, 128, v276.toNat]
def k0_mult166 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_148 : BitVec 32 := 128#32
  let v280 : BitVec 32 := Scalar.muli arg16 c128_i32_148
  v280
def k0_off119 (k0_t5 : Fin k0_t5_loop.trips) : Fin 3 → Nat :=
  let c1_149 : Index := 1#32
  let c136 : Index := 136#32
  let c0_i32_20 : BitVec 32 := 0#32
  let c1_i32_21 : BitVec 32 := 1#32
  let arg16 : BitVec 32 := Scf.iv c0_i32_20 c1_i32_21 k0_t5
  let c128_i32_148 : BitVec 32 := 128#32
  let v280 : BitVec 32 := Scalar.muli arg16 c128_i32_148
  let v281 : BitVec 32 := v280
  let v282 : Index := Scalar.indexCast v281
  ![1, 136, v282.toNat]
def k0_mult167 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_150 : BitVec 32 := 128#32
  let v286 : BitVec 32 := Scalar.muli arg16 c128_i32_150
  v286
def k0_off120 (k0_t5 : Fin k0_t5_loop.trips) : Fin 3 → Nat :=
  let c1_151 : Index := 1#32
  let c144 : Index := 144#32
  let c0_i32_20 : BitVec 32 := 0#32
  let c1_i32_21 : BitVec 32 := 1#32
  let arg16 : BitVec 32 := Scf.iv c0_i32_20 c1_i32_21 k0_t5
  let c128_i32_150 : BitVec 32 := 128#32
  let v286 : BitVec 32 := Scalar.muli arg16 c128_i32_150
  let v287 : BitVec 32 := v286
  let v288 : Index := Scalar.indexCast v287
  ![1, 144, v288.toNat]
def k0_mult168 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_152 : BitVec 32 := 128#32
  let v292 : BitVec 32 := Scalar.muli arg16 c128_i32_152
  v292
def k0_off121 (k0_t5 : Fin k0_t5_loop.trips) : Fin 3 → Nat :=
  let c1_153 : Index := 1#32
  let c152 : Index := 152#32
  let c0_i32_20 : BitVec 32 := 0#32
  let c1_i32_21 : BitVec 32 := 1#32
  let arg16 : BitVec 32 := Scf.iv c0_i32_20 c1_i32_21 k0_t5
  let c128_i32_152 : BitVec 32 := 128#32
  let v292 : BitVec 32 := Scalar.muli arg16 c128_i32_152
  let v293 : BitVec 32 := v292
  let v294 : Index := Scalar.indexCast v293
  ![1, 152, v294.toNat]
def k0_mult169 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_154 : BitVec 32 := 128#32
  let v298 : BitVec 32 := Scalar.muli arg16 c128_i32_154
  v298
def k0_off122 (k0_t5 : Fin k0_t5_loop.trips) : Fin 3 → Nat :=
  let c1_155 : Index := 1#32
  let c160 : Index := 160#32
  let c0_i32_20 : BitVec 32 := 0#32
  let c1_i32_21 : BitVec 32 := 1#32
  let arg16 : BitVec 32 := Scf.iv c0_i32_20 c1_i32_21 k0_t5
  let c128_i32_154 : BitVec 32 := 128#32
  let v298 : BitVec 32 := Scalar.muli arg16 c128_i32_154
  let v299 : BitVec 32 := v298
  let v300 : Index := Scalar.indexCast v299
  ![1, 160, v300.toNat]
def k0_mult170 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_156 : BitVec 32 := 128#32
  let v304 : BitVec 32 := Scalar.muli arg16 c128_i32_156
  v304
def k0_off123 (k0_t5 : Fin k0_t5_loop.trips) : Fin 3 → Nat :=
  let c1_157 : Index := 1#32
  let c168 : Index := 168#32
  let c0_i32_20 : BitVec 32 := 0#32
  let c1_i32_21 : BitVec 32 := 1#32
  let arg16 : BitVec 32 := Scf.iv c0_i32_20 c1_i32_21 k0_t5
  let c128_i32_156 : BitVec 32 := 128#32
  let v304 : BitVec 32 := Scalar.muli arg16 c128_i32_156
  let v305 : BitVec 32 := v304
  let v306 : Index := Scalar.indexCast v305
  ![1, 168, v306.toNat]
def k0_mult171 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_158 : BitVec 32 := 128#32
  let v310 : BitVec 32 := Scalar.muli arg16 c128_i32_158
  v310
def k0_off124 (k0_t5 : Fin k0_t5_loop.trips) : Fin 3 → Nat :=
  let c1_159 : Index := 1#32
  let c176 : Index := 176#32
  let c0_i32_20 : BitVec 32 := 0#32
  let c1_i32_21 : BitVec 32 := 1#32
  let arg16 : BitVec 32 := Scf.iv c0_i32_20 c1_i32_21 k0_t5
  let c128_i32_158 : BitVec 32 := 128#32
  let v310 : BitVec 32 := Scalar.muli arg16 c128_i32_158
  let v311 : BitVec 32 := v310
  let v312 : Index := Scalar.indexCast v311
  ![1, 176, v312.toNat]
def k0_mult172 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_160 : BitVec 32 := 128#32
  let v316 : BitVec 32 := Scalar.muli arg16 c128_i32_160
  v316
def k0_off125 (k0_t5 : Fin k0_t5_loop.trips) : Fin 3 → Nat :=
  let c1_161 : Index := 1#32
  let c184 : Index := 184#32
  let c0_i32_20 : BitVec 32 := 0#32
  let c1_i32_21 : BitVec 32 := 1#32
  let arg16 : BitVec 32 := Scf.iv c0_i32_20 c1_i32_21 k0_t5
  let c128_i32_160 : BitVec 32 := 128#32
  let v316 : BitVec 32 := Scalar.muli arg16 c128_i32_160
  let v317 : BitVec 32 := v316
  let v318 : Index := Scalar.indexCast v317
  ![1, 184, v318.toNat]
def k0_mult173 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_162 : BitVec 32 := 128#32
  let v322 : BitVec 32 := Scalar.muli arg16 c128_i32_162
  v322
def k0_off126 (k0_t5 : Fin k0_t5_loop.trips) : Fin 3 → Nat :=
  let c1_163 : Index := 1#32
  let c192 : Index := 192#32
  let c0_i32_20 : BitVec 32 := 0#32
  let c1_i32_21 : BitVec 32 := 1#32
  let arg16 : BitVec 32 := Scf.iv c0_i32_20 c1_i32_21 k0_t5
  let c128_i32_162 : BitVec 32 := 128#32
  let v322 : BitVec 32 := Scalar.muli arg16 c128_i32_162
  let v323 : BitVec 32 := v322
  let v324 : Index := Scalar.indexCast v323
  ![1, 192, v324.toNat]
def k0_mult174 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_164 : BitVec 32 := 128#32
  let v328 : BitVec 32 := Scalar.muli arg16 c128_i32_164
  v328
def k0_off127 (k0_t5 : Fin k0_t5_loop.trips) : Fin 3 → Nat :=
  let c1_165 : Index := 1#32
  let c200 : Index := 200#32
  let c0_i32_20 : BitVec 32 := 0#32
  let c1_i32_21 : BitVec 32 := 1#32
  let arg16 : BitVec 32 := Scf.iv c0_i32_20 c1_i32_21 k0_t5
  let c128_i32_164 : BitVec 32 := 128#32
  let v328 : BitVec 32 := Scalar.muli arg16 c128_i32_164
  let v329 : BitVec 32 := v328
  let v330 : Index := Scalar.indexCast v329
  ![1, 200, v330.toNat]
def k0_mult175 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_166 : BitVec 32 := 128#32
  let v334 : BitVec 32 := Scalar.muli arg16 c128_i32_166
  v334
def k0_off128 (k0_t5 : Fin k0_t5_loop.trips) : Fin 3 → Nat :=
  let c1_167 : Index := 1#32
  let c208 : Index := 208#32
  let c0_i32_20 : BitVec 32 := 0#32
  let c1_i32_21 : BitVec 32 := 1#32
  let arg16 : BitVec 32 := Scf.iv c0_i32_20 c1_i32_21 k0_t5
  let c128_i32_166 : BitVec 32 := 128#32
  let v334 : BitVec 32 := Scalar.muli arg16 c128_i32_166
  let v335 : BitVec 32 := v334
  let v336 : Index := Scalar.indexCast v335
  ![1, 208, v336.toNat]
def k0_mult176 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_168 : BitVec 32 := 128#32
  let v340 : BitVec 32 := Scalar.muli arg16 c128_i32_168
  v340
def k0_off129 (k0_t5 : Fin k0_t5_loop.trips) : Fin 3 → Nat :=
  let c1_169 : Index := 1#32
  let c216 : Index := 216#32
  let c0_i32_20 : BitVec 32 := 0#32
  let c1_i32_21 : BitVec 32 := 1#32
  let arg16 : BitVec 32 := Scf.iv c0_i32_20 c1_i32_21 k0_t5
  let c128_i32_168 : BitVec 32 := 128#32
  let v340 : BitVec 32 := Scalar.muli arg16 c128_i32_168
  let v341 : BitVec 32 := v340
  let v342 : Index := Scalar.indexCast v341
  ![1, 216, v342.toNat]
def k0_mult177 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_170 : BitVec 32 := 128#32
  let v346 : BitVec 32 := Scalar.muli arg16 c128_i32_170
  v346
def k0_off130 (k0_t5 : Fin k0_t5_loop.trips) : Fin 3 → Nat :=
  let c1_171 : Index := 1#32
  let c224 : Index := 224#32
  let c0_i32_20 : BitVec 32 := 0#32
  let c1_i32_21 : BitVec 32 := 1#32
  let arg16 : BitVec 32 := Scf.iv c0_i32_20 c1_i32_21 k0_t5
  let c128_i32_170 : BitVec 32 := 128#32
  let v346 : BitVec 32 := Scalar.muli arg16 c128_i32_170
  let v347 : BitVec 32 := v346
  let v348 : Index := Scalar.indexCast v347
  ![1, 224, v348.toNat]
def k0_mult178 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_172 : BitVec 32 := 128#32
  let v352 : BitVec 32 := Scalar.muli arg16 c128_i32_172
  v352
def k0_off131 (k0_t5 : Fin k0_t5_loop.trips) : Fin 3 → Nat :=
  let c1_173 : Index := 1#32
  let c232 : Index := 232#32
  let c0_i32_20 : BitVec 32 := 0#32
  let c1_i32_21 : BitVec 32 := 1#32
  let arg16 : BitVec 32 := Scf.iv c0_i32_20 c1_i32_21 k0_t5
  let c128_i32_172 : BitVec 32 := 128#32
  let v352 : BitVec 32 := Scalar.muli arg16 c128_i32_172
  let v353 : BitVec 32 := v352
  let v354 : Index := Scalar.indexCast v353
  ![1, 232, v354.toNat]
def k0_mult179 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_174 : BitVec 32 := 128#32
  let v358 : BitVec 32 := Scalar.muli arg16 c128_i32_174
  v358
def k0_off132 (k0_t5 : Fin k0_t5_loop.trips) : Fin 3 → Nat :=
  let c1_175 : Index := 1#32
  let c240 : Index := 240#32
  let c0_i32_20 : BitVec 32 := 0#32
  let c1_i32_21 : BitVec 32 := 1#32
  let arg16 : BitVec 32 := Scf.iv c0_i32_20 c1_i32_21 k0_t5
  let c128_i32_174 : BitVec 32 := 128#32
  let v358 : BitVec 32 := Scalar.muli arg16 c128_i32_174
  let v359 : BitVec 32 := v358
  let v360 : Index := Scalar.indexCast v359
  ![1, 240, v360.toNat]
def k0_mult180 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_176 : BitVec 32 := 128#32
  let v364 : BitVec 32 := Scalar.muli arg16 c128_i32_176
  v364
def k0_off133 (k0_t5 : Fin k0_t5_loop.trips) : Fin 3 → Nat :=
  let c1_177 : Index := 1#32
  let c248 : Index := 248#32
  let c0_i32_20 : BitVec 32 := 0#32
  let c1_i32_21 : BitVec 32 := 1#32
  let arg16 : BitVec 32 := Scf.iv c0_i32_20 c1_i32_21 k0_t5
  let c128_i32_176 : BitVec 32 := 128#32
  let v364 : BitVec 32 := Scalar.muli arg16 c128_i32_176
  let v365 : BitVec 32 := v364
  let v366 : Index := Scalar.indexCast v365
  ![1, 248, v366.toNat]
def k0_mult181 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_178 : BitVec 32 := 128#32
  let v370 : BitVec 32 := Scalar.muli arg16 c128_i32_178
  v370
def k0_off134 (k0_t5 : Fin k0_t5_loop.trips) : Fin 3 → Nat :=
  let c1_179 : Index := 1#32
  let c256_180 : Index := 256#32
  let c0_i32_20 : BitVec 32 := 0#32
  let c1_i32_21 : BitVec 32 := 1#32
  let arg16 : BitVec 32 := Scf.iv c0_i32_20 c1_i32_21 k0_t5
  let c128_i32_178 : BitVec 32 := 128#32
  let v370 : BitVec 32 := Scalar.muli arg16 c128_i32_178
  let v371 : BitVec 32 := v370
  let v372 : Index := Scalar.indexCast v371
  ![1, 256, v372.toNat]
def k0_mult182 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_181 : BitVec 32 := 128#32
  let v376 : BitVec 32 := Scalar.muli arg16 c128_i32_181
  v376
def k0_off135 (k0_t5 : Fin k0_t5_loop.trips) : Fin 3 → Nat :=
  let c1_182 : Index := 1#32
  let c264 : Index := 264#32
  let c0_i32_20 : BitVec 32 := 0#32
  let c1_i32_21 : BitVec 32 := 1#32
  let arg16 : BitVec 32 := Scf.iv c0_i32_20 c1_i32_21 k0_t5
  let c128_i32_181 : BitVec 32 := 128#32
  let v376 : BitVec 32 := Scalar.muli arg16 c128_i32_181
  let v377 : BitVec 32 := v376
  let v378 : Index := Scalar.indexCast v377
  ![1, 264, v378.toNat]
def k0_mult183 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_183 : BitVec 32 := 128#32
  let v382 : BitVec 32 := Scalar.muli arg16 c128_i32_183
  v382
def k0_off136 (k0_t5 : Fin k0_t5_loop.trips) : Fin 3 → Nat :=
  let c1_184 : Index := 1#32
  let c272 : Index := 272#32
  let c0_i32_20 : BitVec 32 := 0#32
  let c1_i32_21 : BitVec 32 := 1#32
  let arg16 : BitVec 32 := Scf.iv c0_i32_20 c1_i32_21 k0_t5
  let c128_i32_183 : BitVec 32 := 128#32
  let v382 : BitVec 32 := Scalar.muli arg16 c128_i32_183
  let v383 : BitVec 32 := v382
  let v384 : Index := Scalar.indexCast v383
  ![1, 272, v384.toNat]
def k0_mult184 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_185 : BitVec 32 := 128#32
  let v388 : BitVec 32 := Scalar.muli arg16 c128_i32_185
  v388
def k0_off137 (k0_t5 : Fin k0_t5_loop.trips) : Fin 3 → Nat :=
  let c1_186 : Index := 1#32
  let c280 : Index := 280#32
  let c0_i32_20 : BitVec 32 := 0#32
  let c1_i32_21 : BitVec 32 := 1#32
  let arg16 : BitVec 32 := Scf.iv c0_i32_20 c1_i32_21 k0_t5
  let c128_i32_185 : BitVec 32 := 128#32
  let v388 : BitVec 32 := Scalar.muli arg16 c128_i32_185
  let v389 : BitVec 32 := v388
  let v390 : Index := Scalar.indexCast v389
  ![1, 280, v390.toNat]
def k0_mult185 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_187 : BitVec 32 := 128#32
  let v394 : BitVec 32 := Scalar.muli arg16 c128_i32_187
  v394
def k0_off138 (k0_t5 : Fin k0_t5_loop.trips) : Fin 3 → Nat :=
  let c1_188 : Index := 1#32
  let c288 : Index := 288#32
  let c0_i32_20 : BitVec 32 := 0#32
  let c1_i32_21 : BitVec 32 := 1#32
  let arg16 : BitVec 32 := Scf.iv c0_i32_20 c1_i32_21 k0_t5
  let c128_i32_187 : BitVec 32 := 128#32
  let v394 : BitVec 32 := Scalar.muli arg16 c128_i32_187
  let v395 : BitVec 32 := v394
  let v396 : Index := Scalar.indexCast v395
  ![1, 288, v396.toNat]
def k0_mult186 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_189 : BitVec 32 := 128#32
  let v400 : BitVec 32 := Scalar.muli arg16 c128_i32_189
  v400
def k0_off139 (k0_t5 : Fin k0_t5_loop.trips) : Fin 3 → Nat :=
  let c1_190 : Index := 1#32
  let c296 : Index := 296#32
  let c0_i32_20 : BitVec 32 := 0#32
  let c1_i32_21 : BitVec 32 := 1#32
  let arg16 : BitVec 32 := Scf.iv c0_i32_20 c1_i32_21 k0_t5
  let c128_i32_189 : BitVec 32 := 128#32
  let v400 : BitVec 32 := Scalar.muli arg16 c128_i32_189
  let v401 : BitVec 32 := v400
  let v402 : Index := Scalar.indexCast v401
  ![1, 296, v402.toNat]
def k0_mult187 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_191 : BitVec 32 := 128#32
  let v406 : BitVec 32 := Scalar.muli arg16 c128_i32_191
  v406
def k0_off140 (k0_t5 : Fin k0_t5_loop.trips) : Fin 3 → Nat :=
  let c1_192 : Index := 1#32
  let c304 : Index := 304#32
  let c0_i32_20 : BitVec 32 := 0#32
  let c1_i32_21 : BitVec 32 := 1#32
  let arg16 : BitVec 32 := Scf.iv c0_i32_20 c1_i32_21 k0_t5
  let c128_i32_191 : BitVec 32 := 128#32
  let v406 : BitVec 32 := Scalar.muli arg16 c128_i32_191
  let v407 : BitVec 32 := v406
  let v408 : Index := Scalar.indexCast v407
  ![1, 304, v408.toNat]
def k0_mult188 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_193 : BitVec 32 := 128#32
  let v412 : BitVec 32 := Scalar.muli arg16 c128_i32_193
  v412
def k0_off141 (k0_t5 : Fin k0_t5_loop.trips) : Fin 3 → Nat :=
  let c1_194 : Index := 1#32
  let c312 : Index := 312#32
  let c0_i32_20 : BitVec 32 := 0#32
  let c1_i32_21 : BitVec 32 := 1#32
  let arg16 : BitVec 32 := Scf.iv c0_i32_20 c1_i32_21 k0_t5
  let c128_i32_193 : BitVec 32 := 128#32
  let v412 : BitVec 32 := Scalar.muli arg16 c128_i32_193
  let v413 : BitVec 32 := v412
  let v414 : Index := Scalar.indexCast v413
  ![1, 312, v414.toNat]
def k0_mult189 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_195 : BitVec 32 := 128#32
  let v418 : BitVec 32 := Scalar.muli arg16 c128_i32_195
  v418
def k0_off142 (k0_t5 : Fin k0_t5_loop.trips) : Fin 3 → Nat :=
  let c1_196 : Index := 1#32
  let c320 : Index := 320#32
  let c0_i32_20 : BitVec 32 := 0#32
  let c1_i32_21 : BitVec 32 := 1#32
  let arg16 : BitVec 32 := Scf.iv c0_i32_20 c1_i32_21 k0_t5
  let c128_i32_195 : BitVec 32 := 128#32
  let v418 : BitVec 32 := Scalar.muli arg16 c128_i32_195
  let v419 : BitVec 32 := v418
  let v420 : Index := Scalar.indexCast v419
  ![1, 320, v420.toNat]
def k0_mult190 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_197 : BitVec 32 := 128#32
  let v424 : BitVec 32 := Scalar.muli arg16 c128_i32_197
  v424
def k0_off143 (k0_t5 : Fin k0_t5_loop.trips) : Fin 3 → Nat :=
  let c1_198 : Index := 1#32
  let c328 : Index := 328#32
  let c0_i32_20 : BitVec 32 := 0#32
  let c1_i32_21 : BitVec 32 := 1#32
  let arg16 : BitVec 32 := Scf.iv c0_i32_20 c1_i32_21 k0_t5
  let c128_i32_197 : BitVec 32 := 128#32
  let v424 : BitVec 32 := Scalar.muli arg16 c128_i32_197
  let v425 : BitVec 32 := v424
  let v426 : Index := Scalar.indexCast v425
  ![1, 328, v426.toNat]
def k0_mult191 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_199 : BitVec 32 := 128#32
  let v430 : BitVec 32 := Scalar.muli arg16 c128_i32_199
  v430
def k0_off144 (k0_t5 : Fin k0_t5_loop.trips) : Fin 3 → Nat :=
  let c1_200 : Index := 1#32
  let c336 : Index := 336#32
  let c0_i32_20 : BitVec 32 := 0#32
  let c1_i32_21 : BitVec 32 := 1#32
  let arg16 : BitVec 32 := Scf.iv c0_i32_20 c1_i32_21 k0_t5
  let c128_i32_199 : BitVec 32 := 128#32
  let v430 : BitVec 32 := Scalar.muli arg16 c128_i32_199
  let v431 : BitVec 32 := v430
  let v432 : Index := Scalar.indexCast v431
  ![1, 336, v432.toNat]
def k0_mult192 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_201 : BitVec 32 := 128#32
  let v436 : BitVec 32 := Scalar.muli arg16 c128_i32_201
  v436
def k0_off145 (k0_t5 : Fin k0_t5_loop.trips) : Fin 3 → Nat :=
  let c1_202 : Index := 1#32
  let c344 : Index := 344#32
  let c0_i32_20 : BitVec 32 := 0#32
  let c1_i32_21 : BitVec 32 := 1#32
  let arg16 : BitVec 32 := Scf.iv c0_i32_20 c1_i32_21 k0_t5
  let c128_i32_201 : BitVec 32 := 128#32
  let v436 : BitVec 32 := Scalar.muli arg16 c128_i32_201
  let v437 : BitVec 32 := v436
  let v438 : Index := Scalar.indexCast v437
  ![1, 344, v438.toNat]
def k0_mult193 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_203 : BitVec 32 := 128#32
  let v442 : BitVec 32 := Scalar.muli arg16 c128_i32_203
  v442
def k0_off146 (k0_t5 : Fin k0_t5_loop.trips) : Fin 3 → Nat :=
  let c1_204 : Index := 1#32
  let c352 : Index := 352#32
  let c0_i32_20 : BitVec 32 := 0#32
  let c1_i32_21 : BitVec 32 := 1#32
  let arg16 : BitVec 32 := Scf.iv c0_i32_20 c1_i32_21 k0_t5
  let c128_i32_203 : BitVec 32 := 128#32
  let v442 : BitVec 32 := Scalar.muli arg16 c128_i32_203
  let v443 : BitVec 32 := v442
  let v444 : Index := Scalar.indexCast v443
  ![1, 352, v444.toNat]
def k0_mult194 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_205 : BitVec 32 := 128#32
  let v448 : BitVec 32 := Scalar.muli arg16 c128_i32_205
  v448
def k0_off147 (k0_t5 : Fin k0_t5_loop.trips) : Fin 3 → Nat :=
  let c1_206 : Index := 1#32
  let c360 : Index := 360#32
  let c0_i32_20 : BitVec 32 := 0#32
  let c1_i32_21 : BitVec 32 := 1#32
  let arg16 : BitVec 32 := Scf.iv c0_i32_20 c1_i32_21 k0_t5
  let c128_i32_205 : BitVec 32 := 128#32
  let v448 : BitVec 32 := Scalar.muli arg16 c128_i32_205
  let v449 : BitVec 32 := v448
  let v450 : Index := Scalar.indexCast v449
  ![1, 360, v450.toNat]
def k0_mult195 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_207 : BitVec 32 := 128#32
  let v454 : BitVec 32 := Scalar.muli arg16 c128_i32_207
  v454
def k0_off148 (k0_t5 : Fin k0_t5_loop.trips) : Fin 3 → Nat :=
  let c1_208 : Index := 1#32
  let c368 : Index := 368#32
  let c0_i32_20 : BitVec 32 := 0#32
  let c1_i32_21 : BitVec 32 := 1#32
  let arg16 : BitVec 32 := Scf.iv c0_i32_20 c1_i32_21 k0_t5
  let c128_i32_207 : BitVec 32 := 128#32
  let v454 : BitVec 32 := Scalar.muli arg16 c128_i32_207
  let v455 : BitVec 32 := v454
  let v456 : Index := Scalar.indexCast v455
  ![1, 368, v456.toNat]
def k0_mult196 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_209 : BitVec 32 := 128#32
  let v460 : BitVec 32 := Scalar.muli arg16 c128_i32_209
  v460
def k0_off149 (k0_t5 : Fin k0_t5_loop.trips) : Fin 3 → Nat :=
  let c1_210 : Index := 1#32
  let c376 : Index := 376#32
  let c0_i32_20 : BitVec 32 := 0#32
  let c1_i32_21 : BitVec 32 := 1#32
  let arg16 : BitVec 32 := Scf.iv c0_i32_20 c1_i32_21 k0_t5
  let c128_i32_209 : BitVec 32 := 128#32
  let v460 : BitVec 32 := Scalar.muli arg16 c128_i32_209
  let v461 : BitVec 32 := v460
  let v462 : Index := Scalar.indexCast v461
  ![1, 376, v462.toNat]
def k0_off150 (k0_t5 : Fin k0_t5_loop.trips) : Fin 2 → Nat :=
  let c0_211 : Index := 0#32
  let c3584_i32 : BitVec 32 := 3584#32
  let c0_i32_20 : BitVec 32 := 0#32
  let c1_i32_21 : BitVec 32 := 1#32
  let arg16 : BitVec 32 := Scf.iv c0_i32_20 c1_i32_21 k0_t5
  let c128_i32 : BitVec 32 := 128#32
  let v176 : BitVec 32 := Scalar.muli arg16 c128_i32
  let v177 : BitVec 32 := Scalar.addi c3584_i32 v176
  let v178 : BitVec 32 := v177
  let v466 : Index := Scalar.indexCast v178
  ![0, v466.toNat]
def k0_mult197 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_214 : BitVec 32 := 128#32
  let v475 : BitVec 32 := Scalar.muli arg16 c128_i32_214
  v475
def k0_mult198 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_217 : BitVec 32 := 128#32
  let v485 : BitVec 32 := Scalar.muli arg16 c128_i32_217
  v485
def k0_mult199 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_220 : BitVec 32 := 128#32
  let v498 : BitVec 32 := Scalar.muli arg16 c128_i32_220
  v498
def k0_mult200 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_223 : BitVec 32 := 128#32
  let v511 : BitVec 32 := Scalar.muli arg16 c128_i32_223
  v511
def k0_mult201 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_226 : BitVec 32 := 128#32
  let v524 : BitVec 32 := Scalar.muli arg16 c128_i32_226
  v524
def k0_mult202 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_229 : BitVec 32 := 128#32
  let v537 : BitVec 32 := Scalar.muli arg16 c128_i32_229
  v537
def k0_mult203 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_232 : BitVec 32 := 128#32
  let v550 : BitVec 32 := Scalar.muli arg16 c128_i32_232
  v550
def k0_mult204 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_235 : BitVec 32 := 128#32
  let v563 : BitVec 32 := Scalar.muli arg16 c128_i32_235
  v563
def k0_mult205 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_238 : BitVec 32 := 128#32
  let v576 : BitVec 32 := Scalar.muli arg16 c128_i32_238
  v576
def k0_mult206 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_241 : BitVec 32 := 128#32
  let v589 : BitVec 32 := Scalar.muli arg16 c128_i32_241
  v589
def k0_mult207 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_244 : BitVec 32 := 128#32
  let v602 : BitVec 32 := Scalar.muli arg16 c128_i32_244
  v602
def k0_mult208 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_247 : BitVec 32 := 128#32
  let v615 : BitVec 32 := Scalar.muli arg16 c128_i32_247
  v615
def k0_mult209 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_250 : BitVec 32 := 128#32
  let v628 : BitVec 32 := Scalar.muli arg16 c128_i32_250
  v628
def k0_mult210 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_253 : BitVec 32 := 128#32
  let v641 : BitVec 32 := Scalar.muli arg16 c128_i32_253
  v641
def k0_mult211 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_256 : BitVec 32 := 128#32
  let v654 : BitVec 32 := Scalar.muli arg16 c128_i32_256
  v654
def k0_mult212 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_259 : BitVec 32 := 128#32
  let v667 : BitVec 32 := Scalar.muli arg16 c128_i32_259
  v667
def k0_mult213 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_262 : BitVec 32 := 128#32
  let v680 : BitVec 32 := Scalar.muli arg16 c128_i32_262
  v680
def k0_mult214 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_265 : BitVec 32 := 128#32
  let v693 : BitVec 32 := Scalar.muli arg16 c128_i32_265
  v693
def k0_mult215 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_268 : BitVec 32 := 128#32
  let v706 : BitVec 32 := Scalar.muli arg16 c128_i32_268
  v706
def k0_mult216 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_271 : BitVec 32 := 128#32
  let v719 : BitVec 32 := Scalar.muli arg16 c128_i32_271
  v719
def k0_mult217 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_274 : BitVec 32 := 128#32
  let v732 : BitVec 32 := Scalar.muli arg16 c128_i32_274
  v732
def k0_mult218 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_277 : BitVec 32 := 128#32
  let v745 : BitVec 32 := Scalar.muli arg16 c128_i32_277
  v745
def k0_mult219 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_280 : BitVec 32 := 128#32
  let v758 : BitVec 32 := Scalar.muli arg16 c128_i32_280
  v758
def k0_mult220 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_283 : BitVec 32 := 128#32
  let v771 : BitVec 32 := Scalar.muli arg16 c128_i32_283
  v771
def k0_mult221 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_286 : BitVec 32 := 128#32
  let v784 : BitVec 32 := Scalar.muli arg16 c128_i32_286
  v784
def k0_mult222 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_289 : BitVec 32 := 128#32
  let v797 : BitVec 32 := Scalar.muli arg16 c128_i32_289
  v797
def k0_mult223 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_292 : BitVec 32 := 128#32
  let v810 : BitVec 32 := Scalar.muli arg16 c128_i32_292
  v810
def k0_mult224 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_295 : BitVec 32 := 128#32
  let v823 : BitVec 32 := Scalar.muli arg16 c128_i32_295
  v823
def k0_mult225 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_298 : BitVec 32 := 128#32
  let v836 : BitVec 32 := Scalar.muli arg16 c128_i32_298
  v836
def k0_mult226 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_301 : BitVec 32 := 128#32
  let v849 : BitVec 32 := Scalar.muli arg16 c128_i32_301
  v849
def k0_mult227 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_304 : BitVec 32 := 128#32
  let v862 : BitVec 32 := Scalar.muli arg16 c128_i32_304
  v862
def k0_mult228 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_307 : BitVec 32 := 128#32
  let v875 : BitVec 32 := Scalar.muli arg16 c128_i32_307
  v875
def k0_mult229 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_310 : BitVec 32 := 128#32
  let v888 : BitVec 32 := Scalar.muli arg16 c128_i32_310
  v888
def k0_mult230 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_313 : BitVec 32 := 128#32
  let v901 : BitVec 32 := Scalar.muli arg16 c128_i32_313
  v901
def k0_mult231 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_316 : BitVec 32 := 128#32
  let v914 : BitVec 32 := Scalar.muli arg16 c128_i32_316
  v914
def k0_mult232 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_319 : BitVec 32 := 128#32
  let v927 : BitVec 32 := Scalar.muli arg16 c128_i32_319
  v927
def k0_mult233 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_322 : BitVec 32 := 128#32
  let v940 : BitVec 32 := Scalar.muli arg16 c128_i32_322
  v940
def k0_mult234 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_325 : BitVec 32 := 128#32
  let v953 : BitVec 32 := Scalar.muli arg16 c128_i32_325
  v953
def k0_mult235 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_328 : BitVec 32 := 128#32
  let v966 : BitVec 32 := Scalar.muli arg16 c128_i32_328
  v966
def k0_mult236 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_331 : BitVec 32 := 128#32
  let v979 : BitVec 32 := Scalar.muli arg16 c128_i32_331
  v979
def k0_mult237 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_334 : BitVec 32 := 128#32
  let v992 : BitVec 32 := Scalar.muli arg16 c128_i32_334
  v992
def k0_mult238 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_337 : BitVec 32 := 128#32
  let v1005 : BitVec 32 := Scalar.muli arg16 c128_i32_337
  v1005
def k0_mult239 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_340 : BitVec 32 := 128#32
  let v1018 : BitVec 32 := Scalar.muli arg16 c128_i32_340
  v1018
def k0_mult240 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_343 : BitVec 32 := 128#32
  let v1031 : BitVec 32 := Scalar.muli arg16 c128_i32_343
  v1031
def k0_mult241 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_346 : BitVec 32 := 128#32
  let v1044 : BitVec 32 := Scalar.muli arg16 c128_i32_346
  v1044
def k0_mult242 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_349 : BitVec 32 := 128#32
  let v1057 : BitVec 32 := Scalar.muli arg16 c128_i32_349
  v1057
def k0_mult243 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_352 : BitVec 32 := 128#32
  let v1070 : BitVec 32 := Scalar.muli arg16 c128_i32_352
  v1070
def k0_mult244 (k0_t5 : Fin k0_t5_loop.trips) : BitVec 32 :=
  let c0_i32_20 : BitVec 32 := 0#32
  let c1_i32_21 : BitVec 32 := 1#32
  let arg16 : BitVec 32 := Scf.iv c0_i32_20 c1_i32_21 k0_t5
  let c128_i32_355 : BitVec 32 := 128#32
  let v1083 : BitVec 32 := Scalar.muli arg16 c128_i32_355
  v1083
@[reducible] def k0_t6_loop : Scf.Loop 32 :=
  let c0_i32_23 : BitVec 32 := 0#32
  let c4_i32_24 : BitVec 32 := 4#32
  let v43 : BitVec 32 := Scalar.addi c0_i32_23 c4_i32_24
  let c1_i32_25 : BitVec 32 := 1#32
  ⟨c0_i32_23, v43, c1_i32_25⟩
def k0_mult245 (k0_t6 : Fin k0_t6_loop.trips) : BitVec 32 :=
  let c3584_i32 : BitVec 32 := 3584#32
  let c0_i32_23 : BitVec 32 := 0#32
  let c1_i32_25 : BitVec 32 := 1#32
  let arg16 : BitVec 32 := Scf.iv c0_i32_23 c1_i32_25 k0_t6
  let c128_i32 : BitVec 32 := 128#32
  let v176 : BitVec 32 := Scalar.muli arg16 c128_i32
  let v177 : BitVec 32 := Scalar.addi c3584_i32 v176
  v177
@[reducible] def k0_t7_loop : Scf.Loop 32 :=
  let c0_i32_112 : BitVec 32 := 0#32
  let c7_i32 : BitVec 32 := 7#32
  let v179 : BitVec 32 := Scalar.addi c0_i32_112 c7_i32
  let c1_i32_113 : BitVec 32 := 1#32
  ⟨c0_i32_112, v179, c1_i32_113⟩
def k0_off151 (k0_t6 : Fin k0_t6_loop.trips) (k0_t7 : Fin k0_t7_loop.trips) : Fin 2 → Nat :=
  let c0_i32_112 : BitVec 32 := 0#32
  let c1_i32_113 : BitVec 32 := 1#32
  let arg17 : BitVec 32 := Scf.iv c0_i32_112 c1_i32_113 k0_t7
  let v180 : Index := Scalar.indexCast arg17
  let c3584_i32 : BitVec 32 := 3584#32
  let c0_i32_23 : BitVec 32 := 0#32
  let c1_i32_25 : BitVec 32 := 1#32
  let arg16 : BitVec 32 := Scf.iv c0_i32_23 c1_i32_25 k0_t6
  let c128_i32 : BitVec 32 := 128#32
  let v176 : BitVec 32 := Scalar.muli arg16 c128_i32
  let v177 : BitVec 32 := Scalar.addi c3584_i32 v176
  let v178 : BitVec 32 := v177
  let v181 : Index := Scalar.indexCast v178
  ![v180.toNat, v181.toNat]
def k0_mult246 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_115 : BitVec 32 := 128#32
  let v188 : BitVec 32 := Scalar.muli arg16 c128_i32_115
  v188
def k0_off152 (k0_t6 : Fin k0_t6_loop.trips) : Fin 3 → Nat :=
  let c1_116 : Index := 1#32
  let c0_117 : Index := 0#32
  let c0_i32_23 : BitVec 32 := 0#32
  let c1_i32_25 : BitVec 32 := 1#32
  let arg16 : BitVec 32 := Scf.iv c0_i32_23 c1_i32_25 k0_t6
  let c128_i32_115 : BitVec 32 := 128#32
  let v188 : BitVec 32 := Scalar.muli arg16 c128_i32_115
  let v189 : BitVec 32 := v188
  let v190 : Index := Scalar.indexCast v189
  ![1, 0, v190.toNat]
def k0_mult247 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_118 : BitVec 32 := 128#32
  let v193 : BitVec 32 := Scalar.muli arg16 c128_i32_118
  v193
def k0_off153 (k0_t6 : Fin k0_t6_loop.trips) : Fin 3 → Nat :=
  let c1_119 : Index := 1#32
  let c8 : Index := 8#32
  let c0_i32_23 : BitVec 32 := 0#32
  let c1_i32_25 : BitVec 32 := 1#32
  let arg16 : BitVec 32 := Scf.iv c0_i32_23 c1_i32_25 k0_t6
  let c128_i32_118 : BitVec 32 := 128#32
  let v193 : BitVec 32 := Scalar.muli arg16 c128_i32_118
  let v194 : BitVec 32 := v193
  let v195 : Index := Scalar.indexCast v194
  ![1, 8, v195.toNat]
def k0_mult248 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_120 : BitVec 32 := 128#32
  let v198 : BitVec 32 := Scalar.muli arg16 c128_i32_120
  v198
def k0_off154 (k0_t6 : Fin k0_t6_loop.trips) : Fin 3 → Nat :=
  let c1_121 : Index := 1#32
  let c16 : Index := 16#32
  let c0_i32_23 : BitVec 32 := 0#32
  let c1_i32_25 : BitVec 32 := 1#32
  let arg16 : BitVec 32 := Scf.iv c0_i32_23 c1_i32_25 k0_t6
  let c128_i32_120 : BitVec 32 := 128#32
  let v198 : BitVec 32 := Scalar.muli arg16 c128_i32_120
  let v199 : BitVec 32 := v198
  let v200 : Index := Scalar.indexCast v199
  ![1, 16, v200.toNat]
def k0_mult249 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_122 : BitVec 32 := 128#32
  let v203 : BitVec 32 := Scalar.muli arg16 c128_i32_122
  v203
def k0_off155 (k0_t6 : Fin k0_t6_loop.trips) : Fin 3 → Nat :=
  let c1_123 : Index := 1#32
  let c24 : Index := 24#32
  let c0_i32_23 : BitVec 32 := 0#32
  let c1_i32_25 : BitVec 32 := 1#32
  let arg16 : BitVec 32 := Scf.iv c0_i32_23 c1_i32_25 k0_t6
  let c128_i32_122 : BitVec 32 := 128#32
  let v203 : BitVec 32 := Scalar.muli arg16 c128_i32_122
  let v204 : BitVec 32 := v203
  let v205 : Index := Scalar.indexCast v204
  ![1, 24, v205.toNat]
def k0_mult250 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_124 : BitVec 32 := 128#32
  let v208 : BitVec 32 := Scalar.muli arg16 c128_i32_124
  v208
def k0_off156 (k0_t6 : Fin k0_t6_loop.trips) : Fin 3 → Nat :=
  let c1_125 : Index := 1#32
  let c32 : Index := 32#32
  let c0_i32_23 : BitVec 32 := 0#32
  let c1_i32_25 : BitVec 32 := 1#32
  let arg16 : BitVec 32 := Scf.iv c0_i32_23 c1_i32_25 k0_t6
  let c128_i32_124 : BitVec 32 := 128#32
  let v208 : BitVec 32 := Scalar.muli arg16 c128_i32_124
  let v209 : BitVec 32 := v208
  let v210 : Index := Scalar.indexCast v209
  ![1, 32, v210.toNat]
def k0_mult251 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_126 : BitVec 32 := 128#32
  let v213 : BitVec 32 := Scalar.muli arg16 c128_i32_126
  v213
def k0_off157 (k0_t6 : Fin k0_t6_loop.trips) : Fin 3 → Nat :=
  let c1_127 : Index := 1#32
  let c40 : Index := 40#32
  let c0_i32_23 : BitVec 32 := 0#32
  let c1_i32_25 : BitVec 32 := 1#32
  let arg16 : BitVec 32 := Scf.iv c0_i32_23 c1_i32_25 k0_t6
  let c128_i32_126 : BitVec 32 := 128#32
  let v213 : BitVec 32 := Scalar.muli arg16 c128_i32_126
  let v214 : BitVec 32 := v213
  let v215 : Index := Scalar.indexCast v214
  ![1, 40, v215.toNat]
def k0_mult252 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_128 : BitVec 32 := 128#32
  let v218 : BitVec 32 := Scalar.muli arg16 c128_i32_128
  v218
def k0_off158 (k0_t6 : Fin k0_t6_loop.trips) : Fin 3 → Nat :=
  let c1_129 : Index := 1#32
  let c48 : Index := 48#32
  let c0_i32_23 : BitVec 32 := 0#32
  let c1_i32_25 : BitVec 32 := 1#32
  let arg16 : BitVec 32 := Scf.iv c0_i32_23 c1_i32_25 k0_t6
  let c128_i32_128 : BitVec 32 := 128#32
  let v218 : BitVec 32 := Scalar.muli arg16 c128_i32_128
  let v219 : BitVec 32 := v218
  let v220 : Index := Scalar.indexCast v219
  ![1, 48, v220.toNat]
def k0_mult253 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_130 : BitVec 32 := 128#32
  let v223 : BitVec 32 := Scalar.muli arg16 c128_i32_130
  v223
def k0_off159 (k0_t6 : Fin k0_t6_loop.trips) : Fin 3 → Nat :=
  let c1_131 : Index := 1#32
  let c56 : Index := 56#32
  let c0_i32_23 : BitVec 32 := 0#32
  let c1_i32_25 : BitVec 32 := 1#32
  let arg16 : BitVec 32 := Scf.iv c0_i32_23 c1_i32_25 k0_t6
  let c128_i32_130 : BitVec 32 := 128#32
  let v223 : BitVec 32 := Scalar.muli arg16 c128_i32_130
  let v224 : BitVec 32 := v223
  let v225 : Index := Scalar.indexCast v224
  ![1, 56, v225.toNat]
def k0_mult254 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_132 : BitVec 32 := 128#32
  let v228 : BitVec 32 := Scalar.muli arg16 c128_i32_132
  v228
def k0_off160 (k0_t6 : Fin k0_t6_loop.trips) : Fin 3 → Nat :=
  let c1_133 : Index := 1#32
  let c64 : Index := 64#32
  let c0_i32_23 : BitVec 32 := 0#32
  let c1_i32_25 : BitVec 32 := 1#32
  let arg16 : BitVec 32 := Scf.iv c0_i32_23 c1_i32_25 k0_t6
  let c128_i32_132 : BitVec 32 := 128#32
  let v228 : BitVec 32 := Scalar.muli arg16 c128_i32_132
  let v229 : BitVec 32 := v228
  let v230 : Index := Scalar.indexCast v229
  ![1, 64, v230.toNat]
def k0_mult255 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_134 : BitVec 32 := 128#32
  let v233 : BitVec 32 := Scalar.muli arg16 c128_i32_134
  v233
def k0_off161 (k0_t6 : Fin k0_t6_loop.trips) : Fin 3 → Nat :=
  let c1_135 : Index := 1#32
  let c72 : Index := 72#32
  let c0_i32_23 : BitVec 32 := 0#32
  let c1_i32_25 : BitVec 32 := 1#32
  let arg16 : BitVec 32 := Scf.iv c0_i32_23 c1_i32_25 k0_t6
  let c128_i32_134 : BitVec 32 := 128#32
  let v233 : BitVec 32 := Scalar.muli arg16 c128_i32_134
  let v234 : BitVec 32 := v233
  let v235 : Index := Scalar.indexCast v234
  ![1, 72, v235.toNat]
def k0_mult256 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_136 : BitVec 32 := 128#32
  let v238 : BitVec 32 := Scalar.muli arg16 c128_i32_136
  v238
def k0_off162 (k0_t6 : Fin k0_t6_loop.trips) : Fin 3 → Nat :=
  let c1_137 : Index := 1#32
  let c80 : Index := 80#32
  let c0_i32_23 : BitVec 32 := 0#32
  let c1_i32_25 : BitVec 32 := 1#32
  let arg16 : BitVec 32 := Scf.iv c0_i32_23 c1_i32_25 k0_t6
  let c128_i32_136 : BitVec 32 := 128#32
  let v238 : BitVec 32 := Scalar.muli arg16 c128_i32_136
  let v239 : BitVec 32 := v238
  let v240 : Index := Scalar.indexCast v239
  ![1, 80, v240.toNat]
def k0_mult257 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_138 : BitVec 32 := 128#32
  let v243 : BitVec 32 := Scalar.muli arg16 c128_i32_138
  v243
def k0_off163 (k0_t6 : Fin k0_t6_loop.trips) : Fin 3 → Nat :=
  let c1_139 : Index := 1#32
  let c88 : Index := 88#32
  let c0_i32_23 : BitVec 32 := 0#32
  let c1_i32_25 : BitVec 32 := 1#32
  let arg16 : BitVec 32 := Scf.iv c0_i32_23 c1_i32_25 k0_t6
  let c128_i32_138 : BitVec 32 := 128#32
  let v243 : BitVec 32 := Scalar.muli arg16 c128_i32_138
  let v244 : BitVec 32 := v243
  let v245 : Index := Scalar.indexCast v244
  ![1, 88, v245.toNat]
def k0_mult258 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_140 : BitVec 32 := 128#32
  let v248 : BitVec 32 := Scalar.muli arg16 c128_i32_140
  v248
def k0_off164 (k0_t6 : Fin k0_t6_loop.trips) : Fin 3 → Nat :=
  let c1_141 : Index := 1#32
  let c96 : Index := 96#32
  let c0_i32_23 : BitVec 32 := 0#32
  let c1_i32_25 : BitVec 32 := 1#32
  let arg16 : BitVec 32 := Scf.iv c0_i32_23 c1_i32_25 k0_t6
  let c128_i32_140 : BitVec 32 := 128#32
  let v248 : BitVec 32 := Scalar.muli arg16 c128_i32_140
  let v249 : BitVec 32 := v248
  let v250 : Index := Scalar.indexCast v249
  ![1, 96, v250.toNat]
def k0_mult259 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_142 : BitVec 32 := 128#32
  let v253 : BitVec 32 := Scalar.muli arg16 c128_i32_142
  v253
def k0_off165 (k0_t6 : Fin k0_t6_loop.trips) : Fin 3 → Nat :=
  let c1_143 : Index := 1#32
  let c104 : Index := 104#32
  let c0_i32_23 : BitVec 32 := 0#32
  let c1_i32_25 : BitVec 32 := 1#32
  let arg16 : BitVec 32 := Scf.iv c0_i32_23 c1_i32_25 k0_t6
  let c128_i32_142 : BitVec 32 := 128#32
  let v253 : BitVec 32 := Scalar.muli arg16 c128_i32_142
  let v254 : BitVec 32 := v253
  let v255 : Index := Scalar.indexCast v254
  ![1, 104, v255.toNat]
def k0_mult260 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_144 : BitVec 32 := 128#32
  let v258 : BitVec 32 := Scalar.muli arg16 c128_i32_144
  v258
def k0_off166 (k0_t6 : Fin k0_t6_loop.trips) : Fin 3 → Nat :=
  let c1_145 : Index := 1#32
  let c112 : Index := 112#32
  let c0_i32_23 : BitVec 32 := 0#32
  let c1_i32_25 : BitVec 32 := 1#32
  let arg16 : BitVec 32 := Scf.iv c0_i32_23 c1_i32_25 k0_t6
  let c128_i32_144 : BitVec 32 := 128#32
  let v258 : BitVec 32 := Scalar.muli arg16 c128_i32_144
  let v259 : BitVec 32 := v258
  let v260 : Index := Scalar.indexCast v259
  ![1, 112, v260.toNat]
def k0_mult261 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_146 : BitVec 32 := 128#32
  let v263 : BitVec 32 := Scalar.muli arg16 c128_i32_146
  v263
def k0_off167 (k0_t6 : Fin k0_t6_loop.trips) : Fin 3 → Nat :=
  let c1_147 : Index := 1#32
  let c120 : Index := 120#32
  let c0_i32_23 : BitVec 32 := 0#32
  let c1_i32_25 : BitVec 32 := 1#32
  let arg16 : BitVec 32 := Scf.iv c0_i32_23 c1_i32_25 k0_t6
  let c128_i32_146 : BitVec 32 := 128#32
  let v263 : BitVec 32 := Scalar.muli arg16 c128_i32_146
  let v264 : BitVec 32 := v263
  let v265 : Index := Scalar.indexCast v264
  ![1, 120, v265.toNat]
def k0_mult262 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_148 : BitVec 32 := 128#32
  let v268 : BitVec 32 := Scalar.muli arg16 c128_i32_148
  v268
def k0_off168 (k0_t6 : Fin k0_t6_loop.trips) : Fin 3 → Nat :=
  let c1_149 : Index := 1#32
  let c128_150 : Index := 128#32
  let c0_i32_23 : BitVec 32 := 0#32
  let c1_i32_25 : BitVec 32 := 1#32
  let arg16 : BitVec 32 := Scf.iv c0_i32_23 c1_i32_25 k0_t6
  let c128_i32_148 : BitVec 32 := 128#32
  let v268 : BitVec 32 := Scalar.muli arg16 c128_i32_148
  let v269 : BitVec 32 := v268
  let v270 : Index := Scalar.indexCast v269
  ![1, 128, v270.toNat]
def k0_mult263 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_151 : BitVec 32 := 128#32
  let v273 : BitVec 32 := Scalar.muli arg16 c128_i32_151
  v273
def k0_off169 (k0_t6 : Fin k0_t6_loop.trips) : Fin 3 → Nat :=
  let c1_152 : Index := 1#32
  let c136 : Index := 136#32
  let c0_i32_23 : BitVec 32 := 0#32
  let c1_i32_25 : BitVec 32 := 1#32
  let arg16 : BitVec 32 := Scf.iv c0_i32_23 c1_i32_25 k0_t6
  let c128_i32_151 : BitVec 32 := 128#32
  let v273 : BitVec 32 := Scalar.muli arg16 c128_i32_151
  let v274 : BitVec 32 := v273
  let v275 : Index := Scalar.indexCast v274
  ![1, 136, v275.toNat]
def k0_mult264 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_153 : BitVec 32 := 128#32
  let v278 : BitVec 32 := Scalar.muli arg16 c128_i32_153
  v278
def k0_off170 (k0_t6 : Fin k0_t6_loop.trips) : Fin 3 → Nat :=
  let c1_154 : Index := 1#32
  let c144 : Index := 144#32
  let c0_i32_23 : BitVec 32 := 0#32
  let c1_i32_25 : BitVec 32 := 1#32
  let arg16 : BitVec 32 := Scf.iv c0_i32_23 c1_i32_25 k0_t6
  let c128_i32_153 : BitVec 32 := 128#32
  let v278 : BitVec 32 := Scalar.muli arg16 c128_i32_153
  let v279 : BitVec 32 := v278
  let v280 : Index := Scalar.indexCast v279
  ![1, 144, v280.toNat]
def k0_mult265 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_155 : BitVec 32 := 128#32
  let v283 : BitVec 32 := Scalar.muli arg16 c128_i32_155
  v283
def k0_off171 (k0_t6 : Fin k0_t6_loop.trips) : Fin 3 → Nat :=
  let c1_156 : Index := 1#32
  let c152 : Index := 152#32
  let c0_i32_23 : BitVec 32 := 0#32
  let c1_i32_25 : BitVec 32 := 1#32
  let arg16 : BitVec 32 := Scf.iv c0_i32_23 c1_i32_25 k0_t6
  let c128_i32_155 : BitVec 32 := 128#32
  let v283 : BitVec 32 := Scalar.muli arg16 c128_i32_155
  let v284 : BitVec 32 := v283
  let v285 : Index := Scalar.indexCast v284
  ![1, 152, v285.toNat]
def k0_mult266 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_157 : BitVec 32 := 128#32
  let v288 : BitVec 32 := Scalar.muli arg16 c128_i32_157
  v288
def k0_off172 (k0_t6 : Fin k0_t6_loop.trips) : Fin 3 → Nat :=
  let c1_158 : Index := 1#32
  let c160 : Index := 160#32
  let c0_i32_23 : BitVec 32 := 0#32
  let c1_i32_25 : BitVec 32 := 1#32
  let arg16 : BitVec 32 := Scf.iv c0_i32_23 c1_i32_25 k0_t6
  let c128_i32_157 : BitVec 32 := 128#32
  let v288 : BitVec 32 := Scalar.muli arg16 c128_i32_157
  let v289 : BitVec 32 := v288
  let v290 : Index := Scalar.indexCast v289
  ![1, 160, v290.toNat]
def k0_mult267 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_159 : BitVec 32 := 128#32
  let v293 : BitVec 32 := Scalar.muli arg16 c128_i32_159
  v293
def k0_off173 (k0_t6 : Fin k0_t6_loop.trips) : Fin 3 → Nat :=
  let c1_160 : Index := 1#32
  let c168 : Index := 168#32
  let c0_i32_23 : BitVec 32 := 0#32
  let c1_i32_25 : BitVec 32 := 1#32
  let arg16 : BitVec 32 := Scf.iv c0_i32_23 c1_i32_25 k0_t6
  let c128_i32_159 : BitVec 32 := 128#32
  let v293 : BitVec 32 := Scalar.muli arg16 c128_i32_159
  let v294 : BitVec 32 := v293
  let v295 : Index := Scalar.indexCast v294
  ![1, 168, v295.toNat]
def k0_mult268 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_161 : BitVec 32 := 128#32
  let v298 : BitVec 32 := Scalar.muli arg16 c128_i32_161
  v298
def k0_off174 (k0_t6 : Fin k0_t6_loop.trips) : Fin 3 → Nat :=
  let c1_162 : Index := 1#32
  let c176 : Index := 176#32
  let c0_i32_23 : BitVec 32 := 0#32
  let c1_i32_25 : BitVec 32 := 1#32
  let arg16 : BitVec 32 := Scf.iv c0_i32_23 c1_i32_25 k0_t6
  let c128_i32_161 : BitVec 32 := 128#32
  let v298 : BitVec 32 := Scalar.muli arg16 c128_i32_161
  let v299 : BitVec 32 := v298
  let v300 : Index := Scalar.indexCast v299
  ![1, 176, v300.toNat]
def k0_mult269 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_163 : BitVec 32 := 128#32
  let v303 : BitVec 32 := Scalar.muli arg16 c128_i32_163
  v303
def k0_off175 (k0_t6 : Fin k0_t6_loop.trips) : Fin 3 → Nat :=
  let c1_164 : Index := 1#32
  let c184 : Index := 184#32
  let c0_i32_23 : BitVec 32 := 0#32
  let c1_i32_25 : BitVec 32 := 1#32
  let arg16 : BitVec 32 := Scf.iv c0_i32_23 c1_i32_25 k0_t6
  let c128_i32_163 : BitVec 32 := 128#32
  let v303 : BitVec 32 := Scalar.muli arg16 c128_i32_163
  let v304 : BitVec 32 := v303
  let v305 : Index := Scalar.indexCast v304
  ![1, 184, v305.toNat]
def k0_mult270 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_165 : BitVec 32 := 128#32
  let v308 : BitVec 32 := Scalar.muli arg16 c128_i32_165
  v308
def k0_off176 (k0_t6 : Fin k0_t6_loop.trips) : Fin 3 → Nat :=
  let c1_166 : Index := 1#32
  let c192 : Index := 192#32
  let c0_i32_23 : BitVec 32 := 0#32
  let c1_i32_25 : BitVec 32 := 1#32
  let arg16 : BitVec 32 := Scf.iv c0_i32_23 c1_i32_25 k0_t6
  let c128_i32_165 : BitVec 32 := 128#32
  let v308 : BitVec 32 := Scalar.muli arg16 c128_i32_165
  let v309 : BitVec 32 := v308
  let v310 : Index := Scalar.indexCast v309
  ![1, 192, v310.toNat]
def k0_mult271 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_167 : BitVec 32 := 128#32
  let v313 : BitVec 32 := Scalar.muli arg16 c128_i32_167
  v313
def k0_off177 (k0_t6 : Fin k0_t6_loop.trips) : Fin 3 → Nat :=
  let c1_168 : Index := 1#32
  let c200 : Index := 200#32
  let c0_i32_23 : BitVec 32 := 0#32
  let c1_i32_25 : BitVec 32 := 1#32
  let arg16 : BitVec 32 := Scf.iv c0_i32_23 c1_i32_25 k0_t6
  let c128_i32_167 : BitVec 32 := 128#32
  let v313 : BitVec 32 := Scalar.muli arg16 c128_i32_167
  let v314 : BitVec 32 := v313
  let v315 : Index := Scalar.indexCast v314
  ![1, 200, v315.toNat]
def k0_mult272 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_169 : BitVec 32 := 128#32
  let v318 : BitVec 32 := Scalar.muli arg16 c128_i32_169
  v318
def k0_off178 (k0_t6 : Fin k0_t6_loop.trips) : Fin 3 → Nat :=
  let c1_170 : Index := 1#32
  let c208 : Index := 208#32
  let c0_i32_23 : BitVec 32 := 0#32
  let c1_i32_25 : BitVec 32 := 1#32
  let arg16 : BitVec 32 := Scf.iv c0_i32_23 c1_i32_25 k0_t6
  let c128_i32_169 : BitVec 32 := 128#32
  let v318 : BitVec 32 := Scalar.muli arg16 c128_i32_169
  let v319 : BitVec 32 := v318
  let v320 : Index := Scalar.indexCast v319
  ![1, 208, v320.toNat]
def k0_mult273 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_171 : BitVec 32 := 128#32
  let v323 : BitVec 32 := Scalar.muli arg16 c128_i32_171
  v323
def k0_off179 (k0_t6 : Fin k0_t6_loop.trips) : Fin 3 → Nat :=
  let c1_172 : Index := 1#32
  let c216 : Index := 216#32
  let c0_i32_23 : BitVec 32 := 0#32
  let c1_i32_25 : BitVec 32 := 1#32
  let arg16 : BitVec 32 := Scf.iv c0_i32_23 c1_i32_25 k0_t6
  let c128_i32_171 : BitVec 32 := 128#32
  let v323 : BitVec 32 := Scalar.muli arg16 c128_i32_171
  let v324 : BitVec 32 := v323
  let v325 : Index := Scalar.indexCast v324
  ![1, 216, v325.toNat]
def k0_mult274 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_173 : BitVec 32 := 128#32
  let v328 : BitVec 32 := Scalar.muli arg16 c128_i32_173
  v328
def k0_off180 (k0_t6 : Fin k0_t6_loop.trips) : Fin 3 → Nat :=
  let c1_174 : Index := 1#32
  let c224 : Index := 224#32
  let c0_i32_23 : BitVec 32 := 0#32
  let c1_i32_25 : BitVec 32 := 1#32
  let arg16 : BitVec 32 := Scf.iv c0_i32_23 c1_i32_25 k0_t6
  let c128_i32_173 : BitVec 32 := 128#32
  let v328 : BitVec 32 := Scalar.muli arg16 c128_i32_173
  let v329 : BitVec 32 := v328
  let v330 : Index := Scalar.indexCast v329
  ![1, 224, v330.toNat]
def k0_mult275 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_175 : BitVec 32 := 128#32
  let v333 : BitVec 32 := Scalar.muli arg16 c128_i32_175
  v333
def k0_off181 (k0_t6 : Fin k0_t6_loop.trips) : Fin 3 → Nat :=
  let c1_176 : Index := 1#32
  let c232 : Index := 232#32
  let c0_i32_23 : BitVec 32 := 0#32
  let c1_i32_25 : BitVec 32 := 1#32
  let arg16 : BitVec 32 := Scf.iv c0_i32_23 c1_i32_25 k0_t6
  let c128_i32_175 : BitVec 32 := 128#32
  let v333 : BitVec 32 := Scalar.muli arg16 c128_i32_175
  let v334 : BitVec 32 := v333
  let v335 : Index := Scalar.indexCast v334
  ![1, 232, v335.toNat]
def k0_mult276 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_177 : BitVec 32 := 128#32
  let v338 : BitVec 32 := Scalar.muli arg16 c128_i32_177
  v338
def k0_off182 (k0_t6 : Fin k0_t6_loop.trips) : Fin 3 → Nat :=
  let c1_178 : Index := 1#32
  let c240 : Index := 240#32
  let c0_i32_23 : BitVec 32 := 0#32
  let c1_i32_25 : BitVec 32 := 1#32
  let arg16 : BitVec 32 := Scf.iv c0_i32_23 c1_i32_25 k0_t6
  let c128_i32_177 : BitVec 32 := 128#32
  let v338 : BitVec 32 := Scalar.muli arg16 c128_i32_177
  let v339 : BitVec 32 := v338
  let v340 : Index := Scalar.indexCast v339
  ![1, 240, v340.toNat]
def k0_mult277 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_179 : BitVec 32 := 128#32
  let v343 : BitVec 32 := Scalar.muli arg16 c128_i32_179
  v343
def k0_off183 (k0_t6 : Fin k0_t6_loop.trips) : Fin 3 → Nat :=
  let c1_180 : Index := 1#32
  let c248 : Index := 248#32
  let c0_i32_23 : BitVec 32 := 0#32
  let c1_i32_25 : BitVec 32 := 1#32
  let arg16 : BitVec 32 := Scf.iv c0_i32_23 c1_i32_25 k0_t6
  let c128_i32_179 : BitVec 32 := 128#32
  let v343 : BitVec 32 := Scalar.muli arg16 c128_i32_179
  let v344 : BitVec 32 := v343
  let v345 : Index := Scalar.indexCast v344
  ![1, 248, v345.toNat]
def k0_mult278 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_181 : BitVec 32 := 128#32
  let v348 : BitVec 32 := Scalar.muli arg16 c128_i32_181
  v348
def k0_off184 (k0_t6 : Fin k0_t6_loop.trips) : Fin 3 → Nat :=
  let c1_182 : Index := 1#32
  let c256_183 : Index := 256#32
  let c0_i32_23 : BitVec 32 := 0#32
  let c1_i32_25 : BitVec 32 := 1#32
  let arg16 : BitVec 32 := Scf.iv c0_i32_23 c1_i32_25 k0_t6
  let c128_i32_181 : BitVec 32 := 128#32
  let v348 : BitVec 32 := Scalar.muli arg16 c128_i32_181
  let v349 : BitVec 32 := v348
  let v350 : Index := Scalar.indexCast v349
  ![1, 256, v350.toNat]
def k0_mult279 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_184 : BitVec 32 := 128#32
  let v353 : BitVec 32 := Scalar.muli arg16 c128_i32_184
  v353
def k0_off185 (k0_t6 : Fin k0_t6_loop.trips) : Fin 3 → Nat :=
  let c1_185 : Index := 1#32
  let c264 : Index := 264#32
  let c0_i32_23 : BitVec 32 := 0#32
  let c1_i32_25 : BitVec 32 := 1#32
  let arg16 : BitVec 32 := Scf.iv c0_i32_23 c1_i32_25 k0_t6
  let c128_i32_184 : BitVec 32 := 128#32
  let v353 : BitVec 32 := Scalar.muli arg16 c128_i32_184
  let v354 : BitVec 32 := v353
  let v355 : Index := Scalar.indexCast v354
  ![1, 264, v355.toNat]
def k0_mult280 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_186 : BitVec 32 := 128#32
  let v358 : BitVec 32 := Scalar.muli arg16 c128_i32_186
  v358
def k0_off186 (k0_t6 : Fin k0_t6_loop.trips) : Fin 3 → Nat :=
  let c1_187 : Index := 1#32
  let c272 : Index := 272#32
  let c0_i32_23 : BitVec 32 := 0#32
  let c1_i32_25 : BitVec 32 := 1#32
  let arg16 : BitVec 32 := Scf.iv c0_i32_23 c1_i32_25 k0_t6
  let c128_i32_186 : BitVec 32 := 128#32
  let v358 : BitVec 32 := Scalar.muli arg16 c128_i32_186
  let v359 : BitVec 32 := v358
  let v360 : Index := Scalar.indexCast v359
  ![1, 272, v360.toNat]
def k0_mult281 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_188 : BitVec 32 := 128#32
  let v363 : BitVec 32 := Scalar.muli arg16 c128_i32_188
  v363
def k0_off187 (k0_t6 : Fin k0_t6_loop.trips) : Fin 3 → Nat :=
  let c1_189 : Index := 1#32
  let c280 : Index := 280#32
  let c0_i32_23 : BitVec 32 := 0#32
  let c1_i32_25 : BitVec 32 := 1#32
  let arg16 : BitVec 32 := Scf.iv c0_i32_23 c1_i32_25 k0_t6
  let c128_i32_188 : BitVec 32 := 128#32
  let v363 : BitVec 32 := Scalar.muli arg16 c128_i32_188
  let v364 : BitVec 32 := v363
  let v365 : Index := Scalar.indexCast v364
  ![1, 280, v365.toNat]
def k0_mult282 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_190 : BitVec 32 := 128#32
  let v368 : BitVec 32 := Scalar.muli arg16 c128_i32_190
  v368
def k0_off188 (k0_t6 : Fin k0_t6_loop.trips) : Fin 3 → Nat :=
  let c1_191 : Index := 1#32
  let c288 : Index := 288#32
  let c0_i32_23 : BitVec 32 := 0#32
  let c1_i32_25 : BitVec 32 := 1#32
  let arg16 : BitVec 32 := Scf.iv c0_i32_23 c1_i32_25 k0_t6
  let c128_i32_190 : BitVec 32 := 128#32
  let v368 : BitVec 32 := Scalar.muli arg16 c128_i32_190
  let v369 : BitVec 32 := v368
  let v370 : Index := Scalar.indexCast v369
  ![1, 288, v370.toNat]
def k0_mult283 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_192 : BitVec 32 := 128#32
  let v373 : BitVec 32 := Scalar.muli arg16 c128_i32_192
  v373
def k0_off189 (k0_t6 : Fin k0_t6_loop.trips) : Fin 3 → Nat :=
  let c1_193 : Index := 1#32
  let c296 : Index := 296#32
  let c0_i32_23 : BitVec 32 := 0#32
  let c1_i32_25 : BitVec 32 := 1#32
  let arg16 : BitVec 32 := Scf.iv c0_i32_23 c1_i32_25 k0_t6
  let c128_i32_192 : BitVec 32 := 128#32
  let v373 : BitVec 32 := Scalar.muli arg16 c128_i32_192
  let v374 : BitVec 32 := v373
  let v375 : Index := Scalar.indexCast v374
  ![1, 296, v375.toNat]
def k0_mult284 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_194 : BitVec 32 := 128#32
  let v378 : BitVec 32 := Scalar.muli arg16 c128_i32_194
  v378
def k0_off190 (k0_t6 : Fin k0_t6_loop.trips) : Fin 3 → Nat :=
  let c1_195 : Index := 1#32
  let c304 : Index := 304#32
  let c0_i32_23 : BitVec 32 := 0#32
  let c1_i32_25 : BitVec 32 := 1#32
  let arg16 : BitVec 32 := Scf.iv c0_i32_23 c1_i32_25 k0_t6
  let c128_i32_194 : BitVec 32 := 128#32
  let v378 : BitVec 32 := Scalar.muli arg16 c128_i32_194
  let v379 : BitVec 32 := v378
  let v380 : Index := Scalar.indexCast v379
  ![1, 304, v380.toNat]
def k0_mult285 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_196 : BitVec 32 := 128#32
  let v383 : BitVec 32 := Scalar.muli arg16 c128_i32_196
  v383
def k0_off191 (k0_t6 : Fin k0_t6_loop.trips) : Fin 3 → Nat :=
  let c1_197 : Index := 1#32
  let c312 : Index := 312#32
  let c0_i32_23 : BitVec 32 := 0#32
  let c1_i32_25 : BitVec 32 := 1#32
  let arg16 : BitVec 32 := Scf.iv c0_i32_23 c1_i32_25 k0_t6
  let c128_i32_196 : BitVec 32 := 128#32
  let v383 : BitVec 32 := Scalar.muli arg16 c128_i32_196
  let v384 : BitVec 32 := v383
  let v385 : Index := Scalar.indexCast v384
  ![1, 312, v385.toNat]
def k0_mult286 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_198 : BitVec 32 := 128#32
  let v388 : BitVec 32 := Scalar.muli arg16 c128_i32_198
  v388
def k0_off192 (k0_t6 : Fin k0_t6_loop.trips) : Fin 3 → Nat :=
  let c1_199 : Index := 1#32
  let c320 : Index := 320#32
  let c0_i32_23 : BitVec 32 := 0#32
  let c1_i32_25 : BitVec 32 := 1#32
  let arg16 : BitVec 32 := Scf.iv c0_i32_23 c1_i32_25 k0_t6
  let c128_i32_198 : BitVec 32 := 128#32
  let v388 : BitVec 32 := Scalar.muli arg16 c128_i32_198
  let v389 : BitVec 32 := v388
  let v390 : Index := Scalar.indexCast v389
  ![1, 320, v390.toNat]
def k0_mult287 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_200 : BitVec 32 := 128#32
  let v393 : BitVec 32 := Scalar.muli arg16 c128_i32_200
  v393
def k0_off193 (k0_t6 : Fin k0_t6_loop.trips) : Fin 3 → Nat :=
  let c1_201 : Index := 1#32
  let c328 : Index := 328#32
  let c0_i32_23 : BitVec 32 := 0#32
  let c1_i32_25 : BitVec 32 := 1#32
  let arg16 : BitVec 32 := Scf.iv c0_i32_23 c1_i32_25 k0_t6
  let c128_i32_200 : BitVec 32 := 128#32
  let v393 : BitVec 32 := Scalar.muli arg16 c128_i32_200
  let v394 : BitVec 32 := v393
  let v395 : Index := Scalar.indexCast v394
  ![1, 328, v395.toNat]
def k0_mult288 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_202 : BitVec 32 := 128#32
  let v398 : BitVec 32 := Scalar.muli arg16 c128_i32_202
  v398
def k0_off194 (k0_t6 : Fin k0_t6_loop.trips) : Fin 3 → Nat :=
  let c1_203 : Index := 1#32
  let c336 : Index := 336#32
  let c0_i32_23 : BitVec 32 := 0#32
  let c1_i32_25 : BitVec 32 := 1#32
  let arg16 : BitVec 32 := Scf.iv c0_i32_23 c1_i32_25 k0_t6
  let c128_i32_202 : BitVec 32 := 128#32
  let v398 : BitVec 32 := Scalar.muli arg16 c128_i32_202
  let v399 : BitVec 32 := v398
  let v400 : Index := Scalar.indexCast v399
  ![1, 336, v400.toNat]
def k0_mult289 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_204 : BitVec 32 := 128#32
  let v403 : BitVec 32 := Scalar.muli arg16 c128_i32_204
  v403
def k0_off195 (k0_t6 : Fin k0_t6_loop.trips) : Fin 3 → Nat :=
  let c1_205 : Index := 1#32
  let c344 : Index := 344#32
  let c0_i32_23 : BitVec 32 := 0#32
  let c1_i32_25 : BitVec 32 := 1#32
  let arg16 : BitVec 32 := Scf.iv c0_i32_23 c1_i32_25 k0_t6
  let c128_i32_204 : BitVec 32 := 128#32
  let v403 : BitVec 32 := Scalar.muli arg16 c128_i32_204
  let v404 : BitVec 32 := v403
  let v405 : Index := Scalar.indexCast v404
  ![1, 344, v405.toNat]
def k0_mult290 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_206 : BitVec 32 := 128#32
  let v408 : BitVec 32 := Scalar.muli arg16 c128_i32_206
  v408
def k0_off196 (k0_t6 : Fin k0_t6_loop.trips) : Fin 3 → Nat :=
  let c1_207 : Index := 1#32
  let c352 : Index := 352#32
  let c0_i32_23 : BitVec 32 := 0#32
  let c1_i32_25 : BitVec 32 := 1#32
  let arg16 : BitVec 32 := Scf.iv c0_i32_23 c1_i32_25 k0_t6
  let c128_i32_206 : BitVec 32 := 128#32
  let v408 : BitVec 32 := Scalar.muli arg16 c128_i32_206
  let v409 : BitVec 32 := v408
  let v410 : Index := Scalar.indexCast v409
  ![1, 352, v410.toNat]
def k0_mult291 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_208 : BitVec 32 := 128#32
  let v413 : BitVec 32 := Scalar.muli arg16 c128_i32_208
  v413
def k0_off197 (k0_t6 : Fin k0_t6_loop.trips) : Fin 3 → Nat :=
  let c1_209 : Index := 1#32
  let c360 : Index := 360#32
  let c0_i32_23 : BitVec 32 := 0#32
  let c1_i32_25 : BitVec 32 := 1#32
  let arg16 : BitVec 32 := Scf.iv c0_i32_23 c1_i32_25 k0_t6
  let c128_i32_208 : BitVec 32 := 128#32
  let v413 : BitVec 32 := Scalar.muli arg16 c128_i32_208
  let v414 : BitVec 32 := v413
  let v415 : Index := Scalar.indexCast v414
  ![1, 360, v415.toNat]
def k0_mult292 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_210 : BitVec 32 := 128#32
  let v418 : BitVec 32 := Scalar.muli arg16 c128_i32_210
  v418
def k0_off198 (k0_t6 : Fin k0_t6_loop.trips) : Fin 3 → Nat :=
  let c1_211 : Index := 1#32
  let c368 : Index := 368#32
  let c0_i32_23 : BitVec 32 := 0#32
  let c1_i32_25 : BitVec 32 := 1#32
  let arg16 : BitVec 32 := Scf.iv c0_i32_23 c1_i32_25 k0_t6
  let c128_i32_210 : BitVec 32 := 128#32
  let v418 : BitVec 32 := Scalar.muli arg16 c128_i32_210
  let v419 : BitVec 32 := v418
  let v420 : Index := Scalar.indexCast v419
  ![1, 368, v420.toNat]
def k0_mult293 (k0_t6 : Fin k0_t6_loop.trips) : BitVec 32 :=
  let c0_i32_23 : BitVec 32 := 0#32
  let c1_i32_25 : BitVec 32 := 1#32
  let arg16 : BitVec 32 := Scf.iv c0_i32_23 c1_i32_25 k0_t6
  let c128_i32_212 : BitVec 32 := 128#32
  let v423 : BitVec 32 := Scalar.muli arg16 c128_i32_212
  v423
def k0_off199 (k0_t6 : Fin k0_t6_loop.trips) : Fin 3 → Nat :=
  let c1_213 : Index := 1#32
  let c376 : Index := 376#32
  let c0_i32_23 : BitVec 32 := 0#32
  let c1_i32_25 : BitVec 32 := 1#32
  let arg16 : BitVec 32 := Scf.iv c0_i32_23 c1_i32_25 k0_t6
  let c128_i32_212 : BitVec 32 := 128#32
  let v423 : BitVec 32 := Scalar.muli arg16 c128_i32_212
  let v424 : BitVec 32 := v423
  let v425 : Index := Scalar.indexCast v424
  ![1, 376, v425.toNat]
def k0_off200 (k0_t6 : Fin k0_t6_loop.trips) (k0_t7 : Fin k0_t7_loop.trips) : Fin 3 → Nat :=
  let c0_i32_112 : BitVec 32 := 0#32
  let c1_i32_113 : BitVec 32 := 1#32
  let arg17 : BitVec 32 := Scf.iv c0_i32_112 c1_i32_113 k0_t7
  let v510 : Index := Scalar.indexCast arg17
  let c0_226 : Index := 0#32
  let c3584_i32 : BitVec 32 := 3584#32
  let c0_i32_23 : BitVec 32 := 0#32
  let c1_i32_25 : BitVec 32 := 1#32
  let arg16 : BitVec 32 := Scf.iv c0_i32_23 c1_i32_25 k0_t6
  let c128_i32 : BitVec 32 := 128#32
  let v176 : BitVec 32 := Scalar.muli arg16 c128_i32
  let v177 : BitVec 32 := Scalar.addi c3584_i32 v176
  let v178 : BitVec 32 := v177
  let v511 : Index := Scalar.indexCast v178
  ![v510.toNat, 0, v511.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "ln2" => some ((Real.log 2 : ℝ) : EReal)
  | "ln2_sq" => some (((Real.log 2) * (Real.log 2) : ℝ) : EReal)
  | "log2e" => some (((Real.log 2)⁻¹ : ℝ) : EReal)
  | _ => none
-- ==== ReferenceIdeal.lean ====
abbrev S4x1024x2048 : Shape := ⟨3, ![4, 1024, 2048]⟩
abbrev S4x1024 : Shape := ⟨2, ![4, 1024]⟩
abbrev S50304x2048 : Shape := ⟨2, ![50304, 2048]⟩
abbrev S393x16 : Shape := ⟨2, ![393, 16]⟩
abbrev S4x1024x7 : Shape := ⟨3, ![4, 1024, 7]⟩
abbrev S393x128x16x128 : Shape := ⟨4, ![393, 128, 16, 128]⟩
abbrev S393x1x16x1 : Shape := ⟨4, ![393, 1, 16, 1]⟩
abbrev S4x1024x50304 : Shape := ⟨3, ![4, 1024, 50304]⟩
abbrev S4x1024x1 : Shape := ⟨3, ![4, 1024, 1]⟩
abbrev S_ : Shape := ⟨0, ![]⟩
abbrev S4x1024x7x1 : Shape := ⟨4, ![4, 1024, 7, 1]⟩
abbrev S1 : Shape := ⟨1, ![1]⟩
abbrev S1x1x1x1 : Shape := ⟨4, ![1, 1, 1, 1]⟩
abbrev S1x4096 : Shape := ⟨2, ![1, 4096]⟩
abbrev S4096x7 : Shape := ⟨2, ![4096, 7]⟩
abbrev S7x4096 : Shape := ⟨2, ![7, 4096]⟩

abbrev nBuf : Space → Nat
  | .hbm => 72
  | .vmem => 4
  | .smem => 0
  | _ => 0

abbrev bufTy : (tb : Table) → Fin (tcTables nBuf tb) → BufTy
  | .hbm, ⟨0, _⟩ => ⟨S4x1024x2048, .i8⟩
  | .hbm, ⟨1, _⟩ => ⟨S4x1024, .f32⟩
  | .hbm, ⟨2, _⟩ => ⟨S50304x2048, .i8⟩
  | .hbm, ⟨3, _⟩ => ⟨S393x16, .f32⟩
  | .hbm, ⟨4, _⟩ => ⟨S4x1024x7, .i32⟩
  | .hbm, ⟨5, _⟩ => ⟨S4x1024x2048, .fp8e4m3⟩
  | .hbm, ⟨6, _⟩ => ⟨S50304x2048, .fp8e4m3⟩
  | .hbm, ⟨7, _⟩ => ⟨S4x1024x2048, .bf16⟩
  | .hbm, ⟨8, _⟩ => ⟨S50304x2048, .bf16⟩
  | .hbm, ⟨9, _⟩ => ⟨S393x128x16x128, .bf16⟩
  | .hbm, ⟨10, _⟩ => ⟨S393x16, .bf16⟩
  | .hbm, ⟨11, _⟩ => ⟨S393x1x16x1, .bf16⟩
  | .hbm, ⟨12, _⟩ => ⟨S393x128x16x128, .bf16⟩
  | .hbm, ⟨13, _⟩ => ⟨S393x128x16x128, .bf16⟩
  | .hbm, ⟨14, _⟩ => ⟨S50304x2048, .bf16⟩
  | .hbm, ⟨15, _⟩ => ⟨S4x1024x50304, .f32⟩
  | .hbm, ⟨16, _⟩ => ⟨S4x1024x1, .f32⟩
  | .hbm, ⟨17, _⟩ => ⟨S4x1024x50304, .f32⟩
  | .hbm, ⟨18, _⟩ => ⟨S4x1024x50304, .f32⟩
  | .hbm, ⟨19, _⟩ => ⟨S_, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S4x1024x1, .f32⟩
  | .hbm, ⟨25, _⟩ => ⟨S4x1024x50304, .f32⟩
  | .hbm, ⟨26, _⟩ => ⟨S4x1024x50304, .f32⟩
  | .hbm, ⟨27, _⟩ => ⟨S4x1024x50304, .f32⟩
  | .hbm, ⟨28, _⟩ => ⟨S_, .f32⟩
  | .hbm, ⟨29, _⟩ => ⟨S4x1024, .f32⟩
  | .hbm, ⟨30, _⟩ => ⟨S4x1024x1, .f32⟩
  | .hbm, ⟨31, _⟩ => ⟨S4x1024x1, .f32⟩
  | .hbm, ⟨32, _⟩ => ⟨S4x1024x50304, .f32⟩
  | .hbm, ⟨33, _⟩ => ⟨S4x1024x50304, .f32⟩
  | .hbm, ⟨34, _⟩ => ⟨S4x1024x50304, .f32⟩
  | .hbm, ⟨35, _⟩ => ⟨S4x1024x50304, .f32⟩
  | .hbm, ⟨36, _⟩ => ⟨S_, .f32⟩
  | .hbm, ⟨37, _⟩ => ⟨S4x1024, .f32⟩
  | .hbm, ⟨38, _⟩ => ⟨S4x1024, .f32⟩
  | .hbm, ⟨39, _⟩ => ⟨S4x1024x1, .f32⟩
  | .hbm, ⟨40, _⟩ => ⟨S4x1024x50304, .f32⟩
  | .hbm, ⟨41, _⟩ => ⟨S4x1024x50304, .f32⟩
  | .hbm, ⟨42, _⟩ => ⟨S4x1024x50304, .f32⟩
  | .hbm, ⟨43, _⟩ => ⟨S4x1024x50304, .f32⟩
  | .hbm, ⟨44, _⟩ => ⟨S_, .f32⟩
  | .hbm, ⟨45, _⟩ => ⟨S4x1024, .f32⟩
  | .hbm, ⟨46, _⟩ => ⟨S_, .i32⟩
  | .hbm, ⟨47, _⟩ => ⟨S4x1024x7, .i32⟩
  | .hbm, ⟨48, _⟩ => ⟨S4x1024x7, .i1⟩
  | .hbm, ⟨49, _⟩ => ⟨S_, .i32⟩
  | .hbm, ⟨50, _⟩ => ⟨S4x1024x7, .i32⟩
  | .hbm, ⟨51, _⟩ => ⟨S4x1024x7, .i32⟩
  | .hbm, ⟨52, _⟩ => ⟨S4x1024x7, .i32⟩
  | .hbm, ⟨53, _⟩ => ⟨S4x1024x7x1, .i32⟩
  | .hbm, ⟨54, _⟩ => ⟨S1, .i32⟩
  | .hbm, ⟨55, _⟩ => ⟨S_, .i32⟩
  | .hbm, ⟨56, _⟩ => ⟨S4x1024x7x1, .i32⟩
  | .hbm, ⟨57, _⟩ => ⟨S4x1024x7x1, .i1⟩
  | .hbm, ⟨58, _⟩ => ⟨S1x1x1x1, .i32⟩
  | .hbm, ⟨59, _⟩ => ⟨S4x1024x7x1, .i32⟩
  | .hbm, ⟨60, _⟩ => ⟨S4x1024x7x1, .i1⟩
  | .hbm, ⟨61, _⟩ => ⟨S4x1024x7x1, .i1⟩
  | .hbm, ⟨62, _⟩ => ⟨S_, .i1⟩
  | .hbm, ⟨63, _⟩ => ⟨S4x1024x7, .i1⟩
  | .hbm, ⟨64, _⟩ => ⟨S4x1024x7, .f32⟩
  | .hbm, ⟨65, _⟩ => ⟨S_, .f32⟩
  | .hbm, ⟨66, _⟩ => ⟨S4x1024x7, .f32⟩
  | .hbm, ⟨67, _⟩ => ⟨S4x1024x7, .f32⟩
  | .hbm, ⟨68, _⟩ => ⟨S1x4096, .f32⟩
  | .hbm, ⟨69, _⟩ => ⟨S1x4096, .f32⟩
  | .hbm, ⟨70, _⟩ => ⟨S4096x7, .f32⟩
  | .hbm, ⟨71, _⟩ => ⟨S7x4096, .f32⟩
  | .local _ .vmem, ⟨0, _⟩ => ⟨S4x1024x2048, .fp8e4m3⟩
  | .local _ .vmem, ⟨1, _⟩ => ⟨S50304x2048, .fp8e4m3⟩
  | .local _ .vmem, ⟨2, _⟩ => ⟨S4x1024x2048, .bf16⟩
  | .local _ .vmem, ⟨3, _⟩ => ⟨S50304x2048, .bf16⟩
  | _, _ => ⟨S4x1024x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50304x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S50304x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KLoops.lean ====
/-
  The invariants of the three loops of `Kernel` that contain another loop, for the frame: each buffer a trip only
  reads keeps its contents, each buffer it stores into holds something.
-/
module

public import proofs.«01_k».proof.Proof.Gen.Kernel.Frame
public import proofs.«01_k».proof.Proof.Gen.Kernel.Skeleton
public import proofs.«01_k».proof.Proof.Gen.Kernel.Loops
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the frame kit. -/
abbrev UU (nD : Nat) (τ : Topo) : Type := UR sig nD τ
abbrev 𝒱₀ : Variants := Variants.none

set_option warn.classDefReducibility false in
/-- The loop over the columns of a tile that picks the targets' logits. -/
@[sl_loop] def loopInv_k0_t3 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (k0_t1 : Fin k0_t1_loop.trips) (v61 : BitVec 32) (v67 : BitVec 32) (v68 : BitVec 32) (v69 : IVec S8x128 32) (c0_i32_40 : BitVec 32)
    (X5 : BufTy.Contents (Elt F) arg5.view.ty) (X10 : BufTy.Contents (Elt F) arg10.view.ty) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v61 v67 v68 v69 c0_i32_40 where
  inv := fun k _ => iprop((arg5.view.loc (c : Thread nD τ) ↦[arg5.view.set]{fullShare} X5) ∗ (arg10.view.loc (c : Thread nD τ) ↦[arg10.view.set]{fullShare} X10) ∗ (∃ f, arg15.view.loc (c : Thread nD τ) ↦[arg15.view.set]{fullShare} f))
  step k acc := by
    iintro ⟨H5, H10, ⟨%f15, H15⟩⟩
    unfold k0_t3_body
    sl_exec
    sl_step
    isplitl [H5]; · iexact H5
    isplitl [H10]; · iexact H10
    iexists _; iassumption

set_option warn.classDefReducibility false in
/-- The same loop in the last step. -/
@[sl_loop] def loopInv_k0_t6 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (k0_h2 : k0_cond2 i = 1#1) (v41 : BitVec 32) (v42 : IVec S8x128 32)
    (X5 : BufTy.Contents (Elt F) arg5.view.ty) (X10 : BufTy.Contents (Elt F) arg10.view.ty) :
    LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h2 v41 v42 where
  inv := fun k _ => iprop((arg5.view.loc (c : Thread nD τ) ↦[arg5.view.set]{fullShare} X5) ∗ (arg10.view.loc (c : Thread nD τ) ↦[arg10.view.set]{fullShare} X10) ∗ (∃ f, arg15.view.loc (c : Thread nD τ) ↦[arg15.view.set]{fullShare} f))
  step k acc := by
    iintro ⟨H5, H10, ⟨%f15, H15⟩⟩
    unfold k0_t6_body
    sl_exec
    sl_step
    isplitl [H5]; · iexact H5
    isplitl [H10]; · iexact H10
    iexists _; iassumption

set_option warn.classDefReducibility false in
/-- The loop over the tiles of a step. -/
@[sl_loop] def loopInv_k0_t1 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32)
    (X1 : BufTy.Contents (Elt F) arg1.view.ty) (X4 : BufTy.Contents (Elt F) arg4.view.ty) (X5 : BufTy.Contents (Elt F) arg5.view.ty) (X9 : BufTy.Contents (Elt F) arg9.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 where
  inv := fun k _ => iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))
  step k acc := by
    iintro ⟨H1, H4, H5, H9, ⟨%f10, H10⟩, ⟨%f11, H11⟩, ⟨%f12, H12⟩, ⟨%f13, H13⟩, ⟨%f14, H14⟩, ⟨%f15, H15⟩⟩
    unfold k0_t1_body
    sl_exec
    sl_step
    isplitl [H1]; · iexact H1
    isplitl [H4]; · iexact H4
    isplitl [H5]; · iexact H5
    isplitl [H9]; · iexact H9
    isplitl [H10]; · iexists _; iassumption
    isplitl [H11]; · iexists _; iassumption
    isplitl [H12]; · iexists _; iassumption
    isplitl [H13]; · iexists _; iassumption
    isplitl [H14]; · iexists _; iassumption
    iexists _; iassumption

end Cert.Kernel.Hand

end
-- ==== Proof.KBody.lean ====
/-
  The frame of `Kernel`: the body run once at a symbolic grid point, and the launch. Nothing is said of what the
  kernel computes: every window and every scratch buffer is left at some contents.
-/
module

public import proofs.«01_k».proof.Proof.KLoops
public import proofs.«01_k».proof.Proof.Gen.Kernel.Launch
public import proofs.«01_k».proof.Proof.Gen.Kernel.Points
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

/-- The body's triple: from every buffer at some contents the kernel runs to its return and leaves every buffer at
    some contents. -/
theorem kernelRun (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) :
    iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))
      ⊢ (wp frame (wpE (defs₀ (F := F)) Variants.none (c : Thread nD τ) none) Set.univ
          (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) (fun _ => iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))) : sProp 𝕄) := by
  simp only [cc0_lm_head_entropy_eq_skeleton]; unfold cc0_lm_head_entropy_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  by_cases h2 : k0_cond2 i = 1#1
  all_goals
    sl_exec
    sl_step
    isplitl [H1]; · iexists _; iassumption
    isplitl [H2]; · iexists _; iassumption
    isplitl [H3]; · iexists _; iassumption
    isplitl [H4]; · iexists _; iassumption
    isplitl [H5]; · iexists _; iassumption
    isplitl [H6]; · iexists _; iassumption
    isplitl [H7]; · iexists _; iassumption
    isplitl [H8]; · iexists _; iassumption
    isplitl [H9]; · iexists _; iassumption
    isplitl [H10]; · iexists _; iassumption
    isplitl [H11]; · iexists _; iassumption
    isplitl [H12]; · iexists _; iassumption
    isplitl [H13]; · iexists _; iassumption
    isplitl [H14]; · iexists _; iassumption
    iexists _; iassumption

/-- The proof data: the arrays as the region finds them, nothing said of what the body leaves, the scratch at some
    contents. -/
def rdat (m : (ℓ : Loc nD τ sig) → Buf (Elt F) ℓ) (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem ΦA_eq (c : Dev nD) : (Pipeline.ΦA (U := UR sig nD τ) spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d)) ∗ ∃ r, prngReg c r) := by
  unfold Pipeline.ΦA; rw [scopedRest0_eq]; simp only [owns_whole]; try rfl

theorem sound_body (m : (ℓ : Loc nD τ sig) → Buf (Elt F) ℓ) (c : Dev nD) (t : Fin cfg0.N)
    (Y : (w : Fin cfg0.W) → (cfg0.win w).block.Idx → (Elt F) (cfg0.win w).elt) :
    iprop((rdat m c).Φ t.castSucc ∗ (rdat m c).owesAt () t.castSucc
        ∗ iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7)))
      ⊢ (wp frame (wpE (defs₀ (F := F)) Variants.none (c : Thread nD τ) none) Set.univ (bodyAt0 t) (fun _ =>
          iprop((rdat m c).Φ t.succ ∗ (rdat m c).owesAt () t.succ
            ∗ iprop((∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X)))) : sProp 𝕄) := by
  rw [show (rdat m c).Φ t.succ = Pipeline.ΦA spec0 c from rfl, show (rdat m c).Φ t.castSucc = Pipeline.ΦA spec0 c from rfl,
    show (rdat m c).owesAt () t.succ = (rdat m c).owesAt () t.castSucc from rfl, ΦA_eq]
  unfold bodyAt0 owns
  iintro ⟨⟨⟨⟨%e0, %s0, -, S0⟩, ⟨%e1, %s1, -, S1⟩, ⟨%e2, %s2, -, S2⟩, ⟨%e3, %s3, -, S3⟩, ⟨%e4, %s4, -, S4⟩, ⟨%e5, %s5, -, S5⟩, ⟨%e6, %s6, -, S6⟩⟩, Hr⟩, HO, ⟨%d1, -, H1⟩, ⟨%d2, -, H2⟩, ⟨%d3, -, H3⟩, ⟨%d4, -, H4⟩, ⟨%d5, -, H5⟩, ⟨%d6, -, H6⟩, ⟨%d7, -, H7⟩, ⟨%d8, -, H8⟩⟩
  iapply (wp_wand_r Idealize.ShloMosaic.frame (wpE (defs₀ (F := F)) Variants.none (c : Thread nD τ) none) Set.univ)
  isplitl [S0 S1 S2 S3 S4 S5 S6 H1 H2 H3 H4 H5 H6 H7 H8]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _))
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  · iintro %_ ⟨⟨%g1, H1⟩, ⟨%g2, H2⟩, ⟨%g3, H3⟩, ⟨%g4, H4⟩, ⟨%g5, H5⟩, ⟨%g6, H6⟩, ⟨%g7, H7⟩, ⟨%g8, H8⟩, ⟨%g9, S0⟩, ⟨%g10, S1⟩, ⟨%g11, S2⟩, ⟨%g12, S3⟩, ⟨%g13, S4⟩, ⟨%g14, S5⟩, ⟨%g15, S6⟩⟩
    isplitl [S0 S1 S2 S3 S4 S5 S6 Hr]
    · isplitl [S0 S1 S2 S3 S4 S5 S6]
      · isplitl [S0]
        · iexists _, _; isplitr; swap; · iexact S0
          ipureintro; rfl
        isplitl [S1]
        · iexists _, _; isplitr; swap; · iexact S1
          ipureintro; rfl
        isplitl [S2]
        · iexists _, _; isplitr; swap; · iexact S2
          ipureintro; rfl
        isplitl [S3]
        · iexists _, _; isplitr; swap; · iexact S3
          ipureintro; rfl
        isplitl [S4]
        · iexists _, _; isplitr; swap; · iexact S4
          ipureintro; rfl
        isplitl [S5]
        · iexists _, _; isplitr; swap; · iexact S5
          ipureintro; rfl
        iexists _, _; isplitr; swap; · iexact S6
        ipureintro; rfl
      iexact Hr
    isplitl [HO]; · iexact HO
    isplitl [H1]
    · iexists ((st0_0 t).view.read (Elt F) g1); isplitr; · ipureintro; exact trivial
      iexists _; isplitr; swap; · iexact H1
      ipureintro; rfl
    isplitl [H2]
    · iexists ((st0_1 t).view.read (Elt F) g2); isplitr; · ipureintro; exact trivial
      iexists _; isplitr; swap; · iexact H2
      ipureintro; rfl
    isplitl [H3]
    · iexists ((st0_2 t).view.read (Elt F) g3); isplitr; · ipureintro; exact trivial
      iexists _; isplitr; swap; · iexact H3
      ipureintro; rfl
    isplitl [H4]
    · iexists ((st0_3 t).view.read (Elt F) g4); isplitr; · ipureintro; exact trivial
      iexists _; isplitr; swap; · iexact H4
      ipureintro; rfl
    isplitl [H5]
    · iexists ((st0_4 t).view.read (Elt F) g5); isplitr; · ipureintro; exact trivial
      iexists _; isplitr; swap; · iexact H5
      ipureintro; rfl
    isplitl [H6]
    · iexists ((st0_5 t).view.read (Elt F) g6); isplitr; · ipureintro; exact trivial
      iexists _; isplitr; swap; · iexact H6
      ipureintro; rfl
    isplitl [H7]
    · iexists ((st0_6 t).view.read (Elt F) g7); isplitr; · ipureintro; exact trivial
      iexists _; isplitr; swap; · iexact H7
      ipureintro; rfl
    iexists ((st0_7 t).view.read (Elt F) g8); isplitr; · ipureintro; exact trivial
    iexists _; isplitr; swap; · iexact H8
    ipureintro; rfl

theorem defs₀_row (t : Fin cfg0.N) : defs₀ (F := F) .tc cfg0.body (cfg0.bodyArgs t (cfg0.slots t)) = bodyAt0 t := by
  unfold defs₀; rw [Defs.onTc_tc]

theorem body_obligation (m : (ℓ : Loc nD τ sig) → Buf (Elt F) ℓ) (c : Dev nD) :
    (rdat m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution of @main ends, every buffer that is no window's array as the region found it, every semaphore at
    zero. -/
theorem run_main (m : (ℓ : Loc nD τ sig) → Buf (Elt F) ℓ) (g : Dev nD → PrngReg) :
    θ_run defs (onTc (τ := τ) (main (F := F))) (s₀ m g)
      (fun r => RDat.FramePost (cfgs 0) (rdat m) (V m) r ∧ r.2.sem = fun _ => 0) :=
  RDat.θ_run_frame_track (Q' := _) cfgs (0 : Fin 1) launch0 defs₀ Variants.none (rdat m) m g main
    (hbody := body_obligation m) (hshare := fun c w => by unfold RDat.share; split <;> rfl)
    (howed := fun _ _ => rfl) (V := V m) (hmain := hmain m Variants.none) (hA := fun _ _ => rfl)
    (hin := fun _ => .rfl) (hout := fun _ => .rfl) (hQ' := fun _ h => h)

theorem final_arg (m : (ℓ : Loc nD τ sig) → Buf (Elt F) ℓ) {r : PUnit × MemSt nD τ sig (Elt F)}
    (h : RDat.FramePost (cfgs 0) (rdat m) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

end Cert.Kernel.Hand

end
-- ==== Proof.ILoops.lean ====
/-
  The invariants of the three loops of `KernelIdeal` that contain another loop, for the frame: each buffer a trip only
  reads keeps its contents, each buffer it stores into holds something.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the frame kit. -/
abbrev UU (nD : Nat) (τ : Topo) : Type := UR sig nD τ
abbrev 𝒱₀ : Variants := Variants.none

set_option warn.classDefReducibility false in
/-- The loop over the columns of a tile that picks the targets' logits. -/
@[sl_loop] def loopInv_k0_t3 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (k0_t1 : Fin k0_t1_loop.trips) (v61 : BitVec 32) (v67 : BitVec 32) (v68 : BitVec 32) (v69 : IVec S8x128 32) (c0_i32_40 : BitVec 32)
    (X5 : BufTy.Contents (Elt F) arg5.view.ty) (X10 : BufTy.Contents (Elt F) arg10.view.ty) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v61 v67 v68 v69 c0_i32_40 where
  inv := fun k _ => iprop((arg5.view.loc (c : Thread nD τ) ↦[arg5.view.set]{fullShare} X5) ∗ (arg10.view.loc (c : Thread nD τ) ↦[arg10.view.set]{fullShare} X10) ∗ (∃ f, arg15.view.loc (c : Thread nD τ) ↦[arg15.view.set]{fullShare} f))
  step k acc := by
    iintro ⟨H5, H10, ⟨%f15, H15⟩⟩
    unfold k0_t3_body
    sl_exec
    sl_step
    isplitl [H5]; · iexact H5
    isplitl [H10]; · iexact H10
    iexists _; iassumption

set_option warn.classDefReducibility false in
/-- The same loop in the last step. -/
@[sl_loop] def loopInv_k0_t6 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (k0_h2 : k0_cond2 i = 1#1) (v41 : BitVec 32) (v42 : IVec S8x128 32)
    (X5 : BufTy.Contents (Elt F) arg5.view.ty) (X10 : BufTy.Contents (Elt F) arg10.view.ty) :
    LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 k0_h2 v41 v42 where
  inv := fun k _ => iprop((arg5.view.loc (c : Thread nD τ) ↦[arg5.view.set]{fullShare} X5) ∗ (arg10.view.loc (c : Thread nD τ) ↦[arg10.view.set]{fullShare} X10) ∗ (∃ f, arg15.view.loc (c : Thread nD τ) ↦[arg15.view.set]{fullShare} f))
  step k acc := by
    iintro ⟨H5, H10, ⟨%f15, H15⟩⟩
    unfold k0_t6_body
    sl_exec
    sl_step
    isplitl [H5]; · iexact H5
    isplitl [H10]; · iexact H10
    iexists _; iassumption

set_option warn.classDefReducibility false in
/-- The loop over the tiles of a step. -/
@[sl_loop] def loopInv_k0_t1 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32)
    (X1 : BufTy.Contents (Elt F) arg1.view.ty) (X4 : BufTy.Contents (Elt F) arg4.view.ty) (X5 : BufTy.Contents (Elt F) arg5.view.ty) (X9 : BufTy.Contents (Elt F) arg9.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 where
  inv := fun k _ => iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))
  step k acc := by
    iintro ⟨H1, H4, H5, H9, ⟨%f10, H10⟩, ⟨%f11, H11⟩, ⟨%f12, H12⟩, ⟨%f13, H13⟩, ⟨%f14, H14⟩, ⟨%f15, H15⟩⟩
    unfold k0_t1_body
    sl_exec
    sl_step
    isplitl [H1]; · iexact H1
    isplitl [H4]; · iexact H4
    isplitl [H5]; · iexact H5
    isplitl [H9]; · iexact H9
    isplitl [H10]; · iexists _; iassumption
    isplitl [H11]; · iexists _; iassumption
    isplitl [H12]; · iexists _; iassumption
    isplitl [H13]; · iexists _; iassumption
    isplitl [H14]; · iexists _; iassumption
    iexists _; iassumption

end Cert.KernelIdeal.Hand

end
-- ==== Proof.IBody.lean ====
/-
  The frame of `KernelIdeal`: the body run once at a symbolic grid point, and the launch. Nothing is said of what the
  kernel computes: every window and every scratch buffer is left at some contents.
-/
module

public import proofs.«01_k».proof.Proof.ILoops
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

/-- The body's triple: from every buffer at some contents the kernel runs to its return and leaves every buffer at
    some contents. -/
theorem kernelRun (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) :
    iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))
      ⊢ (wp frame (wpE (defs₀ (F := F)) Variants.none (c : Thread nD τ) none) Set.univ
          (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) (fun _ => iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))) : sProp 𝕄) := by
  simp only [cc0_lm_head_entropy_eq_skeleton]; unfold cc0_lm_head_entropy_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  by_cases h2 : k0_cond2 i = 1#1
  all_goals
    sl_exec
    sl_step
    isplitl [H1]; · iexists _; iassumption
    isplitl [H2]; · iexists _; iassumption
    isplitl [H3]; · iexists _; iassumption
    isplitl [H4]; · iexists _; iassumption
    isplitl [H5]; · iexists _; iassumption
    isplitl [H6]; · iexists _; iassumption
    isplitl [H7]; · iexists _; iassumption
    isplitl [H8]; · iexists _; iassumption
    isplitl [H9]; · iexists _; iassumption
    isplitl [H10]; · iexists _; iassumption
    isplitl [H11]; · iexists _; iassumption
    isplitl [H12]; · iexists _; iassumption
    isplitl [H13]; · iexists _; iassumption
    isplitl [H14]; · iexists _; iassumption
    iexists _; iassumption

/-- The proof data: the arrays as the region finds them, nothing said of what the body leaves, the scratch at some
    contents. -/
def rdat (m : (ℓ : Loc nD τ sig) → Buf (Elt F) ℓ) (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem ΦA_eq (c : Dev nD) : (Pipeline.ΦA (U := UR sig nD τ) spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d)) ∗ ∃ r, prngReg c r) := by
  unfold Pipeline.ΦA; rw [scopedRest0_eq]; simp only [owns_whole]; try rfl

theorem sound_body (m : (ℓ : Loc nD τ sig) → Buf (Elt F) ℓ) (c : Dev nD) (t : Fin cfg0.N)
    (Y : (w : Fin cfg0.W) → (cfg0.win w).block.Idx → (Elt F) (cfg0.win w).elt) :
    iprop((rdat m c).Φ t.castSucc ∗ (rdat m c).owesAt () t.castSucc
        ∗ iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7)))
      ⊢ (wp frame (wpE (defs₀ (F := F)) Variants.none (c : Thread nD τ) none) Set.univ (bodyAt0 t) (fun _ =>
          iprop((rdat m c).Φ t.succ ∗ (rdat m c).owesAt () t.succ
            ∗ iprop((∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X)))) : sProp 𝕄) := by
  rw [show (rdat m c).Φ t.succ = Pipeline.ΦA spec0 c from rfl, show (rdat m c).Φ t.castSucc = Pipeline.ΦA spec0 c from rfl,
    show (rdat m c).owesAt () t.succ = (rdat m c).owesAt () t.castSucc from rfl, ΦA_eq]
  unfold bodyAt0 owns
  iintro ⟨⟨⟨⟨%e0, %s0, -, S0⟩, ⟨%e1, %s1, -, S1⟩, ⟨%e2, %s2, -, S2⟩, ⟨%e3, %s3, -, S3⟩, ⟨%e4, %s4, -, S4⟩, ⟨%e5, %s5, -, S5⟩, ⟨%e6, %s6, -, S6⟩⟩, Hr⟩, HO, ⟨%d1, -, H1⟩, ⟨%d2, -, H2⟩, ⟨%d3, -, H3⟩, ⟨%d4, -, H4⟩, ⟨%d5, -, H5⟩, ⟨%d6, -, H6⟩, ⟨%d7, -, H7⟩, ⟨%d8, -, H8⟩⟩
  iapply (wp_wand_r Idealize.ShloMosaic.frame (wpE (defs₀ (F := F)) Variants.none (c : Thread nD τ) none) Set.univ)
  isplitl [S0 S1 S2 S3 S4 S5 S6 H1 H2 H3 H4 H5 H6 H7 H8]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _))
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  · iintro %_ ⟨⟨%g1, H1⟩, ⟨%g2, H2⟩, ⟨%g3, H3⟩, ⟨%g4, H4⟩, ⟨%g5, H5⟩, ⟨%g6, H6⟩, ⟨%g7, H7⟩, ⟨%g8, H8⟩, ⟨%g9, S0⟩, ⟨%g10, S1⟩, ⟨%g11, S2⟩, ⟨%g12, S3⟩, ⟨%g13, S4⟩, ⟨%g14, S5⟩, ⟨%g15, S6⟩⟩
    isplitl [S0 S1 S2 S3 S4 S5 S6 Hr]
    · isplitl [S0 S1 S2 S3 S4 S5 S6]
      · isplitl [S0]
        · iexists _, _; isplitr; swap; · iexact S0
          ipureintro; rfl
        isplitl [S1]
        · iexists _, _; isplitr; swap; · iexact S1
          ipureintro; rfl
        isplitl [S2]
        · iexists _, _; isplitr; swap; · iexact S2
          ipureintro; rfl
        isplitl [S3]
        · iexists _, _; isplitr; swap; · iexact S3
          ipureintro; rfl
        isplitl [S4]
        · iexists _, _; isplitr; swap; · iexact S4
          ipureintro; rfl
        isplitl [S5]
        · iexists _, _; isplitr; swap; · iexact S5
          ipureintro; rfl
        iexists _, _; isplitr; swap; · iexact S6
        ipureintro; rfl
      iexact Hr
    isplitl [HO]; · iexact HO
    isplitl [H1]
    · iexists ((st0_0 t).view.read (Elt F) g1); isplitr; · ipureintro; exact trivial
      iexists _; isplitr; swap; · iexact H1
      ipureintro; rfl
    isplitl [H2]
    · iexists ((st0_1 t).view.read (Elt F) g2); isplitr; · ipureintro; exact trivial
      iexists _; isplitr; swap; · iexact H2
      ipureintro; rfl
    isplitl [H3]
    · iexists ((st0_2 t).view.read (Elt F) g3); isplitr; · ipureintro; exact trivial
      iexists _; isplitr; swap; · iexact H3
      ipureintro; rfl
    isplitl [H4]
    · iexists ((st0_3 t).view.read (Elt F) g4); isplitr; · ipureintro; exact trivial
      iexists _; isplitr; swap; · iexact H4
      ipureintro; rfl
    isplitl [H5]
    · iexists ((st0_4 t).view.read (Elt F) g5); isplitr; · ipureintro; exact trivial
      iexists _; isplitr; swap; · iexact H5
      ipureintro; rfl
    isplitl [H6]
    · iexists ((st0_5 t).view.read (Elt F) g6); isplitr; · ipureintro; exact trivial
      iexists _; isplitr; swap; · iexact H6
      ipureintro; rfl
    isplitl [H7]
    · iexists ((st0_6 t).view.read (Elt F) g7); isplitr; · ipureintro; exact trivial
      iexists _; isplitr; swap; · iexact H7
      ipureintro; rfl
    iexists ((st0_7 t).view.read (Elt F) g8); isplitr; · ipureintro; exact trivial
    iexists _; isplitr; swap; · iexact H8
    ipureintro; rfl

theorem defs₀_row (t : Fin cfg0.N) : defs₀ (F := F) .tc cfg0.body (cfg0.bodyArgs t (cfg0.slots t)) = bodyAt0 t := by
  unfold defs₀; rw [Defs.onTc_tc]

theorem body_obligation (m : (ℓ : Loc nD τ sig) → Buf (Elt F) ℓ) (c : Dev nD) :
    (rdat m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution of @main ends, every buffer that is no window's array as the region found it, every semaphore at
    zero. -/
theorem run_main (m : (ℓ : Loc nD τ sig) → Buf (Elt F) ℓ) (g : Dev nD → PrngReg) :
    θ_run defs (onTc (τ := τ) (main (F := F))) (s₀ m g)
      (fun r => RDat.FramePost (cfgs 0) (rdat m) (V m) r ∧ r.2.sem = fun _ => 0) :=
  RDat.θ_run_frame_track (Q' := _) cfgs (0 : Fin 1) launch0 defs₀ Variants.none (rdat m) m g main
    (hbody := body_obligation m) (hshare := fun c w => by unfold RDat.share; split <;> rfl)
    (howed := fun _ _ => rfl) (V := V m) (hmain := hmain m Variants.none) (hA := fun _ _ => rfl)
    (hin := fun _ => .rfl) (hout := fun _ => .rfl) (hQ' := fun _ h => h)

theorem final_arg (m : (ℓ : Loc nD τ sig) → Buf (Elt F) ℓ) {r : PUnit × MemSt nD τ sig (Elt F)}
    (h : RDat.FramePost (cfgs 0) (rdat m) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

end Cert.KernelIdeal.Hand

end
-- ==== Proof.VMath.lean ====
module

public import Mathlib.Analysis.SpecialFunctions.Pow.Real
public import Mathlib.Algebra.BigOperators.Intervals
public import Mathlib.Algebra.BigOperators.Fin
public import Mathlib.Tactic.Ring
public import Mathlib.Tactic.FieldSimp
public import Mathlib.Tactic.Linarith
public import Mathlib.Tactic.NormNum
public import Mathlib.Tactic.Positivity

@[expose] public section

/-! The real mathematics of the head: log-probabilities, entropy and varentropy, and the same from three sums of
    powers of two taken about any number. -/

noncomputable section

namespace Cert.KernelIdeal.Val

open Finset

/-- The log-probability of word `v`, the entropy and the varentropy of logits `z`. -/
def lp (z : ℕ → ℝ) (v : ℕ) : ℝ := z v - Real.log (∑ u ∈ range 50304, Real.exp (z u))
def ENT (z : ℕ → ℝ) : ℝ := -∑ v ∈ range 50304, Real.exp (lp z v) * lp z v
def VAR (z : ℕ → ℝ) : ℝ := ∑ v ∈ range 50304, Real.exp (lp z v) * ((lp z v + ENT z) * (lp z v + ENT z))

/-- The three sums about `M`. -/
def L0 (y : ℕ → ℝ) (M : ℝ) : ℝ := ∑ v ∈ range 50304, Real.rpow 2 (y v - M)
def L1 (y : ℕ → ℝ) (M : ℝ) : ℝ := ∑ v ∈ range 50304, Real.rpow 2 (y v - M) * (y v - M)
def L2 (y : ℕ → ℝ) (M : ℝ) : ℝ := ∑ v ∈ range 50304, Real.rpow 2 (y v - M) * (y v - M) * (y v - M)

def SE (z : ℕ → ℝ) : ℝ := ∑ u ∈ range 50304, Real.exp (z u)
def SF (z : ℕ → ℝ) : ℝ := ∑ u ∈ range 50304, Real.exp (z u) * z u
def SG (z : ℕ → ℝ) : ℝ := ∑ u ∈ range 50304, Real.exp (z u) * z u * z u

theorem SE_pos (z : ℕ → ℝ) : 0 < SE z :=
  sum_pos (fun _ _ => Real.exp_pos _) ⟨0, by simp⟩

theorem exp_lp (z : ℕ → ℝ) (v : ℕ) : Real.exp (lp z v) = Real.exp (z v) * (SE z)⁻¹ := by
  have h := SE_pos z
  unfold lp
  rw [Real.exp_sub]
  change _ / Real.exp (Real.log (SE z)) = _
  rw [Real.exp_log h, div_eq_mul_inv]

theorem ENT_eq (z : ℕ → ℝ) : ENT z = Real.log (SE z) - SF z * (SE z)⁻¹ := by
  have h := (SE_pos z).ne'
  have e : ∑ v ∈ range 50304, Real.exp (lp z v) * lp z v = (SE z)⁻¹ * SF z - (SE z)⁻¹ * Real.log (SE z) * SE z := by
    unfold SF
    conv_rhs => arg 2; arg 2; unfold SE
    rw [mul_sum, mul_sum, ← sum_sub_distrib]
    refine sum_congr rfl fun v _ => ?_
    rw [exp_lp]
    unfold lp
    change _ * (_ - Real.log (SE z)) = _
    ring
  unfold ENT
  rw [e]
  field_simp
  ring

theorem VAR_eq (z : ℕ → ℝ) : VAR z = SG z * (SE z)⁻¹ - (SF z * (SE z)⁻¹) * (SF z * (SE z)⁻¹) := by
  have h := (SE_pos z).ne'
  have hl : ∀ v, lp z v + ENT z = z v - SF z * (SE z)⁻¹ := fun v => by
    rw [ENT_eq]; unfold lp; change _ - Real.log (SE z) + _ = _; ring
  have e : VAR z = (SE z)⁻¹ * SG z - 2 * (SF z * (SE z)⁻¹) * (SE z)⁻¹ * SF z + (SF z * (SE z)⁻¹) * (SF z * (SE z)⁻¹) * (SE z)⁻¹ * SE z := by
    unfold VAR
    simp only [hl, exp_lp]
    generalize hP : SF z * (SE z)⁻¹ = P
    conv_rhs => arg 2; arg 2; unfold SE
    conv_rhs => arg 1; arg 2; arg 2; unfold SF
    conv_rhs => arg 1; arg 1; arg 2; unfold SG
    rw [mul_sum, mul_sum, mul_sum, ← sum_sub_distrib, ← sum_add_distrib]
    refine sum_congr rfl fun v _ => ?_
    ring
  rw [e]
  field_simp
  ring

theorem two_pow (z : ℕ → ℝ) (M : ℝ) (v : ℕ) :
    Real.rpow 2 (z v * (Real.log 2)⁻¹ - M) = Real.exp (z v) * Real.exp (-(M * Real.log 2)) := by
  have h2 : Real.log 2 ≠ 0 := (Real.log_pos (by norm_num)).ne'
  rw [← Real.exp_add]
  change (2 : ℝ) ^ (z v * (Real.log 2)⁻¹ - M) = _
  rw [Real.rpow_def_of_pos (by norm_num)]
  congr 1
  field_simp
  try ring

section
variable (z : ℕ → ℝ) (M : ℝ)

theorem L0_eq : L0 (fun v => z v * (Real.log 2)⁻¹) M = SE z * Real.exp (-(M * Real.log 2)) := by
  unfold L0 SE
  rw [sum_mul]
  exact sum_congr rfl fun v _ => two_pow z M v

theorem L1_eq : L1 (fun v => z v * (Real.log 2)⁻¹) M
    = Real.exp (-(M * Real.log 2)) * ((Real.log 2)⁻¹ * SF z - M * SE z) := by
  unfold L1 SE SF
  rw [mul_sum, mul_sum, ← sum_sub_distrib, mul_sum]
  refine sum_congr rfl fun v _ => ?_
  simp only [two_pow z M v]
  ring

theorem L2_eq : L2 (fun v => z v * (Real.log 2)⁻¹) M
    = Real.exp (-(M * Real.log 2)) * ((Real.log 2)⁻¹ * (Real.log 2)⁻¹ * SG z - 2 * M * (Real.log 2)⁻¹ * SF z + M * M * SE z) := by
  unfold L2 SE SF SG
  rw [mul_sum, mul_sum, mul_sum, ← sum_sub_distrib, ← sum_add_distrib, mul_sum]
  refine sum_congr rfl fun v _ => ?_
  simp only [two_pow z M v]
  ring

theorem L0_pos (y : ℕ → ℝ) : 0 < L0 y M :=
  sum_pos (fun _ _ => Real.rpow_pos_of_pos (by norm_num) _) ⟨0, by simp⟩

theorem log_L0 : Real.log (L0 (fun v => z v * (Real.log 2)⁻¹) M) = Real.log (SE z) - M * Real.log 2 := by
  rw [L0_eq, Real.log_mul (SE_pos z).ne' (Real.exp_pos _).ne', Real.log_exp]; ring

theorem q1_eq : L1 (fun v => z v * (Real.log 2)⁻¹) M * (L0 (fun v => z v * (Real.log 2)⁻¹) M)⁻¹
    = (Real.log 2)⁻¹ * (SF z * (SE z)⁻¹) - M := by
  have h := (SE_pos z).ne'
  have hk := (Real.exp_pos (-(M * Real.log 2))).ne'
  rw [L0_eq, L1_eq]
  generalize Real.exp (-(M * Real.log 2)) = k at *
  generalize (Real.log 2)⁻¹ = c
  field_simp

theorem q2_eq : L2 (fun v => z v * (Real.log 2)⁻¹) M * (L0 (fun v => z v * (Real.log 2)⁻¹) M)⁻¹
    = (Real.log 2)⁻¹ * (Real.log 2)⁻¹ * (SG z * (SE z)⁻¹) - 2 * M * (Real.log 2)⁻¹ * (SF z * (SE z)⁻¹) + M * M := by
  have h := (SE_pos z).ne'
  have hk := (Real.exp_pos (-(M * Real.log 2))).ne'
  rw [L0_eq, L2_eq]
  generalize Real.exp (-(M * Real.log 2)) = k at *
  generalize (Real.log 2)⁻¹ = c
  field_simp

/-- The kernel's entropy, varentropy and log-probability. -/
theorem ent_math (y : ℕ → ℝ) (hy : ∀ v, y v = z v * (Real.log 2)⁻¹) :
    Real.log 2 * (Real.log (L0 y M) * (Real.log 2)⁻¹ - L1 y M * (L0 y M)⁻¹) = ENT z := by
  obtain rfl : y = fun v => z v * (Real.log 2)⁻¹ := funext hy
  have h2 : Real.log 2 ≠ 0 := (Real.log_pos (by norm_num)).ne'
  rw [log_L0, q1_eq, ENT_eq]
  generalize SF z * (SE z)⁻¹ = P
  field_simp
  ring

theorem var_math (y : ℕ → ℝ) (hy : ∀ v, y v = z v * (Real.log 2)⁻¹) :
    Real.log 2 * Real.log 2 * (L2 y M * (L0 y M)⁻¹ - L1 y M * (L0 y M)⁻¹ * (L1 y M * (L0 y M)⁻¹)) = VAR z := by
  obtain rfl : y = fun v => z v * (Real.log 2)⁻¹ := funext hy
  have h2 : Real.log 2 ≠ 0 := (Real.log_pos (by norm_num)).ne'
  rw [q2_eq, q1_eq, VAR_eq]
  generalize SF z * (SE z)⁻¹ = P
  generalize SG z * (SE z)⁻¹ = Q
  field_simp
  ring

theorem lp_math (y : ℕ → ℝ) (hy : ∀ v, y v = z v * (Real.log 2)⁻¹) (Zt s : ℝ) (T : ℕ) (hT : z T = Zt * s) :
    Real.log 2 * (Zt * (s * (Real.log 2)⁻¹) - (M + Real.log (L0 y M) * (Real.log 2)⁻¹)) = lp z T := by
  obtain rfl : y = fun v => z v * (Real.log 2)⁻¹ := funext hy
  have h2 : Real.log 2 ≠ 0 := (Real.log_pos (by norm_num)).ne'
  rw [log_L0]
  unfold lp
  change _ = z T - Real.log (SE z)
  rw [hT]
  field_simp
  ring
end

/-- Sums taken about `μ`, moved to `M`. -/
theorem move0 (N : ℕ) (y : ℕ → ℝ) (μ M : ℝ) :
    Real.rpow 2 (μ - M) * (∑ i ∈ range N, Real.rpow 2 (y i - μ)) = ∑ i ∈ range N, Real.rpow 2 (y i - M) := by
  rw [mul_sum]
  refine sum_congr rfl fun i _ => ?_
  simp only [Real.rpow_eq_pow]
  rw [← Real.rpow_add (by norm_num)]
  congr 1; ring

theorem pow_move (a μ M : ℝ) : Real.rpow 2 (a - M) = Real.rpow 2 (μ - M) * Real.rpow 2 (a - μ) := by
  simp only [Real.rpow_eq_pow]
  rw [← Real.rpow_add (by norm_num)]
  congr 1; ring

theorem move1 (N : ℕ) (y : ℕ → ℝ) (μ M : ℝ) :
    Real.rpow 2 (μ - M) * ((∑ i ∈ range N, Real.rpow 2 (y i - μ) * (y i - μ)) + (μ - M) * (∑ i ∈ range N, Real.rpow 2 (y i - μ)))
      = ∑ i ∈ range N, Real.rpow 2 (y i - M) * (y i - M) := by
  rw [mul_sum, ← sum_add_distrib, mul_sum]
  refine sum_congr rfl fun i _ => ?_
  rw [pow_move (y i) μ M]; ring

theorem move2 (N : ℕ) (y : ℕ → ℝ) (μ M : ℝ) :
    Real.rpow 2 (μ - M) * ((∑ i ∈ range N, Real.rpow 2 (y i - μ) * (y i - μ) * (y i - μ)) + (μ - M) * (2 * (∑ i ∈ range N, Real.rpow 2 (y i - μ) * (y i - μ)) + (μ - M) * (∑ i ∈ range N, Real.rpow 2 (y i - μ))))
      = ∑ i ∈ range N, Real.rpow 2 (y i - M) * (y i - M) * (y i - M) := by
  have e : ∀ a b c : ℝ, a + (μ - M) * (2 * b + (μ - M) * c) = a + 2 * (μ - M) * b + (μ - M) * (μ - M) * c := fun a b c => by ring
  rw [e, mul_sum, mul_sum, ← sum_add_distrib, ← sum_add_distrib, mul_sum]
  refine sum_congr rfl fun i _ => ?_
  rw [pow_move (y i) μ M]; ring

/-- A sum over the words by sublane. -/
theorem sum_sub8 (f : ℕ → ℝ) : (∑ s : Fin 8, ∑ i ∈ range 6288, f (8 * i + s.val)) = ∑ v ∈ range 50304, f v := by
  have h : ∀ n : ℕ, (∑ s : Fin 8, ∑ i ∈ range n, f (8 * i + s.val)) = ∑ v ∈ range (8 * n), f v := fun n => by
    induction n with
    | zero => simp
    | succ n ih =>
      rw [show 8 * (n + 1) = 8 * n + 8 from rfl, sum_range_add, ← ih]
      simp only [sum_range_succ _ n]
      rw [sum_add_distrib]
      rw [sum_range]
  exact h 6288

end Cert.KernelIdeal.Val

end
-- ==== Proof.VPre.lean ====
module

public import proofs.«01_k».proof.Proof.VMath
public import proofs.«01_k».proof.Pre_inputs_in_range
public import Idealize.ShloMosaic.Lib.ReduceAll
public import Idealize.ShloMosaic.Lib.IdealHost
public import Idealize.ShloMosaic.Lib.Affine

@[expose] public section

set_option maxRecDepth 16384

/-! What the precondition says of the five argument arrays. -/

noncomputable section

namespace Cert.Pre_inputs_in_range.Val

open Idealize.ShloMosaic

/-- The side conditions of the precondition's operations. -/
instance facts : Cert.Pre_inputs_in_range.Facts where
  bcast_S_S4x1024x2048 := by decide
  reducesTo_S4x1024x2048_S_d0_1_2 := by decide
  h_S_ := by decide
  bcast_S_S50304x2048 := by decide
  reducesTo_S50304x2048_S_d0_1 := by decide
  bcast_S_S4x1024 := by decide
  reducesTo_S4x1024_S_d0_1 := by decide
  bcast_S_S393x16 := by decide
  reducesTo_S393x16_S_d0_1 := by decide
  bcast_S_S4x1024x7 := by decide
  reducesTo_S4x1024x7_S_d0_1_2 := by decide

/-- A code other than the two not-a-number codes denotes a real number. -/
theorem code_real (b : BitVec 8) (h1 : b ≠ 127#8) (h2 : b ≠ 255#8) : ∃ r : ℝ, Ideal.ofBits .fp8e4m3 b = (r : EReal) := by
  have hn : ¬((b.extractLsb' 3 4).toNat = 15 ∧ (b.extractLsb' 0 3).toNat = 7) := by
    revert b; decide +kernel
  show ∃ r : ℝ, Ideal.e4m3fn b = (r : EReal)
  unfold Ideal.e4m3fn
  simp only [if_neg hn]
  split
  · exact ⟨_, rfl⟩
  · exact ⟨_, rfl⟩

/-- The largest finite number is real. -/
theorem top_real : ∃ r : ℝ, Ideal.ofBits .f32 0x7F7FFFFF#32 = (r : EReal) := by
  show ∃ r : ℝ, Ideal.ieee 8 23 (0x7F7FFFFF#32) = (r : EReal)
  have h1 : ¬((BitVec.extractLsb' 23 8 (0x7F7FFFFF#32)).toNat = 2 ^ 8 - 1) := by decide
  have h2 : ¬((BitVec.extractLsb' 23 8 (0x7F7FFFFF#32)).toNat = 0) := by decide
  unfold Ideal.ieee
  simp only [if_neg h1, if_neg h2]
  exact ⟨_, rfl⟩

/-- A value between a real number and its negation is real. -/
theorem between (x : EReal) (r : ℝ) (h1 : x ≤ (r : EReal)) (h2 : -(r : EReal) ≤ x) : ∃ s : ℝ, x = (s : EReal) := by
  induction x using EReal.rec with
  | bot => exact absurd h2 (by rw [← EReal.coe_neg]; exact not_le.2 (EReal.bot_lt_coe _))
  | top => exact absurd h1 (not_le.2 (EReal.coe_lt_top _))
  | coe s => exact ⟨s, rfl⟩

/-- A word between 0 and the vocabulary's size, read signed, is that number read unsigned. -/
theorem word_lt (b : BitVec 32) (h1 : IntOp.cmpi .sge b 0#32 = 1#1) (h2 : IntOp.cmpi .slt b 50304#32 = 1#1) :
    b.toNat < 50304 := by
  have a1 := IntOp.cmpi_sge.1 h1
  have a2 := IntOp.cmpi_slt.1 h2
  have e1 : (0#32).toInt = 0 := rfl
  have e2 : (50304#32).toInt = 50304 := rfl
  rw [e1] at a1; rw [e2] at a2
  rw [BitVec.toInt_eq_toNat_cond] at a1 a2
  split at a1 <;> omega

instance : Subsingleton S_.Idx := ⟨fun _ _ => funext fun a => a.elim0⟩

/-- The two comparisons of a scale as the largest finite number and its negation. -/
theorem scale_real (x : EReal) (h1 : Ideal.cmp .ole x (Ideal.ofBits .f32 0x7F7FFFFF#32) = 1#1)
    (h2 : Ideal.cmp .oge x (-(Ideal.ofBits .f32 0x7F7FFFFF#32 : EReal)) = 1#1) : ∃ s : ℝ, x = (s : EReal) := by
  obtain ⟨r, hr⟩ := top_real
  rw [hr] at h1 h2
  have g1 : x ≤ (r : EReal) := by
    by_contra hc
    unfold Ideal.cmp at h1
    simp [hc] at h1
  have g2 : -(r : EReal) ≤ x := by
    by_contra hc
    unfold Ideal.cmp at h2
    simp [hc] at h2
  exact between x r g1 g2

/-- The precondition, read. -/
theorem read (a0 : IVec S4x1024x2048 8) (a1 : FVec Ideal S4x1024 .f32) (a2 : IVec S50304x2048 8)
    (a3 : FVec Ideal S393x16 .f32) (a4 : IVec S4x1024x7 32)
    (h : Cert.Pre_inputs_in_range.fn (F := Ideal) a0 a1 a2 a3 a4 = fun _ => 1#1) :
    (∀ i, ∃ r : ℝ, Ideal.ofBits .fp8e4m3 (a0 i) = (r : EReal)) ∧ (∀ i, ∃ r : ℝ, Ideal.ofBits .fp8e4m3 (a2 i) = (r : EReal))
      ∧ (∀ i, ∃ r : ℝ, a1 i = (r : EReal)) ∧ (∀ i, ∃ r : ℝ, a3 i = (r : EReal)) ∧ ∀ i, (a4 i).toNat < 50304 := by
  have h0 := congrFun h (fun a => a.elim0)
  unfold Cert.Pre_inputs_in_range.fn Cert.Pre_inputs_in_range.fn_part1 Cert.Pre_inputs_in_range.fn_part2 at h0
  obtain ⟨h0, q4⟩ := IntOp.andi_eq_one.1 h0
  obtain ⟨h0, q3⟩ := IntOp.andi_eq_one.1 h0
  obtain ⟨h0, q1⟩ := IntOp.andi_eq_one.1 h0
  obtain ⟨q0, q2⟩ := IntOp.andi_eq_one.1 h0
  have r0 := Host.reduce_andi_all _ _ _ _ _ q0
  have r1 := Host.reduce_andi_all _ _ _ _ _ q1
  have r2 := Host.reduce_andi_all _ _ _ _ _ q2
  have r3 := Host.reduce_andi_all _ _ _ _ _ q3
  have r4 := Host.reduce_andi_all _ _ _ _ _ q4
  refine ⟨fun i => ?_, fun i => ?_, fun i => ?_, fun i => ?_, fun i => ?_⟩
  · obtain ⟨u, v⟩ := IntOp.andi_eq_one.1 (r0 i)
    exact code_real _ (IntOp.cmpi_ne.1 u) (IntOp.cmpi_ne.1 v)
  · obtain ⟨u, v⟩ := IntOp.andi_eq_one.1 (r2 i)
    exact code_real _ (IntOp.cmpi_ne.1 u) (IntOp.cmpi_ne.1 v)
  · obtain ⟨u, v⟩ := IntOp.andi_eq_one.1 (r1 i)
    exact scale_real _ u v
  · obtain ⟨u, v⟩ := IntOp.andi_eq_one.1 (r3 i)
    exact scale_real _ u v
  · obtain ⟨u, v⟩ := IntOp.andi_eq_one.1 (r4 i)
    exact word_lt _ u v

end Cert.Pre_inputs_in_range.Val

end
-- ==== Proof.VSpec.lean ====
module

public import Idealize.ShloMosaic.Lib.Tactic
public import Idealize.ShloMosaic.PureOps.Ideal
public import Mathlib.Analysis.SpecialFunctions.Pow.Real
public import Mathlib.Tactic.Ring
public import Mathlib.Tactic.NormNum
public import Mathlib.Tactic.Linarith

@[expose] public section

/-! One column's update of the running statistics, as the kernel computes it, and what it is at exact real values. -/

noncomputable section

namespace Cert.KernelIdeal.Val

open Idealize.ShloMosaic

section Gen
variable {F : FTy → Type} [FloatOps F]

def dOf (xs m z : F .f32) : F .f32 := FloatOps.subf (FloatOps.mulf z xs) m
def topOf (z0 : F .f32) (zs : List (F .f32)) : F .f32 := zs.foldl FloatOps.maximumf z0
def mOf (xs mo z0 : F .f32) (zs : List (F .f32)) : F .f32 := FloatOps.maximumf mo (FloatOps.mulf (topOf z0 zs) xs)
def eT (xs m z : F .f32) : F .f32 := FloatOps.exp2 (dOf xs m z)
def tT (xs m z : F .f32) : F .f32 := FloatOps.mulf (eT xs m z) (dOf xs m z)
def uT (xs m z : F .f32) : F .f32 := FloatOps.mulf (tT xs m z) (dOf xs m z)
def sumOf (f : F .f32 → F .f32) (z0 : F .f32) (zs : List (F .f32)) : F .f32 := zs.foldl (fun a z => FloatOps.addf a (f z)) (f z0)
def lNew (m mo sl lo : F .f32) : F .f32 := FloatOps.addf sl (FloatOps.mulf (FloatOps.exp2 (FloatOps.subf mo m)) lo)
def s1New (m mo ss lo s1o : F .f32) : F .f32 :=
  FloatOps.addf ss (FloatOps.mulf (FloatOps.exp2 (FloatOps.subf mo m)) (FloatOps.addf s1o (FloatOps.mulf (FloatOps.subf mo m) lo)))
def s2New (m mo ss lo s1o s2o two : F .f32) : F .f32 :=
  FloatOps.addf ss (FloatOps.mulf (FloatOps.exp2 (FloatOps.subf mo m)) (FloatOps.addf s2o (FloatOps.mulf (FloatOps.subf mo m)
    (FloatOps.addf (FloatOps.mulf two s1o) (FloatOps.mulf (FloatOps.subf mo m) lo)))))

end Gen

def StatR (y : ℕ → ℝ) (N : ℕ) (m l s1 s2 : EReal) : Prop :=
  ∃ μ : ℝ, m = (μ : EReal) ∧ l = ((∑ i ∈ Finset.range N, Real.rpow 2 (y i - μ) : ℝ) : EReal)
    ∧ s1 = ((∑ i ∈ Finset.range N, Real.rpow 2 (y i - μ) * (y i - μ) : ℝ) : EReal)
    ∧ s2 = ((∑ i ∈ Finset.range N, Real.rpow 2 (y i - μ) * (y i - μ) * (y i - μ) : ℝ) : EReal)

theorem topOf_real (ζ : ℕ → ℝ) (n : ℕ) :
    ∃ τ : ℝ, topOf (F := Ideal) ((ζ 0 : ℝ) : EReal) ((List.range n).map fun g => ((ζ (g + 1) : ℝ) : EReal)) = (τ : EReal) := by
  induction n with
  | zero => exact ⟨ζ 0, rfl⟩
  | succ n ih =>
    obtain ⟨τ, h⟩ := ih
    refine ⟨max τ (ζ (n + 1)), ?_⟩
    unfold topOf at h ⊢
    rw [List.range_succ, List.map_append, List.foldl_append, h]
    simp only [List.map_cons, List.map_nil, List.foldl_cons, List.foldl_nil, Ideal.maximumf_def]
    exact (EReal.coe_strictMono.monotone.map_max).symm

theorem sumOf_real (f : EReal → EReal) (φ : ℝ → ℝ) (hf : ∀ r : ℝ, f (r : EReal) = ((φ r : ℝ) : EReal)) (ζ : ℕ → ℝ) (n : ℕ) :
    sumOf (F := Ideal) f ((ζ 0 : ℝ) : EReal) ((List.range n).map fun g => ((ζ (g + 1) : ℝ) : EReal))
      = ((∑ g ∈ Finset.range (n + 1), φ (ζ g) : ℝ) : EReal) := by
  induction n with
  | zero => simp [sumOf, hf]
  | succ n ih =>
    unfold sumOf at ih ⊢
    rw [List.range_succ, List.map_append, List.foldl_append, ih]
    simp only [List.map_cons, List.map_nil, List.foldl_cons, List.foldl_nil, Ideal.addf_def, hf]
    rw [← EReal.coe_add, Finset.sum_range_succ (fun g => φ (ζ g)) (n + 1)]

theorem two_real : Ideal.ofBits .f32 0x40000000#32 = ((2 : ℝ) : EReal) := by
  simp [Ideal.ofBits, Ideal.ieee, -EReal.coe_mul]; norm_num

theorem stat_step (y : ℕ → ℝ) (N : ℕ) (m l s1 s2 : EReal) (h : StatR y N m l s1 s2) (σ : ℝ) (ζ : ℕ → ℝ) (hy : ∀ g < 48, ζ g * σ = y (N + g)) :
    StatR y (N + 48)
      (mOf (F := Ideal) (σ : EReal) m ((ζ 0 : ℝ) : EReal) ((List.range 47).map fun g => ((ζ (g + 1) : ℝ) : EReal)))
      (lNew (F := Ideal) (mOf (F := Ideal) (σ : EReal) m ((ζ 0 : ℝ) : EReal) ((List.range 47).map fun g => ((ζ (g + 1) : ℝ) : EReal))) m
        (sumOf (F := Ideal) (eT (F := Ideal) (σ : EReal) (mOf (F := Ideal) (σ : EReal) m ((ζ 0 : ℝ) : EReal) ((List.range 47).map fun g => ((ζ (g + 1) : ℝ) : EReal)))) ((ζ 0 : ℝ) : EReal) ((List.range 47).map fun g => ((ζ (g + 1) : ℝ) : EReal))) l)
      (s1New (F := Ideal) (mOf (F := Ideal) (σ : EReal) m ((ζ 0 : ℝ) : EReal) ((List.range 47).map fun g => ((ζ (g + 1) : ℝ) : EReal))) m
        (sumOf (F := Ideal) (tT (F := Ideal) (σ : EReal) (mOf (F := Ideal) (σ : EReal) m ((ζ 0 : ℝ) : EReal) ((List.range 47).map fun g => ((ζ (g + 1) : ℝ) : EReal)))) ((ζ 0 : ℝ) : EReal) ((List.range 47).map fun g => ((ζ (g + 1) : ℝ) : EReal))) l s1)
      (s2New (F := Ideal) (mOf (F := Ideal) (σ : EReal) m ((ζ 0 : ℝ) : EReal) ((List.range 47).map fun g => ((ζ (g + 1) : ℝ) : EReal))) m
        (sumOf (F := Ideal) (uT (F := Ideal) (σ : EReal) (mOf (F := Ideal) (σ : EReal) m ((ζ 0 : ℝ) : EReal) ((List.range 47).map fun g => ((ζ (g + 1) : ℝ) : EReal)))) ((ζ 0 : ℝ) : EReal) ((List.range 47).map fun g => ((ζ (g + 1) : ℝ) : EReal))) l s1 s2
        ((2 : ℝ) : EReal)) := by
  obtain ⟨μ0, rfl, rfl, rfl, rfl⟩ := h
  obtain ⟨τ, hτ⟩ := topOf_real ζ 47
  have hm : mOf (F := Ideal) (σ : EReal) (μ0 : EReal) ((ζ 0 : ℝ) : EReal) ((List.range 47).map fun g => ((ζ (g + 1) : ℝ) : EReal)) = ((max μ0 (τ * σ) : ℝ) : EReal) := by
    unfold mOf; rw [hτ]
    simp only [Ideal.maximumf_def, Ideal.mulf_def, ← EReal.coe_mul]
    exact (EReal.coe_strictMono.monotone.map_max).symm
  rw [hm]
  generalize max μ0 (τ * σ) = μ
  rw [sumOf_real _ (fun r => Real.rpow 2 (r * σ - μ)) (fun r => by
      simp only [eT, dOf, Ideal.mulf_def, Ideal.subf_def, ← EReal.coe_mul, ← EReal.coe_sub]; rfl),
    sumOf_real _ (fun r => Real.rpow 2 (r * σ - μ) * (r * σ - μ)) (fun r => by
      simp only [tT, eT, dOf, Ideal.mulf_def, Ideal.subf_def, ← EReal.coe_mul, ← EReal.coe_sub]; rfl),
    sumOf_real _ (fun r => Real.rpow 2 (r * σ - μ) * (r * σ - μ) * (r * σ - μ)) (fun r => by
      simp only [uT, tT, eT, dOf, Ideal.mulf_def, Ideal.subf_def, ← EReal.coe_mul, ← EReal.coe_sub]; rfl)]
  have hexp : ∀ x : ℝ, FloatOps.exp2 (F := Ideal) (φ := .f32) (x : EReal) = ((Real.rpow 2 x : ℝ) : EReal) := fun _ => rfl
  have e0 : ∀ i, Real.rpow 2 (y i - μ) = Real.rpow 2 (μ0 - μ) * Real.rpow 2 (y i - μ0) := fun i => by
    simp only [Real.rpow_eq_pow]
    rw [← Real.rpow_add (by norm_num)]; congr 1; ring
  have hz : ∀ (f : ℝ → ℝ), ∑ g ∈ Finset.range (47 + 1), f (ζ g * σ) = ∑ g ∈ Finset.range 48, f (y (N + g)) := fun f =>
    Finset.sum_congr rfl fun g hg => by rw [hy g (Finset.mem_range.mp hg)]
  refine ⟨μ, rfl, ?_, ?_, ?_⟩
  · unfold lNew
    simp only [Ideal.addf_def, Ideal.mulf_def, Ideal.subf_def, ← EReal.coe_sub, hexp, ← EReal.coe_mul, ← EReal.coe_add, EReal.coe_eq_coe_iff]
    rw [hz (fun v => Real.rpow 2 (v - μ)), Finset.sum_range_add, add_comm, Finset.mul_sum]
    congr 1
    exact Finset.sum_congr rfl fun i _ => (e0 i).symm
  · unfold s1New
    simp only [Ideal.addf_def, Ideal.mulf_def, Ideal.subf_def, ← EReal.coe_sub, hexp, ← EReal.coe_mul, ← EReal.coe_add, EReal.coe_eq_coe_iff]
    rw [hz (fun v => Real.rpow 2 (v - μ) * (v - μ)), Finset.sum_range_add, add_comm, Finset.mul_sum, ← Finset.sum_add_distrib, Finset.mul_sum]
    congr 1
    exact Finset.sum_congr rfl fun i _ => by rw [e0 i]; ring
  · unfold s2New
    simp only [Ideal.addf_def, Ideal.mulf_def, Ideal.subf_def, ← EReal.coe_sub, hexp, ← EReal.coe_mul, ← EReal.coe_add, EReal.coe_eq_coe_iff]
    rw [hz (fun v => Real.rpow 2 (v - μ) * (v - μ) * (v - μ)), Finset.sum_range_add, add_comm]
    congr 1
    simp only [Finset.mul_sum, ← Finset.sum_add_distrib]
    exact Finset.sum_congr rfl fun i _ => by rw [e0 i]; ring

end Cert.KernelIdeal.Val
end
-- ==== Proof.VOff.lean ====
module

public import proofs.«01_k».proof.Proof.Gen.KernelIdeal.Frame
public import proofs.«01_k».proof.Proof.Gen.KernelIdeal.Skeleton

@[expose] public section

set_option maxRecDepth 16384
set_option maxHeartbeats 4000000

/-! The offsets of the loops' loads and stores in closed form. -/

namespace Cert.KernelIdeal.Val

open Cert.KernelIdeal Cert.KernelIdeal.Gen Idealize.ShloMosaic

theorem off1_eq : ∀ (t1 : Fin k0_t1_loop.trips), k0_off1 t1 = ![512 * t1.val, 0] := by decide +kernel
theorem off2_eq : ∀ (t1 : Fin k0_t1_loop.trips), k0_off2 t1 = ![t1.val % 2, 0, 0] := by decide +kernel
theorem off3_eq : ∀ (t1 : Fin k0_t1_loop.trips) (t2 : Fin k0_t2_loop.trips), k0_off3 t1 t2 = ![(t1.val + 1) % 2, 0, 128 * t2.val] := by decide +kernel
theorem off4_eq : ∀ (t1 : Fin k0_t1_loop.trips) (t2 : Fin k0_t2_loop.trips), k0_off4 t1 t2 = ![(t1.val + 1) % 2, 8, 128 * t2.val] := by decide +kernel
theorem off5_eq : ∀ (t1 : Fin k0_t1_loop.trips) (t2 : Fin k0_t2_loop.trips), k0_off5 t1 t2 = ![(t1.val + 1) % 2, 16, 128 * t2.val] := by decide +kernel
theorem off6_eq : ∀ (t1 : Fin k0_t1_loop.trips) (t2 : Fin k0_t2_loop.trips), k0_off6 t1 t2 = ![(t1.val + 1) % 2, 24, 128 * t2.val] := by decide +kernel
theorem off7_eq : ∀ (t1 : Fin k0_t1_loop.trips) (t2 : Fin k0_t2_loop.trips), k0_off7 t1 t2 = ![(t1.val + 1) % 2, 32, 128 * t2.val] := by decide +kernel
theorem off8_eq : ∀ (t1 : Fin k0_t1_loop.trips) (t2 : Fin k0_t2_loop.trips), k0_off8 t1 t2 = ![(t1.val + 1) % 2, 40, 128 * t2.val] := by decide +kernel
theorem off9_eq : ∀ (t1 : Fin k0_t1_loop.trips) (t2 : Fin k0_t2_loop.trips), k0_off9 t1 t2 = ![(t1.val + 1) % 2, 48, 128 * t2.val] := by decide +kernel
theorem off10_eq : ∀ (t1 : Fin k0_t1_loop.trips) (t2 : Fin k0_t2_loop.trips), k0_off10 t1 t2 = ![(t1.val + 1) % 2, 56, 128 * t2.val] := by decide +kernel
theorem off11_eq : ∀ (t1 : Fin k0_t1_loop.trips) (t2 : Fin k0_t2_loop.trips), k0_off11 t1 t2 = ![(t1.val + 1) % 2, 64, 128 * t2.val] := by decide +kernel
theorem off12_eq : ∀ (t1 : Fin k0_t1_loop.trips) (t2 : Fin k0_t2_loop.trips), k0_off12 t1 t2 = ![(t1.val + 1) % 2, 72, 128 * t2.val] := by decide +kernel
theorem off13_eq : ∀ (t1 : Fin k0_t1_loop.trips) (t2 : Fin k0_t2_loop.trips), k0_off13 t1 t2 = ![(t1.val + 1) % 2, 80, 128 * t2.val] := by decide +kernel
theorem off14_eq : ∀ (t1 : Fin k0_t1_loop.trips) (t2 : Fin k0_t2_loop.trips), k0_off14 t1 t2 = ![(t1.val + 1) % 2, 88, 128 * t2.val] := by decide +kernel
theorem off15_eq : ∀ (t1 : Fin k0_t1_loop.trips) (t2 : Fin k0_t2_loop.trips), k0_off15 t1 t2 = ![(t1.val + 1) % 2, 96, 128 * t2.val] := by decide +kernel
theorem off16_eq : ∀ (t1 : Fin k0_t1_loop.trips) (t2 : Fin k0_t2_loop.trips), k0_off16 t1 t2 = ![(t1.val + 1) % 2, 104, 128 * t2.val] := by decide +kernel
theorem off17_eq : ∀ (t1 : Fin k0_t1_loop.trips) (t2 : Fin k0_t2_loop.trips), k0_off17 t1 t2 = ![(t1.val + 1) % 2, 112, 128 * t2.val] := by decide +kernel
theorem off18_eq : ∀ (t1 : Fin k0_t1_loop.trips) (t2 : Fin k0_t2_loop.trips), k0_off18 t1 t2 = ![(t1.val + 1) % 2, 120, 128 * t2.val] := by decide +kernel
theorem off19_eq : ∀ (t1 : Fin k0_t1_loop.trips) (t2 : Fin k0_t2_loop.trips), k0_off19 t1 t2 = ![(t1.val + 1) % 2, 128, 128 * t2.val] := by decide +kernel
theorem off20_eq : ∀ (t1 : Fin k0_t1_loop.trips) (t2 : Fin k0_t2_loop.trips), k0_off20 t1 t2 = ![(t1.val + 1) % 2, 136, 128 * t2.val] := by decide +kernel
theorem off21_eq : ∀ (t1 : Fin k0_t1_loop.trips) (t2 : Fin k0_t2_loop.trips), k0_off21 t1 t2 = ![(t1.val + 1) % 2, 144, 128 * t2.val] := by decide +kernel
theorem off22_eq : ∀ (t1 : Fin k0_t1_loop.trips) (t2 : Fin k0_t2_loop.trips), k0_off22 t1 t2 = ![(t1.val + 1) % 2, 152, 128 * t2.val] := by decide +kernel
theorem off23_eq : ∀ (t1 : Fin k0_t1_loop.trips) (t2 : Fin k0_t2_loop.trips), k0_off23 t1 t2 = ![(t1.val + 1) % 2, 160, 128 * t2.val] := by decide +kernel
theorem off24_eq : ∀ (t1 : Fin k0_t1_loop.trips) (t2 : Fin k0_t2_loop.trips), k0_off24 t1 t2 = ![(t1.val + 1) % 2, 168, 128 * t2.val] := by decide +kernel
theorem off25_eq : ∀ (t1 : Fin k0_t1_loop.trips) (t2 : Fin k0_t2_loop.trips), k0_off25 t1 t2 = ![(t1.val + 1) % 2, 176, 128 * t2.val] := by decide +kernel
theorem off26_eq : ∀ (t1 : Fin k0_t1_loop.trips) (t2 : Fin k0_t2_loop.trips), k0_off26 t1 t2 = ![(t1.val + 1) % 2, 184, 128 * t2.val] := by decide +kernel
theorem off27_eq : ∀ (t1 : Fin k0_t1_loop.trips) (t2 : Fin k0_t2_loop.trips), k0_off27 t1 t2 = ![(t1.val + 1) % 2, 192, 128 * t2.val] := by decide +kernel
theorem off28_eq : ∀ (t1 : Fin k0_t1_loop.trips) (t2 : Fin k0_t2_loop.trips), k0_off28 t1 t2 = ![(t1.val + 1) % 2, 200, 128 * t2.val] := by decide +kernel
theorem off29_eq : ∀ (t1 : Fin k0_t1_loop.trips) (t2 : Fin k0_t2_loop.trips), k0_off29 t1 t2 = ![(t1.val + 1) % 2, 208, 128 * t2.val] := by decide +kernel
theorem off30_eq : ∀ (t1 : Fin k0_t1_loop.trips) (t2 : Fin k0_t2_loop.trips), k0_off30 t1 t2 = ![(t1.val + 1) % 2, 216, 128 * t2.val] := by decide +kernel
theorem off31_eq : ∀ (t1 : Fin k0_t1_loop.trips) (t2 : Fin k0_t2_loop.trips), k0_off31 t1 t2 = ![(t1.val + 1) % 2, 224, 128 * t2.val] := by decide +kernel
theorem off32_eq : ∀ (t1 : Fin k0_t1_loop.trips) (t2 : Fin k0_t2_loop.trips), k0_off32 t1 t2 = ![(t1.val + 1) % 2, 232, 128 * t2.val] := by decide +kernel
theorem off33_eq : ∀ (t1 : Fin k0_t1_loop.trips) (t2 : Fin k0_t2_loop.trips), k0_off33 t1 t2 = ![(t1.val + 1) % 2, 240, 128 * t2.val] := by decide +kernel
theorem off34_eq : ∀ (t1 : Fin k0_t1_loop.trips) (t2 : Fin k0_t2_loop.trips), k0_off34 t1 t2 = ![(t1.val + 1) % 2, 248, 128 * t2.val] := by decide +kernel
theorem off35_eq : ∀ (t1 : Fin k0_t1_loop.trips) (t2 : Fin k0_t2_loop.trips), k0_off35 t1 t2 = ![(t1.val + 1) % 2, 256, 128 * t2.val] := by decide +kernel
theorem off36_eq : ∀ (t1 : Fin k0_t1_loop.trips) (t2 : Fin k0_t2_loop.trips), k0_off36 t1 t2 = ![(t1.val + 1) % 2, 264, 128 * t2.val] := by decide +kernel
theorem off37_eq : ∀ (t1 : Fin k0_t1_loop.trips) (t2 : Fin k0_t2_loop.trips), k0_off37 t1 t2 = ![(t1.val + 1) % 2, 272, 128 * t2.val] := by decide +kernel
theorem off38_eq : ∀ (t1 : Fin k0_t1_loop.trips) (t2 : Fin k0_t2_loop.trips), k0_off38 t1 t2 = ![(t1.val + 1) % 2, 280, 128 * t2.val] := by decide +kernel
theorem off39_eq : ∀ (t1 : Fin k0_t1_loop.trips) (t2 : Fin k0_t2_loop.trips), k0_off39 t1 t2 = ![(t1.val + 1) % 2, 288, 128 * t2.val] := by decide +kernel
theorem off40_eq : ∀ (t1 : Fin k0_t1_loop.trips) (t2 : Fin k0_t2_loop.trips), k0_off40 t1 t2 = ![(t1.val + 1) % 2, 296, 128 * t2.val] := by decide +kernel
theorem off41_eq : ∀ (t1 : Fin k0_t1_loop.trips) (t2 : Fin k0_t2_loop.trips), k0_off41 t1 t2 = ![(t1.val + 1) % 2, 304, 128 * t2.val] := by decide +kernel
theorem off42_eq : ∀ (t1 : Fin k0_t1_loop.trips) (t2 : Fin k0_t2_loop.trips), k0_off42 t1 t2 = ![(t1.val + 1) % 2, 312, 128 * t2.val] := by decide +kernel
theorem off43_eq : ∀ (t1 : Fin k0_t1_loop.trips) (t2 : Fin k0_t2_loop.trips), k0_off43 t1 t2 = ![(t1.val + 1) % 2, 320, 128 * t2.val] := by decide +kernel
theorem off44_eq : ∀ (t1 : Fin k0_t1_loop.trips) (t2 : Fin k0_t2_loop.trips), k0_off44 t1 t2 = ![(t1.val + 1) % 2, 328, 128 * t2.val] := by decide +kernel
theorem off45_eq : ∀ (t1 : Fin k0_t1_loop.trips) (t2 : Fin k0_t2_loop.trips), k0_off45 t1 t2 = ![(t1.val + 1) % 2, 336, 128 * t2.val] := by decide +kernel
theorem off46_eq : ∀ (t1 : Fin k0_t1_loop.trips) (t2 : Fin k0_t2_loop.trips), k0_off46 t1 t2 = ![(t1.val + 1) % 2, 344, 128 * t2.val] := by decide +kernel
theorem off47_eq : ∀ (t1 : Fin k0_t1_loop.trips) (t2 : Fin k0_t2_loop.trips), k0_off47 t1 t2 = ![(t1.val + 1) % 2, 352, 128 * t2.val] := by decide +kernel
theorem off48_eq : ∀ (t1 : Fin k0_t1_loop.trips) (t2 : Fin k0_t2_loop.trips), k0_off48 t1 t2 = ![(t1.val + 1) % 2, 360, 128 * t2.val] := by decide +kernel
theorem off49_eq : ∀ (t1 : Fin k0_t1_loop.trips) (t2 : Fin k0_t2_loop.trips), k0_off49 t1 t2 = ![(t1.val + 1) % 2, 368, 128 * t2.val] := by decide +kernel
theorem off50_eq : ∀ (t1 : Fin k0_t1_loop.trips) (t2 : Fin k0_t2_loop.trips), k0_off50 t1 t2 = ![(t1.val + 1) % 2, 376, 128 * t2.val] := by decide +kernel
theorem off51_eq : ∀ (t1 : Fin k0_t1_loop.trips) (t2 : Fin k0_t2_loop.trips), k0_off51 t1 t2 = ![0, (if t1.val = 0 then 3584 else 512 * (t1.val - 1)) + 128 * t2.val] := by decide +kernel
theorem off52_eq : ∀ (t1 : Fin k0_t1_loop.trips) (t3 : Fin k0_t3_loop.trips) (t4 : Fin k0_t4_loop.trips), k0_off52 t1 t3 t4 = ![t4.val, (if t1.val = 0 then 3584 else 512 * (t1.val - 1)) + 128 * t3.val] := by decide +kernel
theorem off53_eq : ∀ (t1 : Fin k0_t1_loop.trips) (t3 : Fin k0_t3_loop.trips), k0_off53 t1 t3 = ![(t1.val + 1) % 2, 0, 128 * t3.val] := by decide +kernel
theorem off54_eq : ∀ (t1 : Fin k0_t1_loop.trips) (t3 : Fin k0_t3_loop.trips), k0_off54 t1 t3 = ![(t1.val + 1) % 2, 8, 128 * t3.val] := by decide +kernel
theorem off55_eq : ∀ (t1 : Fin k0_t1_loop.trips) (t3 : Fin k0_t3_loop.trips), k0_off55 t1 t3 = ![(t1.val + 1) % 2, 16, 128 * t3.val] := by decide +kernel
theorem off56_eq : ∀ (t1 : Fin k0_t1_loop.trips) (t3 : Fin k0_t3_loop.trips), k0_off56 t1 t3 = ![(t1.val + 1) % 2, 24, 128 * t3.val] := by decide +kernel
theorem off57_eq : ∀ (t1 : Fin k0_t1_loop.trips) (t3 : Fin k0_t3_loop.trips), k0_off57 t1 t3 = ![(t1.val + 1) % 2, 32, 128 * t3.val] := by decide +kernel
theorem off58_eq : ∀ (t1 : Fin k0_t1_loop.trips) (t3 : Fin k0_t3_loop.trips), k0_off58 t1 t3 = ![(t1.val + 1) % 2, 40, 128 * t3.val] := by decide +kernel
theorem off59_eq : ∀ (t1 : Fin k0_t1_loop.trips) (t3 : Fin k0_t3_loop.trips), k0_off59 t1 t3 = ![(t1.val + 1) % 2, 48, 128 * t3.val] := by decide +kernel
theorem off60_eq : ∀ (t1 : Fin k0_t1_loop.trips) (t3 : Fin k0_t3_loop.trips), k0_off60 t1 t3 = ![(t1.val + 1) % 2, 56, 128 * t3.val] := by decide +kernel
theorem off61_eq : ∀ (t1 : Fin k0_t1_loop.trips) (t3 : Fin k0_t3_loop.trips), k0_off61 t1 t3 = ![(t1.val + 1) % 2, 64, 128 * t3.val] := by decide +kernel
theorem off62_eq : ∀ (t1 : Fin k0_t1_loop.trips) (t3 : Fin k0_t3_loop.trips), k0_off62 t1 t3 = ![(t1.val + 1) % 2, 72, 128 * t3.val] := by decide +kernel
theorem off63_eq : ∀ (t1 : Fin k0_t1_loop.trips) (t3 : Fin k0_t3_loop.trips), k0_off63 t1 t3 = ![(t1.val + 1) % 2, 80, 128 * t3.val] := by decide +kernel
theorem off64_eq : ∀ (t1 : Fin k0_t1_loop.trips) (t3 : Fin k0_t3_loop.trips), k0_off64 t1 t3 = ![(t1.val + 1) % 2, 88, 128 * t3.val] := by decide +kernel
theorem off65_eq : ∀ (t1 : Fin k0_t1_loop.trips) (t3 : Fin k0_t3_loop.trips), k0_off65 t1 t3 = ![(t1.val + 1) % 2, 96, 128 * t3.val] := by decide +kernel
theorem off66_eq : ∀ (t1 : Fin k0_t1_loop.trips) (t3 : Fin k0_t3_loop.trips), k0_off66 t1 t3 = ![(t1.val + 1) % 2, 104, 128 * t3.val] := by decide +kernel
theorem off67_eq : ∀ (t1 : Fin k0_t1_loop.trips) (t3 : Fin k0_t3_loop.trips), k0_off67 t1 t3 = ![(t1.val + 1) % 2, 112, 128 * t3.val] := by decide +kernel
theorem off68_eq : ∀ (t1 : Fin k0_t1_loop.trips) (t3 : Fin k0_t3_loop.trips), k0_off68 t1 t3 = ![(t1.val + 1) % 2, 120, 128 * t3.val] := by decide +kernel
theorem off69_eq : ∀ (t1 : Fin k0_t1_loop.trips) (t3 : Fin k0_t3_loop.trips), k0_off69 t1 t3 = ![(t1.val + 1) % 2, 128, 128 * t3.val] := by decide +kernel
theorem off70_eq : ∀ (t1 : Fin k0_t1_loop.trips) (t3 : Fin k0_t3_loop.trips), k0_off70 t1 t3 = ![(t1.val + 1) % 2, 136, 128 * t3.val] := by decide +kernel
theorem off71_eq : ∀ (t1 : Fin k0_t1_loop.trips) (t3 : Fin k0_t3_loop.trips), k0_off71 t1 t3 = ![(t1.val + 1) % 2, 144, 128 * t3.val] := by decide +kernel
theorem off72_eq : ∀ (t1 : Fin k0_t1_loop.trips) (t3 : Fin k0_t3_loop.trips), k0_off72 t1 t3 = ![(t1.val + 1) % 2, 152, 128 * t3.val] := by decide +kernel
theorem off73_eq : ∀ (t1 : Fin k0_t1_loop.trips) (t3 : Fin k0_t3_loop.trips), k0_off73 t1 t3 = ![(t1.val + 1) % 2, 160, 128 * t3.val] := by decide +kernel
theorem off74_eq : ∀ (t1 : Fin k0_t1_loop.trips) (t3 : Fin k0_t3_loop.trips), k0_off74 t1 t3 = ![(t1.val + 1) % 2, 168, 128 * t3.val] := by decide +kernel
theorem off75_eq : ∀ (t1 : Fin k0_t1_loop.trips) (t3 : Fin k0_t3_loop.trips), k0_off75 t1 t3 = ![(t1.val + 1) % 2, 176, 128 * t3.val] := by decide +kernel
theorem off76_eq : ∀ (t1 : Fin k0_t1_loop.trips) (t3 : Fin k0_t3_loop.trips), k0_off76 t1 t3 = ![(t1.val + 1) % 2, 184, 128 * t3.val] := by decide +kernel
theorem off77_eq : ∀ (t1 : Fin k0_t1_loop.trips) (t3 : Fin k0_t3_loop.trips), k0_off77 t1 t3 = ![(t1.val + 1) % 2, 192, 128 * t3.val] := by decide +kernel
theorem off78_eq : ∀ (t1 : Fin k0_t1_loop.trips) (t3 : Fin k0_t3_loop.trips), k0_off78 t1 t3 = ![(t1.val + 1) % 2, 200, 128 * t3.val] := by decide +kernel
theorem off79_eq : ∀ (t1 : Fin k0_t1_loop.trips) (t3 : Fin k0_t3_loop.trips), k0_off79 t1 t3 = ![(t1.val + 1) % 2, 208, 128 * t3.val] := by decide +kernel
theorem off80_eq : ∀ (t1 : Fin k0_t1_loop.trips) (t3 : Fin k0_t3_loop.trips), k0_off80 t1 t3 = ![(t1.val + 1) % 2, 216, 128 * t3.val] := by decide +kernel
theorem off81_eq : ∀ (t1 : Fin k0_t1_loop.trips) (t3 : Fin k0_t3_loop.trips), k0_off81 t1 t3 = ![(t1.val + 1) % 2, 224, 128 * t3.val] := by decide +kernel
theorem off82_eq : ∀ (t1 : Fin k0_t1_loop.trips) (t3 : Fin k0_t3_loop.trips), k0_off82 t1 t3 = ![(t1.val + 1) % 2, 232, 128 * t3.val] := by decide +kernel
theorem off83_eq : ∀ (t1 : Fin k0_t1_loop.trips) (t3 : Fin k0_t3_loop.trips), k0_off83 t1 t3 = ![(t1.val + 1) % 2, 240, 128 * t3.val] := by decide +kernel
theorem off84_eq : ∀ (t1 : Fin k0_t1_loop.trips) (t3 : Fin k0_t3_loop.trips), k0_off84 t1 t3 = ![(t1.val + 1) % 2, 248, 128 * t3.val] := by decide +kernel
theorem off85_eq : ∀ (t1 : Fin k0_t1_loop.trips) (t3 : Fin k0_t3_loop.trips), k0_off85 t1 t3 = ![(t1.val + 1) % 2, 256, 128 * t3.val] := by decide +kernel
theorem off86_eq : ∀ (t1 : Fin k0_t1_loop.trips) (t3 : Fin k0_t3_loop.trips), k0_off86 t1 t3 = ![(t1.val + 1) % 2, 264, 128 * t3.val] := by decide +kernel
theorem off87_eq : ∀ (t1 : Fin k0_t1_loop.trips) (t3 : Fin k0_t3_loop.trips), k0_off87 t1 t3 = ![(t1.val + 1) % 2, 272, 128 * t3.val] := by decide +kernel
theorem off88_eq : ∀ (t1 : Fin k0_t1_loop.trips) (t3 : Fin k0_t3_loop.trips), k0_off88 t1 t3 = ![(t1.val + 1) % 2, 280, 128 * t3.val] := by decide +kernel
theorem off89_eq : ∀ (t1 : Fin k0_t1_loop.trips) (t3 : Fin k0_t3_loop.trips), k0_off89 t1 t3 = ![(t1.val + 1) % 2, 288, 128 * t3.val] := by decide +kernel
theorem off90_eq : ∀ (t1 : Fin k0_t1_loop.trips) (t3 : Fin k0_t3_loop.trips), k0_off90 t1 t3 = ![(t1.val + 1) % 2, 296, 128 * t3.val] := by decide +kernel
theorem off91_eq : ∀ (t1 : Fin k0_t1_loop.trips) (t3 : Fin k0_t3_loop.trips), k0_off91 t1 t3 = ![(t1.val + 1) % 2, 304, 128 * t3.val] := by decide +kernel
theorem off92_eq : ∀ (t1 : Fin k0_t1_loop.trips) (t3 : Fin k0_t3_loop.trips), k0_off92 t1 t3 = ![(t1.val + 1) % 2, 312, 128 * t3.val] := by decide +kernel
theorem off93_eq : ∀ (t1 : Fin k0_t1_loop.trips) (t3 : Fin k0_t3_loop.trips), k0_off93 t1 t3 = ![(t1.val + 1) % 2, 320, 128 * t3.val] := by decide +kernel
theorem off94_eq : ∀ (t1 : Fin k0_t1_loop.trips) (t3 : Fin k0_t3_loop.trips), k0_off94 t1 t3 = ![(t1.val + 1) % 2, 328, 128 * t3.val] := by decide +kernel
theorem off95_eq : ∀ (t1 : Fin k0_t1_loop.trips) (t3 : Fin k0_t3_loop.trips), k0_off95 t1 t3 = ![(t1.val + 1) % 2, 336, 128 * t3.val] := by decide +kernel
theorem off96_eq : ∀ (t1 : Fin k0_t1_loop.trips) (t3 : Fin k0_t3_loop.trips), k0_off96 t1 t3 = ![(t1.val + 1) % 2, 344, 128 * t3.val] := by decide +kernel
theorem off97_eq : ∀ (t1 : Fin k0_t1_loop.trips) (t3 : Fin k0_t3_loop.trips), k0_off97 t1 t3 = ![(t1.val + 1) % 2, 352, 128 * t3.val] := by decide +kernel
theorem off98_eq : ∀ (t1 : Fin k0_t1_loop.trips) (t3 : Fin k0_t3_loop.trips), k0_off98 t1 t3 = ![(t1.val + 1) % 2, 360, 128 * t3.val] := by decide +kernel
theorem off99_eq : ∀ (t1 : Fin k0_t1_loop.trips) (t3 : Fin k0_t3_loop.trips), k0_off99 t1 t3 = ![(t1.val + 1) % 2, 368, 128 * t3.val] := by decide +kernel
theorem off100_eq : ∀ (t1 : Fin k0_t1_loop.trips) (t3 : Fin k0_t3_loop.trips), k0_off100 t1 t3 = ![(t1.val + 1) % 2, 376, 128 * t3.val] := by decide +kernel
theorem off101_eq : ∀ (t1 : Fin k0_t1_loop.trips) (t3 : Fin k0_t3_loop.trips) (t4 : Fin k0_t4_loop.trips), k0_off101 t1 t3 t4 = ![t4.val, 0, (if t1.val = 0 then 3584 else 512 * (t1.val - 1)) + 128 * t3.val] := by decide +kernel
theorem off102_eq : ∀ (t5 : Fin k0_t5_loop.trips), k0_off102 t5 = ![1, 0, 128 * t5.val] := by decide +kernel
theorem off103_eq : ∀ (t5 : Fin k0_t5_loop.trips), k0_off103 t5 = ![1, 8, 128 * t5.val] := by decide +kernel
theorem off104_eq : ∀ (t5 : Fin k0_t5_loop.trips), k0_off104 t5 = ![1, 16, 128 * t5.val] := by decide +kernel
theorem off105_eq : ∀ (t5 : Fin k0_t5_loop.trips), k0_off105 t5 = ![1, 24, 128 * t5.val] := by decide +kernel
theorem off106_eq : ∀ (t5 : Fin k0_t5_loop.trips), k0_off106 t5 = ![1, 32, 128 * t5.val] := by decide +kernel
theorem off107_eq : ∀ (t5 : Fin k0_t5_loop.trips), k0_off107 t5 = ![1, 40, 128 * t5.val] := by decide +kernel
theorem off108_eq : ∀ (t5 : Fin k0_t5_loop.trips), k0_off108 t5 = ![1, 48, 128 * t5.val] := by decide +kernel
theorem off109_eq : ∀ (t5 : Fin k0_t5_loop.trips), k0_off109 t5 = ![1, 56, 128 * t5.val] := by decide +kernel
theorem off110_eq : ∀ (t5 : Fin k0_t5_loop.trips), k0_off110 t5 = ![1, 64, 128 * t5.val] := by decide +kernel
theorem off111_eq : ∀ (t5 : Fin k0_t5_loop.trips), k0_off111 t5 = ![1, 72, 128 * t5.val] := by decide +kernel
theorem off112_eq : ∀ (t5 : Fin k0_t5_loop.trips), k0_off112 t5 = ![1, 80, 128 * t5.val] := by decide +kernel
theorem off113_eq : ∀ (t5 : Fin k0_t5_loop.trips), k0_off113 t5 = ![1, 88, 128 * t5.val] := by decide +kernel
theorem off114_eq : ∀ (t5 : Fin k0_t5_loop.trips), k0_off114 t5 = ![1, 96, 128 * t5.val] := by decide +kernel
theorem off115_eq : ∀ (t5 : Fin k0_t5_loop.trips), k0_off115 t5 = ![1, 104, 128 * t5.val] := by decide +kernel
theorem off116_eq : ∀ (t5 : Fin k0_t5_loop.trips), k0_off116 t5 = ![1, 112, 128 * t5.val] := by decide +kernel
theorem off117_eq : ∀ (t5 : Fin k0_t5_loop.trips), k0_off117 t5 = ![1, 120, 128 * t5.val] := by decide +kernel
theorem off118_eq : ∀ (t5 : Fin k0_t5_loop.trips), k0_off118 t5 = ![1, 128, 128 * t5.val] := by decide +kernel
theorem off119_eq : ∀ (t5 : Fin k0_t5_loop.trips), k0_off119 t5 = ![1, 136, 128 * t5.val] := by decide +kernel
theorem off120_eq : ∀ (t5 : Fin k0_t5_loop.trips), k0_off120 t5 = ![1, 144, 128 * t5.val] := by decide +kernel
theorem off121_eq : ∀ (t5 : Fin k0_t5_loop.trips), k0_off121 t5 = ![1, 152, 128 * t5.val] := by decide +kernel
theorem off122_eq : ∀ (t5 : Fin k0_t5_loop.trips), k0_off122 t5 = ![1, 160, 128 * t5.val] := by decide +kernel
theorem off123_eq : ∀ (t5 : Fin k0_t5_loop.trips), k0_off123 t5 = ![1, 168, 128 * t5.val] := by decide +kernel
theorem off124_eq : ∀ (t5 : Fin k0_t5_loop.trips), k0_off124 t5 = ![1, 176, 128 * t5.val] := by decide +kernel
theorem off125_eq : ∀ (t5 : Fin k0_t5_loop.trips), k0_off125 t5 = ![1, 184, 128 * t5.val] := by decide +kernel
theorem off126_eq : ∀ (t5 : Fin k0_t5_loop.trips), k0_off126 t5 = ![1, 192, 128 * t5.val] := by decide +kernel
theorem off127_eq : ∀ (t5 : Fin k0_t5_loop.trips), k0_off127 t5 = ![1, 200, 128 * t5.val] := by decide +kernel
theorem off128_eq : ∀ (t5 : Fin k0_t5_loop.trips), k0_off128 t5 = ![1, 208, 128 * t5.val] := by decide +kernel
theorem off129_eq : ∀ (t5 : Fin k0_t5_loop.trips), k0_off129 t5 = ![1, 216, 128 * t5.val] := by decide +kernel
theorem off130_eq : ∀ (t5 : Fin k0_t5_loop.trips), k0_off130 t5 = ![1, 224, 128 * t5.val] := by decide +kernel
theorem off131_eq : ∀ (t5 : Fin k0_t5_loop.trips), k0_off131 t5 = ![1, 232, 128 * t5.val] := by decide +kernel
theorem off132_eq : ∀ (t5 : Fin k0_t5_loop.trips), k0_off132 t5 = ![1, 240, 128 * t5.val] := by decide +kernel
theorem off133_eq : ∀ (t5 : Fin k0_t5_loop.trips), k0_off133 t5 = ![1, 248, 128 * t5.val] := by decide +kernel
theorem off134_eq : ∀ (t5 : Fin k0_t5_loop.trips), k0_off134 t5 = ![1, 256, 128 * t5.val] := by decide +kernel
theorem off135_eq : ∀ (t5 : Fin k0_t5_loop.trips), k0_off135 t5 = ![1, 264, 128 * t5.val] := by decide +kernel
theorem off136_eq : ∀ (t5 : Fin k0_t5_loop.trips), k0_off136 t5 = ![1, 272, 128 * t5.val] := by decide +kernel
theorem off137_eq : ∀ (t5 : Fin k0_t5_loop.trips), k0_off137 t5 = ![1, 280, 128 * t5.val] := by decide +kernel
theorem off138_eq : ∀ (t5 : Fin k0_t5_loop.trips), k0_off138 t5 = ![1, 288, 128 * t5.val] := by decide +kernel
theorem off139_eq : ∀ (t5 : Fin k0_t5_loop.trips), k0_off139 t5 = ![1, 296, 128 * t5.val] := by decide +kernel
theorem off140_eq : ∀ (t5 : Fin k0_t5_loop.trips), k0_off140 t5 = ![1, 304, 128 * t5.val] := by decide +kernel
theorem off141_eq : ∀ (t5 : Fin k0_t5_loop.trips), k0_off141 t5 = ![1, 312, 128 * t5.val] := by decide +kernel
theorem off142_eq : ∀ (t5 : Fin k0_t5_loop.trips), k0_off142 t5 = ![1, 320, 128 * t5.val] := by decide +kernel
theorem off143_eq : ∀ (t5 : Fin k0_t5_loop.trips), k0_off143 t5 = ![1, 328, 128 * t5.val] := by decide +kernel
theorem off144_eq : ∀ (t5 : Fin k0_t5_loop.trips), k0_off144 t5 = ![1, 336, 128 * t5.val] := by decide +kernel
theorem off145_eq : ∀ (t5 : Fin k0_t5_loop.trips), k0_off145 t5 = ![1, 344, 128 * t5.val] := by decide +kernel
theorem off146_eq : ∀ (t5 : Fin k0_t5_loop.trips), k0_off146 t5 = ![1, 352, 128 * t5.val] := by decide +kernel
theorem off147_eq : ∀ (t5 : Fin k0_t5_loop.trips), k0_off147 t5 = ![1, 360, 128 * t5.val] := by decide +kernel
theorem off148_eq : ∀ (t5 : Fin k0_t5_loop.trips), k0_off148 t5 = ![1, 368, 128 * t5.val] := by decide +kernel
theorem off149_eq : ∀ (t5 : Fin k0_t5_loop.trips), k0_off149 t5 = ![1, 376, 128 * t5.val] := by decide +kernel
theorem off150_eq : ∀ (t5 : Fin k0_t5_loop.trips), k0_off150 t5 = ![0, 3584 + 128 * t5.val] := by decide +kernel
theorem off151_eq : ∀ (t6 : Fin k0_t6_loop.trips) (t7 : Fin k0_t7_loop.trips), k0_off151 t6 t7 = ![t7.val, 3584 + 128 * t6.val] := by decide +kernel
theorem off152_eq : ∀ (t6 : Fin k0_t6_loop.trips), k0_off152 t6 = ![1, 0, 128 * t6.val] := by decide +kernel
theorem off153_eq : ∀ (t6 : Fin k0_t6_loop.trips), k0_off153 t6 = ![1, 8, 128 * t6.val] := by decide +kernel
theorem off154_eq : ∀ (t6 : Fin k0_t6_loop.trips), k0_off154 t6 = ![1, 16, 128 * t6.val] := by decide +kernel
theorem off155_eq : ∀ (t6 : Fin k0_t6_loop.trips), k0_off155 t6 = ![1, 24, 128 * t6.val] := by decide +kernel
theorem off156_eq : ∀ (t6 : Fin k0_t6_loop.trips), k0_off156 t6 = ![1, 32, 128 * t6.val] := by decide +kernel
theorem off157_eq : ∀ (t6 : Fin k0_t6_loop.trips), k0_off157 t6 = ![1, 40, 128 * t6.val] := by decide +kernel
theorem off158_eq : ∀ (t6 : Fin k0_t6_loop.trips), k0_off158 t6 = ![1, 48, 128 * t6.val] := by decide +kernel
theorem off159_eq : ∀ (t6 : Fin k0_t6_loop.trips), k0_off159 t6 = ![1, 56, 128 * t6.val] := by decide +kernel
theorem off160_eq : ∀ (t6 : Fin k0_t6_loop.trips), k0_off160 t6 = ![1, 64, 128 * t6.val] := by decide +kernel
theorem off161_eq : ∀ (t6 : Fin k0_t6_loop.trips), k0_off161 t6 = ![1, 72, 128 * t6.val] := by decide +kernel
theorem off162_eq : ∀ (t6 : Fin k0_t6_loop.trips), k0_off162 t6 = ![1, 80, 128 * t6.val] := by decide +kernel
theorem off163_eq : ∀ (t6 : Fin k0_t6_loop.trips), k0_off163 t6 = ![1, 88, 128 * t6.val] := by decide +kernel
theorem off164_eq : ∀ (t6 : Fin k0_t6_loop.trips), k0_off164 t6 = ![1, 96, 128 * t6.val] := by decide +kernel
theorem off165_eq : ∀ (t6 : Fin k0_t6_loop.trips), k0_off165 t6 = ![1, 104, 128 * t6.val] := by decide +kernel
theorem off166_eq : ∀ (t6 : Fin k0_t6_loop.trips), k0_off166 t6 = ![1, 112, 128 * t6.val] := by decide +kernel
theorem off167_eq : ∀ (t6 : Fin k0_t6_loop.trips), k0_off167 t6 = ![1, 120, 128 * t6.val] := by decide +kernel
theorem off168_eq : ∀ (t6 : Fin k0_t6_loop.trips), k0_off168 t6 = ![1, 128, 128 * t6.val] := by decide +kernel
theorem off169_eq : ∀ (t6 : Fin k0_t6_loop.trips), k0_off169 t6 = ![1, 136, 128 * t6.val] := by decide +kernel
theorem off170_eq : ∀ (t6 : Fin k0_t6_loop.trips), k0_off170 t6 = ![1, 144, 128 * t6.val] := by decide +kernel
theorem off171_eq : ∀ (t6 : Fin k0_t6_loop.trips), k0_off171 t6 = ![1, 152, 128 * t6.val] := by decide +kernel
theorem off172_eq : ∀ (t6 : Fin k0_t6_loop.trips), k0_off172 t6 = ![1, 160, 128 * t6.val] := by decide +kernel
theorem off173_eq : ∀ (t6 : Fin k0_t6_loop.trips), k0_off173 t6 = ![1, 168, 128 * t6.val] := by decide +kernel
theorem off174_eq : ∀ (t6 : Fin k0_t6_loop.trips), k0_off174 t6 = ![1, 176, 128 * t6.val] := by decide +kernel
theorem off175_eq : ∀ (t6 : Fin k0_t6_loop.trips), k0_off175 t6 = ![1, 184, 128 * t6.val] := by decide +kernel
theorem off176_eq : ∀ (t6 : Fin k0_t6_loop.trips), k0_off176 t6 = ![1, 192, 128 * t6.val] := by decide +kernel
theorem off177_eq : ∀ (t6 : Fin k0_t6_loop.trips), k0_off177 t6 = ![1, 200, 128 * t6.val] := by decide +kernel
theorem off178_eq : ∀ (t6 : Fin k0_t6_loop.trips), k0_off178 t6 = ![1, 208, 128 * t6.val] := by decide +kernel
theorem off179_eq : ∀ (t6 : Fin k0_t6_loop.trips), k0_off179 t6 = ![1, 216, 128 * t6.val] := by decide +kernel
theorem off180_eq : ∀ (t6 : Fin k0_t6_loop.trips), k0_off180 t6 = ![1, 224, 128 * t6.val] := by decide +kernel
theorem off181_eq : ∀ (t6 : Fin k0_t6_loop.trips), k0_off181 t6 = ![1, 232, 128 * t6.val] := by decide +kernel
theorem off182_eq : ∀ (t6 : Fin k0_t6_loop.trips), k0_off182 t6 = ![1, 240, 128 * t6.val] := by decide +kernel
theorem off183_eq : ∀ (t6 : Fin k0_t6_loop.trips), k0_off183 t6 = ![1, 248, 128 * t6.val] := by decide +kernel
theorem off184_eq : ∀ (t6 : Fin k0_t6_loop.trips), k0_off184 t6 = ![1, 256, 128 * t6.val] := by decide +kernel
theorem off185_eq : ∀ (t6 : Fin k0_t6_loop.trips), k0_off185 t6 = ![1, 264, 128 * t6.val] := by decide +kernel
theorem off186_eq : ∀ (t6 : Fin k0_t6_loop.trips), k0_off186 t6 = ![1, 272, 128 * t6.val] := by decide +kernel
theorem off187_eq : ∀ (t6 : Fin k0_t6_loop.trips), k0_off187 t6 = ![1, 280, 128 * t6.val] := by decide +kernel
theorem off188_eq : ∀ (t6 : Fin k0_t6_loop.trips), k0_off188 t6 = ![1, 288, 128 * t6.val] := by decide +kernel
theorem off189_eq : ∀ (t6 : Fin k0_t6_loop.trips), k0_off189 t6 = ![1, 296, 128 * t6.val] := by decide +kernel
theorem off190_eq : ∀ (t6 : Fin k0_t6_loop.trips), k0_off190 t6 = ![1, 304, 128 * t6.val] := by decide +kernel
theorem off191_eq : ∀ (t6 : Fin k0_t6_loop.trips), k0_off191 t6 = ![1, 312, 128 * t6.val] := by decide +kernel
theorem off192_eq : ∀ (t6 : Fin k0_t6_loop.trips), k0_off192 t6 = ![1, 320, 128 * t6.val] := by decide +kernel
theorem off193_eq : ∀ (t6 : Fin k0_t6_loop.trips), k0_off193 t6 = ![1, 328, 128 * t6.val] := by decide +kernel
theorem off194_eq : ∀ (t6 : Fin k0_t6_loop.trips), k0_off194 t6 = ![1, 336, 128 * t6.val] := by decide +kernel
theorem off195_eq : ∀ (t6 : Fin k0_t6_loop.trips), k0_off195 t6 = ![1, 344, 128 * t6.val] := by decide +kernel
theorem off196_eq : ∀ (t6 : Fin k0_t6_loop.trips), k0_off196 t6 = ![1, 352, 128 * t6.val] := by decide +kernel
theorem off197_eq : ∀ (t6 : Fin k0_t6_loop.trips), k0_off197 t6 = ![1, 360, 128 * t6.val] := by decide +kernel
theorem off198_eq : ∀ (t6 : Fin k0_t6_loop.trips), k0_off198 t6 = ![1, 368, 128 * t6.val] := by decide +kernel
theorem off199_eq : ∀ (t6 : Fin k0_t6_loop.trips), k0_off199 t6 = ![1, 376, 128 * t6.val] := by decide +kernel
theorem off200_eq : ∀ (t6 : Fin k0_t6_loop.trips) (t7 : Fin k0_t7_loop.trips), k0_off200 t6 t7 = ![t7.val, 0, 3584 + 128 * t6.val] := by decide +kernel

end Cert.KernelIdeal.Val
end
-- ==== Proof.VT2.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.Pipeline.Value
public import proofs.«01_k».proof.Proof.VSpec
public import proofs.«01_k».proof.Proof.VOff

@[expose] public section

set_option maxRecDepth 100000
set_option maxHeartbeats 4000000

/-! One trip of the loop over a tile's columns: what it leaves in the running statistics. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

theorem close2 (v : BitVec 1) (a : F .f32) (b : S8x128.Idx → F .f32) (x : S8x128.Idx) :
    shapeCast S8x128 (Scalar.select v (broadcast S8x128 a) b) shapeCasts_S8x128_S8x128 x = Scalar.select v a (b x) := by
  rw [shapeCast_self]; unfold Scalar.select; split <;> rfl

def zs2 (t1 : Fin k0_t1_loop.trips) (k : Fin k0_t2_loop.trips) (R10 : S2x384x512.Idx → F .f32) (x : S8x128.Idx) : List (F .f32) :=
  [shapeCast S8x128 (VecWindow.window R10 (k0_off4 t1 k) S1x8x128.size (k0_off4_inb t1 k)) shapeCasts_S1x8x128_S8x128 x, shapeCast S8x128 (VecWindow.window R10 (k0_off5 t1 k) S1x8x128.size (k0_off5_inb t1 k)) shapeCasts_S1x8x128_S8x128 x, shapeCast S8x128 (VecWindow.window R10 (k0_off6 t1 k) S1x8x128.size (k0_off6_inb t1 k)) shapeCasts_S1x8x128_S8x128 x, shapeCast S8x128 (VecWindow.window R10 (k0_off7 t1 k) S1x8x128.size (k0_off7_inb t1 k)) shapeCasts_S1x8x128_S8x128 x, shapeCast S8x128 (VecWindow.window R10 (k0_off8 t1 k) S1x8x128.size (k0_off8_inb t1 k)) shapeCasts_S1x8x128_S8x128 x, shapeCast S8x128 (VecWindow.window R10 (k0_off9 t1 k) S1x8x128.size (k0_off9_inb t1 k)) shapeCasts_S1x8x128_S8x128 x, shapeCast S8x128 (VecWindow.window R10 (k0_off10 t1 k) S1x8x128.size (k0_off10_inb t1 k)) shapeCasts_S1x8x128_S8x128 x, shapeCast S8x128 (VecWindow.window R10 (k0_off11 t1 k) S1x8x128.size (k0_off11_inb t1 k)) shapeCasts_S1x8x128_S8x128 x, shapeCast S8x128 (VecWindow.window R10 (k0_off12 t1 k) S1x8x128.size (k0_off12_inb t1 k)) shapeCasts_S1x8x128_S8x128 x, shapeCast S8x128 (VecWindow.window R10 (k0_off13 t1 k) S1x8x128.size (k0_off13_inb t1 k)) shapeCasts_S1x8x128_S8x128 x, shapeCast S8x128 (VecWindow.window R10 (k0_off14 t1 k) S1x8x128.size (k0_off14_inb t1 k)) shapeCasts_S1x8x128_S8x128 x, shapeCast S8x128 (VecWindow.window R10 (k0_off15 t1 k) S1x8x128.size (k0_off15_inb t1 k)) shapeCasts_S1x8x128_S8x128 x, shapeCast S8x128 (VecWindow.window R10 (k0_off16 t1 k) S1x8x128.size (k0_off16_inb t1 k)) shapeCasts_S1x8x128_S8x128 x, shapeCast S8x128 (VecWindow.window R10 (k0_off17 t1 k) S1x8x128.size (k0_off17_inb t1 k)) shapeCasts_S1x8x128_S8x128 x, shapeCast S8x128 (VecWindow.window R10 (k0_off18 t1 k) S1x8x128.size (k0_off18_inb t1 k)) shapeCasts_S1x8x128_S8x128 x, shapeCast S8x128 (VecWindow.window R10 (k0_off19 t1 k) S1x8x128.size (k0_off19_inb t1 k)) shapeCasts_S1x8x128_S8x128 x, shapeCast S8x128 (VecWindow.window R10 (k0_off20 t1 k) S1x8x128.size (k0_off20_inb t1 k)) shapeCasts_S1x8x128_S8x128 x, shapeCast S8x128 (VecWindow.window R10 (k0_off21 t1 k) S1x8x128.size (k0_off21_inb t1 k)) shapeCasts_S1x8x128_S8x128 x, shapeCast S8x128 (VecWindow.window R10 (k0_off22 t1 k) S1x8x128.size (k0_off22_inb t1 k)) shapeCasts_S1x8x128_S8x128 x, shapeCast S8x128 (VecWindow.window R10 (k0_off23 t1 k) S1x8x128.size (k0_off23_inb t1 k)) shapeCasts_S1x8x128_S8x128 x, shapeCast S8x128 (VecWindow.window R10 (k0_off24 t1 k) S1x8x128.size (k0_off24_inb t1 k)) shapeCasts_S1x8x128_S8x128 x, shapeCast S8x128 (VecWindow.window R10 (k0_off25 t1 k) S1x8x128.size (k0_off25_inb t1 k)) shapeCasts_S1x8x128_S8x128 x, shapeCast S8x128 (VecWindow.window R10 (k0_off26 t1 k) S1x8x128.size (k0_off26_inb t1 k)) shapeCasts_S1x8x128_S8x128 x, shapeCast S8x128 (VecWindow.window R10 (k0_off27 t1 k) S1x8x128.size (k0_off27_inb t1 k)) shapeCasts_S1x8x128_S8x128 x, shapeCast S8x128 (VecWindow.window R10 (k0_off28 t1 k) S1x8x128.size (k0_off28_inb t1 k)) shapeCasts_S1x8x128_S8x128 x, shapeCast S8x128 (VecWindow.window R10 (k0_off29 t1 k) S1x8x128.size (k0_off29_inb t1 k)) shapeCasts_S1x8x128_S8x128 x, shapeCast S8x128 (VecWindow.window R10 (k0_off30 t1 k) S1x8x128.size (k0_off30_inb t1 k)) shapeCasts_S1x8x128_S8x128 x, shapeCast S8x128 (VecWindow.window R10 (k0_off31 t1 k) S1x8x128.size (k0_off31_inb t1 k)) shapeCasts_S1x8x128_S8x128 x, shapeCast S8x128 (VecWindow.window R10 (k0_off32 t1 k) S1x8x128.size (k0_off32_inb t1 k)) shapeCasts_S1x8x128_S8x128 x, shapeCast S8x128 (VecWindow.window R10 (k0_off33 t1 k) S1x8x128.size (k0_off33_inb t1 k)) shapeCasts_S1x8x128_S8x128 x, shapeCast S8x128 (VecWindow.window R10 (k0_off34 t1 k) S1x8x128.size (k0_off34_inb t1 k)) shapeCasts_S1x8x128_S8x128 x, shapeCast S8x128 (VecWindow.window R10 (k0_off35 t1 k) S1x8x128.size (k0_off35_inb t1 k)) shapeCasts_S1x8x128_S8x128 x, shapeCast S8x128 (VecWindow.window R10 (k0_off36 t1 k) S1x8x128.size (k0_off36_inb t1 k)) shapeCasts_S1x8x128_S8x128 x, shapeCast S8x128 (VecWindow.window R10 (k0_off37 t1 k) S1x8x128.size (k0_off37_inb t1 k)) shapeCasts_S1x8x128_S8x128 x, shapeCast S8x128 (VecWindow.window R10 (k0_off38 t1 k) S1x8x128.size (k0_off38_inb t1 k)) shapeCasts_S1x8x128_S8x128 x, shapeCast S8x128 (VecWindow.window R10 (k0_off39 t1 k) S1x8x128.size (k0_off39_inb t1 k)) shapeCasts_S1x8x128_S8x128 x, shapeCast S8x128 (VecWindow.window R10 (k0_off40 t1 k) S1x8x128.size (k0_off40_inb t1 k)) shapeCasts_S1x8x128_S8x128 x, shapeCast S8x128 (VecWindow.window R10 (k0_off41 t1 k) S1x8x128.size (k0_off41_inb t1 k)) shapeCasts_S1x8x128_S8x128 x, shapeCast S8x128 (VecWindow.window R10 (k0_off42 t1 k) S1x8x128.size (k0_off42_inb t1 k)) shapeCasts_S1x8x128_S8x128 x, shapeCast S8x128 (VecWindow.window R10 (k0_off43 t1 k) S1x8x128.size (k0_off43_inb t1 k)) shapeCasts_S1x8x128_S8x128 x, shapeCast S8x128 (VecWindow.window R10 (k0_off44 t1 k) S1x8x128.size (k0_off44_inb t1 k)) shapeCasts_S1x8x128_S8x128 x, shapeCast S8x128 (VecWindow.window R10 (k0_off45 t1 k) S1x8x128.size (k0_off45_inb t1 k)) shapeCasts_S1x8x128_S8x128 x, shapeCast S8x128 (VecWindow.window R10 (k0_off46 t1 k) S1x8x128.size (k0_off46_inb t1 k)) shapeCasts_S1x8x128_S8x128 x, shapeCast S8x128 (VecWindow.window R10 (k0_off47 t1 k) S1x8x128.size (k0_off47_inb t1 k)) shapeCasts_S1x8x128_S8x128 x, shapeCast S8x128 (VecWindow.window R10 (k0_off48 t1 k) S1x8x128.size (k0_off48_inb t1 k)) shapeCasts_S1x8x128_S8x128 x, shapeCast S8x128 (VecWindow.window R10 (k0_off49 t1 k) S1x8x128.size (k0_off49_inb t1 k)) shapeCasts_S1x8x128_S8x128 x, shapeCast S8x128 (VecWindow.window R10 (k0_off50 t1 k) S1x8x128.size (k0_off50_inb t1 k)) shapeCasts_S1x8x128_S8x128 x]
def z02 (t1 : Fin k0_t1_loop.trips) (k : Fin k0_t2_loop.trips) (R10 : S2x384x512.Idx → F .f32) (x : S8x128.Idx) : F .f32 :=
  shapeCast S8x128 (VecWindow.window R10 (k0_off3 t1 k) S1x8x128.size (k0_off3_inb t1 k)) shapeCasts_S1x8x128_S8x128 x
def rd2 (t1 : Fin k0_t1_loop.trips) (k : Fin k0_t2_loop.trips) (R : S8x4096.Idx → F .f32) : FVec F S8x128 .f32 := VecWindow.window R (k0_off51 t1 k) S8x128.size (k0_off51_inb t1 k)
def xs2 (t1 : Fin k0_t1_loop.trips) (k : Fin k0_t2_loop.trips) (R4 : S8x4096.Idx → F .f32) (x : S8x128.Idx) : F .f32 := k0_pay13 (rd2 t1 k R4) x
def m2 (t1 : Fin k0_t1_loop.trips) (k : Fin k0_t2_loop.trips) (R4 : S8x4096.Idx → F .f32) (R10 : S2x384x512.Idx → F .f32) (R11 : S8x4096.Idx → F .f32) (x : S8x128.Idx) : F .f32 := mOf (xs2 t1 k R4 x) (rd2 t1 k R11 x) (z02 t1 k R10 x) (zs2 t1 k R10 x)
def l2 (t1 : Fin k0_t1_loop.trips) (k : Fin k0_t2_loop.trips) (R4 : S8x4096.Idx → F .f32) (R10 : S2x384x512.Idx → F .f32) (R11 : S8x4096.Idx → F .f32) (R12 : S8x4096.Idx → F .f32) (x : S8x128.Idx) : F .f32 :=
  lNew (m2 t1 k R4 R10 R11 x) (rd2 t1 k R11 x) (sumOf (eT (xs2 t1 k R4 x) (m2 t1 k R4 R10 R11 x)) (z02 t1 k R10 x) (zs2 t1 k R10 x)) (rd2 t1 k R12 x)
def s12 (t1 : Fin k0_t1_loop.trips) (k : Fin k0_t2_loop.trips) (R4 : S8x4096.Idx → F .f32) (R10 : S2x384x512.Idx → F .f32) (R11 : S8x4096.Idx → F .f32) (R12 : S8x4096.Idx → F .f32) (R13 : S8x4096.Idx → F .f32) (x : S8x128.Idx) : F .f32 :=
  s1New (m2 t1 k R4 R10 R11 x) (rd2 t1 k R11 x) (sumOf (tT (xs2 t1 k R4 x) (m2 t1 k R4 R10 R11 x)) (z02 t1 k R10 x) (zs2 t1 k R10 x)) (rd2 t1 k R12 x) (rd2 t1 k R13 x)
def s22 (t1 : Fin k0_t1_loop.trips) (k : Fin k0_t2_loop.trips) (R4 : S8x4096.Idx → F .f32) (R10 : S2x384x512.Idx → F .f32) (R11 : S8x4096.Idx → F .f32) (R12 : S8x4096.Idx → F .f32) (R13 : S8x4096.Idx → F .f32) (R14 : S8x4096.Idx → F .f32) (x : S8x128.Idx) : F .f32 :=
  s2New (m2 t1 k R4 R10 R11 x) (rd2 t1 k R11 x) (sumOf (uT (xs2 t1 k R4 x) (m2 t1 k R4 R10 R11 x)) (z02 t1 k R10 x) (zs2 t1 k R10 x)) (rd2 t1 k R12 x) (rd2 t1 k R13 x) (rd2 t1 k R14 x) (FloatOps.ofBits .f32 0x40000000#32)

theorem trip2 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 c17 c1 : BitVec 32) (t1 : Fin k0_t1_loop.trips) (v57 : BitVec 1) (v63 v64 : BitVec 32) (hv : v57 = Scalar.andi (Scalar.cmpi .eq (Scf.iv c17 c1 t1) 0#32) (Scalar.cmpi .eq arg0 0#32)) (k : Fin k0_t2_loop.trips)
    (R4 : S8x4096.Idx → F .f32) (R10 : S2x384x512.Idx → F .f32) (R11 : S8x4096.Idx → F .f32) (R12 : S8x4096.Idx → F .f32) (R13 : S8x4096.Idx → F .f32) (R14 : S8x4096.Idx → F .f32) :
    iprop(owns (c : Thread nD τ) arg4 fullShare R4 ∗ owns (c : Thread nD τ) arg10 fullShare R10 ∗ owns (c : Thread nD τ) arg11 fullShare R11 ∗ owns (c : Thread nD τ) arg12 fullShare R12 ∗ owns (c : Thread nD τ) arg13 fullShare R13 ∗ owns (c : Thread nD τ) arg14 fullShare R14)
      ⊢ (wp frame (wpE (defs₀ (F := F)) Variants.none (c : Thread nD τ) none) Set.univ
          (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 c17 c1 t1 v57 v63 v64 k PUnit.unit) (fun _ => iprop(owns (c : Thread nD τ) arg4 fullShare R4 ∗ owns (c : Thread nD τ) arg10 fullShare R10
            ∗ owns (c : Thread nD τ) arg11 fullShare (VecWindow.put R11 (k0_off51 t1 k) S8x128.size (fun x => Scalar.select v57 (FloatOps.ofBits .f32 0xFCF0BDC2#32) (m2 t1 k R4 R10 R11 x)))
            ∗ owns (c : Thread nD τ) arg12 fullShare (VecWindow.put R12 (k0_off51 t1 k) S8x128.size (fun x => Scalar.select v57 (FloatOps.ofBits .f32 0x00000000#32) (l2 t1 k R4 R10 R11 R12 x)))
            ∗ owns (c : Thread nD τ) arg13 fullShare (VecWindow.put R13 (k0_off51 t1 k) S8x128.size (fun x => Scalar.select v57 (FloatOps.ofBits .f32 0x00000000#32) (s12 t1 k R4 R10 R11 R12 R13 x)))
            ∗ owns (c : Thread nD τ) arg14 fullShare (VecWindow.put R14 (k0_off51 t1 k) S8x128.size (fun x => Scalar.select v57 (FloatOps.ofBits .f32 0x00000000#32) (s22 t1 k R4 R10 R11 R12 R13 R14 x))))) : sProp 𝕄) := by
  unfold owns
  iintro ⟨⟨%X4, %e4, H4⟩, ⟨%X10, %e10, H10⟩, ⟨%X11, %e11, H11⟩, ⟨%X12, %e12, H12⟩, ⟨%X13, %e13, H13⟩, ⟨%X14, %e14, H14⟩⟩
  subst hv; subst e4 e10 e11 e12 e13 e14
  unfold k0_t2_body
  sl_exec
  sl_step
  isplitl [H4]; · iexists X4; isplitr; · ipureintro; rfl
                  iexact H4
  isplitl [H10]; · iexists X10; isplitr; · ipureintro; rfl
                   iexact H10
  isplitl [H11]
  · iexists _; isplitr; swap; · iexact H11
    ipureintro
    rw [View.read_writes_cons_put _ _ _ _ _ rfl]
    refine congrArg (VecWindow.put _ _ _) (funext fun x => ?_)
    exact close2 _ _ _ x
  isplitl [H12]
  · iexists _; isplitr; swap; · iexact H12
    ipureintro
    rw [View.read_writes_cons_put _ _ _ _ _ rfl]
    refine congrArg (VecWindow.put _ _ _) (funext fun x => ?_)
    exact close2 _ _ _ x
  isplitl [H13]
  · iexists _; isplitr; swap; · iexact H13
    ipureintro
    rw [View.read_writes_cons_put _ _ _ _ _ rfl]
    refine congrArg (VecWindow.put _ _ _) (funext fun x => ?_)
    exact close2 _ _ _ x
  · iexists _; isplitr; swap; · iexact H14
    ipureintro
    rw [View.read_writes_cons_put _ _ _ _ _ rfl]
    refine congrArg (VecWindow.put _ _ _) (funext fun x => ?_)
    exact close2 _ _ _ x

end Cert.KernelIdeal.Val
end
-- ==== Proof.VT5.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.Pipeline.Value
public import proofs.«01_k».proof.Proof.VSpec
public import proofs.«01_k».proof.Proof.VOff

@[expose] public section

set_option maxRecDepth 100000
set_option maxHeartbeats 4000000

/-! One trip of the loop over a tile's columns: what it leaves in the running statistics. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

theorem close5 (v : BitVec 1) (a : F .f32) (b : S8x128.Idx → F .f32) (x : S8x128.Idx) :
    shapeCast S8x128 (Scalar.select v (broadcast S8x128 a) b) shapeCasts_S8x128_S8x128 x = Scalar.select v a (b x) := by
  rw [shapeCast_self]; unfold Scalar.select; split <;> rfl

def zs5 (i : grid0.Coords) (h2 : k0_cond2 i = 1#1) (k : Fin k0_t5_loop.trips) (R10 : S2x384x512.Idx → F .f32) (x : S8x128.Idx) : List (F .f32) :=
  [shapeCast S8x128 (VecWindow.window R10 (k0_off103 k) S1x8x128.size (k0_off103_inb i k h2)) shapeCasts_S1x8x128_S8x128 x, shapeCast S8x128 (VecWindow.window R10 (k0_off104 k) S1x8x128.size (k0_off104_inb i k h2)) shapeCasts_S1x8x128_S8x128 x, shapeCast S8x128 (VecWindow.window R10 (k0_off105 k) S1x8x128.size (k0_off105_inb i k h2)) shapeCasts_S1x8x128_S8x128 x, shapeCast S8x128 (VecWindow.window R10 (k0_off106 k) S1x8x128.size (k0_off106_inb i k h2)) shapeCasts_S1x8x128_S8x128 x, shapeCast S8x128 (VecWindow.window R10 (k0_off107 k) S1x8x128.size (k0_off107_inb i k h2)) shapeCasts_S1x8x128_S8x128 x, shapeCast S8x128 (VecWindow.window R10 (k0_off108 k) S1x8x128.size (k0_off108_inb i k h2)) shapeCasts_S1x8x128_S8x128 x, shapeCast S8x128 (VecWindow.window R10 (k0_off109 k) S1x8x128.size (k0_off109_inb i k h2)) shapeCasts_S1x8x128_S8x128 x, shapeCast S8x128 (VecWindow.window R10 (k0_off110 k) S1x8x128.size (k0_off110_inb i k h2)) shapeCasts_S1x8x128_S8x128 x, shapeCast S8x128 (VecWindow.window R10 (k0_off111 k) S1x8x128.size (k0_off111_inb i k h2)) shapeCasts_S1x8x128_S8x128 x, shapeCast S8x128 (VecWindow.window R10 (k0_off112 k) S1x8x128.size (k0_off112_inb i k h2)) shapeCasts_S1x8x128_S8x128 x, shapeCast S8x128 (VecWindow.window R10 (k0_off113 k) S1x8x128.size (k0_off113_inb i k h2)) shapeCasts_S1x8x128_S8x128 x, shapeCast S8x128 (VecWindow.window R10 (k0_off114 k) S1x8x128.size (k0_off114_inb i k h2)) shapeCasts_S1x8x128_S8x128 x, shapeCast S8x128 (VecWindow.window R10 (k0_off115 k) S1x8x128.size (k0_off115_inb i k h2)) shapeCasts_S1x8x128_S8x128 x, shapeCast S8x128 (VecWindow.window R10 (k0_off116 k) S1x8x128.size (k0_off116_inb i k h2)) shapeCasts_S1x8x128_S8x128 x, shapeCast S8x128 (VecWindow.window R10 (k0_off117 k) S1x8x128.size (k0_off117_inb i k h2)) shapeCasts_S1x8x128_S8x128 x, shapeCast S8x128 (VecWindow.window R10 (k0_off118 k) S1x8x128.size (k0_off118_inb i k h2)) shapeCasts_S1x8x128_S8x128 x, shapeCast S8x128 (VecWindow.window R10 (k0_off119 k) S1x8x128.size (k0_off119_inb i k h2)) shapeCasts_S1x8x128_S8x128 x, shapeCast S8x128 (VecWindow.window R10 (k0_off120 k) S1x8x128.size (k0_off120_inb i k h2)) shapeCasts_S1x8x128_S8x128 x, shapeCast S8x128 (VecWindow.window R10 (k0_off121 k) S1x8x128.size (k0_off121_inb i k h2)) shapeCasts_S1x8x128_S8x128 x, shapeCast S8x128 (VecWindow.window R10 (k0_off122 k) S1x8x128.size (k0_off122_inb i k h2)) shapeCasts_S1x8x128_S8x128 x, shapeCast S8x128 (VecWindow.window R10 (k0_off123 k) S1x8x128.size (k0_off123_inb i k h2)) shapeCasts_S1x8x128_S8x128 x, shapeCast S8x128 (VecWindow.window R10 (k0_off124 k) S1x8x128.size (k0_off124_inb i k h2)) shapeCasts_S1x8x128_S8x128 x, shapeCast S8x128 (VecWindow.window R10 (k0_off125 k) S1x8x128.size (k0_off125_inb i k h2)) shapeCasts_S1x8x128_S8x128 x, shapeCast S8x128 (VecWindow.window R10 (k0_off126 k) S1x8x128.size (k0_off126_inb i k h2)) shapeCasts_S1x8x128_S8x128 x, shapeCast S8x128 (VecWindow.window R10 (k0_off127 k) S1x8x128.size (k0_off127_inb i k h2)) shapeCasts_S1x8x128_S8x128 x, shapeCast S8x128 (VecWindow.window R10 (k0_off128 k) S1x8x128.size (k0_off128_inb i k h2)) shapeCasts_S1x8x128_S8x128 x, shapeCast S8x128 (VecWindow.window R10 (k0_off129 k) S1x8x128.size (k0_off129_inb i k h2)) shapeCasts_S1x8x128_S8x128 x, shapeCast S8x128 (VecWindow.window R10 (k0_off130 k) S1x8x128.size (k0_off130_inb i k h2)) shapeCasts_S1x8x128_S8x128 x, shapeCast S8x128 (VecWindow.window R10 (k0_off131 k) S1x8x128.size (k0_off131_inb i k h2)) shapeCasts_S1x8x128_S8x128 x, shapeCast S8x128 (VecWindow.window R10 (k0_off132 k) S1x8x128.size (k0_off132_inb i k h2)) shapeCasts_S1x8x128_S8x128 x, shapeCast S8x128 (VecWindow.window R10 (k0_off133 k) S1x8x128.size (k0_off133_inb i k h2)) shapeCasts_S1x8x128_S8x128 x, shapeCast S8x128 (VecWindow.window R10 (k0_off134 k) S1x8x128.size (k0_off134_inb i k h2)) shapeCasts_S1x8x128_S8x128 x, shapeCast S8x128 (VecWindow.window R10 (k0_off135 k) S1x8x128.size (k0_off135_inb i k h2)) shapeCasts_S1x8x128_S8x128 x, shapeCast S8x128 (VecWindow.window R10 (k0_off136 k) S1x8x128.size (k0_off136_inb i k h2)) shapeCasts_S1x8x128_S8x128 x, shapeCast S8x128 (VecWindow.window R10 (k0_off137 k) S1x8x128.size (k0_off137_inb i k h2)) shapeCasts_S1x8x128_S8x128 x, shapeCast S8x128 (VecWindow.window R10 (k0_off138 k) S1x8x128.size (k0_off138_inb i k h2)) shapeCasts_S1x8x128_S8x128 x, shapeCast S8x128 (VecWindow.window R10 (k0_off139 k) S1x8x128.size (k0_off139_inb i k h2)) shapeCasts_S1x8x128_S8x128 x, shapeCast S8x128 (VecWindow.window R10 (k0_off140 k) S1x8x128.size (k0_off140_inb i k h2)) shapeCasts_S1x8x128_S8x128 x, shapeCast S8x128 (VecWindow.window R10 (k0_off141 k) S1x8x128.size (k0_off141_inb i k h2)) shapeCasts_S1x8x128_S8x128 x, shapeCast S8x128 (VecWindow.window R10 (k0_off142 k) S1x8x128.size (k0_off142_inb i k h2)) shapeCasts_S1x8x128_S8x128 x, shapeCast S8x128 (VecWindow.window R10 (k0_off143 k) S1x8x128.size (k0_off143_inb i k h2)) shapeCasts_S1x8x128_S8x128 x, shapeCast S8x128 (VecWindow.window R10 (k0_off144 k) S1x8x128.size (k0_off144_inb i k h2)) shapeCasts_S1x8x128_S8x128 x, shapeCast S8x128 (VecWindow.window R10 (k0_off145 k) S1x8x128.size (k0_off145_inb i k h2)) shapeCasts_S1x8x128_S8x128 x, shapeCast S8x128 (VecWindow.window R10 (k0_off146 k) S1x8x128.size (k0_off146_inb i k h2)) shapeCasts_S1x8x128_S8x128 x, shapeCast S8x128 (VecWindow.window R10 (k0_off147 k) S1x8x128.size (k0_off147_inb i k h2)) shapeCasts_S1x8x128_S8x128 x, shapeCast S8x128 (VecWindow.window R10 (k0_off148 k) S1x8x128.size (k0_off148_inb i k h2)) shapeCasts_S1x8x128_S8x128 x, shapeCast S8x128 (VecWindow.window R10 (k0_off149 k) S1x8x128.size (k0_off149_inb i k h2)) shapeCasts_S1x8x128_S8x128 x]
def z05 (i : grid0.Coords) (h2 : k0_cond2 i = 1#1) (k : Fin k0_t5_loop.trips) (R10 : S2x384x512.Idx → F .f32) (x : S8x128.Idx) : F .f32 :=
  shapeCast S8x128 (VecWindow.window R10 (k0_off102 k) S1x8x128.size (k0_off102_inb i k h2)) shapeCasts_S1x8x128_S8x128 x
def rd5 (i : grid0.Coords) (h2 : k0_cond2 i = 1#1) (k : Fin k0_t5_loop.trips) (R : S8x4096.Idx → F .f32) : FVec F S8x128 .f32 := VecWindow.window R (k0_off150 k) S8x128.size (k0_off150_inb i k h2)
def xs5 (i : grid0.Coords) (h2 : k0_cond2 i = 1#1) (k : Fin k0_t5_loop.trips) (R4 : S8x4096.Idx → F .f32) (x : S8x128.Idx) : F .f32 := k0_pay13 (rd5 i h2 k R4) x
def m5 (i : grid0.Coords) (h2 : k0_cond2 i = 1#1) (k : Fin k0_t5_loop.trips) (R4 : S8x4096.Idx → F .f32) (R10 : S2x384x512.Idx → F .f32) (R11 : S8x4096.Idx → F .f32) (x : S8x128.Idx) : F .f32 := mOf (xs5 i h2 k R4 x) (rd5 i h2 k R11 x) (z05 i h2 k R10 x) (zs5 i h2 k R10 x)
def l5 (i : grid0.Coords) (h2 : k0_cond2 i = 1#1) (k : Fin k0_t5_loop.trips) (R4 : S8x4096.Idx → F .f32) (R10 : S2x384x512.Idx → F .f32) (R11 : S8x4096.Idx → F .f32) (R12 : S8x4096.Idx → F .f32) (x : S8x128.Idx) : F .f32 :=
  lNew (m5 i h2 k R4 R10 R11 x) (rd5 i h2 k R11 x) (sumOf (eT (xs5 i h2 k R4 x) (m5 i h2 k R4 R10 R11 x)) (z05 i h2 k R10 x) (zs5 i h2 k R10 x)) (rd5 i h2 k R12 x)
def s15 (i : grid0.Coords) (h2 : k0_cond2 i = 1#1) (k : Fin k0_t5_loop.trips) (R4 : S8x4096.Idx → F .f32) (R10 : S2x384x512.Idx → F .f32) (R11 : S8x4096.Idx → F .f32) (R12 : S8x4096.Idx → F .f32) (R13 : S8x4096.Idx → F .f32) (x : S8x128.Idx) : F .f32 :=
  s1New (m5 i h2 k R4 R10 R11 x) (rd5 i h2 k R11 x) (sumOf (tT (xs5 i h2 k R4 x) (m5 i h2 k R4 R10 R11 x)) (z05 i h2 k R10 x) (zs5 i h2 k R10 x)) (rd5 i h2 k R12 x) (rd5 i h2 k R13 x)
def s25 (i : grid0.Coords) (h2 : k0_cond2 i = 1#1) (k : Fin k0_t5_loop.trips) (R4 : S8x4096.Idx → F .f32) (R10 : S2x384x512.Idx → F .f32) (R11 : S8x4096.Idx → F .f32) (R12 : S8x4096.Idx → F .f32) (R13 : S8x4096.Idx → F .f32) (R14 : S8x4096.Idx → F .f32) (x : S8x128.Idx) : F .f32 :=
  s2New (m5 i h2 k R4 R10 R11 x) (rd5 i h2 k R11 x) (sumOf (uT (xs5 i h2 k R4 x) (m5 i h2 k R4 R10 R11 x)) (z05 i h2 k R10 x) (zs5 i h2 k R10 x)) (rd5 i h2 k R12 x) (rd5 i h2 k R13 x) (rd5 i h2 k R14 x) (FloatOps.ofBits .f32 0x40000000#32)

theorem trip5 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (h2 : k0_cond2 i = 1#1) (k : Fin k0_t5_loop.trips)
    (R4 : S8x4096.Idx → F .f32) (R10 : S2x384x512.Idx → F .f32) (R11 : S8x4096.Idx → F .f32) (R12 : S8x4096.Idx → F .f32) (R13 : S8x4096.Idx → F .f32) (R14 : S8x4096.Idx → F .f32) :
    iprop(owns (c : Thread nD τ) arg4 fullShare R4 ∗ owns (c : Thread nD τ) arg10 fullShare R10 ∗ owns (c : Thread nD τ) arg11 fullShare R11 ∗ owns (c : Thread nD τ) arg12 fullShare R12 ∗ owns (c : Thread nD τ) arg13 fullShare R13 ∗ owns (c : Thread nD τ) arg14 fullShare R14)
      ⊢ (wp frame (wpE (defs₀ (F := F)) Variants.none (c : Thread nD τ) none) Set.univ
          (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h2 k PUnit.unit) (fun _ => iprop(owns (c : Thread nD τ) arg4 fullShare R4 ∗ owns (c : Thread nD τ) arg10 fullShare R10
            ∗ owns (c : Thread nD τ) arg11 fullShare (VecWindow.put R11 (k0_off150 k) S8x128.size (fun x => Scalar.select 0#1 (FloatOps.ofBits .f32 0xFCF0BDC2#32) (m5 i h2 k R4 R10 R11 x)))
            ∗ owns (c : Thread nD τ) arg12 fullShare (VecWindow.put R12 (k0_off150 k) S8x128.size (fun x => Scalar.select 0#1 (FloatOps.ofBits .f32 0x00000000#32) (l5 i h2 k R4 R10 R11 R12 x)))
            ∗ owns (c : Thread nD τ) arg13 fullShare (VecWindow.put R13 (k0_off150 k) S8x128.size (fun x => Scalar.select 0#1 (FloatOps.ofBits .f32 0x00000000#32) (s15 i h2 k R4 R10 R11 R12 R13 x)))
            ∗ owns (c : Thread nD τ) arg14 fullShare (VecWindow.put R14 (k0_off150 k) S8x128.size (fun x => Scalar.select 0#1 (FloatOps.ofBits .f32 0x00000000#32) (s25 i h2 k R4 R10 R11 R12 R13 R14 x))))) : sProp 𝕄) := by
  unfold owns
  iintro ⟨⟨%X4, %e4, H4⟩, ⟨%X10, %e10, H10⟩, ⟨%X11, %e11, H11⟩, ⟨%X12, %e12, H12⟩, ⟨%X13, %e13, H13⟩, ⟨%X14, %e14, H14⟩⟩
  subst e4 e10 e11 e12 e13 e14
  unfold k0_t5_body
  sl_exec
  sl_step
  isplitl [H4]; · iexists X4; isplitr; · ipureintro; rfl
                  iexact H4
  isplitl [H10]; · iexists X10; isplitr; · ipureintro; rfl
                   iexact H10
  isplitl [H11]
  · iexists _; isplitr; swap; · iexact H11
    ipureintro
    rw [View.read_writes_cons_put _ _ _ _ _ rfl]
    refine congrArg (VecWindow.put _ _ _) (funext fun x => ?_)
    exact close5 _ _ _ x
  isplitl [H12]
  · iexists _; isplitr; swap; · iexact H12
    ipureintro
    rw [View.read_writes_cons_put _ _ _ _ _ rfl]
    refine congrArg (VecWindow.put _ _ _) (funext fun x => ?_)
    exact close5 _ _ _ x
  isplitl [H13]
  · iexists _; isplitr; swap; · iexact H13
    ipureintro
    rw [View.read_writes_cons_put _ _ _ _ _ rfl]
    refine congrArg (VecWindow.put _ _ _) (funext fun x => ?_)
    exact close5 _ _ _ x
  · iexists _; isplitr; swap; · iexact H14
    ipureintro
    rw [View.read_writes_cons_put _ _ _ _ _ rfl]
    refine congrArg (VecWindow.put _ _ _) (funext fun x => ?_)
    exact close5 _ _ _ x

end Cert.KernelIdeal.Val
end
-- ==== Proof.VCol.lean ====
module

public import Idealize.ShloMosaic.Lib.ValueIdxCore
public import Idealize.ShloMosaic.Lib.IdealHost
public import Idealize.ShloMosaic.PureOps.IdealRules
public import proofs.«01_k».proof.Proof.VT2
public import proofs.«01_k».proof.Proof.VT5

@[expose] public section

set_option maxRecDepth 100000
set_option maxHeartbeats 4000000

/-! What one trip over a tile's columns leaves, at exact real values. -/

noncomputable section

namespace Cert.KernelIdeal.Val

open Cert.KernelIdeal Cert.KernelIdeal.Gen
open Idealize.ShloMosaic Idealize.ShloMosaic.ValueIdx

/-- The statistics of each token `t` in sublane `s`: the sums over the first `48 * cnt t` of the sublane's logits. -/
def StatP (y : ℕ → ℕ → ℕ → ℝ) (cnt : ℕ → ℕ) (R11 R12 R13 R14 : S8x4096.Idx → EReal) : Prop :=
  ∀ i : S8x4096.Idx, StatR (y (i 0).val (i 1).val) (48 * cnt (i 1).val) (R11 i) (R12 i) (R13 i) (R14 i)

/-- Slot `p` of the logits buffer holds tile `τ` of vocabulary block `κ`. -/
def ZP (Zr : ℕ → ℕ → ℝ) (p κ τ : ℕ) (R10 : S2x384x512.Idx → EReal) : Prop :=
  ∀ i : S2x384x512.Idx, (i 0).val = p → R10 i = ((Zr (384 * κ + (i 1).val) (512 * τ + (i 2).val) : ℝ) : EReal)

/-- The scales, repeated over the sublanes. -/
def XP (S : ℕ → ℝ) (R4 : S8x4096.Idx → EReal) : Prop := ∀ i : S8x4096.Idx, R4 i = ((S (i 1).val : ℝ) : EReal)

/-- A token's logit in base 2. -/
def yOf (Zr : ℕ → ℕ → ℝ) (S : ℕ → ℝ) (s t n : ℕ) : ℝ := Zr (8 * n + s) t * (S t * (Real.log 2)⁻¹)

theorem col_step (y : ℕ → ℕ → ℕ → ℝ) (cnt : ℕ → ℕ) (new b : ℕ) (off : Fin 2 → ℕ) (hoff : off = ![0, b])
    (R11 R12 R13 R14 : S8x4096.Idx → EReal) (M L A B : S8x128.Idx → EReal)
    (h : ∀ x : S8x128.Idx, StatR (y (x 0).val (b + (x 1).val)) (48 * new) (M x) (L x) (A x) (B x))
    (hP : StatP y cnt R11 R12 R13 R14) :
    StatP y (fun t => if b ≤ t ∧ t < b + 128 then new else cnt t) (VecWindow.put R11 off S8x128.size M) (VecWindow.put R12 off S8x128.size L)
      (VecWindow.put R13 off S8x128.size A) (VecWindow.put R14 off S8x128.size B) := by
  subst hoff
  intro i
  unfold VecWindow.put
  by_cases hi : b ≤ (i 1).val ∧ (i 1).val < b + 128
  · have hall : ∀ a : Fin 2, (![0, b] : Fin 2 → ℕ) a ≤ (i a).val ∧ (i a).val < (![0, b] : Fin 2 → ℕ) a + S8x128.size a := by
      intro a
      match a with
      | 0 => exact ⟨Nat.zero_le _, by have := (i 0).isLt; show (i 0).val < 0 + 8; rw [Nat.zero_add]; exact this⟩
      | 1 => exact hi
    rw [dif_pos hall, dif_pos hall, dif_pos hall, dif_pos hall]
    simp only [if_pos hi]
    have := h (Rect.unitLocal (s := S8x4096) (off := ![0, b]) (size := S8x128.size) i hall)
    have e0 : ((Rect.unitLocal (s := S8x4096) (off := ![0, b]) (size := S8x128.size) i hall) 0).val = (i 0).val := Nat.sub_zero _
    have e1 : b + ((Rect.unitLocal (s := S8x4096) (off := ![0, b]) (size := S8x128.size) i hall) 1).val = (i 1).val := Nat.add_sub_cancel' hi.1
    rw [e0, e1] at this
    exact this
  · have hall : ¬ ∀ a : Fin 2, (![0, b] : Fin 2 → ℕ) a ≤ (i a).val ∧ (i a).val < (![0, b] : Fin 2 → ℕ) a + S8x128.size a := fun h => hi (h 1)
    rw [dif_neg hall, dif_neg hall, dif_neg hall, dif_neg hall]
    simp only [if_neg hi]
    exact hP i

theorem zrow (R : S2x384x512.Idx → EReal) (off : Fin 3 → ℕ) (inb : ∀ a, off a + S1x8x128.size a ≤ S2x384x512.size a) (hc : S1x8x128.ShapeCasts S8x128) (p r u : ℕ)
    (hoff : off = ![p, r, u]) (x : S8x128.Idx) (f : ℕ → ℕ → ℝ)
    (hR : ∀ i : S2x384x512.Idx, (i 0).val = p → R i = ((f (i 1).val (i 2).val : ℝ) : EReal)) :
    shapeCast S8x128 (VecWindow.window R off S1x8x128.size inb) hc x = ((f (r + (x 0).val) (u + (x 1).val) : ℝ) : EReal) := by
  subst hoff
  rw [shapeCast_apply _ hc x (ix3 (0 : Fin 1) (x 0) (x 1)) (by
    rw [Shape.rowMajor_val_three, Shape.rowMajor_val_two]
    show (0 * 8 + (x 0).val) * 128 + (x 1).val = (x 0).val * 128 + (x 1).val
    omega)]
  unfold VecWindow.window
  rw [hR _ (show p + 1 * 0 = p from rfl)]
  show ((f (r + 1 * (x 0).val) (u + 1 * (x 1).val) : ℝ) : EReal) = _
  rw [one_mul, one_mul]

theorem select_zero {α : Type} (a b : α) : Scalar.select 0#1 a b = b := rfl
theorem select_one {α : Type} (a b : α) : Scalar.select 1#1 a b = a := rfl

theorem minit_real : ∃ r : ℝ, Ideal.ofBits .f32 0xFCF0BDC2#32 = (r : EReal) := by
  refine ⟨(Ideal.ofBits .f32 0xFCF0BDC2#32).toReal, ?_⟩
  simp [Ideal.ofBits, Ideal.ieee, -EReal.coe_mul]

theorem stat_init (y : ℕ → ℝ) : StatR y (48 * 0) (Ideal.ofBits .f32 0xFCF0BDC2#32) (Ideal.ofBits .f32 0x00000000#32) (Ideal.ofBits .f32 0x00000000#32) (Ideal.ofBits .f32 0x00000000#32) := by
  obtain ⟨r, hr⟩ := minit_real
  refine ⟨r, hr, ?_, ?_, ?_⟩ <;> rw [Ideal.ofBits_zero_f32] <;> simp

theorem z02_real (t1 : Fin k0_t1_loop.trips) (k : Fin k0_t2_loop.trips) (R10 : S2x384x512.Idx → EReal) (x : S8x128.Idx) (f : ℕ → ℕ → ℝ)
    (hR : ∀ i : S2x384x512.Idx, (i 0).val = (t1.val + 1) % 2 → R10 i = ((f (i 1).val (i 2).val : ℝ) : EReal)) :
    z02 (F := Ideal) t1 k R10 x = ((f (8 * 0 + (x 0).val) (128 * k.val + (x 1).val) : ℝ) : EReal) := by
  unfold z02
  exact zrow R10 _ _ _ _ _ _ (off3_eq t1 k) x f hR

theorem zs2_real (t1 : Fin k0_t1_loop.trips) (k : Fin k0_t2_loop.trips) (R10 : S2x384x512.Idx → EReal) (x : S8x128.Idx) (f : ℕ → ℕ → ℝ)
    (hR : ∀ i : S2x384x512.Idx, (i 0).val = (t1.val + 1) % 2 → R10 i = ((f (i 1).val (i 2).val : ℝ) : EReal)) :
    zs2 (F := Ideal) t1 k R10 x = (List.range 47).map fun g => ((f (8 * (g + 1) + (x 0).val) (128 * k.val + (x 1).val) : ℝ) : EReal) := by
  unfold zs2
  rw [zrow R10 _ _ _ _ _ _ (off4_eq t1 k) x f hR, zrow R10 _ _ _ _ _ _ (off5_eq t1 k) x f hR, zrow R10 _ _ _ _ _ _ (off6_eq t1 k) x f hR, zrow R10 _ _ _ _ _ _ (off7_eq t1 k) x f hR, zrow R10 _ _ _ _ _ _ (off8_eq t1 k) x f hR, zrow R10 _ _ _ _ _ _ (off9_eq t1 k) x f hR, zrow R10 _ _ _ _ _ _ (off10_eq t1 k) x f hR, zrow R10 _ _ _ _ _ _ (off11_eq t1 k) x f hR, zrow R10 _ _ _ _ _ _ (off12_eq t1 k) x f hR, zrow R10 _ _ _ _ _ _ (off13_eq t1 k) x f hR, zrow R10 _ _ _ _ _ _ (off14_eq t1 k) x f hR, zrow R10 _ _ _ _ _ _ (off15_eq t1 k) x f hR, zrow R10 _ _ _ _ _ _ (off16_eq t1 k) x f hR, zrow R10 _ _ _ _ _ _ (off17_eq t1 k) x f hR, zrow R10 _ _ _ _ _ _ (off18_eq t1 k) x f hR, zrow R10 _ _ _ _ _ _ (off19_eq t1 k) x f hR, zrow R10 _ _ _ _ _ _ (off20_eq t1 k) x f hR, zrow R10 _ _ _ _ _ _ (off21_eq t1 k) x f hR, zrow R10 _ _ _ _ _ _ (off22_eq t1 k) x f hR, zrow R10 _ _ _ _ _ _ (off23_eq t1 k) x f hR, zrow R10 _ _ _ _ _ _ (off24_eq t1 k) x f hR, zrow R10 _ _ _ _ _ _ (off25_eq t1 k) x f hR, zrow R10 _ _ _ _ _ _ (off26_eq t1 k) x f hR, zrow R10 _ _ _ _ _ _ (off27_eq t1 k) x f hR, zrow R10 _ _ _ _ _ _ (off28_eq t1 k) x f hR, zrow R10 _ _ _ _ _ _ (off29_eq t1 k) x f hR, zrow R10 _ _ _ _ _ _ (off30_eq t1 k) x f hR, zrow R10 _ _ _ _ _ _ (off31_eq t1 k) x f hR, zrow R10 _ _ _ _ _ _ (off32_eq t1 k) x f hR, zrow R10 _ _ _ _ _ _ (off33_eq t1 k) x f hR, zrow R10 _ _ _ _ _ _ (off34_eq t1 k) x f hR, zrow R10 _ _ _ _ _ _ (off35_eq t1 k) x f hR, zrow R10 _ _ _ _ _ _ (off36_eq t1 k) x f hR, zrow R10 _ _ _ _ _ _ (off37_eq t1 k) x f hR, zrow R10 _ _ _ _ _ _ (off38_eq t1 k) x f hR, zrow R10 _ _ _ _ _ _ (off39_eq t1 k) x f hR, zrow R10 _ _ _ _ _ _ (off40_eq t1 k) x f hR, zrow R10 _ _ _ _ _ _ (off41_eq t1 k) x f hR, zrow R10 _ _ _ _ _ _ (off42_eq t1 k) x f hR, zrow R10 _ _ _ _ _ _ (off43_eq t1 k) x f hR, zrow R10 _ _ _ _ _ _ (off44_eq t1 k) x f hR, zrow R10 _ _ _ _ _ _ (off45_eq t1 k) x f hR, zrow R10 _ _ _ _ _ _ (off46_eq t1 k) x f hR, zrow R10 _ _ _ _ _ _ (off47_eq t1 k) x f hR, zrow R10 _ _ _ _ _ _ (off48_eq t1 k) x f hR, zrow R10 _ _ _ _ _ _ (off49_eq t1 k) x f hR, zrow R10 _ _ _ _ _ _ (off50_eq t1 k) x f hR]
  rfl

theorem xs2_real (t1 : Fin k0_t1_loop.trips) (k : Fin k0_t2_loop.trips) (R4 : S8x4096.Idx → EReal) (S : ℕ → ℝ) (hX : XP S R4) (x : S8x128.Idx) :
    xs2 (F := Ideal) t1 k R4 x = ((S (((if t1.val = 0 then 3584 else 512 * (t1.val - 1)) + 128 * k.val) + (x 1).val) * (Real.log 2)⁻¹ : ℝ) : EReal) := by
  unfold xs2 k0_pay13
  simp only [shapeCast_self]
  show rd2 t1 k R4 x * Named.named (F := Ideal) κ "log2e" 0x3FB8AA3B#32 = _
  rw [IdealRules.named_const.ideal_named_scalar (φ := .f32) κ "log2e" 0x3FB8AA3B#32 _ rfl]
  unfold rd2 VecWindow.window
  rw [hX _]
  have e : ((Rect.unit (s := S8x4096) (k0_off51 t1 k) S8x128.size (k0_off51_inb t1 k)).emb x 1).val = ((if t1.val = 0 then 3584 else 512 * (t1.val - 1)) + 128 * k.val) + (x 1).val := by
    show k0_off51 t1 k 1 + 1 * (x 1).val = _
    rw [off51_eq, one_mul]; rfl
  rw [e, EReal.coe_mul]

theorem rd2_stat (t1 : Fin k0_t1_loop.trips) (k : Fin k0_t2_loop.trips) (y : ℕ → ℕ → ℕ → ℝ) (cnt : ℕ → ℕ) (R11 R12 R13 R14 : S8x4096.Idx → EReal) (hP : StatP y cnt R11 R12 R13 R14) (x : S8x128.Idx) :
    StatR (y (x 0).val (((if t1.val = 0 then 3584 else 512 * (t1.val - 1)) + 128 * k.val) + (x 1).val)) (48 * cnt (((if t1.val = 0 then 3584 else 512 * (t1.val - 1)) + 128 * k.val) + (x 1).val)) (rd2 (F := Ideal) t1 k R11 x) (rd2 (F := Ideal) t1 k R12 x) (rd2 (F := Ideal) t1 k R13 x) (rd2 (F := Ideal) t1 k R14 x) := by
  have h := hP ((Rect.unit (s := S8x4096) (k0_off51 t1 k) S8x128.size (k0_off51_inb t1 k)).emb x)
  have e : ((Rect.unit (s := S8x4096) (k0_off51 t1 k) S8x128.size (k0_off51_inb t1 k)).emb x 1).val = ((if t1.val = 0 then 3584 else 512 * (t1.val - 1)) + 128 * k.val) + (x 1).val := by
    show k0_off51 t1 k 1 + 1 * (x 1).val = _
    rw [off51_eq, one_mul]; rfl
  have e' : ((Rect.unit (s := S8x4096) (k0_off51 t1 k) S8x128.size (k0_off51_inb t1 k)).emb x 0).val = (x 0).val := by
    show k0_off51 t1 k 0 + 1 * (x 0).val = _
    rw [off51_eq, one_mul]; exact Nat.zero_add _
  rw [e, e'] at h
  exact h

theorem new2_stat (t1 : Fin k0_t1_loop.trips) (k : Fin k0_t2_loop.trips) (Zr : ℕ → ℕ → ℝ) (S : ℕ → ℝ) (κ' τ : ℕ) (R4 : S8x4096.Idx → EReal) (hX : XP S R4) (R10 : S2x384x512.Idx → EReal) (hZ : ZP Zr ((t1.val + 1) % 2) κ' τ R10)
    (hb : ((if t1.val = 0 then 3584 else 512 * (t1.val - 1)) + 128 * k.val) = 512 * τ + 128 * k.val)
    (R11 R12 R13 R14 : S8x4096.Idx → EReal) (x : S8x128.Idx)
    (h : StatR (yOf Zr S (x 0).val (((if t1.val = 0 then 3584 else 512 * (t1.val - 1)) + 128 * k.val) + (x 1).val)) (48 * κ') (rd2 (F := Ideal) t1 k R11 x) (rd2 (F := Ideal) t1 k R12 x) (rd2 (F := Ideal) t1 k R13 x) (rd2 (F := Ideal) t1 k R14 x)) :
    StatR (yOf Zr S (x 0).val (((if t1.val = 0 then 3584 else 512 * (t1.val - 1)) + 128 * k.val) + (x 1).val)) (48 * (κ' + 1)) (m2 (F := Ideal) t1 k R4 R10 R11 x) (l2 (F := Ideal) t1 k R4 R10 R11 R12 x)
      (s12 (F := Ideal) t1 k R4 R10 R11 R12 R13 x) (s22 (F := Ideal) t1 k R4 R10 R11 R12 R13 R14 x) := by
  have hz0 := z02_real t1 k R10 x (fun r u => Zr (384 * κ' + r) (512 * τ + u)) hZ
  have hzs := zs2_real t1 k R10 x (fun r u => Zr (384 * κ' + r) (512 * τ + u)) hZ
  have hxs := xs2_real t1 k R4 S hX x
  unfold s22 s12 l2 m2
  rw [hz0, hzs, hxs]
  have := stat_step _ _ _ _ _ _ h (S (((if t1.val = 0 then 3584 else 512 * (t1.val - 1)) + 128 * k.val) + (x 1).val) * (Real.log 2)⁻¹) (fun g => Zr (384 * κ' + (8 * g + (x 0).val)) (512 * τ + (128 * k.val + (x 1).val))) (fun g hg => by
    show _ * _ = Zr (8 * (48 * κ' + g) + (x 0).val) (((if t1.val = 0 then 3584 else 512 * (t1.val - 1)) + 128 * k.val) + (x 1).val) * _
    congr 2 <;> omega)
  rw [show (FloatOps.ofBits (F := Ideal) .f32 0x40000000#32) = ((2 : ℝ) : EReal) from two_real]
  exact this

theorem z05_real (i : grid0.Coords) (h2 : k0_cond2 i = 1#1) (k : Fin k0_t5_loop.trips) (R10 : S2x384x512.Idx → EReal) (x : S8x128.Idx) (f : ℕ → ℕ → ℝ)
    (hR : ∀ i : S2x384x512.Idx, (i 0).val = 1 → R10 i = ((f (i 1).val (i 2).val : ℝ) : EReal)) :
    z05 (F := Ideal) i h2 k R10 x = ((f (8 * 0 + (x 0).val) (128 * k.val + (x 1).val) : ℝ) : EReal) := by
  unfold z05
  exact zrow R10 _ _ _ _ _ _ (off102_eq k) x f hR

theorem zs5_real (i : grid0.Coords) (h2 : k0_cond2 i = 1#1) (k : Fin k0_t5_loop.trips) (R10 : S2x384x512.Idx → EReal) (x : S8x128.Idx) (f : ℕ → ℕ → ℝ)
    (hR : ∀ i : S2x384x512.Idx, (i 0).val = 1 → R10 i = ((f (i 1).val (i 2).val : ℝ) : EReal)) :
    zs5 (F := Ideal) i h2 k R10 x = (List.range 47).map fun g => ((f (8 * (g + 1) + (x 0).val) (128 * k.val + (x 1).val) : ℝ) : EReal) := by
  unfold zs5
  rw [zrow R10 _ _ _ _ _ _ (off103_eq k) x f hR, zrow R10 _ _ _ _ _ _ (off104_eq k) x f hR, zrow R10 _ _ _ _ _ _ (off105_eq k) x f hR, zrow R10 _ _ _ _ _ _ (off106_eq k) x f hR, zrow R10 _ _ _ _ _ _ (off107_eq k) x f hR, zrow R10 _ _ _ _ _ _ (off108_eq k) x f hR, zrow R10 _ _ _ _ _ _ (off109_eq k) x f hR, zrow R10 _ _ _ _ _ _ (off110_eq k) x f hR, zrow R10 _ _ _ _ _ _ (off111_eq k) x f hR, zrow R10 _ _ _ _ _ _ (off112_eq k) x f hR, zrow R10 _ _ _ _ _ _ (off113_eq k) x f hR, zrow R10 _ _ _ _ _ _ (off114_eq k) x f hR, zrow R10 _ _ _ _ _ _ (off115_eq k) x f hR, zrow R10 _ _ _ _ _ _ (off116_eq k) x f hR, zrow R10 _ _ _ _ _ _ (off117_eq k) x f hR, zrow R10 _ _ _ _ _ _ (off118_eq k) x f hR, zrow R10 _ _ _ _ _ _ (off119_eq k) x f hR, zrow R10 _ _ _ _ _ _ (off120_eq k) x f hR, zrow R10 _ _ _ _ _ _ (off121_eq k) x f hR, zrow R10 _ _ _ _ _ _ (off122_eq k) x f hR, zrow R10 _ _ _ _ _ _ (off123_eq k) x f hR, zrow R10 _ _ _ _ _ _ (off124_eq k) x f hR, zrow R10 _ _ _ _ _ _ (off125_eq k) x f hR, zrow R10 _ _ _ _ _ _ (off126_eq k) x f hR, zrow R10 _ _ _ _ _ _ (off127_eq k) x f hR, zrow R10 _ _ _ _ _ _ (off128_eq k) x f hR, zrow R10 _ _ _ _ _ _ (off129_eq k) x f hR, zrow R10 _ _ _ _ _ _ (off130_eq k) x f hR, zrow R10 _ _ _ _ _ _ (off131_eq k) x f hR, zrow R10 _ _ _ _ _ _ (off132_eq k) x f hR, zrow R10 _ _ _ _ _ _ (off133_eq k) x f hR, zrow R10 _ _ _ _ _ _ (off134_eq k) x f hR, zrow R10 _ _ _ _ _ _ (off135_eq k) x f hR, zrow R10 _ _ _ _ _ _ (off136_eq k) x f hR, zrow R10 _ _ _ _ _ _ (off137_eq k) x f hR, zrow R10 _ _ _ _ _ _ (off138_eq k) x f hR, zrow R10 _ _ _ _ _ _ (off139_eq k) x f hR, zrow R10 _ _ _ _ _ _ (off140_eq k) x f hR, zrow R10 _ _ _ _ _ _ (off141_eq k) x f hR, zrow R10 _ _ _ _ _ _ (off142_eq k) x f hR, zrow R10 _ _ _ _ _ _ (off143_eq k) x f hR, zrow R10 _ _ _ _ _ _ (off144_eq k) x f hR, zrow R10 _ _ _ _ _ _ (off145_eq k) x f hR, zrow R10 _ _ _ _ _ _ (off146_eq k) x f hR, zrow R10 _ _ _ _ _ _ (off147_eq k) x f hR, zrow R10 _ _ _ _ _ _ (off148_eq k) x f hR, zrow R10 _ _ _ _ _ _ (off149_eq k) x f hR]
  rfl

theorem xs5_real (i : grid0.Coords) (h2 : k0_cond2 i = 1#1) (k : Fin k0_t5_loop.trips) (R4 : S8x4096.Idx → EReal) (S : ℕ → ℝ) (hX : XP S R4) (x : S8x128.Idx) :
    xs5 (F := Ideal) i h2 k R4 x = ((S ((3584 + 128 * k.val) + (x 1).val) * (Real.log 2)⁻¹ : ℝ) : EReal) := by
  unfold xs5 k0_pay13
  simp only [shapeCast_self]
  show rd5 i h2 k R4 x * Named.named (F := Ideal) κ "log2e" 0x3FB8AA3B#32 = _
  rw [IdealRules.named_const.ideal_named_scalar (φ := .f32) κ "log2e" 0x3FB8AA3B#32 _ rfl]
  unfold rd5 VecWindow.window
  rw [hX _]
  have e : ((Rect.unit (s := S8x4096) (k0_off150 k) S8x128.size (k0_off150_inb i k h2)).emb x 1).val = (3584 + 128 * k.val) + (x 1).val := by
    show k0_off150 k 1 + 1 * (x 1).val = _
    rw [off150_eq, one_mul]; rfl
  rw [e, EReal.coe_mul]

theorem rd5_stat (i : grid0.Coords) (h2 : k0_cond2 i = 1#1) (k : Fin k0_t5_loop.trips) (y : ℕ → ℕ → ℕ → ℝ) (cnt : ℕ → ℕ) (R11 R12 R13 R14 : S8x4096.Idx → EReal) (hP : StatP y cnt R11 R12 R13 R14) (x : S8x128.Idx) :
    StatR (y (x 0).val ((3584 + 128 * k.val) + (x 1).val)) (48 * cnt ((3584 + 128 * k.val) + (x 1).val)) (rd5 (F := Ideal) i h2 k R11 x) (rd5 (F := Ideal) i h2 k R12 x) (rd5 (F := Ideal) i h2 k R13 x) (rd5 (F := Ideal) i h2 k R14 x) := by
  have h := hP ((Rect.unit (s := S8x4096) (k0_off150 k) S8x128.size (k0_off150_inb i k h2)).emb x)
  have e : ((Rect.unit (s := S8x4096) (k0_off150 k) S8x128.size (k0_off150_inb i k h2)).emb x 1).val = (3584 + 128 * k.val) + (x 1).val := by
    show k0_off150 k 1 + 1 * (x 1).val = _
    rw [off150_eq, one_mul]; rfl
  have e' : ((Rect.unit (s := S8x4096) (k0_off150 k) S8x128.size (k0_off150_inb i k h2)).emb x 0).val = (x 0).val := by
    show k0_off150 k 0 + 1 * (x 0).val = _
    rw [off150_eq, one_mul]; exact Nat.zero_add _
  rw [e, e'] at h
  exact h

theorem new5_stat (i : grid0.Coords) (h2 : k0_cond2 i = 1#1) (k : Fin k0_t5_loop.trips) (Zr : ℕ → ℕ → ℝ) (S : ℕ → ℝ) (κ' τ : ℕ) (R4 : S8x4096.Idx → EReal) (hX : XP S R4) (R10 : S2x384x512.Idx → EReal) (hZ : ZP Zr (1) κ' τ R10)
    (hb : (3584 + 128 * k.val) = 512 * τ + 128 * k.val)
    (R11 R12 R13 R14 : S8x4096.Idx → EReal) (x : S8x128.Idx)
    (h : StatR (yOf Zr S (x 0).val ((3584 + 128 * k.val) + (x 1).val)) (48 * κ') (rd5 (F := Ideal) i h2 k R11 x) (rd5 (F := Ideal) i h2 k R12 x) (rd5 (F := Ideal) i h2 k R13 x) (rd5 (F := Ideal) i h2 k R14 x)) :
    StatR (yOf Zr S (x 0).val ((3584 + 128 * k.val) + (x 1).val)) (48 * (κ' + 1)) (m5 (F := Ideal) i h2 k R4 R10 R11 x) (l5 (F := Ideal) i h2 k R4 R10 R11 R12 x)
      (s15 (F := Ideal) i h2 k R4 R10 R11 R12 R13 x) (s25 (F := Ideal) i h2 k R4 R10 R11 R12 R13 R14 x) := by
  have hz0 := z05_real i h2 k R10 x (fun r u => Zr (384 * κ' + r) (512 * τ + u)) hZ
  have hzs := zs5_real i h2 k R10 x (fun r u => Zr (384 * κ' + r) (512 * τ + u)) hZ
  have hxs := xs5_real i h2 k R4 S hX x
  unfold s25 s15 l5 m5
  rw [hz0, hzs, hxs]
  have := stat_step _ _ _ _ _ _ h (S ((3584 + 128 * k.val) + (x 1).val) * (Real.log 2)⁻¹) (fun g => Zr (384 * κ' + (8 * g + (x 0).val)) (512 * τ + (128 * k.val + (x 1).val))) (fun g hg => by
    show _ * _ = Zr (8 * (48 * κ' + g) + (x 0).val) ((3584 + 128 * k.val) + (x 1).val) * _
    congr 2 <;> omega)
  rw [show (FloatOps.ofBits (F := Ideal) .f32 0x40000000#32) = ((2 : ℝ) : EReal) from two_real]
  exact this

end Cert.KernelIdeal.Val
end
-- ==== Proof.VPick.lean ====
module

public import Idealize.ShloMosaic.Lib.Tactic
public import proofs.«01_k».proof.Proof.VSpec

@[expose] public section

/-! Picking one of 48 rows by the bits of a word. -/

noncomputable section

namespace Cert.KernelIdeal.Val

open Idealize.ShloMosaic

/-- One level of the selection: of each pair, the second where the bit is set. -/
def lvl {α : Type} (b : BitVec 1) : List α → List α
  | a :: c :: t => Scalar.select b c a :: lvl b t
  | l => l

def bitOf (r : BitVec 32) (n : BitVec 32) : BitVec 1 := IntOp.cmpi .ne (IntOp.andi r n) 0#32

def tree {α : Type} (r : BitVec 32) (zs : List α) (d : α) : α :=
  (lvl (bitOf r 256#32) (lvl (bitOf r 128#32) (lvl (bitOf r 64#32) (lvl (bitOf r 32#32) (lvl (bitOf r 16#32) (lvl (bitOf r 8#32) zs)))))).headD d

/-- Whether word `r` names sublane `s` of one of the 48 rows. -/
def hitOf (r s : BitVec 32) : BitVec 1 :=
  IntOp.andi (IntOp.andi (IntOp.cmpi .eq (IntOp.andi (IntOp.subi r s) 7#32) 0#32) (IntOp.cmpi .sge (IntOp.subi r s) 0#32)) (IntOp.cmpi .slt (IntOp.subi r s) 384#32)

end Cert.KernelIdeal.Val
end
-- ==== Proof.VT4.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.Pipeline.Value
public import proofs.«01_k».proof.Proof.VPick
public import proofs.«01_k».proof.Proof.VOff

@[expose] public section

set_option maxRecDepth 100000
set_option maxHeartbeats 4000000

/-! One trip of the loop over a tile's columns: what it leaves in the picked logits. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

def zl4 (t1 : Fin k0_t1_loop.trips) (t3 : Fin k0_t3_loop.trips) (R10 : S2x384x512.Idx → F .f32) (x : S8x128.Idx) : List (F .f32) :=
  [shapeCast S8x128 (VecWindow.window R10 (k0_off53 t1 t3) S1x8x128.size (k0_off53_inb t1 t3)) shapeCasts_S1x8x128_S8x128 x, shapeCast S8x128 (VecWindow.window R10 (k0_off54 t1 t3) S1x8x128.size (k0_off54_inb t1 t3)) shapeCasts_S1x8x128_S8x128 x, shapeCast S8x128 (VecWindow.window R10 (k0_off55 t1 t3) S1x8x128.size (k0_off55_inb t1 t3)) shapeCasts_S1x8x128_S8x128 x, shapeCast S8x128 (VecWindow.window R10 (k0_off56 t1 t3) S1x8x128.size (k0_off56_inb t1 t3)) shapeCasts_S1x8x128_S8x128 x, shapeCast S8x128 (VecWindow.window R10 (k0_off57 t1 t3) S1x8x128.size (k0_off57_inb t1 t3)) shapeCasts_S1x8x128_S8x128 x, shapeCast S8x128 (VecWindow.window R10 (k0_off58 t1 t3) S1x8x128.size (k0_off58_inb t1 t3)) shapeCasts_S1x8x128_S8x128 x, shapeCast S8x128 (VecWindow.window R10 (k0_off59 t1 t3) S1x8x128.size (k0_off59_inb t1 t3)) shapeCasts_S1x8x128_S8x128 x, shapeCast S8x128 (VecWindow.window R10 (k0_off60 t1 t3) S1x8x128.size (k0_off60_inb t1 t3)) shapeCasts_S1x8x128_S8x128 x, shapeCast S8x128 (VecWindow.window R10 (k0_off61 t1 t3) S1x8x128.size (k0_off61_inb t1 t3)) shapeCasts_S1x8x128_S8x128 x, shapeCast S8x128 (VecWindow.window R10 (k0_off62 t1 t3) S1x8x128.size (k0_off62_inb t1 t3)) shapeCasts_S1x8x128_S8x128 x, shapeCast S8x128 (VecWindow.window R10 (k0_off63 t1 t3) S1x8x128.size (k0_off63_inb t1 t3)) shapeCasts_S1x8x128_S8x128 x, shapeCast S8x128 (VecWindow.window R10 (k0_off64 t1 t3) S1x8x128.size (k0_off64_inb t1 t3)) shapeCasts_S1x8x128_S8x128 x, shapeCast S8x128 (VecWindow.window R10 (k0_off65 t1 t3) S1x8x128.size (k0_off65_inb t1 t3)) shapeCasts_S1x8x128_S8x128 x, shapeCast S8x128 (VecWindow.window R10 (k0_off66 t1 t3) S1x8x128.size (k0_off66_inb t1 t3)) shapeCasts_S1x8x128_S8x128 x, shapeCast S8x128 (VecWindow.window R10 (k0_off67 t1 t3) S1x8x128.size (k0_off67_inb t1 t3)) shapeCasts_S1x8x128_S8x128 x, shapeCast S8x128 (VecWindow.window R10 (k0_off68 t1 t3) S1x8x128.size (k0_off68_inb t1 t3)) shapeCasts_S1x8x128_S8x128 x, shapeCast S8x128 (VecWindow.window R10 (k0_off69 t1 t3) S1x8x128.size (k0_off69_inb t1 t3)) shapeCasts_S1x8x128_S8x128 x, shapeCast S8x128 (VecWindow.window R10 (k0_off70 t1 t3) S1x8x128.size (k0_off70_inb t1 t3)) shapeCasts_S1x8x128_S8x128 x, shapeCast S8x128 (VecWindow.window R10 (k0_off71 t1 t3) S1x8x128.size (k0_off71_inb t1 t3)) shapeCasts_S1x8x128_S8x128 x, shapeCast S8x128 (VecWindow.window R10 (k0_off72 t1 t3) S1x8x128.size (k0_off72_inb t1 t3)) shapeCasts_S1x8x128_S8x128 x, shapeCast S8x128 (VecWindow.window R10 (k0_off73 t1 t3) S1x8x128.size (k0_off73_inb t1 t3)) shapeCasts_S1x8x128_S8x128 x, shapeCast S8x128 (VecWindow.window R10 (k0_off74 t1 t3) S1x8x128.size (k0_off74_inb t1 t3)) shapeCasts_S1x8x128_S8x128 x, shapeCast S8x128 (VecWindow.window R10 (k0_off75 t1 t3) S1x8x128.size (k0_off75_inb t1 t3)) shapeCasts_S1x8x128_S8x128 x, shapeCast S8x128 (VecWindow.window R10 (k0_off76 t1 t3) S1x8x128.size (k0_off76_inb t1 t3)) shapeCasts_S1x8x128_S8x128 x, shapeCast S8x128 (VecWindow.window R10 (k0_off77 t1 t3) S1x8x128.size (k0_off77_inb t1 t3)) shapeCasts_S1x8x128_S8x128 x, shapeCast S8x128 (VecWindow.window R10 (k0_off78 t1 t3) S1x8x128.size (k0_off78_inb t1 t3)) shapeCasts_S1x8x128_S8x128 x, shapeCast S8x128 (VecWindow.window R10 (k0_off79 t1 t3) S1x8x128.size (k0_off79_inb t1 t3)) shapeCasts_S1x8x128_S8x128 x, shapeCast S8x128 (VecWindow.window R10 (k0_off80 t1 t3) S1x8x128.size (k0_off80_inb t1 t3)) shapeCasts_S1x8x128_S8x128 x, shapeCast S8x128 (VecWindow.window R10 (k0_off81 t1 t3) S1x8x128.size (k0_off81_inb t1 t3)) shapeCasts_S1x8x128_S8x128 x, shapeCast S8x128 (VecWindow.window R10 (k0_off82 t1 t3) S1x8x128.size (k0_off82_inb t1 t3)) shapeCasts_S1x8x128_S8x128 x, shapeCast S8x128 (VecWindow.window R10 (k0_off83 t1 t3) S1x8x128.size (k0_off83_inb t1 t3)) shapeCasts_S1x8x128_S8x128 x, shapeCast S8x128 (VecWindow.window R10 (k0_off84 t1 t3) S1x8x128.size (k0_off84_inb t1 t3)) shapeCasts_S1x8x128_S8x128 x, shapeCast S8x128 (VecWindow.window R10 (k0_off85 t1 t3) S1x8x128.size (k0_off85_inb t1 t3)) shapeCasts_S1x8x128_S8x128 x, shapeCast S8x128 (VecWindow.window R10 (k0_off86 t1 t3) S1x8x128.size (k0_off86_inb t1 t3)) shapeCasts_S1x8x128_S8x128 x, shapeCast S8x128 (VecWindow.window R10 (k0_off87 t1 t3) S1x8x128.size (k0_off87_inb t1 t3)) shapeCasts_S1x8x128_S8x128 x, shapeCast S8x128 (VecWindow.window R10 (k0_off88 t1 t3) S1x8x128.size (k0_off88_inb t1 t3)) shapeCasts_S1x8x128_S8x128 x, shapeCast S8x128 (VecWindow.window R10 (k0_off89 t1 t3) S1x8x128.size (k0_off89_inb t1 t3)) shapeCasts_S1x8x128_S8x128 x, shapeCast S8x128 (VecWindow.window R10 (k0_off90 t1 t3) S1x8x128.size (k0_off90_inb t1 t3)) shapeCasts_S1x8x128_S8x128 x, shapeCast S8x128 (VecWindow.window R10 (k0_off91 t1 t3) S1x8x128.size (k0_off91_inb t1 t3)) shapeCasts_S1x8x128_S8x128 x, shapeCast S8x128 (VecWindow.window R10 (k0_off92 t1 t3) S1x8x128.size (k0_off92_inb t1 t3)) shapeCasts_S1x8x128_S8x128 x, shapeCast S8x128 (VecWindow.window R10 (k0_off93 t1 t3) S1x8x128.size (k0_off93_inb t1 t3)) shapeCasts_S1x8x128_S8x128 x, shapeCast S8x128 (VecWindow.window R10 (k0_off94 t1 t3) S1x8x128.size (k0_off94_inb t1 t3)) shapeCasts_S1x8x128_S8x128 x, shapeCast S8x128 (VecWindow.window R10 (k0_off95 t1 t3) S1x8x128.size (k0_off95_inb t1 t3)) shapeCasts_S1x8x128_S8x128 x, shapeCast S8x128 (VecWindow.window R10 (k0_off96 t1 t3) S1x8x128.size (k0_off96_inb t1 t3)) shapeCasts_S1x8x128_S8x128 x, shapeCast S8x128 (VecWindow.window R10 (k0_off97 t1 t3) S1x8x128.size (k0_off97_inb t1 t3)) shapeCasts_S1x8x128_S8x128 x, shapeCast S8x128 (VecWindow.window R10 (k0_off98 t1 t3) S1x8x128.size (k0_off98_inb t1 t3)) shapeCasts_S1x8x128_S8x128 x, shapeCast S8x128 (VecWindow.window R10 (k0_off99 t1 t3) S1x8x128.size (k0_off99_inb t1 t3)) shapeCasts_S1x8x128_S8x128 x, shapeCast S8x128 (VecWindow.window R10 (k0_off100 t1 t3) S1x8x128.size (k0_off100_inb t1 t3)) shapeCasts_S1x8x128_S8x128 x]
def r4 (t1 : Fin k0_t1_loop.trips) (t3 : Fin k0_t3_loop.trips) (t4 : Fin k0_t4_loop.trips) (vb : BitVec 32) (R5 : S7x4096.Idx → BitVec 32) (x : S8x128.Idx) : BitVec 32 :=
  IntOp.subi (broadcastTo S8x128 (shapeCast S1x128 (shapeCast S1x128 (VecWindow.window R5 (k0_off52 t1 t3 t4) S1x128.size (k0_off52_inb t1 t3 t4)) shapeCasts_S1x128_S1x128) shapeCasts_S1x128_S1x128) broadcasts_S1x128_S8x128 x) vb
def old4 (t1 : Fin k0_t1_loop.trips) (t3 : Fin k0_t3_loop.trips) (t4 : Fin k0_t4_loop.trips) (R15 : S7x8x4096.Idx → F .f32) (x : S8x128.Idx) : F .f32 :=
  shapeCast S8x128 (VecWindow.window R15 (k0_off101 t1 t3 t4) S1x8x128.size (k0_off101_inb t1 t3 t4)) shapeCasts_S1x8x128_S8x128 x
def pick4 (t1 : Fin k0_t1_loop.trips) (t3 : Fin k0_t3_loop.trips) (t4 : Fin k0_t4_loop.trips) (vb : BitVec 32) (io : IVec S8x128 32) (R5 : S7x4096.Idx → BitVec 32) (R10 : S2x384x512.Idx → F .f32) (R15 : S7x8x4096.Idx → F .f32) (x : S8x128.Idx) : F .f32 :=
  Scalar.select (hitOf (r4 t1 t3 t4 vb R5 x) (io x)) (tree (r4 t1 t3 t4 vb R5 x) (zl4 t1 t3 R10 x) (old4 t1 t3 t4 R15 x)) (old4 t1 t3 t4 R15 x)

theorem trip4 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (t1 : Fin k0_t1_loop.trips) (vb v67 : BitVec 32) (io : IVec S8x128 32) (t3 : Fin k0_t3_loop.trips) (a17 v73 : BitVec 32) (t4 : Fin k0_t4_loop.trips)
    (R5 : S7x4096.Idx → BitVec 32) (R10 : S2x384x512.Idx → F .f32) (R15 : S7x8x4096.Idx → F .f32) :
    iprop(owns (c : Thread nD τ) arg5 fullShare (R5 : S7x4096.Idx → Elt F .i32) ∗ owns (c : Thread nD τ) arg10 fullShare R10 ∗ owns (c : Thread nD τ) arg15 fullShare R15)
      ⊢ (wp frame (wpE (defs₀ (F := F)) Variants.none (c : Thread nD τ) none) Set.univ
          (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 t1 vb v67 io t3 a17 v73 t4 PUnit.unit) (fun _ => iprop(owns (c : Thread nD τ) arg5 fullShare (R5 : S7x4096.Idx → Elt F .i32) ∗ owns (c : Thread nD τ) arg10 fullShare R10
            ∗ owns (c : Thread nD τ) arg15 fullShare (VecWindow.put R15 (k0_off101 t1 t3 t4) S1x8x128.size (shapeCast S1x8x128 (pick4 t1 t3 t4 vb io R5 R10 R15) shapeCasts_S8x128_S1x8x128)))) : sProp 𝕄) := by
  unfold owns
  iintro ⟨⟨%X5, %e5, H5⟩, ⟨%X10, %e10, H10⟩, ⟨%X15, %e15, H15⟩⟩
  subst e5 e10 e15
  unfold k0_t4_body
  sl_exec
  sl_step
  isplitl [H5]; · iexists X5; isplitr; · ipureintro; rfl
                  iexact H5
  isplitl [H10]; · iexists X10; isplitr; · ipureintro; rfl
                   iexact H10
  · iexists _; isplitr; swap; · iexact H15
    ipureintro
    rw [View.read_writes_cons_put _ _ _ _ _ rfl]
    exact congrArg (VecWindow.put _ _ _) (congrArg (fun v => shapeCast S1x8x128 v shapeCasts_S8x128_S1x8x128) (funext fun x => rfl))

end Cert.KernelIdeal.Val
end
-- ==== Proof.VT7.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.Pipeline.Value
public import proofs.«01_k».proof.Proof.VPick
public import proofs.«01_k».proof.Proof.VOff

@[expose] public section

set_option maxRecDepth 100000
set_option maxHeartbeats 4000000

/-! One trip of the loop over a tile's columns: what it leaves in the picked logits. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

def zl7 (i : grid0.Coords) (h2 : k0_cond2 i = 1#1) (t6 : Fin k0_t6_loop.trips) (R10 : S2x384x512.Idx → F .f32) (x : S8x128.Idx) : List (F .f32) :=
  [shapeCast S8x128 (VecWindow.window R10 (k0_off152 t6) S1x8x128.size (k0_off152_inb i t6 h2)) shapeCasts_S1x8x128_S8x128 x, shapeCast S8x128 (VecWindow.window R10 (k0_off153 t6) S1x8x128.size (k0_off153_inb i t6 h2)) shapeCasts_S1x8x128_S8x128 x, shapeCast S8x128 (VecWindow.window R10 (k0_off154 t6) S1x8x128.size (k0_off154_inb i t6 h2)) shapeCasts_S1x8x128_S8x128 x, shapeCast S8x128 (VecWindow.window R10 (k0_off155 t6) S1x8x128.size (k0_off155_inb i t6 h2)) shapeCasts_S1x8x128_S8x128 x, shapeCast S8x128 (VecWindow.window R10 (k0_off156 t6) S1x8x128.size (k0_off156_inb i t6 h2)) shapeCasts_S1x8x128_S8x128 x, shapeCast S8x128 (VecWindow.window R10 (k0_off157 t6) S1x8x128.size (k0_off157_inb i t6 h2)) shapeCasts_S1x8x128_S8x128 x, shapeCast S8x128 (VecWindow.window R10 (k0_off158 t6) S1x8x128.size (k0_off158_inb i t6 h2)) shapeCasts_S1x8x128_S8x128 x, shapeCast S8x128 (VecWindow.window R10 (k0_off159 t6) S1x8x128.size (k0_off159_inb i t6 h2)) shapeCasts_S1x8x128_S8x128 x, shapeCast S8x128 (VecWindow.window R10 (k0_off160 t6) S1x8x128.size (k0_off160_inb i t6 h2)) shapeCasts_S1x8x128_S8x128 x, shapeCast S8x128 (VecWindow.window R10 (k0_off161 t6) S1x8x128.size (k0_off161_inb i t6 h2)) shapeCasts_S1x8x128_S8x128 x, shapeCast S8x128 (VecWindow.window R10 (k0_off162 t6) S1x8x128.size (k0_off162_inb i t6 h2)) shapeCasts_S1x8x128_S8x128 x, shapeCast S8x128 (VecWindow.window R10 (k0_off163 t6) S1x8x128.size (k0_off163_inb i t6 h2)) shapeCasts_S1x8x128_S8x128 x, shapeCast S8x128 (VecWindow.window R10 (k0_off164 t6) S1x8x128.size (k0_off164_inb i t6 h2)) shapeCasts_S1x8x128_S8x128 x, shapeCast S8x128 (VecWindow.window R10 (k0_off165 t6) S1x8x128.size (k0_off165_inb i t6 h2)) shapeCasts_S1x8x128_S8x128 x, shapeCast S8x128 (VecWindow.window R10 (k0_off166 t6) S1x8x128.size (k0_off166_inb i t6 h2)) shapeCasts_S1x8x128_S8x128 x, shapeCast S8x128 (VecWindow.window R10 (k0_off167 t6) S1x8x128.size (k0_off167_inb i t6 h2)) shapeCasts_S1x8x128_S8x128 x, shapeCast S8x128 (VecWindow.window R10 (k0_off168 t6) S1x8x128.size (k0_off168_inb i t6 h2)) shapeCasts_S1x8x128_S8x128 x, shapeCast S8x128 (VecWindow.window R10 (k0_off169 t6) S1x8x128.size (k0_off169_inb i t6 h2)) shapeCasts_S1x8x128_S8x128 x, shapeCast S8x128 (VecWindow.window R10 (k0_off170 t6) S1x8x128.size (k0_off170_inb i t6 h2)) shapeCasts_S1x8x128_S8x128 x, shapeCast S8x128 (VecWindow.window R10 (k0_off171 t6) S1x8x128.size (k0_off171_inb i t6 h2)) shapeCasts_S1x8x128_S8x128 x, shapeCast S8x128 (VecWindow.window R10 (k0_off172 t6) S1x8x128.size (k0_off172_inb i t6 h2)) shapeCasts_S1x8x128_S8x128 x, shapeCast S8x128 (VecWindow.window R10 (k0_off173 t6) S1x8x128.size (k0_off173_inb i t6 h2)) shapeCasts_S1x8x128_S8x128 x, shapeCast S8x128 (VecWindow.window R10 (k0_off174 t6) S1x8x128.size (k0_off174_inb i t6 h2)) shapeCasts_S1x8x128_S8x128 x, shapeCast S8x128 (VecWindow.window R10 (k0_off175 t6) S1x8x128.size (k0_off175_inb i t6 h2)) shapeCasts_S1x8x128_S8x128 x, shapeCast S8x128 (VecWindow.window R10 (k0_off176 t6) S1x8x128.size (k0_off176_inb i t6 h2)) shapeCasts_S1x8x128_S8x128 x, shapeCast S8x128 (VecWindow.window R10 (k0_off177 t6) S1x8x128.size (k0_off177_inb i t6 h2)) shapeCasts_S1x8x128_S8x128 x, shapeCast S8x128 (VecWindow.window R10 (k0_off178 t6) S1x8x128.size (k0_off178_inb i t6 h2)) shapeCasts_S1x8x128_S8x128 x, shapeCast S8x128 (VecWindow.window R10 (k0_off179 t6) S1x8x128.size (k0_off179_inb i t6 h2)) shapeCasts_S1x8x128_S8x128 x, shapeCast S8x128 (VecWindow.window R10 (k0_off180 t6) S1x8x128.size (k0_off180_inb i t6 h2)) shapeCasts_S1x8x128_S8x128 x, shapeCast S8x128 (VecWindow.window R10 (k0_off181 t6) S1x8x128.size (k0_off181_inb i t6 h2)) shapeCasts_S1x8x128_S8x128 x, shapeCast S8x128 (VecWindow.window R10 (k0_off182 t6) S1x8x128.size (k0_off182_inb i t6 h2)) shapeCasts_S1x8x128_S8x128 x, shapeCast S8x128 (VecWindow.window R10 (k0_off183 t6) S1x8x128.size (k0_off183_inb i t6 h2)) shapeCasts_S1x8x128_S8x128 x, shapeCast S8x128 (VecWindow.window R10 (k0_off184 t6) S1x8x128.size (k0_off184_inb i t6 h2)) shapeCasts_S1x8x128_S8x128 x, shapeCast S8x128 (VecWindow.window R10 (k0_off185 t6) S1x8x128.size (k0_off185_inb i t6 h2)) shapeCasts_S1x8x128_S8x128 x, shapeCast S8x128 (VecWindow.window R10 (k0_off186 t6) S1x8x128.size (k0_off186_inb i t6 h2)) shapeCasts_S1x8x128_S8x128 x, shapeCast S8x128 (VecWindow.window R10 (k0_off187 t6) S1x8x128.size (k0_off187_inb i t6 h2)) shapeCasts_S1x8x128_S8x128 x, shapeCast S8x128 (VecWindow.window R10 (k0_off188 t6) S1x8x128.size (k0_off188_inb i t6 h2)) shapeCasts_S1x8x128_S8x128 x, shapeCast S8x128 (VecWindow.window R10 (k0_off189 t6) S1x8x128.size (k0_off189_inb i t6 h2)) shapeCasts_S1x8x128_S8x128 x, shapeCast S8x128 (VecWindow.window R10 (k0_off190 t6) S1x8x128.size (k0_off190_inb i t6 h2)) shapeCasts_S1x8x128_S8x128 x, shapeCast S8x128 (VecWindow.window R10 (k0_off191 t6) S1x8x128.size (k0_off191_inb i t6 h2)) shapeCasts_S1x8x128_S8x128 x, shapeCast S8x128 (VecWindow.window R10 (k0_off192 t6) S1x8x128.size (k0_off192_inb i t6 h2)) shapeCasts_S1x8x128_S8x128 x, shapeCast S8x128 (VecWindow.window R10 (k0_off193 t6) S1x8x128.size (k0_off193_inb i t6 h2)) shapeCasts_S1x8x128_S8x128 x, shapeCast S8x128 (VecWindow.window R10 (k0_off194 t6) S1x8x128.size (k0_off194_inb i t6 h2)) shapeCasts_S1x8x128_S8x128 x, shapeCast S8x128 (VecWindow.window R10 (k0_off195 t6) S1x8x128.size (k0_off195_inb i t6 h2)) shapeCasts_S1x8x128_S8x128 x, shapeCast S8x128 (VecWindow.window R10 (k0_off196 t6) S1x8x128.size (k0_off196_inb i t6 h2)) shapeCasts_S1x8x128_S8x128 x, shapeCast S8x128 (VecWindow.window R10 (k0_off197 t6) S1x8x128.size (k0_off197_inb i t6 h2)) shapeCasts_S1x8x128_S8x128 x, shapeCast S8x128 (VecWindow.window R10 (k0_off198 t6) S1x8x128.size (k0_off198_inb i t6 h2)) shapeCasts_S1x8x128_S8x128 x, shapeCast S8x128 (VecWindow.window R10 (k0_off199 t6) S1x8x128.size (k0_off199_inb i t6 h2)) shapeCasts_S1x8x128_S8x128 x]
def r7 (i : grid0.Coords) (h2 : k0_cond2 i = 1#1) (t6 : Fin k0_t6_loop.trips) (t7 : Fin k0_t7_loop.trips) (vb : BitVec 32) (R5 : S7x4096.Idx → BitVec 32) (x : S8x128.Idx) : BitVec 32 :=
  IntOp.subi (broadcastTo S8x128 (shapeCast S1x128 (shapeCast S1x128 (VecWindow.window R5 (k0_off151 t6 t7) S1x128.size (k0_off151_inb i t6 t7 h2)) shapeCasts_S1x128_S1x128) shapeCasts_S1x128_S1x128) broadcasts_S1x128_S8x128 x) vb
def old7 (i : grid0.Coords) (h2 : k0_cond2 i = 1#1) (t6 : Fin k0_t6_loop.trips) (t7 : Fin k0_t7_loop.trips) (R15 : S7x8x4096.Idx → F .f32) (x : S8x128.Idx) : F .f32 :=
  shapeCast S8x128 (VecWindow.window R15 (k0_off200 t6 t7) S1x8x128.size (k0_off200_inb i t6 t7 h2)) shapeCasts_S1x8x128_S8x128 x
def pick7 (i : grid0.Coords) (h2 : k0_cond2 i = 1#1) (t6 : Fin k0_t6_loop.trips) (t7 : Fin k0_t7_loop.trips) (vb : BitVec 32) (io : IVec S8x128 32) (R5 : S7x4096.Idx → BitVec 32) (R10 : S2x384x512.Idx → F .f32) (R15 : S7x8x4096.Idx → F .f32) (x : S8x128.Idx) : F .f32 :=
  Scalar.select (hitOf (r7 i h2 t6 t7 vb R5 x) (io x)) (tree (r7 i h2 t6 t7 vb R5 x) (zl7 i h2 t6 R10 x) (old7 i h2 t6 t7 R15 x)) (old7 i h2 t6 t7 R15 x)

theorem trip7 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (a0 : BitVec 32) (h2 : k0_cond2 i = 1#1) (vb : BitVec 32) (io : IVec S8x128 32) (t6 : Fin k0_t6_loop.trips) (a16 v178 : BitVec 32) (t7 : Fin k0_t7_loop.trips)
    (R5 : S7x4096.Idx → BitVec 32) (R10 : S2x384x512.Idx → F .f32) (R15 : S7x8x4096.Idx → F .f32) :
    iprop(owns (c : Thread nD τ) arg5 fullShare (R5 : S7x4096.Idx → Elt F .i32) ∗ owns (c : Thread nD τ) arg10 fullShare R10 ∗ owns (c : Thread nD τ) arg15 fullShare R15)
      ⊢ (wp frame (wpE (defs₀ (F := F)) Variants.none (c : Thread nD τ) none) Set.univ
          (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 vb io t6 a16 v178 t7 PUnit.unit) (fun _ => iprop(owns (c : Thread nD τ) arg5 fullShare (R5 : S7x4096.Idx → Elt F .i32) ∗ owns (c : Thread nD τ) arg10 fullShare R10
            ∗ owns (c : Thread nD τ) arg15 fullShare (VecWindow.put R15 (k0_off200 t6 t7) S1x8x128.size (shapeCast S1x8x128 (pick7 i h2 t6 t7 vb io R5 R10 R15) shapeCasts_S8x128_S1x8x128)))) : sProp 𝕄) := by
  unfold owns
  iintro ⟨⟨%X5, %e5, H5⟩, ⟨%X10, %e10, H10⟩, ⟨%X15, %e15, H15⟩⟩
  subst e5 e10 e15
  unfold k0_t7_body
  sl_exec
  sl_step
  isplitl [H5]; · iexists X5; isplitr; · ipureintro; rfl
                  iexact H5
  isplitl [H10]; · iexists X10; isplitr; · ipureintro; rfl
                   iexact H10
  · iexists _; isplitr; swap; · iexact H15
    ipureintro
    rw [View.read_writes_cons_put _ _ _ _ _ rfl]
    exact congrArg (VecWindow.put _ _ _) (congrArg (fun v => shapeCast S1x8x128 v shapeCasts_S8x128_S1x8x128) (funext fun x => rfl))

end Cert.KernelIdeal.Val
end
-- ==== Proof.VBits.lean ====
module

public import Idealize.ShloMosaic.Lib.Tactic
public import proofs.«01_k».proof.Proof.VPick

@[expose] public section

/-! What the bits of a target's word select. -/

noncomputable section

namespace Cert.KernelIdeal.Val

open Idealize.ShloMosaic

theorem lvl_map {α β : Type} (f : α → β) (b : BitVec 1) : ∀ l : List α, lvl b (l.map f) = (lvl b l).map f
  | a :: c :: t => by
    show Scalar.select b (f c) (f a) :: lvl b (t.map f) = (f (Scalar.select b c a)) :: (lvl b t).map f
    rw [lvl_map f b t]
    congr 1
    unfold Scalar.select
    split <;> rfl
  | [] => rfl
  | [_] => rfl

theorem lvl_ne {α : Type} (b : BitVec 1) : ∀ l : List α, l ≠ [] → lvl b l ≠ []
  | _ :: _ :: _, _ => List.cons_ne_nil _ _
  | [_], h => h
  | [], h => h

theorem tree_map {α β : Type} (f : α → β) (r : BitVec 32) (l : List α) (hl : l ≠ []) (d : α) (d' : β) :
    tree r (l.map f) d' = f (tree r l d) := by
  unfold tree
  rw [lvl_map, lvl_map, lvl_map, lvl_map, lvl_map, lvl_map]
  have h := lvl_ne (bitOf r 256#32) _ (lvl_ne (bitOf r 128#32) _ (lvl_ne (bitOf r 64#32) _ (lvl_ne (bitOf r 32#32) _ (lvl_ne (bitOf r 16#32) _ (lvl_ne (bitOf r 8#32) l hl)))))
  revert h
  generalize lvl (bitOf r 256#32) _ = q
  intro h
  cases q with
  | nil => exact absurd rfl h
  | cons a t => rfl

set_option maxRecDepth 100000 in
theorem tree_range_fin : ∀ (g : Fin 48) (s : Fin 8), tree (BitVec.ofNat 32 (8 * g.val + s.val)) (List.range 48) 0 = g.val := by
  decide +kernel

theorem toInt_ofInt_small (n : ℤ) (h0 : -1000000 ≤ n) (h1 : n < 1000000) : (BitVec.ofInt 32 n).toInt = n := by
  rw [BitVec.toInt_ofInt]
  rw [Int.bmod_def]
  split <;> omega

theorem ofInt_sub' (a b : ℤ) : BitVec.ofInt 32 a - BitVec.ofInt 32 b = BitVec.ofInt 32 (a - b) := by
  rw [BitVec.sub_eq_add_neg, ← BitVec.ofInt_neg, ← BitVec.ofInt_add, Int.sub_eq_add_neg]

theorem and7_eq (n : ℤ) (h0 : 0 ≤ n) (h1 : n < 1000000) : IntOp.cmpi .eq (IntOp.andi (BitVec.ofInt 32 n) 7#32) 0#32 = BitVec.ofBool (decide (n % 8 = 0)) := by
  obtain ⟨m, rfl⟩ := Int.eq_ofNat_of_zero_le h0
  unfold IntOp.cmpi IntOp.andi
  have e : (BitVec.ofInt 32 (m : ℤ) &&& 7#32) = BitVec.ofNat 32 (m % 8) := by
    apply BitVec.eq_of_toNat_eq
    rw [BitVec.toNat_and]
    have : (BitVec.ofInt 32 (m : ℤ)).toNat = m := by
      rw [BitVec.toNat_ofInt]; omega
    rw [this]
    show m &&& (2 ^ 3 - 1) = _
    rw [Nat.and_two_pow_sub_one_eq_mod, BitVec.toNat_ofNat]
    omega
  rw [e]
  show BitVec.ofBool (BitVec.ofNat 32 (m % 8) == 0#32) = _
  congr 1
  have h8 : m % 8 < 8 := Nat.mod_lt _ (by norm_num)
  have : (((m : ℤ) % 8 = 0) ↔ m % 8 = 0) := by omega
  simp only [this]
  generalize m % 8 = q at h8
  revert q
  decide

theorem hitOf_eq (n : ℤ) (s : ℕ) (hs : s < 8) (h0 : -500000 ≤ n) (h1 : n < 500000) :
    hitOf (BitVec.ofInt 32 n) (BitVec.ofNat 32 s) = 1#1 ↔ (0 ≤ n - s ∧ n - s < 384 ∧ (n - s) % 8 = 0) := by
  have e : IntOp.subi (BitVec.ofInt 32 n) (BitVec.ofNat 32 s) = BitVec.ofInt 32 (n - s) := by
    unfold IntOp.subi
    rw [← BitVec.ofInt_natCast, ofInt_sub']
  have hI := toInt_ofInt_small (n - s) (by omega) (by omega)
  unfold hitOf
  rw [e]
  have c1 : IntOp.cmpi .sge (BitVec.ofInt 32 (n - s)) 0#32 = BitVec.ofBool (decide (0 ≤ n - s)) := by
    show BitVec.ofBool ((0#32).sle (BitVec.ofInt 32 (n - s))) = _
    rw [BitVec.sle, hI]; rfl
  have c2 : IntOp.cmpi .slt (BitVec.ofInt 32 (n - s)) 384#32 = BitVec.ofBool (decide (n - s < 384)) := by
    show BitVec.ofBool ((BitVec.ofInt 32 (n - s)).slt 384#32) = _
    rw [BitVec.slt, hI]; rfl
  rw [c1, c2]
  by_cases hp : 0 ≤ n - s
  · rw [and7_eq _ hp (by omega)]
    by_cases a : n - s < 384 <;> by_cases b : (n - s) % 8 = 0 <;> simp only [hp, a, b, IntOp.andi, decide_true, decide_false, true_and, and_true, and_false, false_and, iff_true, iff_false] <;> decide
  · generalize IntOp.cmpi .eq _ 0#32 = q
    simp only [hp, false_and, iff_false, decide_false]
    by_cases a : n - s < 384 <;> simp only [a, decide_true, decide_false, IntOp.andi] <;> revert q <;> decide

/-- The selected row, and when it is taken: target word `T`, block base `V`, sublane `s`. -/
theorem pick_value {α : Type} (T : ℕ) (hT : T < 50304) (V : ℤ) (hV0 : -384 ≤ V) (hV1 : V < 100000) (hV8 : V % 8 = 0) (hVc : 0 ≤ V ∨ V = -384)
    (s : ℕ) (hs : s < 8) (f : ℕ → α) (l : List α)
    (hl : 0 ≤ V → l = (List.range 48).map f) (old : α) :
    Scalar.select (hitOf (IntOp.subi (BitVec.ofNat 32 T) (BitVec.ofInt 32 V)) (BitVec.ofNat 32 s)) (tree (IntOp.subi (BitVec.ofNat 32 T) (BitVec.ofInt 32 V)) l old) old
      = if (V ≤ T ∧ (T : ℤ) < V + 384 ∧ T % 8 = s) ∧ 0 ≤ V then f ((T - V.toNat) / 8) else old := by
  have e : IntOp.subi (BitVec.ofNat 32 T) (BitVec.ofInt 32 V) = BitVec.ofInt 32 (T - V) := by
    unfold IntOp.subi
    rw [← BitVec.ofInt_natCast, ofInt_sub']
  rw [e]
  have hh := hitOf_eq ((T : ℤ) - V) s hs (by omega) (by omega)
  by_cases hit : hitOf (BitVec.ofInt 32 ((T : ℤ) - V)) (BitVec.ofNat 32 s) = 1#1
  · have h := hh.1 hit
    by_cases hV : 0 ≤ V
    · rw [hit, if_pos ⟨⟨by omega, by omega, by omega⟩, hV⟩, hl hV]
      rw [show ∀ a b : α, Scalar.select 1#1 a b = a from fun _ _ => rfl]
      show tree (BitVec.ofInt 32 ((T : ℤ) - V)) _ _ = _
      rw [tree_map f _ _ (by decide) 0]
      congr 1
      have := tree_range_fin ⟨(T - V.toNat) / 8, by omega⟩ ⟨s, hs⟩
      simp only at this
      rw [← this]
      congr 1
      rw [← BitVec.ofInt_natCast]
      congr 1
      omega
    · exfalso
      omega
  · rw [if_neg (fun h => hit (hh.2 ⟨by omega, by omega, by omega⟩))]
    exact if_neg hit

end Cert.KernelIdeal.Val
end
-- ==== Proof.VTz.lean ====
module

public import Idealize.ShloMosaic.Lib.ValueIdxCore
public import proofs.«01_k».proof.Proof.VT4
public import proofs.«01_k».proof.Proof.VT7
public import proofs.«01_k».proof.Proof.VBits
public import proofs.«01_k».proof.Proof.VCol

@[expose] public section

set_option maxRecDepth 100000
set_option maxHeartbeats 4000000

/-! What one trip over the targets leaves, at exact real values. -/

noncomputable section

namespace Cert.KernelIdeal.Val

open Cert.KernelIdeal Cert.KernelIdeal.Gen
open Idealize.ShloMosaic Idealize.ShloMosaic.ValueIdx

/-- The targets' words. -/
def TG (T : ℕ → ℕ → ℕ) (R5 : S7x4096.Idx → BitVec 32) : Prop := ∀ i : S7x4096.Idx, R5 i = BitVec.ofNat 32 (T (i 0).val (i 1).val)

/-- The picked logits: of each target that lies among the first `384 * cnt` words, its logit in its sublane. -/
def TZP (Zr : ℕ → ℕ → ℝ) (T : ℕ → ℕ → ℕ) (cnt : ℕ → ℕ → ℕ) (R15 : S7x8x4096.Idx → EReal) : Prop :=
  ∀ i : S7x8x4096.Idx, R15 i = if T (i 0).val (i 2).val < 384 * cnt (i 0).val (i 2).val ∧ T (i 0).val (i 2).val % 8 = (i 1).val
    then ((Zr (T (i 0).val (i 2).val) (i 2).val : ℝ) : EReal) else 0

theorem tz_step (Zr : ℕ → ℕ → ℝ) (T : ℕ → ℕ → ℕ) (cnt : ℕ → ℕ → ℕ) (new c b : ℕ) (off : Fin 3 → ℕ) (hoff : off = ![c, 0, b])
    (R15 : S7x8x4096.Idx → EReal) (w : S8x128.Idx → EReal) (hc : S8x128.ShapeCasts S1x8x128)
    (h : ∀ x : S8x128.Idx, w x = if T c (b + (x 1).val) < 384 * new ∧ T c (b + (x 1).val) % 8 = (x 0).val
      then ((Zr (T c (b + (x 1).val)) (b + (x 1).val) : ℝ) : EReal) else 0)
    (hP : TZP Zr T cnt R15) :
    TZP Zr T (fun r t => if r = c ∧ b ≤ t ∧ t < b + 128 then new else cnt r t) (VecWindow.put R15 off S1x8x128.size (shapeCast S1x8x128 w hc)) := by
  subst hoff
  intro i
  unfold VecWindow.put
  by_cases hi : (i 0).val = c ∧ b ≤ (i 2).val ∧ (i 2).val < b + 128
  · have hall : ∀ a : Fin 3, (![c, 0, b] : Fin 3 → ℕ) a ≤ (i a).val ∧ (i a).val < (![c, 0, b] : Fin 3 → ℕ) a + S1x8x128.size a := by
      intro a
      match a with
      | 0 => exact ⟨hi.1.ge, by show (i 0).val < c + 1; have := hi.1; omega⟩
      | 1 => exact ⟨Nat.zero_le _, by have := (i 1).isLt; show (i 1).val < 0 + 8; rw [Nat.zero_add]; exact this⟩
      | 2 => exact hi.2
    rw [dif_pos hall]
    simp only [if_pos hi]
    have e1 : ((Rect.unitLocal (s := S7x8x4096) (off := ![c, 0, b]) (size := S1x8x128.size) i hall) 1).val = (i 1).val := Nat.sub_zero _
    have e2 : b + ((Rect.unitLocal (s := S7x8x4096) (off := ![c, 0, b]) (size := S1x8x128.size) i hall) 2).val = (i 2).val := Nat.add_sub_cancel' hi.2.1
    have e0 : ((Rect.unitLocal (s := S7x8x4096) (off := ![c, 0, b]) (size := S1x8x128.size) i hall) 0).val = 0 := by
      show (i 0).val - c = 0
      have := hi.1; omega
    generalize Rect.unitLocal (s := S7x8x4096) (off := ![c, 0, b]) (size := S1x8x128.size) i hall = q at e0 e1 e2
    rw [shapeCast_apply w hc q (ix2 (q 1) (q 2) : S8x128.Idx) (by
      rw [Shape.rowMajor_val_three, Shape.rowMajor_val_two]
      show (q 1).val * 128 + (q 2).val = ((q 0).val * 8 + (q 1).val) * 128 + (q 2).val
      rw [e0]; omega), h]
    show (if T c (b + (q 2).val) < 384 * new ∧ T c (b + (q 2).val) % 8 = (q 1).val then ((Zr (T c (b + (q 2).val)) (b + (q 2).val) : ℝ) : EReal) else 0) = _
    rw [e2, e1, hi.1]
  · have hall : ¬ ∀ a : Fin 3, (![c, 0, b] : Fin 3 → ℕ) a ≤ (i a).val ∧ (i a).val < (![c, 0, b] : Fin 3 → ℕ) a + S1x8x128.size a := by
      intro h
      refine hi ⟨?_, h 2⟩
      have := h 0
      have a1 : c ≤ (i 0).val := this.1
      have a2 : (i 0).val < c + 1 := this.2
      omega
    rw [dif_neg hall]
    simp only [if_neg hi]
    exact hP i

theorem tgrow (R : S7x4096.Idx → BitVec 32) (off : Fin 2 → ℕ) (inb : ∀ a, off a + S1x128.size a ≤ S7x4096.size a) (hc : S1x128.ShapeCasts S1x128) (hb : S1x128.Broadcasts S8x128) (r u : ℕ)
    (hoff : off = ![r, u]) (x : S8x128.Idx) (T : ℕ → ℕ → ℕ) (hR : TG T R) :
    broadcastTo S8x128 (shapeCast S1x128 (shapeCast S1x128 (VecWindow.window R off S1x128.size inb) hc) hc) hb x = BitVec.ofNat 32 (T r (u + (x 1).val)) := by
  subst hoff
  have e : shapeCast S1x128 (shapeCast S1x128 (VecWindow.window R ![r, u] S1x128.size inb : S1x128.Idx → BitVec 32) hc) hc = (VecWindow.window R ![r, u] S1x128.size inb : S1x128.Idx → BitVec 32) :=
    (shapeCast_self _ _).trans (shapeCast_self _ _)
  refine (congrFun (congrArg (fun v : S1x128.Idx → BitVec 32 => broadcastTo S8x128 v hb) e) x).trans ?_
  show VecWindow.window R ![r, u] S1x128.size inb _ = _
  unfold VecWindow.window
  rw [hR _]
  show BitVec.ofNat 32 (T (r + 1 * 0) (u + 1 * (x 1).val)) = _
  simp only [one_mul, Nat.mul_zero, Nat.add_zero]

theorem oldrow (R : S7x8x4096.Idx → EReal) (off : Fin 3 → ℕ) (inb : ∀ a, off a + S1x8x128.size a ≤ S7x8x4096.size a) (hc : S1x8x128.ShapeCasts S8x128) (p u : ℕ)
    (hoff : off = ![p, 0, u]) (x : S8x128.Idx) (Zr : ℕ → ℕ → ℝ) (T : ℕ → ℕ → ℕ) (cnt : ℕ → ℕ → ℕ) (hP : TZP Zr T cnt R) :
    shapeCast S8x128 (VecWindow.window R off S1x8x128.size inb) hc x
      = if T p (u + (x 1).val) < 384 * cnt p (u + (x 1).val) ∧ T p (u + (x 1).val) % 8 = (x 0).val then ((Zr (T p (u + (x 1).val)) (u + (x 1).val) : ℝ) : EReal) else 0 := by
  subst hoff
  rw [shapeCast_apply _ hc x (ix3 (0 : Fin 1) (x 0) (x 1)) (by
    rw [Shape.rowMajor_val_three, Shape.rowMajor_val_two]
    show (0 * 8 + (x 0).val) * 128 + (x 1).val = (x 0).val * 128 + (x 1).val
    omega)]
  unfold VecWindow.window
  rw [hP _]
  show (if T (p + 1 * 0) (u + 1 * (x 1).val) < 384 * cnt (p + 1 * 0) (u + 1 * (x 1).val) ∧ T (p + 1 * 0) (u + 1 * (x 1).val) % 8 = 0 + 1 * (x 0).val then ((Zr (T (p + 1 * 0) (u + 1 * (x 1).val)) (u + 1 * (x 1).val) : ℝ) : EReal) else 0) = _
  simp only [one_mul, zero_add, Nat.add_zero, Nat.mul_zero]

/-- The sublanes' numbers. -/
def IoP (io : IVec S8x128 32) : Prop := ∀ x, io x = BitVec.ofNat 32 (x 0).val

/-- One selection, joined with what was picked before. -/
theorem pick_join (Zr : ℕ → ℕ → ℝ) (t n : ℕ) (T : ℕ) (hT : T < 50304) (c' : ℕ) (hc' : c' < 200) (s : ℕ) (hs : s < 8) (l : List EReal) (old : EReal)
    (hl : 0 < c' → l = (List.range 48).map fun g => ((Zr (384 * (c' - 1) + (8 * g + s)) t : ℝ) : EReal))
    (hold : old = if T < 384 * (c' - 1) ∧ T % 8 = s then ((Zr T t : ℝ) : EReal) else 0) :
    Scalar.select (hitOf (IntOp.subi (BitVec.ofNat 32 T) (BitVec.ofInt 32 (384 * (c' : ℤ) - 384))) (BitVec.ofNat 32 s))
        (tree (IntOp.subi (BitVec.ofNat 32 T) (BitVec.ofInt 32 (384 * (c' : ℤ) - 384))) l old) old
      = if T < 384 * c' ∧ T % 8 = s then ((Zr T t : ℝ) : EReal) else 0 := by
  rw [pick_value T hT (384 * (c' : ℤ) - 384) (by omega) (by omega) (by omega) (by omega) s hs (fun g => ((Zr (384 * (c' - 1) + (8 * g + s)) t : ℝ) : EReal)) l (fun h => hl (by omega))]
  by_cases h : (384 * (c' : ℤ) - 384 ≤ T ∧ (T : ℤ) < 384 * (c' : ℤ) - 384 + 384 ∧ T % 8 = s) ∧ 0 ≤ 384 * (c' : ℤ) - 384
  · rw [if_pos h, if_pos (by omega)]
    congr 3
    have : (384 * (c' : ℤ) - 384).toNat = 384 * (c' - 1) := by omega
    rw [this]
    omega
  · rw [if_neg h, hold]
    by_cases h' : T < 384 * (c' - 1) ∧ T % 8 = s
    · rw [if_pos h', if_pos (by omega)]
    · rw [if_neg h', if_neg (by omega)]

theorem zl4_real (t1 : Fin k0_t1_loop.trips) (t3 : Fin k0_t3_loop.trips) (R10 : S2x384x512.Idx → EReal) (x : S8x128.Idx) (f : ℕ → ℕ → ℝ)
    (hR : ∀ i : S2x384x512.Idx, (i 0).val = (t1.val + 1) % 2 → R10 i = ((f (i 1).val (i 2).val : ℝ) : EReal)) :
    zl4 (F := Ideal) t1 t3 R10 x = (List.range 48).map fun g => ((f (8 * g + (x 0).val) (128 * t3.val + (x 1).val) : ℝ) : EReal) := by
  unfold zl4
  rw [zrow R10 _ _ _ _ _ _ (off53_eq t1 t3) x f hR, zrow R10 _ _ _ _ _ _ (off54_eq t1 t3) x f hR, zrow R10 _ _ _ _ _ _ (off55_eq t1 t3) x f hR, zrow R10 _ _ _ _ _ _ (off56_eq t1 t3) x f hR, zrow R10 _ _ _ _ _ _ (off57_eq t1 t3) x f hR, zrow R10 _ _ _ _ _ _ (off58_eq t1 t3) x f hR, zrow R10 _ _ _ _ _ _ (off59_eq t1 t3) x f hR, zrow R10 _ _ _ _ _ _ (off60_eq t1 t3) x f hR, zrow R10 _ _ _ _ _ _ (off61_eq t1 t3) x f hR, zrow R10 _ _ _ _ _ _ (off62_eq t1 t3) x f hR, zrow R10 _ _ _ _ _ _ (off63_eq t1 t3) x f hR, zrow R10 _ _ _ _ _ _ (off64_eq t1 t3) x f hR, zrow R10 _ _ _ _ _ _ (off65_eq t1 t3) x f hR, zrow R10 _ _ _ _ _ _ (off66_eq t1 t3) x f hR, zrow R10 _ _ _ _ _ _ (off67_eq t1 t3) x f hR, zrow R10 _ _ _ _ _ _ (off68_eq t1 t3) x f hR, zrow R10 _ _ _ _ _ _ (off69_eq t1 t3) x f hR, zrow R10 _ _ _ _ _ _ (off70_eq t1 t3) x f hR, zrow R10 _ _ _ _ _ _ (off71_eq t1 t3) x f hR, zrow R10 _ _ _ _ _ _ (off72_eq t1 t3) x f hR, zrow R10 _ _ _ _ _ _ (off73_eq t1 t3) x f hR, zrow R10 _ _ _ _ _ _ (off74_eq t1 t3) x f hR, zrow R10 _ _ _ _ _ _ (off75_eq t1 t3) x f hR, zrow R10 _ _ _ _ _ _ (off76_eq t1 t3) x f hR, zrow R10 _ _ _ _ _ _ (off77_eq t1 t3) x f hR, zrow R10 _ _ _ _ _ _ (off78_eq t1 t3) x f hR, zrow R10 _ _ _ _ _ _ (off79_eq t1 t3) x f hR, zrow R10 _ _ _ _ _ _ (off80_eq t1 t3) x f hR, zrow R10 _ _ _ _ _ _ (off81_eq t1 t3) x f hR, zrow R10 _ _ _ _ _ _ (off82_eq t1 t3) x f hR, zrow R10 _ _ _ _ _ _ (off83_eq t1 t3) x f hR, zrow R10 _ _ _ _ _ _ (off84_eq t1 t3) x f hR, zrow R10 _ _ _ _ _ _ (off85_eq t1 t3) x f hR, zrow R10 _ _ _ _ _ _ (off86_eq t1 t3) x f hR, zrow R10 _ _ _ _ _ _ (off87_eq t1 t3) x f hR, zrow R10 _ _ _ _ _ _ (off88_eq t1 t3) x f hR, zrow R10 _ _ _ _ _ _ (off89_eq t1 t3) x f hR, zrow R10 _ _ _ _ _ _ (off90_eq t1 t3) x f hR, zrow R10 _ _ _ _ _ _ (off91_eq t1 t3) x f hR, zrow R10 _ _ _ _ _ _ (off92_eq t1 t3) x f hR, zrow R10 _ _ _ _ _ _ (off93_eq t1 t3) x f hR, zrow R10 _ _ _ _ _ _ (off94_eq t1 t3) x f hR, zrow R10 _ _ _ _ _ _ (off95_eq t1 t3) x f hR, zrow R10 _ _ _ _ _ _ (off96_eq t1 t3) x f hR, zrow R10 _ _ _ _ _ _ (off97_eq t1 t3) x f hR, zrow R10 _ _ _ _ _ _ (off98_eq t1 t3) x f hR, zrow R10 _ _ _ _ _ _ (off99_eq t1 t3) x f hR, zrow R10 _ _ _ _ _ _ (off100_eq t1 t3) x f hR]
  rfl

theorem pick4_real (t1 : Fin k0_t1_loop.trips) (t3 : Fin k0_t3_loop.trips) (t4 : Fin k0_t4_loop.trips) (Zr : ℕ → ℕ → ℝ) (T : ℕ → ℕ → ℕ) (hT : ∀ r t, T r t < 50304) (cnt : ℕ → ℕ → ℕ) (c' τ : ℕ) (hc' : c' < 200)
    (vb : BitVec 32) (hvb : vb = BitVec.ofInt 32 (384 * (c' : ℤ) - 384)) (io : IVec S8x128 32) (hio : IoP io)
    (R5 : S7x4096.Idx → BitVec 32) (hTG : TG T R5) (R10 : S2x384x512.Idx → EReal) (hZ : 0 < c' → ZP Zr ((t1.val + 1) % 2) (c' - 1) τ R10)
    (hb : ((if t1.val = 0 then 3584 else 512 * (t1.val - 1)) + 128 * t3.val) = 512 * τ + 128 * t3.val)
    (R15 : S7x8x4096.Idx → EReal) (hP : TZP Zr T cnt R15) (x : S8x128.Idx)
    (hcnt : cnt t4.val (((if t1.val = 0 then 3584 else 512 * (t1.val - 1)) + 128 * t3.val) + (x 1).val) = c' - 1) :
    pick4 (F := Ideal) t1 t3 t4 vb io R5 R10 R15 x
      = if T t4.val (((if t1.val = 0 then 3584 else 512 * (t1.val - 1)) + 128 * t3.val) + (x 1).val) < 384 * c' ∧ T t4.val (((if t1.val = 0 then 3584 else 512 * (t1.val - 1)) + 128 * t3.val) + (x 1).val) % 8 = (x 0).val
        then ((Zr (T t4.val (((if t1.val = 0 then 3584 else 512 * (t1.val - 1)) + 128 * t3.val) + (x 1).val)) (((if t1.val = 0 then 3584 else 512 * (t1.val - 1)) + 128 * t3.val) + (x 1).val) : ℝ) : EReal) else 0 := by
  have hr : r4 t1 t3 t4 vb R5 x = IntOp.subi (BitVec.ofNat 32 (T t4.val (((if t1.val = 0 then 3584 else 512 * (t1.val - 1)) + 128 * t3.val) + (x 1).val))) (BitVec.ofInt 32 (384 * (c' : ℤ) - 384)) := by
    unfold r4
    rw [tgrow R5 _ _ _ _ _ _ (off52_eq t1 t3 t4) x T hTG, hvb]
  have ho := oldrow R15 _ (k0_off101_inb t1 t3 t4) shapeCasts_S1x8x128_S8x128 _ _ (off101_eq t1 t3 t4) x Zr T cnt hP
  rw [hcnt] at ho
  unfold pick4
  rw [hr, hio x]
  refine pick_join Zr _ 0 _ (hT _ _) c' hc' _ (x 0).isLt _ _ (fun h => ?_) ho
  rw [zl4_real t1 t3 R10 x (fun r u => Zr (384 * (c' - 1) + r) (512 * τ + u)) (hZ h)]
  refine List.map_congr_left fun g _ => ?_
  congr 2
  omega

theorem zl7_real (i : grid0.Coords) (h2 : k0_cond2 i = 1#1) (t6 : Fin k0_t6_loop.trips) (R10 : S2x384x512.Idx → EReal) (x : S8x128.Idx) (f : ℕ → ℕ → ℝ)
    (hR : ∀ i : S2x384x512.Idx, (i 0).val = 1 → R10 i = ((f (i 1).val (i 2).val : ℝ) : EReal)) :
    zl7 (F := Ideal) i h2 t6 R10 x = (List.range 48).map fun g => ((f (8 * g + (x 0).val) (128 * t6.val + (x 1).val) : ℝ) : EReal) := by
  unfold zl7
  rw [zrow R10 _ _ _ _ _ _ (off152_eq t6) x f hR, zrow R10 _ _ _ _ _ _ (off153_eq t6) x f hR, zrow R10 _ _ _ _ _ _ (off154_eq t6) x f hR, zrow R10 _ _ _ _ _ _ (off155_eq t6) x f hR, zrow R10 _ _ _ _ _ _ (off156_eq t6) x f hR, zrow R10 _ _ _ _ _ _ (off157_eq t6) x f hR, zrow R10 _ _ _ _ _ _ (off158_eq t6) x f hR, zrow R10 _ _ _ _ _ _ (off159_eq t6) x f hR, zrow R10 _ _ _ _ _ _ (off160_eq t6) x f hR, zrow R10 _ _ _ _ _ _ (off161_eq t6) x f hR, zrow R10 _ _ _ _ _ _ (off162_eq t6) x f hR, zrow R10 _ _ _ _ _ _ (off163_eq t6) x f hR, zrow R10 _ _ _ _ _ _ (off164_eq t6) x f hR, zrow R10 _ _ _ _ _ _ (off165_eq t6) x f hR, zrow R10 _ _ _ _ _ _ (off166_eq t6) x f hR, zrow R10 _ _ _ _ _ _ (off167_eq t6) x f hR, zrow R10 _ _ _ _ _ _ (off168_eq t6) x f hR, zrow R10 _ _ _ _ _ _ (off169_eq t6) x f hR, zrow R10 _ _ _ _ _ _ (off170_eq t6) x f hR, zrow R10 _ _ _ _ _ _ (off171_eq t6) x f hR, zrow R10 _ _ _ _ _ _ (off172_eq t6) x f hR, zrow R10 _ _ _ _ _ _ (off173_eq t6) x f hR, zrow R10 _ _ _ _ _ _ (off174_eq t6) x f hR, zrow R10 _ _ _ _ _ _ (off175_eq t6) x f hR, zrow R10 _ _ _ _ _ _ (off176_eq t6) x f hR, zrow R10 _ _ _ _ _ _ (off177_eq t6) x f hR, zrow R10 _ _ _ _ _ _ (off178_eq t6) x f hR, zrow R10 _ _ _ _ _ _ (off179_eq t6) x f hR, zrow R10 _ _ _ _ _ _ (off180_eq t6) x f hR, zrow R10 _ _ _ _ _ _ (off181_eq t6) x f hR, zrow R10 _ _ _ _ _ _ (off182_eq t6) x f hR, zrow R10 _ _ _ _ _ _ (off183_eq t6) x f hR, zrow R10 _ _ _ _ _ _ (off184_eq t6) x f hR, zrow R10 _ _ _ _ _ _ (off185_eq t6) x f hR, zrow R10 _ _ _ _ _ _ (off186_eq t6) x f hR, zrow R10 _ _ _ _ _ _ (off187_eq t6) x f hR, zrow R10 _ _ _ _ _ _ (off188_eq t6) x f hR, zrow R10 _ _ _ _ _ _ (off189_eq t6) x f hR, zrow R10 _ _ _ _ _ _ (off190_eq t6) x f hR, zrow R10 _ _ _ _ _ _ (off191_eq t6) x f hR, zrow R10 _ _ _ _ _ _ (off192_eq t6) x f hR, zrow R10 _ _ _ _ _ _ (off193_eq t6) x f hR, zrow R10 _ _ _ _ _ _ (off194_eq t6) x f hR, zrow R10 _ _ _ _ _ _ (off195_eq t6) x f hR, zrow R10 _ _ _ _ _ _ (off196_eq t6) x f hR, zrow R10 _ _ _ _ _ _ (off197_eq t6) x f hR, zrow R10 _ _ _ _ _ _ (off198_eq t6) x f hR, zrow R10 _ _ _ _ _ _ (off199_eq t6) x f hR]
  rfl

theorem pick7_real (i : grid0.Coords) (h2 : k0_cond2 i = 1#1) (t6 : Fin k0_t6_loop.trips) (t7 : Fin k0_t7_loop.trips) (Zr : ℕ → ℕ → ℝ) (T : ℕ → ℕ → ℕ) (hT : ∀ r t, T r t < 50304) (cnt : ℕ → ℕ → ℕ) (c' τ : ℕ) (hc' : c' < 200)
    (vb : BitVec 32) (hvb : vb = BitVec.ofInt 32 (384 * (c' : ℤ) - 384)) (io : IVec S8x128 32) (hio : IoP io)
    (R5 : S7x4096.Idx → BitVec 32) (hTG : TG T R5) (R10 : S2x384x512.Idx → EReal) (hZ : 0 < c' → ZP Zr (1) (c' - 1) τ R10)
    (hb : (3584 + 128 * t6.val) = 512 * τ + 128 * t6.val)
    (R15 : S7x8x4096.Idx → EReal) (hP : TZP Zr T cnt R15) (x : S8x128.Idx)
    (hcnt : cnt t7.val ((3584 + 128 * t6.val) + (x 1).val) = c' - 1) :
    pick7 (F := Ideal) i h2 t6 t7 vb io R5 R10 R15 x
      = if T t7.val ((3584 + 128 * t6.val) + (x 1).val) < 384 * c' ∧ T t7.val ((3584 + 128 * t6.val) + (x 1).val) % 8 = (x 0).val
        then ((Zr (T t7.val ((3584 + 128 * t6.val) + (x 1).val)) ((3584 + 128 * t6.val) + (x 1).val) : ℝ) : EReal) else 0 := by
  have hr : r7 i h2 t6 t7 vb R5 x = IntOp.subi (BitVec.ofNat 32 (T t7.val ((3584 + 128 * t6.val) + (x 1).val))) (BitVec.ofInt 32 (384 * (c' : ℤ) - 384)) := by
    unfold r7
    rw [tgrow R5 _ _ _ _ _ _ (off151_eq t6 t7) x T hTG, hvb]
  have ho := oldrow R15 _ (k0_off200_inb i t6 t7 h2) shapeCasts_S1x8x128_S8x128 _ _ (off200_eq t6 t7) x Zr T cnt hP
  rw [hcnt] at ho
  unfold pick7
  rw [hr, hio x]
  refine pick_join Zr _ 0 _ (hT _ _) c' hc' _ (x 0).isLt _ _ (fun h => ?_) ho
  rw [zl7_real i h2 t6 R10 x (fun r u => Zr (384 * (c' - 1) + r) (512 * τ + u)) (hZ h)]
  refine List.map_congr_left fun g _ => ?_
  congr 2
  omega

end Cert.KernelIdeal.Val
end
-- ==== Proof.VLoop.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import proofs.«01_k».proof.Proof.VCol
public import proofs.«01_k».proof.Proof.VTz

@[expose] public section

set_option maxRecDepth 100000
set_option maxHeartbeats 4000000

/-! The loops over a tile's columns, at exact real values. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A counted loop by an invariant. -/
theorem for_inv (c : Dev nD) (L : Scf.Loop 32) (hok : L.OK) (body : Fin L.trips → Unit → Prog (TpuEff nD τ sig (Elt Ideal) Λ₀ .tc) Unit)
    (I : ℕ → sProp 𝕄)
    (h : ∀ k : Fin L.trips, I k.val ⊢ wp frame (wpE (defs₀ (F := Ideal)) Variants.none (c : Thread nD τ) none) Set.univ (body k PUnit.unit) (fun _ => I (k.val + 1))) :
    I 0 ⊢ (wp frame (wpE (defs₀ (F := Ideal)) Variants.none (c : Thread nD τ) none) Set.univ (Scf.Loop.for L hok ⟨⟩ body) (fun _ => I L.trips) : sProp 𝕄) := by
  iintro H
  iapply (Scf.wp_for frame (wpE (defs₀ (F := Ideal)) Variants.none (c : Thread nD τ) none) Set.univ L.lb L.ub L.st hok ⟨⟩ body (fun k _ => I k) (fun k _ => h k))
  isplitl [H]; · iexact H
  iintro %acc H
  iexact H

theorem StatP_congr (y : ℕ → ℕ → ℕ → ℝ) (cnt cnt' : ℕ → ℕ) (h : ∀ t, cnt t = cnt' t) (R11 R12 R13 R14 : S8x4096.Idx → EReal)
    (hP : StatP y cnt R11 R12 R13 R14) : StatP y cnt' R11 R12 R13 R14 := by
  rw [← funext h]; exact hP

theorem cnt_k_step (B c' t k : ℕ) (cnt : ℕ → ℕ) :
    (if B + 128 * k ≤ t ∧ t < B + 128 * k + 128 then c' else (fun t => if B ≤ t ∧ t < B + 128 * k then c' else cnt t) t) = if B ≤ t ∧ t < B + 128 * (k + 1) then c' else cnt t := by
  by_cases a : B + 128 * k ≤ t ∧ t < B + 128 * k + 128
  · rw [if_pos a, if_pos (by omega)]
  · rw [if_neg a]
    show (if B ≤ t ∧ t < B + 128 * k then c' else cnt t) = _
    by_cases b : B ≤ t ∧ t < B + 128 * k
    · rw [if_pos b, if_pos (by omega)]
    · rw [if_neg b, if_neg (by omega)]

/-- The tile's statistics after a trip, the first trip's among them. -/
theorem flag_fin : ∀ (n : Fin 131) (J : Fin 8), Scalar.andi (Scalar.cmpi .eq (Scf.iv 0#32 1#32 J) 0#32) (Scalar.cmpi .eq (BitVec.ofNat 32 n.val) 0#32) = if n.val = 0 ∧ J.val = 0 then 1#1 else 0#1 := by
  decide +kernel
theorem base_fin : ∀ (n : Fin 131) (J : Fin 8), Scalar.muli (Scalar.select (Scalar.cmpi .sgt (Scf.iv 0#32 1#32 J) 0#32) (BitVec.ofNat 32 n.val) (Scalar.subi (BitVec.ofNat 32 n.val) 1#32)) 384#32
    = BitVec.ofInt 32 (384 * (((if J.val = 0 then n.val else n.val + 1 : ℕ)) : ℤ) - 384) := by
  decide +kernel

theorem sel2_stat (t1 : Fin k0_t1_loop.trips) (k : Fin k0_t2_loop.trips) (Zr : ℕ → ℕ → ℝ) (S : ℕ → ℝ) (n : ℕ) (c' : ℕ) (hc' : c' = if t1.val = 0 then n else n + 1)
    (c17 c1 : BitVec 32) (v57 : BitVec 1) (hv : v57 = if n = 0 ∧ t1.val = 0 then 1#1 else 0#1)
    (R4 : S8x4096.Idx → EReal) (hX : XP S R4) (R10 : S2x384x512.Idx → EReal) (hZ : 0 < c' → ZP Zr ((t1.val + 1) % 2) (c' - 1) ((t1.val + 7) % 8) R10)
    (R11 R12 R13 R14 : S8x4096.Idx → EReal) (x : S8x128.Idx)
    (h : StatR (yOf Zr S (x 0).val ((if t1.val = 0 then 3584 else 512 * (t1.val - 1)) + 128 * k.val + (x 1).val)) (48 * (c' - 1)) (rd2 (F := Ideal) t1 k R11 x) (rd2 (F := Ideal) t1 k R12 x) (rd2 (F := Ideal) t1 k R13 x) (rd2 (F := Ideal) t1 k R14 x)) :
    StatR (yOf Zr S (x 0).val ((if t1.val = 0 then 3584 else 512 * (t1.val - 1)) + 128 * k.val + (x 1).val)) (48 * c')
      (Scalar.select v57 (FloatOps.ofBits (F := Ideal) .f32 0xFCF0BDC2#32) (m2 (F := Ideal) t1 k R4 R10 R11 x))
      (Scalar.select v57 (FloatOps.ofBits (F := Ideal) .f32 0x00000000#32) (l2 (F := Ideal) t1 k R4 R10 R11 R12 x))
      (Scalar.select v57 (FloatOps.ofBits (F := Ideal) .f32 0x00000000#32) (s12 (F := Ideal) t1 k R4 R10 R11 R12 R13 x))
      (Scalar.select v57 (FloatOps.ofBits (F := Ideal) .f32 0x00000000#32) (s22 (F := Ideal) t1 k R4 R10 R11 R12 R13 R14 x)) := by
  have ht : t1.val < 8 := t1.isLt
  by_cases hf : n = 0 ∧ t1.val = 0
  · rw [hv, if_pos hf, select_one, select_one, select_one, select_one]
    have : c' = 0 := by rw [hc', if_pos hf.2]; exact hf.1
    rw [this]
    exact stat_init _
  · rw [hv, if_neg hf, select_zero, select_zero, select_zero, select_zero]
    have hz : 0 < c' := by
      rw [hc']; split <;> omega
    have hz' : c' = (c' - 1) + 1 := by omega
    rw [hz']
    exact new2_stat t1 k Zr S (c' - 1) ((t1.val + 7) % 8) R4 hX R10 (hZ hz) (by split <;> omega) R11 R12 R13 R14 x h

/-- The statistics of the columns of one tile. -/
def IS2 (c : Dev nD) (arg4 : Memref sig .tc .vmem S8x4096 .f32) (arg10 : Memref sig .tc .vmem S2x384x512 .f32) (arg11 : Memref sig .tc .vmem S8x4096 .f32) (arg12 : Memref sig .tc .vmem S8x4096 .f32) (arg13 : Memref sig .tc .vmem S8x4096 .f32) (arg14 : Memref sig .tc .vmem S8x4096 .f32) (t1 : Fin k0_t1_loop.trips) (y : ℕ → ℕ → ℕ → ℝ) (cnt : ℕ → ℕ) (R4 : S8x4096.Idx → EReal) (R10 : S2x384x512.Idx → EReal) (c' k : ℕ) : sProp 𝕄 :=
  iprop(∃ R11 R12 R13 R14 : S8x4096.Idx → EReal, ⌜StatP y (fun t => if (if t1.val = 0 then 3584 else 512 * (t1.val - 1)) ≤ t ∧ t < (if t1.val = 0 then 3584 else 512 * (t1.val - 1)) + 128 * k then c' else cnt t) R11 R12 R13 R14⌝
    ∗ owns (c : Thread nD τ) arg4 fullShare (R4 : S8x4096.Idx → Elt Ideal .f32) ∗ owns (c : Thread nD τ) arg10 fullShare (R10 : S2x384x512.Idx → Elt Ideal .f32)
    ∗ owns (c : Thread nD τ) arg11 fullShare (R11 : S8x4096.Idx → Elt Ideal .f32) ∗ owns (c : Thread nD τ) arg12 fullShare (R12 : S8x4096.Idx → Elt Ideal .f32)
    ∗ owns (c : Thread nD τ) arg13 fullShare (R13 : S8x4096.Idx → Elt Ideal .f32) ∗ owns (c : Thread nD τ) arg14 fullShare (R14 : S8x4096.Idx → Elt Ideal .f32))

theorem loop2 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 c17 c1 : BitVec 32) (t1 : Fin k0_t1_loop.trips) (Zr : ℕ → ℕ → ℝ) (S : ℕ → ℝ) (cnt : ℕ → ℕ) (R4 : S8x4096.Idx → EReal) (R10 : S2x384x512.Idx → EReal) (hX : XP S R4)
    (c' : ℕ) (n : ℕ) (hc' : c' = if t1.val = 0 then n else n + 1) (v57 : BitVec 1) (hv : v57 = if n = 0 ∧ t1.val = 0 then 1#1 else 0#1) (v63 v64 : BitVec 32) (hva : v57 = Scalar.andi (Scalar.cmpi .eq (Scf.iv c17 c1 t1) 0#32) (Scalar.cmpi .eq arg0 0#32))
    (hZ : 0 < c' → ZP Zr ((t1.val + 1) % 2) (c' - 1) ((t1.val + 7) % 8) R10)
    (hcnt : ∀ t, (if t1.val = 0 then 3584 else 512 * (t1.val - 1)) ≤ t → t < (if t1.val = 0 then 3584 else 512 * (t1.val - 1)) + 512 → cnt t = c' - 1) :
    IS2 c arg4 arg10 arg11 arg12 arg13 arg14 t1 (yOf Zr S) cnt R4 R10 c' 0
      ⊢ (wp frame (wpE (defs₀ (F := Ideal)) Variants.none (c : Thread nD τ) none) Set.univ (Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 c17 c1 t1 v57 v63 v64))
          (fun _ => IS2 c arg4 arg10 arg11 arg12 arg13 arg14 t1 (yOf Zr S) cnt R4 R10 c' 4) : sProp 𝕄) := by
  refine for_inv c k0_t2_loop _ _ (IS2 c arg4 arg10 arg11 arg12 arg13 arg14 t1 (yOf Zr S) cnt R4 R10 c') (fun k => ?_)
  have hk : k.val < 4 := k.isLt
  unfold IS2
  iintro ⟨%R11, %R12, %R13, %R14, %hP, H⟩
  iapply (wp_wand frame (wpE (defs₀ (F := Ideal)) Variants.none (c : Thread nD τ) none) Set.univ) $$ [H]
  · iapply (trip2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 c17 c1 t1 v57 v63 v64 hva k R4 R10 R11 R12 R13 R14) $$ H
  iintro %u ⟨H4, H10, H11, H12, H13, H14⟩
  iexists _, _, _, _
  isplitr
  rotate_left
  · isplitl [H4]; · iexact H4
    isplitl [H10]; · iexact H10
    isplitl [H11]; · iexact H11
    isplitl [H12]; · iexact H12
    isplitl [H13]; · iexact H13
    iexact H14
  · ipureintro
    refine StatP_congr _ _ _ (fun t => cnt_k_step (if t1.val = 0 then 3584 else 512 * (t1.val - 1)) c' t k.val cnt) _ _ _ _
      (col_step (yOf Zr S) _ c' _ _ (off51_eq t1 k) R11 R12 R13 R14 _ _ _ _ (fun x => ?_) hP)
    · have hx : (x 1).val < 128 := (x 1).isLt
      have hold := rd2_stat t1 k (yOf Zr S) _ R11 R12 R13 R14 hP x
      beta_reduce at hold
      rw [if_neg (show ¬ ((if t1.val = 0 then 3584 else 512 * (t1.val - 1)) ≤ (if t1.val = 0 then 3584 else 512 * (t1.val - 1)) + 128 * k.val + (x 1).val ∧ (if t1.val = 0 then 3584 else 512 * (t1.val - 1)) + 128 * k.val + (x 1).val < (if t1.val = 0 then 3584 else 512 * (t1.val - 1)) + 128 * k.val) by omega), hcnt _ (Nat.le_add_right_of_le (Nat.le_add_right _ _)) (by omega)] at hold
      exact sel2_stat t1 k Zr S n c' hc' c17 c1 v57 hv R4 hX R10 hZ R11 R12 R13 R14 x hold

/-- The statistics of the columns of one tile. -/
def IS5 (c : Dev nD) (arg4 : Memref sig .tc .vmem S8x4096 .f32) (arg10 : Memref sig .tc .vmem S2x384x512 .f32) (arg11 : Memref sig .tc .vmem S8x4096 .f32) (arg12 : Memref sig .tc .vmem S8x4096 .f32) (arg13 : Memref sig .tc .vmem S8x4096 .f32) (arg14 : Memref sig .tc .vmem S8x4096 .f32) (y : ℕ → ℕ → ℕ → ℝ) (cnt : ℕ → ℕ) (R4 : S8x4096.Idx → EReal) (R10 : S2x384x512.Idx → EReal) (c' k : ℕ) : sProp 𝕄 :=
  iprop(∃ R11 R12 R13 R14 : S8x4096.Idx → EReal, ⌜StatP y (fun t => if 3584 ≤ t ∧ t < 3584 + 128 * k then c' else cnt t) R11 R12 R13 R14⌝
    ∗ owns (c : Thread nD τ) arg4 fullShare (R4 : S8x4096.Idx → Elt Ideal .f32) ∗ owns (c : Thread nD τ) arg10 fullShare (R10 : S2x384x512.Idx → Elt Ideal .f32)
    ∗ owns (c : Thread nD τ) arg11 fullShare (R11 : S8x4096.Idx → Elt Ideal .f32) ∗ owns (c : Thread nD τ) arg12 fullShare (R12 : S8x4096.Idx → Elt Ideal .f32)
    ∗ owns (c : Thread nD τ) arg13 fullShare (R13 : S8x4096.Idx → Elt Ideal .f32) ∗ owns (c : Thread nD τ) arg14 fullShare (R14 : S8x4096.Idx → Elt Ideal .f32))

theorem loop5 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (h2 : k0_cond2 i = 1#1) (Zr : ℕ → ℕ → ℝ) (S : ℕ → ℝ) (cnt : ℕ → ℕ) (R4 : S8x4096.Idx → EReal) (R10 : S2x384x512.Idx → EReal) (hX : XP S R4)
    (c' : ℕ) (hc' : 0 < c')
    (hZ : 0 < c' → ZP Zr (1) (c' - 1) (7) R10)
    (hcnt : ∀ t, 3584 ≤ t → t < 3584 + 512 → cnt t = c' - 1) :
    IS5 c arg4 arg10 arg11 arg12 arg13 arg14 (yOf Zr S) cnt R4 R10 c' 0
      ⊢ (wp frame (wpE (defs₀ (F := Ideal)) Variants.none (c : Thread nD τ) none) Set.univ (Scf.Loop.for k0_t5_loop (k0_t5_ok i h2) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h2))
          (fun _ => IS5 c arg4 arg10 arg11 arg12 arg13 arg14 (yOf Zr S) cnt R4 R10 c' 4) : sProp 𝕄) := by
  refine for_inv c k0_t5_loop _ _ (IS5 c arg4 arg10 arg11 arg12 arg13 arg14 (yOf Zr S) cnt R4 R10 c') (fun k => ?_)
  have hk : k.val < 4 := k.isLt
  unfold IS5
  iintro ⟨%R11, %R12, %R13, %R14, %hP, H⟩
  iapply (wp_wand frame (wpE (defs₀ (F := Ideal)) Variants.none (c : Thread nD τ) none) Set.univ) $$ [H]
  · iapply (trip5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h2 k R4 R10 R11 R12 R13 R14) $$ H
  iintro %u ⟨H4, H10, H11, H12, H13, H14⟩
  iexists _, _, _, _
  isplitr
  rotate_left
  · isplitl [H4]; · iexact H4
    isplitl [H10]; · iexact H10
    isplitl [H11]; · iexact H11
    isplitl [H12]; · iexact H12
    isplitl [H13]; · iexact H13
    iexact H14
  · ipureintro
    refine StatP_congr _ _ _ (fun t => cnt_k_step 3584 c' t k.val cnt) _ _ _ _
      (col_step (yOf Zr S) _ c' _ _ (off150_eq k) R11 R12 R13 R14 _ _ _ _ (fun x => ?_) hP)
    · have hx : (x 1).val < 128 := (x 1).isLt
      have hold := rd5_stat i h2 k (yOf Zr S) _ R11 R12 R13 R14 hP x
      beta_reduce at hold
      rw [if_neg (show ¬ (3584 ≤ 3584 + 128 * k.val + (x 1).val ∧ 3584 + 128 * k.val + (x 1).val < 3584 + 128 * k.val) by omega), hcnt _ (Nat.le_add_right_of_le (Nat.le_add_right _ _)) (by omega)] at hold
      have hz : c' = (c' - 1) + 1 := by omega
      rw [hz]
      exact new5_stat i h2 k Zr S (c' - 1) 7 R4 hX R10 (hZ hc') (by omega) R11 R12 R13 R14 x hold

end Cert.KernelIdeal.Val
end
-- ==== Proof.VLoop3.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import proofs.«01_k».proof.Proof.VCol
public import proofs.«01_k».proof.Proof.VTz
public import proofs.«01_k».proof.Proof.VLoop

@[expose] public section

set_option maxRecDepth 100000
set_option maxHeartbeats 4000000

/-! The loops over a tile's targets, at exact real values. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The targets' words, the logits and what was picked. -/
def IT (c : Dev nD) (arg5 : Memref sig .tc .vmem S7x4096 .i32) (arg10 : Memref sig .tc .vmem S2x384x512 .f32) (arg15 : Memref sig .tc .vmem S7x8x4096 .f32)
    (Zr : ℕ → ℕ → ℝ) (T : ℕ → ℕ → ℕ) (R5 : S7x4096.Idx → BitVec 32) (R10 : S2x384x512.Idx → EReal) (cnt : ℕ → ℕ → ℕ) : sProp 𝕄 :=
  iprop(∃ R15 : S7x8x4096.Idx → EReal, ⌜TZP Zr T cnt R15⌝
    ∗ owns (c : Thread nD τ) arg5 fullShare (R5 : S7x4096.Idx → Elt Ideal .i32) ∗ owns (c : Thread nD τ) arg10 fullShare (R10 : S2x384x512.Idx → Elt Ideal .f32)
    ∗ owns (c : Thread nD τ) arg15 fullShare (R15 : S7x8x4096.Idx → Elt Ideal .f32))

theorem cnt_t_step (b c' r t k : ℕ) (cnt : ℕ → ℕ → ℕ) :
    (if r = k ∧ b ≤ t ∧ t < b + 128 then c' else (if (b ≤ t ∧ t < b + 128) ∧ r < k then c' else cnt r t))
      = if (b ≤ t ∧ t < b + 128) ∧ r < k + 1 then c' else cnt r t := by
  by_cases a : r = k ∧ b ≤ t ∧ t < b + 128
  · rw [if_pos a, if_pos (by omega)]
  · rw [if_neg a]
    by_cases h : (b ≤ t ∧ t < b + 128) ∧ r < k
    · rw [if_pos h, if_pos (by omega)]
    · rw [if_neg h, if_neg (by omega)]

theorem cnt_q_step (B c' r t q : ℕ) (cnt : ℕ → ℕ → ℕ) (hr : r < 7) :
    (if (B + 128 * q ≤ t ∧ t < B + 128 * q + 128) ∧ r < 7 then c' else (if B ≤ t ∧ t < B + 128 * q then c' else cnt r t))
      = if B ≤ t ∧ t < B + 128 * (q + 1) then c' else cnt r t := by
  by_cases a : (B + 128 * q ≤ t ∧ t < B + 128 * q + 128) ∧ r < 7
  · rw [if_pos a, if_pos (by omega)]
  · rw [if_neg a]
    by_cases h : B ≤ t ∧ t < B + 128 * q
    · rw [if_pos h, if_pos (by omega)]
    · rw [if_neg h, if_neg (by omega)]

theorem TZP_congr (Zr : ℕ → ℕ → ℝ) (T : ℕ → ℕ → ℕ) (cnt cnt' : ℕ → ℕ → ℕ) (R15 : S7x8x4096.Idx → EReal) (h : ∀ r t, r < 7 → t < 4096 → cnt r t = cnt' r t)
    (hP : TZP Zr T cnt R15) : TZP Zr T cnt' R15 := fun i => by
  rw [hP i, h _ _ (i 0).isLt (i 2).isLt]

theorem loop4 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (t1 : Fin k0_t1_loop.trips) (vb : BitVec 32) (io : IVec S8x128 32) (v67 a17 v73 : BitVec 32) (q : Fin k0_t3_loop.trips)
    (Zr : ℕ → ℕ → ℝ) (T : ℕ → ℕ → ℕ) (hT : ∀ r t, T r t < 50304) (cnt : ℕ → ℕ → ℕ) (R5 : S7x4096.Idx → BitVec 32) (hTG : TG T R5) (R10 : S2x384x512.Idx → EReal)
    (c' : ℕ) (hc' : c' < 200) (hvb : vb = BitVec.ofInt 32 (384 * (c' : ℤ) - 384)) (hio : IoP io)
    (hZ : 0 < c' → ZP Zr ((t1.val + 1) % 2) (c' - 1) ((t1.val + 7) % 8) R10)
    (hcnt : ∀ r t, r < 7 → ((if t1.val = 0 then 3584 else 512 * (t1.val - 1)) + 128 * q.val) ≤ t → t < ((if t1.val = 0 then 3584 else 512 * (t1.val - 1)) + 128 * q.val) + 128 → cnt r t = c' - 1) :
    IT c arg5 arg10 arg15 Zr T R5 R10 (fun r t => if (((if t1.val = 0 then 3584 else 512 * (t1.val - 1)) + 128 * q.val) ≤ t ∧ t < ((if t1.val = 0 then 3584 else 512 * (t1.val - 1)) + 128 * q.val) + 128) ∧ r < 0 then c' else cnt r t)
      ⊢ (wp frame (wpE (defs₀ (F := Ideal)) Variants.none (c : Thread nD τ) none) Set.univ (Scf.Loop.for k0_t4_loop k0_t4_ok ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 t1 vb v67 io q a17 v73))
          (fun _ => IT c arg5 arg10 arg15 Zr T R5 R10 (fun r t => if (((if t1.val = 0 then 3584 else 512 * (t1.val - 1)) + 128 * q.val) ≤ t ∧ t < ((if t1.val = 0 then 3584 else 512 * (t1.val - 1)) + 128 * q.val) + 128) ∧ r < 7 then c' else cnt r t)) : sProp 𝕄) := by
  refine for_inv c k0_t4_loop _ _ (fun k => IT c arg5 arg10 arg15 Zr T R5 R10 (fun r t => if (((if t1.val = 0 then 3584 else 512 * (t1.val - 1)) + 128 * q.val) ≤ t ∧ t < ((if t1.val = 0 then 3584 else 512 * (t1.val - 1)) + 128 * q.val) + 128) ∧ r < k then c' else cnt r t)) (fun k => ?_)
  have hk : k.val < 7 := k.isLt
  have hq : q.val < 4 := q.isLt
  unfold IT
  iintro ⟨%R15, %hP, H⟩
  iapply (wp_wand frame (wpE (defs₀ (F := Ideal)) Variants.none (c : Thread nD τ) none) Set.univ) $$ [H]
  · iapply (trip4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 t1 vb v67 io q a17 v73 k R5 R10 R15) $$ H
  iintro %u ⟨H5, H10, H15⟩
  iexists _
  isplitr
  rotate_left
  · isplitl [H5]; · iexact H5
    isplitl [H10]; · iexact H10
    iexact H15
  · ipureintro
    refine TZP_congr Zr T _ _ _ (fun r t _ _ => cnt_t_step ((if t1.val = 0 then 3584 else 512 * (t1.val - 1)) + 128 * q.val) c' r t k.val cnt)
      (tz_step Zr T _ c' k.val _ _ (off101_eq t1 q k) R15 _ shapeCasts_S8x128_S1x8x128 (fun x => ?_) hP)
    · have hx : (x 1).val < 128 := (x 1).isLt
      exact pick4_real t1 q k Zr T hT _ c' ((t1.val + 7) % 8) hc' vb hvb io hio R5 hTG R10 hZ (by have ht : t1.val < 8 := t1.isLt; split <;> omega) R15 hP x (by
        rw [if_neg (fun h => absurd h.2 (Nat.lt_irrefl _))]
        exact hcnt _ _ hk (Nat.le_add_right _ _) (Nat.add_lt_add_left hx _))

theorem loop3 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (t1 : Fin k0_t1_loop.trips) (vb : BitVec 32) (io : IVec S8x128 32) (v67 v68 c40 : BitVec 32)
    (Zr : ℕ → ℕ → ℝ) (T : ℕ → ℕ → ℕ) (hT : ∀ r t, T r t < 50304) (cnt : ℕ → ℕ → ℕ) (R5 : S7x4096.Idx → BitVec 32) (hTG : TG T R5) (R10 : S2x384x512.Idx → EReal)
    (c' : ℕ) (hc' : c' < 200) (hvb : vb = BitVec.ofInt 32 (384 * (c' : ℤ) - 384)) (hio : IoP io)
    (hZ : 0 < c' → ZP Zr ((t1.val + 1) % 2) (c' - 1) ((t1.val + 7) % 8) R10)
    (hcnt : ∀ r t, r < 7 → (if t1.val = 0 then 3584 else 512 * (t1.val - 1)) ≤ t → t < (if t1.val = 0 then 3584 else 512 * (t1.val - 1)) + 512 → cnt r t = c' - 1) :
    IT c arg5 arg10 arg15 Zr T R5 R10 cnt
      ⊢ (wp frame (wpE (defs₀ (F := Ideal)) Variants.none (c : Thread nD τ) none) Set.univ (Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 t1 vb v67 v68 io c40))
          (fun _ => IT c arg5 arg10 arg15 Zr T R5 R10 (fun r t => if (if t1.val = 0 then 3584 else 512 * (t1.val - 1)) ≤ t ∧ t < (if t1.val = 0 then 3584 else 512 * (t1.val - 1)) + 512 then c' else cnt r t)) : sProp 𝕄) := by
  have h0 : IT c arg5 arg10 arg15 Zr T R5 R10 cnt = IT c arg5 arg10 arg15 Zr T R5 R10 (fun r t => if (if t1.val = 0 then 3584 else 512 * (t1.val - 1)) ≤ t ∧ t < (if t1.val = 0 then 3584 else 512 * (t1.val - 1)) + 128 * 0 then c' else cnt r t) := by
    congr 1; funext r t; rw [if_neg (fun h => absurd h.2 (by rw [Nat.mul_zero, Nat.add_zero]; exact Nat.not_lt.mpr h.1))]
  rw [h0]
  refine for_inv c k0_t3_loop _ _ (fun k => IT c arg5 arg10 arg15 Zr T R5 R10 (fun r t => if (if t1.val = 0 then 3584 else 512 * (t1.val - 1)) ≤ t ∧ t < (if t1.val = 0 then 3584 else 512 * (t1.val - 1)) + 128 * k then c' else cnt r t)) (fun q => ?_)
  have hq : q.val < 4 := q.isLt
  unfold k0_t3_body
  dsimp only
  rw [wp_bind]
  have h1 : IT c arg5 arg10 arg15 Zr T R5 R10 (fun r t => if (if t1.val = 0 then 3584 else 512 * (t1.val - 1)) ≤ t ∧ t < (if t1.val = 0 then 3584 else 512 * (t1.val - 1)) + 128 * q.val then c' else cnt r t)
      = IT c arg5 arg10 arg15 Zr T R5 R10 (fun r t => if (((if t1.val = 0 then 3584 else 512 * (t1.val - 1)) + 128 * q.val) ≤ t ∧ t < ((if t1.val = 0 then 3584 else 512 * (t1.val - 1)) + 128 * q.val) + 128) ∧ r < 0 then c' else (fun r t => if (if t1.val = 0 then 3584 else 512 * (t1.val - 1)) ≤ t ∧ t < (if t1.val = 0 then 3584 else 512 * (t1.val - 1)) + 128 * q.val then c' else cnt r t) r t) := by
    congr 1; funext r t; rw [if_neg (show ¬ ((((if t1.val = 0 then 3584 else 512 * (t1.val - 1)) + 128 * q.val) ≤ t ∧ t < ((if t1.val = 0 then 3584 else 512 * (t1.val - 1)) + 128 * q.val) + 128) ∧ r < 0) from fun h => absurd h.2 (Nat.not_lt_zero r))]
  rw [h1]
  refine (loop4 c i arg1 harg1 arg2 harg2 arg3 harg3 arg4 harg4 arg5 harg5 arg6 harg6 arg7 harg7 arg8 harg8 arg9 harg9 arg10 harg10 arg11 harg11 arg12 harg12 arg13 harg13 arg14 harg14 arg15 harg15 t1 vb io v67 _ _ q Zr T hT (fun r t => if (if t1.val = 0 then 3584 else 512 * (t1.val - 1)) ≤ t ∧ t < (if t1.val = 0 then 3584 else 512 * (t1.val - 1)) + 128 * q.val then c' else cnt r t) R5 hTG R10 c' hc' hvb hio hZ (fun r t hr ht ht' => ?_)).trans (wp_mono frame _ Set.univ fun _ => ?_)
  · show (if (if t1.val = 0 then 3584 else 512 * (t1.val - 1)) ≤ t ∧ t < (if t1.val = 0 then 3584 else 512 * (t1.val - 1)) + 128 * q.val then c' else cnt r t) = c' - 1
    rw [if_neg (fun h => absurd h.2 (Nat.not_lt.mpr ht))]
    exact hcnt r t hr (Nat.le_trans (Nat.le_add_right _ _) ht) (Nat.lt_of_lt_of_le ht' (by omega))
  · unfold IT
    iintro ⟨%R15, %hP, H⟩
    sl_step
    iexists R15
    isplitr
    · ipureintro
      exact TZP_congr Zr T _ _ _ (fun r t hr _ => cnt_q_step (if t1.val = 0 then 3584 else 512 * (t1.val - 1)) c' r t q.val cnt hr) hP
    · iexact H

theorem loop7 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (a0 : BitVec 32) (h2 : k0_cond2 i = 1#1) (vb : BitVec 32) (io : IVec S8x128 32) (a16 v178 : BitVec 32) (q : Fin k0_t6_loop.trips)
    (Zr : ℕ → ℕ → ℝ) (T : ℕ → ℕ → ℕ) (hT : ∀ r t, T r t < 50304) (cnt : ℕ → ℕ → ℕ) (R5 : S7x4096.Idx → BitVec 32) (hTG : TG T R5) (R10 : S2x384x512.Idx → EReal)
    (c' : ℕ) (hc' : c' < 200) (hvb : vb = BitVec.ofInt 32 (384 * (c' : ℤ) - 384)) (hio : IoP io)
    (hZ : 0 < c' → ZP Zr (1) (c' - 1) (7) R10)
    (hcnt : ∀ r t, r < 7 → (3584 + 128 * q.val) ≤ t → t < (3584 + 128 * q.val) + 128 → cnt r t = c' - 1) :
    IT c arg5 arg10 arg15 Zr T R5 R10 (fun r t => if ((3584 + 128 * q.val) ≤ t ∧ t < (3584 + 128 * q.val) + 128) ∧ r < 0 then c' else cnt r t)
      ⊢ (wp frame (wpE (defs₀ (F := Ideal)) Variants.none (c : Thread nD τ) none) Set.univ (Scf.Loop.for k0_t7_loop (k0_t7_ok i h2) ⟨⟩ (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 vb io q a16 v178))
          (fun _ => IT c arg5 arg10 arg15 Zr T R5 R10 (fun r t => if ((3584 + 128 * q.val) ≤ t ∧ t < (3584 + 128 * q.val) + 128) ∧ r < 7 then c' else cnt r t)) : sProp 𝕄) := by
  refine for_inv c k0_t7_loop _ _ (fun k => IT c arg5 arg10 arg15 Zr T R5 R10 (fun r t => if ((3584 + 128 * q.val) ≤ t ∧ t < (3584 + 128 * q.val) + 128) ∧ r < k then c' else cnt r t)) (fun k => ?_)
  have hk : k.val < 7 := k.isLt
  have hq : q.val < 4 := q.isLt
  unfold IT
  iintro ⟨%R15, %hP, H⟩
  iapply (wp_wand frame (wpE (defs₀ (F := Ideal)) Variants.none (c : Thread nD τ) none) Set.univ) $$ [H]
  · iapply (trip7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 vb io q a16 v178 k R5 R10 R15) $$ H
  iintro %u ⟨H5, H10, H15⟩
  iexists _
  isplitr
  rotate_left
  · isplitl [H5]; · iexact H5
    isplitl [H10]; · iexact H10
    iexact H15
  · ipureintro
    refine TZP_congr Zr T _ _ _ (fun r t _ _ => cnt_t_step (3584 + 128 * q.val) c' r t k.val cnt)
      (tz_step Zr T _ c' k.val _ _ (off200_eq q k) R15 _ shapeCasts_S8x128_S1x8x128 (fun x => ?_) hP)
    · have hx : (x 1).val < 128 := (x 1).isLt
      exact pick7_real i h2 q k Zr T hT _ c' (7) hc' vb hvb io hio R5 hTG R10 hZ (by omega) R15 hP x (by
        rw [if_neg (fun h => absurd h.2 (Nat.lt_irrefl _))]
        exact hcnt _ _ hk (Nat.le_add_right _ _) (Nat.add_lt_add_left hx _))

theorem loop6 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (a0 : BitVec 32) (h2 : k0_cond2 i = 1#1) (vb : BitVec 32) (io : IVec S8x128 32)
    (Zr : ℕ → ℕ → ℝ) (T : ℕ → ℕ → ℕ) (hT : ∀ r t, T r t < 50304) (cnt : ℕ → ℕ → ℕ) (R5 : S7x4096.Idx → BitVec 32) (hTG : TG T R5) (R10 : S2x384x512.Idx → EReal)
    (c' : ℕ) (hc' : c' < 200) (hvb : vb = BitVec.ofInt 32 (384 * (c' : ℤ) - 384)) (hio : IoP io)
    (hZ : 0 < c' → ZP Zr (1) (c' - 1) (7) R10)
    (hcnt : ∀ r t, r < 7 → 3584 ≤ t → t < 3584 + 512 → cnt r t = c' - 1) :
    IT c arg5 arg10 arg15 Zr T R5 R10 cnt
      ⊢ (wp frame (wpE (defs₀ (F := Ideal)) Variants.none (c : Thread nD τ) none) Set.univ (Scf.Loop.for k0_t6_loop (k0_t6_ok i h2) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 vb io))
          (fun _ => IT c arg5 arg10 arg15 Zr T R5 R10 (fun r t => if 3584 ≤ t ∧ t < 3584 + 512 then c' else cnt r t)) : sProp 𝕄) := by
  have h0 : IT c arg5 arg10 arg15 Zr T R5 R10 cnt = IT c arg5 arg10 arg15 Zr T R5 R10 (fun r t => if 3584 ≤ t ∧ t < 3584 + 128 * 0 then c' else cnt r t) := by
    congr 1; funext r t; rw [if_neg (fun h => absurd h.2 (by rw [Nat.mul_zero, Nat.add_zero]; exact Nat.not_lt.mpr h.1))]
  rw [h0]
  refine for_inv c k0_t6_loop _ _ (fun k => IT c arg5 arg10 arg15 Zr T R5 R10 (fun r t => if 3584 ≤ t ∧ t < 3584 + 128 * k then c' else cnt r t)) (fun q => ?_)
  have hq : q.val < 4 := q.isLt
  unfold k0_t6_body
  dsimp only
  rw [wp_bind]
  have h1 : IT c arg5 arg10 arg15 Zr T R5 R10 (fun r t => if 3584 ≤ t ∧ t < 3584 + 128 * q.val then c' else cnt r t)
      = IT c arg5 arg10 arg15 Zr T R5 R10 (fun r t => if ((3584 + 128 * q.val) ≤ t ∧ t < (3584 + 128 * q.val) + 128) ∧ r < 0 then c' else (fun r t => if 3584 ≤ t ∧ t < 3584 + 128 * q.val then c' else cnt r t) r t) := by
    congr 1; funext r t; rw [if_neg (show ¬ (((3584 + 128 * q.val) ≤ t ∧ t < (3584 + 128 * q.val) + 128) ∧ r < 0) from fun h => absurd h.2 (Nat.not_lt_zero r))]
  rw [h1]
  refine (loop7 c i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 vb io _ _ q Zr T hT (fun r t => if 3584 ≤ t ∧ t < 3584 + 128 * q.val then c' else cnt r t) R5 hTG R10 c' hc' hvb hio hZ (fun r t hr ht ht' => ?_)).trans (wp_mono frame _ Set.univ fun _ => ?_)
  · show (if 3584 ≤ t ∧ t < 3584 + 128 * q.val then c' else cnt r t) = c' - 1
    rw [if_neg (fun h => absurd h.2 (Nat.not_lt.mpr ht))]
    exact hcnt r t hr (Nat.le_trans (Nat.le_add_right _ _) ht) (Nat.lt_of_lt_of_le ht' (by omega))
  · unfold IT
    iintro ⟨%R15, %hP, H⟩
    sl_step
    iexists R15
    isplitr
    · ipureintro
      exact TZP_congr Zr T _ _ _ (fun r t hr _ => cnt_q_step 3584 c' r t q.val cnt hr) hP
    · iexact H

end Cert.KernelIdeal.Val
end
-- ==== Proof.VStep.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import proofs.«01_k».proof.Proof.VCol
public import Idealize.ShloMosaic.Lib.IdealHost
public import Idealize.ShloMosaic.Lib.Pointwise.Contract
public import proofs.«01_k».proof.Proof.VLoop3

@[expose] public section

set_option maxRecDepth 100000
set_option maxHeartbeats 4000000

/-! One tile of a step, at exact real values. -/

noncomputable section

namespace Cert.KernelIdeal.Val

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The activations, and the scaled weights of block `κ`. -/
def AP (A : ℕ → ℕ → ℝ) (R1 : S4096x2048.Idx → EReal) : Prop := ∀ i : S4096x2048.Idx, R1 i = ((A (i 0).val (i 1).val : ℝ) : EReal)
def WP (W : ℕ → ℕ → ℝ) (κ' : ℕ) (R9 : S384x2048.Idx → EReal) : Prop := ∀ i : S384x2048.Idx, R9 i = ((W (384 * κ' + (i 0).val) (i 1).val : ℝ) : EReal)

/-- The logit of word `v` at token `t`, before the token's scale. -/
def zr (A W : ℕ → ℕ → ℝ) (v t : ℕ) : ℝ := ∑ d : Fin 2048, W v d.val * A t d.val

theorem sum_real {n : ℕ} (f : Fin n → ℝ) : (∑ d : Fin n, ((f d : ℝ) : EReal)) = ((∑ d : Fin n, f d : ℝ) : EReal) := by
  induction n with
  | zero => simp
  | succ n ih => rw [Fin.sum_univ_succ, Fin.sum_univ_succ, EReal.coe_add, ih]

theorem dot_real (A W : ℕ → ℕ → ℝ) (κ' j : ℕ) (R9 : S384x2048.Idx → EReal) (hW : WP W κ' R9) (v44 : S512x2048.Idx → EReal)
    (hA : ∀ i : S512x2048.Idx, v44 i = ((A (512 * j + (i 0).val) (i 1).val : ℝ) : EReal)) (q : S1x384x512.Idx) :
    k0_pay281 (F := Ideal) R9 v44 q = ((zr A W (384 * κ' + (q 1).val) (512 * j + (q 2).val) : ℝ) : EReal) := by
  unfold k0_pay281
  dsimp only
  have hq : (q 0).val = 0 := Nat.lt_one_iff.mp (q 0).isLt
  rw [shapeCast_apply _ _ q (ValueIdx.ix2 (q 1) (q 2) : S384x512.Idx) (by
    rw [Shape.rowMajor_val_three, Shape.rowMajor_val_two]
    show (q 1).val * 512 + (q 2).val = ((q 0).val * 384 + (q 1).val) * 512 + (q 2).val
    rw [hq]; omega)]
  refine (Ideal.matmul_apply₁ dot_S384x2048_S512x2048_S384x512_1_1_0_0_n_n rfl rfl _ _ _ _).trans ?_
  rw [shapeCast_self]
  have h0 : (constant (F := Ideal) S384x512 .f32 0x00000000#32 (ValueIdx.ix2 (q 1) (q 2))) = (0 : EReal) := Ideal.ofBits_zero_f32
  rw [h0, zero_add]
  unfold zr
  rw [← sum_real]
  refine Finset.sum_congr rfl fun d _ => ?_
  rw [hW, hA, ← EReal.coe_mul]
  rfl

/-- A tile's logits stored into a slot. -/
theorem zput (A W : ℕ → ℕ → ℝ) (κ' j p : ℕ) (off : Fin 3 → ℕ) (hoff : off = ![p, 0, 0]) (R10 : S2x384x512.Idx → EReal) (w : S1x384x512.Idx → EReal)
    (hw : ∀ q : S1x384x512.Idx, w q = ((zr A W (384 * κ' + (q 1).val) (512 * j + (q 2).val) : ℝ) : EReal)) :
    ZP (zr A W) p κ' j (VecWindow.put R10 off S1x384x512.size w)
      ∧ ∀ p' κ'' τ, p' ≠ p → ZP (zr A W) p' κ'' τ R10 → ZP (zr A W) p' κ'' τ (VecWindow.put R10 off S1x384x512.size w) := by
  subst hoff
  constructor
  · intro i hi
    unfold VecWindow.put
    have hall : ∀ a : Fin 3, (![p, 0, 0] : Fin 3 → ℕ) a ≤ (i a).val ∧ (i a).val < (![p, 0, 0] : Fin 3 → ℕ) a + S1x384x512.size a := by
      intro a
      match a with
      | 0 => exact ⟨hi.ge, by show (i 0).val < p + 1; omega⟩
      | 1 => exact ⟨Nat.zero_le _, by have := (i 1).isLt; show (i 1).val < 0 + 384; rw [Nat.zero_add]; exact this⟩
      | 2 => exact ⟨Nat.zero_le _, by have := (i 2).isLt; show (i 2).val < 0 + 512; rw [Nat.zero_add]; exact this⟩
    rw [dif_pos hall, hw]
    rfl
  · intro p' κ'' τ hne hP i hi
    unfold VecWindow.put
    have hall : ¬ ∀ a : Fin 3, (![p, 0, 0] : Fin 3 → ℕ) a ≤ (i a).val ∧ (i a).val < (![p, 0, 0] : Fin 3 → ℕ) a + S1x384x512.size a := by
      intro h
      have a1 : p ≤ (i 0).val := (h 0).1
      have a2 : (i 0).val < p + 1 := (h 0).2
      omega
    rw [dif_neg hall]
    exact hP i hi

theorem xwin (A : ℕ → ℕ → ℝ) (R1 : S4096x2048.Idx → EReal) (hA : AP A R1) (off : Fin 2 → ℕ) (inb : ∀ a, off a + S512x2048.size a ≤ S4096x2048.size a) (j : ℕ) (hoff : off = ![512 * j, 0])
    (i : S512x2048.Idx) : VecWindow.window R1 off S512x2048.size inb i = ((A (512 * j + (i 0).val) (i 1).val : ℝ) : EReal) := by
  subst hoff
  unfold VecWindow.window
  rw [hA]
  show ((A (512 * j + 1 * (i 0).val) (0 + 1 * (i 1).val) : ℝ) : EReal) = _
  simp only [one_mul, zero_add]

/-- How many vocabulary blocks token `t` has seen before trip `J` of step `n`. -/
def cn (n J t : ℕ) : ℕ := if t < 3584 then (if t / 512 + 1 < J then n + 1 else n) else (if J = 0 then n - 1 else n)
def cp (n J : ℕ) : ℕ := if J = 0 then n else n + 1
def bs (J : ℕ) : ℕ := if J = 0 then 3584 else 512 * (J - 1)

theorem cn_in (n J t : ℕ) (hJ : J < 8) (h : bs J ≤ t) (h' : t < bs J + 512) : cn n J t = cp n J - 1 := by
  unfold bs at h h'
  unfold cn cp
  by_cases j0 : J = 0
  · subst j0
    simp only [if_true] at h h' ⊢
    rw [if_neg (by omega)]
  · rw [if_neg j0] at h h'
    rw [if_neg j0, if_neg j0, if_pos (by omega), if_neg (by omega)]
    omega

theorem cn_step (n J t : ℕ) (hJ : J < 8) (ht : t < 4096) : (if bs J ≤ t ∧ t < bs J + 512 then cp n J else cn n J t) = cn n (J + 1) t := by
  unfold bs cn cp
  (repeat' split) <;> omega

theorem cn_next (n t : ℕ) (ht : t < 4096) : cn n 8 t = cn (n + 1) 0 t := by
  unfold cn
  by_cases a : t < 3584
  · rw [if_pos a, if_pos a, if_pos (by omega), if_neg (by omega)]
  · rw [if_neg a, if_neg a, if_neg (by omega), if_pos rfl]
    omega

/-- The scratch before trip `J` of step `n`. -/
def SCR (A W : ℕ → ℕ → ℝ) (S : ℕ → ℝ) (T : ℕ → ℕ → ℕ) (n J : ℕ) (R10 : S2x384x512.Idx → EReal) (R11 R12 R13 R14 : S8x4096.Idx → EReal) (R15 : S7x8x4096.Idx → EReal) : Prop :=
  StatP (yOf (zr A W) S) (cn n J) R11 R12 R13 R14 ∧ TZP (zr A W) T (fun _ t => cn n J t) R15
    ∧ (0 < cp n J → ZP (zr A W) ((J + 1) % 2) (cp n J - 1) ((J + 7) % 8) R10)

theorem StatP_congr' (y : ℕ → ℕ → ℕ → ℝ) (cnt cnt' : ℕ → ℕ) (h : ∀ t, t < 4096 → cnt t = cnt' t) (R11 R12 R13 R14 : S8x4096.Idx → EReal)
    (hP : StatP y cnt R11 R12 R13 R14) : StatP y cnt' R11 R12 R13 R14 := fun i => by
  rw [← h _ (i 1).isLt]; exact hP i

theorem owns_open {sp : Space} {s : Shape} {e : EltTy} (c : Dev nD) (m : Memref sig .tc sp s e) (X : s.Idx → Elt Ideal e) :
    (owns (c : Thread nD τ) m fullShare X : sProp 𝕄) ⊢ iprop(∃ f, ⌜m.view.read (Elt Ideal) f = X⌝ ∗ (m.view.loc (c : Thread nD τ) ↦[m.view.set]{fullShare} f)) := by
  unfold owns
  iintro H
  iexact H

theorem owns_close {sp : Space} {s : Shape} {e : EltTy} (c : Dev nD) (m : Memref sig .tc sp s e) (f : BufTy.Contents (Elt Ideal) m.view.ty) (X : s.Idx → Elt Ideal e) (h : m.view.read (Elt Ideal) f = X) :
    iprop(m.view.loc (c : Thread nD τ) ↦[m.view.set]{fullShare} f) ⊢ (owns (c : Thread nD τ) m fullShare X : sProp 𝕄) := by
  unfold owns
  iintro H
  iexists f
  isplitr
  · ipureintro; exact h
  · iexact H

/-- A program's first part by what it leaves. -/
theorem wp_seq (c : Dev nD) {α β : Type} (p : Prog (TpuEff nD τ sig (Elt Ideal) Λ₀ .tc) α) (k : α → Prog (TpuEff nD τ sig (Elt Ideal) Λ₀ .tc) β) (Q' : α → sProp 𝕄) (Q : β → sProp 𝕄) :
    iprop(wp frame (wpE (defs₀ (F := Ideal)) Variants.none (c : Thread nD τ) none) Set.univ p Q' ∗ (∀ a, Q' a -∗ wp frame (wpE (defs₀ (F := Ideal)) Variants.none (c : Thread nD τ) none) Set.univ (k a) Q))
      ⊢ wp frame (wpE (defs₀ (F := Ideal)) Variants.none (c : Thread nD τ) none) Set.univ (p >>= k) Q := by
  rw [wp_bind]
  exact wp_wand_r frame _ Set.univ

def I1 (c : Dev nD) (arg1 : Memref sig .tc .vmem S4096x2048 .fp8e4m3) (arg4 : Memref sig .tc .vmem S8x4096 .f32) (arg5 : Memref sig .tc .vmem S7x4096 .i32) (arg9 : Memref sig .tc .vmem S384x2048 .bf16)
    (arg10 : Memref sig .tc .vmem S2x384x512 .f32) (arg11 arg12 arg13 arg14 : Memref sig .tc .vmem S8x4096 .f32) (arg15 : Memref sig .tc .vmem S7x8x4096 .f32)
    (A W : ℕ → ℕ → ℝ) (S : ℕ → ℝ) (T : ℕ → ℕ → ℕ) (R1 : S4096x2048.Idx → EReal) (R4 : S8x4096.Idx → EReal) (R5 : S7x4096.Idx → BitVec 32) (R9 : S384x2048.Idx → EReal) (n J : ℕ) : sProp 𝕄 :=
  iprop(∃ (R10 : S2x384x512.Idx → EReal) (R11 R12 R13 R14 : S8x4096.Idx → EReal) (R15 : S7x8x4096.Idx → EReal), ⌜SCR A W S T n J R10 R11 R12 R13 R14 R15⌝
    ∗ owns (c : Thread nD τ) arg1 fullShare (R1 : S4096x2048.Idx → Elt Ideal .fp8e4m3) ∗ owns (c : Thread nD τ) arg4 fullShare (R4 : S8x4096.Idx → Elt Ideal .f32)
    ∗ owns (c : Thread nD τ) arg5 fullShare (R5 : S7x4096.Idx → Elt Ideal .i32) ∗ owns (c : Thread nD τ) arg9 fullShare (R9 : S384x2048.Idx → Elt Ideal .bf16)
    ∗ owns (c : Thread nD τ) arg10 fullShare (R10 : S2x384x512.Idx → Elt Ideal .f32)
    ∗ owns (c : Thread nD τ) arg11 fullShare (R11 : S8x4096.Idx → Elt Ideal .f32) ∗ owns (c : Thread nD τ) arg12 fullShare (R12 : S8x4096.Idx → Elt Ideal .f32)
    ∗ owns (c : Thread nD τ) arg13 fullShare (R13 : S8x4096.Idx → Elt Ideal .f32) ∗ owns (c : Thread nD τ) arg14 fullShare (R14 : S8x4096.Idx → Elt Ideal .f32)
    ∗ owns (c : Thread nD τ) arg15 fullShare (R15 : S7x8x4096.Idx → Elt Ideal .f32))

theorem io_ok : IoP (iota Kind.tc S8x128 32 [0] iota_S8x128_d0_w32) := fun x => by
  show BitVec.ofNat 32 (0 * S8x128.size 0 + (x 0).val) = _
  rw [Nat.zero_mul, Nat.zero_add]

theorem trip1 (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (n : ℕ) (hn : n < 131) (ha : arg0 = BitVec.ofNat 32 n) (A W : ℕ → ℕ → ℝ) (S : ℕ → ℝ) (T : ℕ → ℕ → ℕ) (hT : ∀ r t, T r t < 50304)
    (R1 : S4096x2048.Idx → EReal) (hA : AP A R1) (R4 : S8x4096.Idx → EReal) (hX : XP S R4) (R5 : S7x4096.Idx → BitVec 32) (hTG : TG T R5) (R9 : S384x2048.Idx → EReal) (hW : WP W n R9)
    (t1 : Fin k0_t1_loop.trips) :
    I1 c arg1 arg4 arg5 arg9 arg10 arg11 arg12 arg13 arg14 arg15 A W S T R1 R4 R5 R9 n t1.val
      ⊢ (wp frame (wpE (defs₀ (F := Ideal)) Variants.none (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 t1 PUnit.unit)
          (fun _ => I1 c arg1 arg4 arg5 arg9 arg10 arg11 arg12 arg13 arg14 arg15 A W S T R1 R4 R5 R9 n (t1.val + 1)) : sProp 𝕄) := by
  have ht : t1.val < 8 := t1.isLt
  unfold I1
  iintro ⟨%R10, %R11, %R12, %R13, %R14, %R15, %hS, H1, H4, H5, H9, H10, H11, H12, H13, H14, H15⟩
  ihave H1 := (owns_open c arg1 _) $$ H1
  ihave H9 := (owns_open c arg9 _) $$ H9
  ihave H10 := (owns_open c arg10 _) $$ H10
  icases H1 with ⟨%X1, %e1, H1⟩
  icases H9 with ⟨%X9, %e9, H9⟩
  icases H10 with ⟨%X10, %e10, H10⟩
  subst e1 e9 e10
  unfold k0_t1_body
  sl_exec
  obtain ⟨hP, hQ, hZ⟩ := hS
  have hz := zput A W n t1.val (t1.val % 2) (k0_off2 t1) (off2_eq t1) (View.read (Elt Ideal) arg10.view X10)
    (k0_pay281 (View.readAt (Elt Ideal) arg9.view (Rect.unit (s := S384x2048) ![0, 0] S384x2048.size inb_S384x2048_S384x2048_0_0).toLoadRect X9)
            (View.readAt (Elt Ideal) arg1.view (Rect.unit (s := S4096x2048) (k0_off1 t1) S512x2048.size (k0_off1_inb t1)).toLoadRect X1)) (fun q => by
      rw [View.readAt_full]
      exact dot_real A W n t1.val _ hW _ (fun i => xwin A _ hA _ (k0_off1_inb t1) t1.val (off1_eq t1) i) q)
  have hf : Scalar.andi (Scalar.cmpi .eq (Scf.iv 0#32 1#32 t1.val) 0#32) (Scalar.cmpi .eq arg0 0#32) = if n = 0 ∧ t1.val = 0 then 1#1 else 0#1 := by
    rw [ha]; exact flag_fin ⟨n, hn⟩ ⟨t1.val, ht⟩
  have hb : Scalar.muli (Scalar.select (Scalar.cmpi .sgt (Scf.iv 0#32 1#32 t1.val) 0#32) arg0 (Scalar.subi arg0 1#32)) 384#32 = BitVec.ofInt 32 (384 * ((cp n t1.val : ℕ) : ℤ) - 384) := by
    rw [ha]; exact base_fin ⟨n, hn⟩ ⟨t1.val, ht⟩
  have hZ' : 0 < cp n t1.val → ZP (zr A W) ((t1.val + 1) % 2) (cp n t1.val - 1) ((t1.val + 7) % 8) (VecWindow.put (View.read (Elt Ideal) arg10.view X10) (k0_off2 t1) S1x384x512.size (k0_pay281 (View.readAt (Elt Ideal) arg9.view (Rect.unit (s := S384x2048) ![0, 0] S384x2048.size inb_S384x2048_S384x2048_0_0).toLoadRect X9)
            (View.readAt (Elt Ideal) arg1.view (Rect.unit (s := S4096x2048) (k0_off1 t1) S512x2048.size (k0_off1_inb t1)).toLoadRect X1))) :=
    fun h => hz.2 _ _ _ (by omega) (hZ h)
  ihave H10 := (owns_close c arg10 _ (VecWindow.put (View.read (Elt Ideal) arg10.view X10) (k0_off2 t1) S1x384x512.size (k0_pay281 (View.readAt (Elt Ideal) arg9.view (Rect.unit (s := S384x2048) ![0, 0] S384x2048.size inb_S384x2048_S384x2048_0_0).toLoadRect X9)
            (View.readAt (Elt Ideal) arg1.view (Rect.unit (s := S4096x2048) (k0_off1 t1) S512x2048.size (k0_off1_inb t1)).toLoadRect X1))) (by
      rw [View.read_writes_cons_put _ _ _ _ _ rfl]; rfl)) $$ H10
  have hz1 := hz.1
  generalize VecWindow.put (View.read (Elt Ideal) arg10.view X10) (k0_off2 t1) S1x384x512.size _ = Z10 at hz1 hZ'
  ihave H1 := (owns_close c arg1 X1 _ rfl) $$ H1
  ihave H9 := (owns_close c arg9 X9 _ rfl) $$ H9
  iapply (wp_seq c _ _ (fun _ => IS2 c arg4 arg10 arg11 arg12 arg13 arg14 t1 (yOf (zr A W) S) (cn n t1.val) R4 Z10 (cp n t1.val) 4))
  isplitl [H4 H10 H11 H12 H13 H14]
  · iapply (loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 0#32 1#32 t1 (zr A W) S (cn n t1.val) R4 Z10 hX (cp n t1.val) n rfl _ hf _ _ rfl hZ' (fun t h h' => cn_in n t1.val t ht h h'))
    unfold IS2
    iexists R11, R12, R13, R14
    isplitr
    · ipureintro
      exact StatP_congr _ _ _ (fun t => by rw [if_neg (fun h => absurd h.2 (by rw [Nat.mul_zero, Nat.add_zero]; exact Nat.not_lt.mpr h.1))]) _ _ _ _ hP
    isplitl [H4]; · iexact H4
    isplitl [H10]; · iexact H10
    isplitl [H11]; · iexact H11
    isplitl [H12]; · iexact H12
    isplitl [H13]; · iexact H13
    iexact H14
  iintro %u HI
  unfold IS2
  icases HI with ⟨%Q11, %Q12, %Q13, %Q14, %hP', H4, H10, H11, H12, H13, H14⟩
  sl_exec
  iapply (wp_seq c _ _ (fun _ => IT c arg5 arg10 arg15 (zr A W) T R5 Z10 (fun r t => if bs t1.val ≤ t ∧ t < bs t1.val + 512 then cp n t1.val else cn n t1.val t)))
  isplitl [H5 H10 H15]
  · iapply (loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 t1 _ _ _ _ _ (zr A W) T hT (fun _ t => cn n t1.val t) R5 hTG Z10 (cp n t1.val) (by unfold cp; split <;> omega) hb io_ok hZ' (fun r t _ h h' => cn_in n t1.val t ht h h'))
    unfold IT
    iexists R15
    isplitr
    · ipureintro; exact hQ
    isplitl [H5]; · iexact H5
    isplitl [H10]; · iexact H10
    iexact H15
  iintro %u' HI
  unfold IT
  icases HI with ⟨%Q15, %hQ', H5, H10, H15⟩
  sl_step
  iexists Z10, Q11, Q12, Q13, Q14, Q15
  isplitr
  · ipureintro
    refine ⟨StatP_congr' _ _ _ (fun t h => cn_step n t1.val t ht h) _ _ _ _ hP', TZP_congr _ _ _ _ _ (fun r t _ h => cn_step n t1.val t ht h) hQ', fun _ => ?_⟩
    have e1 : (t1.val + 1 + 1) % 2 = t1.val % 2 := by omega
    have e2 : (t1.val + 1 + 7) % 8 = t1.val := by omega
    rw [e1, e2]
    exact hz1
  isplitl [H1]; · iexact H1
  isplitl [H4]; · iexact H4
  isplitl [H5]; · iexact H5
  isplitl [H9]; · iexact H9
  isplitl [H10]; · iexact H10
  isplitl [H11]; · iexact H11
  isplitl [H12]; · iexact H12
  isplitl [H13]; · iexact H13
  isplitl [H14]; · iexact H14
  iexact H15

end Cert.KernelIdeal.Val
end
-- ==== Proof.VFin.lean ====
module

public import proofs.«01_k».proof.Proof.VMath
public import proofs.«01_k».proof.Proof.VStep
public import Idealize.ShloMosaic.PureOps.IdealRules
public import Idealize.ShloMosaic.Lib.Pointwise.Reduce
public import Idealize.ShloMosaic.PureOps.Ideal.Laws

@[expose] public section

set_option maxRecDepth 100000
set_option maxHeartbeats 400000

/-! The last block of the kernel: eight sublanes put together, and the three results. -/

noncomputable section

namespace Cert.KernelIdeal.Val

open Cert.KernelIdeal Cert.KernelIdeal.Gen
open Idealize.ShloMosaic Idealize.ShloMosaic.ValueIdx Idealize.ShloMosaic.TcCoe
open Finset

/-- A sum over the sublanes, read at a token. -/
theorem red8 (v : S8x4096.Idx → EReal) (j : S1x4096.Idx) :
    shapeCast S1x4096 (multiReduction (F := Ideal) (φ := .f32) .add [0] S4096 v 0x00000000#32 reduces_S8x4096_S4096 (.inl rfl) rfl) shapeCasts_S4096_S1x4096 j
      = ∑ s : Fin 8, v (ValueIdx.ix2 s (j 1)) := by
  have h0 : (j 0).val < 1 := (j 0).isLt
  refine (shapeCast_apply _ _ j (ValueIdx.ix1 (j 1)) (by
    rw [Shape.rowMajor_val_two, Shape.rowMajor_val_one]
    show (j 1).val = (j 0).val * 4096 + (j 1).val
    omega)).trans ?_
  exact Ideal.reduceAdd_r2_a0 _ v _

/-- The greatest of finitely many numbers is a number. -/
theorem fold_real (n : ℕ) (hn : 0 < n) (g : Fin n → EReal) (hg : ∀ k, ∃ r : ℝ, g k = (r : EReal)) :
    ∃ M : ℝ, (univ : Finset (Fin n)).fold max (Ideal.ofBits .f32 0xFF800000#32) g = (M : EReal) := by
  have hb : Ideal.ofBits .f32 0xFF800000#32 = ⊥ := by simp [Ideal.ofBits, Ideal.ieee]
  rw [hb]
  choose r hr using hg
  have key : ∀ s : Finset (Fin n), s.fold max ⊥ g = ⊥ ∨ ∃ M : ℝ, s.fold max ⊥ g = (M : EReal) := fun s => by
    induction s using Finset.induction_on with
    | empty => exact Or.inl Finset.fold_empty
    | insert a s ha ih =>
      right
      rw [Finset.fold_insert ha, hr]
      rcases ih with ih | ⟨M, ih⟩
      · rw [ih]; exact ⟨_, max_eq_left bot_le⟩
      · rw [ih]
        refine ⟨max (r a) M, ?_⟩
        rcases le_total (r a) M with h | h
        · rw [max_eq_right (EReal.coe_le_coe_iff.2 h), max_eq_right h]
        · rw [max_eq_left (EReal.coe_le_coe_iff.2 h), max_eq_left h]
  rcases key univ with h | h
  · exfalso
    have h1 : g ⟨0, hn⟩ ≤ (univ : Finset (Fin n)).fold max ⊥ g := (Finset.le_fold_max _).2 (Or.inr ⟨_, mem_univ _, le_refl _⟩)
    rw [h, hr] at h1
    exact absurd (le_bot_iff.1 h1) (EReal.coe_ne_bot _)
  · exact h

/-- The greatest of the sublanes is a number. -/
theorem max8 (v : S8x4096.Idx → EReal) (hv : ∀ i, ∃ r : ℝ, v i = (r : EReal)) (j : S1x4096.Idx) :
    ∃ M : ℝ, k0_pay562 (F := Ideal) v j = (M : EReal) := by
  have h0 : (j 0).val < 1 := (j 0).isLt
  suffices h : ∃ M : ℝ, multiReduction (F := Ideal) (φ := .f32) .maximumf [0] S4096 v 0xFF800000#32 reduces_S8x4096_S4096 (.inl rfl) rfl (ValueIdx.ix1 (j 1)) = (M : EReal) by
    obtain ⟨M, h⟩ := h
    refine ⟨M, Eq.trans ?_ h⟩
    unfold k0_pay562
    exact shapeCast_apply _ _ j (ValueIdx.ix1 (j 1)) (by
      rw [Shape.rowMajor_val_two, Shape.rowMajor_val_one]
      show (j 1).val = (j 0).val * 4096 + (j 1).val
      omega)
  have e := Ideal.multiReduction_maximumf_single (φ := .f32) v 0xFF800000#32 reduces_S8x4096_S4096 (.inl rfl) rfl (ValueIdx.ix1 (j 1))
  rw [e]
  obtain ⟨M, h⟩ := fold_real 8 (by omega) (v ∘ reduces_S8x4096_S4096.lift (ValueIdx.ix1 (j 1))) (fun k => hv _)
  exact ⟨M, h⟩

theorem bc8 (v : S1x4096.Idx → EReal) (i : S8x4096.Idx) :
    broadcastTo S8x4096 v broadcasts_S1x4096_S8x4096 i = v (ValueIdx.ix2 0 (i 1)) := by
  refine broadcastTo_apply v _ i _ fun a => ?_
  match a with
  | ⟨0, _⟩ => rfl
  | ⟨1, _⟩ => rfl

theorem div_real' (a b : ℝ) (h : b ≠ 0) : Ideal.div (a : EReal) (b : EReal) = ((a * b⁻¹ : ℝ) : EReal) := by
  rw [Ideal.div_coe h, ← EReal.coe_mul, one_div]

theorem lp_at (a b c : S1x4096.Idx → EReal) (k1 k2 : EReal) (j : S1x4096.Idx) (za zb zc zk1 zk2 : ℝ) (ha : a j = za) (hb : b j = zb) (hc : c j = zc) (h1 : k1 = zk1) (h2 : k2 = zk2) :
    (mulf (F := Ideal) (φ := .f32) (broadcast S1x4096 k1) (subf (mulf a (mulf b (broadcast S1x4096 k2))) c) : S1x4096.Idx → EReal) j = ((zk1 * (za * (zb * zk2) - zc) : ℝ) : EReal) := by
  show k1 * (a j * (b j * k2) - c j) = _
  rw [ha, hb, hc, h1, h2, ← EReal.coe_mul, ← EReal.coe_mul, ← EReal.coe_sub, ← EReal.coe_mul]

section
variable (y : ℕ → ℕ → ℕ → ℝ) (R11 R12 R13 R14 : S8x4096.Idx → EReal)
  (yy : ℕ → ℕ → ℝ) (hyy : ∀ s t n, y s t n = yy t (8 * n + s)) (cnt : ℕ → ℕ) (hc : ∀ t, t < 4096 → cnt t = 131)
  (hP : StatP y cnt R11 R12 R13 R14) (j : S1x4096.Idx)
include hyy hc hP

theorem fin_stats : ∃ M : ℝ, k0_pay562 (F := Ideal) R11 j = (M : EReal)
    ∧ k0_pay565 (F := Ideal) R11 R12 j = ((L0 (yy (j 1).val) M : ℝ) : EReal)
    ∧ k0_pay566 (F := Ideal) R11 R12 R13 R14 j = ((L2 (yy (j 1).val) M : ℝ) : EReal)
    ∧ k0_pay567 (F := Ideal) R11 R12 R13 j = ((L1 (yy (j 1).val) M * (L0 (yy (j 1).val) M)⁻¹ : ℝ) : EReal) := by
  have h0 : j 0 = (0 : Fin 1) := Fin.ext (by have : (j 0).val < 1 := (j 0).isLt; show (j 0).val = 0; omega)
  have hj : (ValueIdx.ix2 (0 : Fin 1) (j 1) : S1x4096.Idx) = j := by
    funext a; match a with
    | 0 => exact h0.symm
    | 1 => rfl
  obtain ⟨M, hM⟩ := max8 R11 (fun i => by obtain ⟨μ, h, _⟩ := hP i; exact ⟨μ, h⟩) j
  have hs : ∀ s : Fin 8, ∃ μ : ℝ, R11 (ValueIdx.ix2 s (j 1)) = (μ : EReal)
      ∧ R12 (ValueIdx.ix2 s (j 1)) = ((∑ i ∈ range 6288, Real.rpow 2 (yy (j 1).val (8 * i + s.val) - μ) : ℝ) : EReal)
      ∧ R13 (ValueIdx.ix2 s (j 1)) = ((∑ i ∈ range 6288, Real.rpow 2 (yy (j 1).val (8 * i + s.val) - μ) * (yy (j 1).val (8 * i + s.val) - μ) : ℝ) : EReal)
      ∧ R14 (ValueIdx.ix2 s (j 1)) = ((∑ i ∈ range 6288, Real.rpow 2 (yy (j 1).val (8 * i + s.val) - μ) * (yy (j 1).val (8 * i + s.val) - μ) * (yy (j 1).val (8 * i + s.val) - μ) : ℝ) : EReal) := fun s => by
    have h := hP (ValueIdx.ix2 s (j 1))
    have e : cnt (j 1).val = 131 := hc _ (j 1).isLt
    change StatR (y s.val (j 1).val) (48 * cnt (j 1).val) _ _ _ _ at h
    rw [e] at h
    obtain ⟨μ, h1, h2, h3, h4⟩ := h
    simp only [hyy] at h2 h3 h4
    exact ⟨μ, h1, h2, h3, h4⟩
  choose μ hμ hl h1 h2 using hs
  have hd : ∀ s : Fin 8, k0_pay563 (F := Ideal) R11 (ValueIdx.ix2 s (j 1)) = ((μ s - M : ℝ) : EReal) := fun s => by
    unfold k0_pay563
    show R11 (ValueIdx.ix2 s (j 1)) - broadcastTo S8x4096 (k0_pay562 (F := Ideal) R11) broadcasts_S1x4096_S8x4096 (ValueIdx.ix2 s (j 1)) = _
    rw [bc8, hμ]
    have : k0_pay562 (F := Ideal) R11 (ValueIdx.ix2 0 ((ValueIdx.ix2 s (j 1) : S8x4096.Idx) 1)) = (M : EReal) := by
      rw [← hM]; exact congrArg _ hj
    rw [this, EReal.coe_sub]
  have he : ∀ s : Fin 8, k0_pay564 (F := Ideal) R11 (ValueIdx.ix2 s (j 1)) = ((Real.rpow 2 (μ s - M) : ℝ) : EReal) := fun s => by
    unfold k0_pay564
    show Ideal.exp2 (k0_pay563 (F := Ideal) R11 (ValueIdx.ix2 s (j 1))) = _
    rw [hd]; rfl
  have g0 : k0_pay565 (F := Ideal) R11 R12 j = ((L0 (yy (j 1).val) M : ℝ) : EReal) := by
    unfold k0_pay565
    dsimp only
    rw [red8]
    unfold L0
    rw [← sum_sub8, ← sum_real]
    refine sum_congr rfl fun s _ => ?_
    show k0_pay564 (F := Ideal) R11 (ValueIdx.ix2 s (j 1)) * R12 (ValueIdx.ix2 s (j 1)) = _
    rw [he, hl, ← EReal.coe_mul, move0]
  have g1 : k0_pay567 (F := Ideal) R11 R12 R13 j = ((L1 (yy (j 1).val) M * (L0 (yy (j 1).val) M)⁻¹ : ℝ) : EReal) := by
    unfold k0_pay567
    dsimp only
    show Ideal.div (shapeCast S1x4096 _ _ j) (k0_pay565 (F := Ideal) R11 R12 j) = _
    rw [g0, red8]
    have : (∑ s : Fin 8, (mulf (k0_pay564 (F := Ideal) R11) (addf R13 (mulf (k0_pay563 (F := Ideal) R11) R12)) : S8x4096.Idx → EReal) (ValueIdx.ix2 s (j 1))) = ((L1 (yy (j 1).val) M : ℝ) : EReal) := by
      unfold L1
      rw [← sum_sub8 (fun v => Real.rpow 2 (yy (j 1).val v - M) * (yy (j 1).val v - M)), ← sum_real]
      refine sum_congr rfl fun s _ => ?_
      show k0_pay564 (F := Ideal) R11 (ValueIdx.ix2 s (j 1)) * (R13 (ValueIdx.ix2 s (j 1)) + k0_pay563 (F := Ideal) R11 (ValueIdx.ix2 s (j 1)) * R12 (ValueIdx.ix2 s (j 1))) = _
      rw [he, hd, hl, h1, ← EReal.coe_mul, ← EReal.coe_add, ← EReal.coe_mul]
      exact congrArg _ (move1 6288 (fun i => yy (j 1).val (8 * i + s.val)) (μ s) M)
    rw [this, div_real' _ _ (L0_pos M _).ne']
  have g2 : k0_pay566 (F := Ideal) R11 R12 R13 R14 j = ((L2 (yy (j 1).val) M : ℝ) : EReal) := by
    unfold k0_pay566
    dsimp only
    rw [red8]
    unfold L2
    rw [← sum_sub8 (fun v => Real.rpow 2 (yy (j 1).val v - M) * (yy (j 1).val v - M) * (yy (j 1).val v - M)), ← sum_real]
    refine sum_congr rfl fun s _ => ?_
    show k0_pay564 (F := Ideal) R11 (ValueIdx.ix2 s (j 1)) * (R14 (ValueIdx.ix2 s (j 1)) + k0_pay563 (F := Ideal) R11 (ValueIdx.ix2 s (j 1))
      * (Ideal.ofBits .f32 0x40000000#32 * R13 (ValueIdx.ix2 s (j 1)) + k0_pay563 (F := Ideal) R11 (ValueIdx.ix2 s (j 1)) * R12 (ValueIdx.ix2 s (j 1)))) = _
    have two : Ideal.ofBits .f32 0x40000000#32 = ((2 : ℝ) : EReal) := by
      simp [Ideal.ofBits, Ideal.ieee, -EReal.coe_mul]; norm_num
    rw [two, he, hd, hl, h1, h2]
    simp only [← EReal.coe_mul, ← EReal.coe_add]
    exact congrArg _ (move2 6288 (fun i => yy (j 1).val (8 * i + s.val)) (μ s) M)
  exact ⟨M, hM, g0, g2, g1⟩

variable (z : ℕ → ℝ) (hz : ∀ v, yy (j 1).val v = z v * (Real.log 2)⁻¹)
include hz

theorem fin_ent : k0_pay570 (F := Ideal) (k0_pay569 (F := Ideal) R11 R12 R13) j = ((ENT z : ℝ) : EReal) := by
  obtain ⟨M, hM, g0, g2, g1⟩ := fin_stats y R11 R12 R13 R14 yy hyy cnt hc hP j
  unfold k0_pay570 k0_pay569 k0_pay568
  show Named.named (F := Ideal) κ "ln2" 0x3F317218#32 * (Ideal.log (k0_pay565 (F := Ideal) R11 R12 j) * Named.named (F := Ideal) κ "log2e" 0x3FB8AA3B#32 - k0_pay567 (F := Ideal) R11 R12 R13 j) = _
  rw [IdealRules.named_const.ideal_named_scalar (φ := .f32) κ "log2e" 0x3FB8AA3B#32 _ rfl,
    IdealRules.named_const.ideal_named_scalar (φ := .f32) κ "ln2" 0x3F317218#32 _ rfl, g0, g1]
  rw [show Ideal.log ((L0 (yy (j 1).val) M : ℝ) : EReal) = ((Real.log (L0 (yy (j 1).val) M) : ℝ) : EReal) from if_neg (not_le.2 (L0_pos M _))]
  rw [← EReal.coe_mul, ← EReal.coe_sub, ← EReal.coe_mul, ent_math z M _ hz]

theorem fin_var : k0_pay571 (F := Ideal) (k0_pay565 (F := Ideal) R11 R12) (k0_pay566 (F := Ideal) R11 R12 R13 R14) (k0_pay567 (F := Ideal) R11 R12 R13) j = ((VAR z : ℝ) : EReal) := by
  obtain ⟨M, hM, g0, g2, g1⟩ := fin_stats y R11 R12 R13 R14 yy hyy cnt hc hP j
  unfold k0_pay571
  show Named.named (F := Ideal) κ "ln2_sq" 0x3EF5FDF0#32 * (Ideal.div (k0_pay566 (F := Ideal) R11 R12 R13 R14 j) (k0_pay565 (F := Ideal) R11 R12 j) - k0_pay567 (F := Ideal) R11 R12 R13 j * k0_pay567 (F := Ideal) R11 R12 R13 j) = _
  rw [IdealRules.named_const.ideal_named_scalar (φ := .f32) κ "ln2_sq" 0x3EF5FDF0#32 _ rfl, g0, g1, g2, div_real' _ _ (L0_pos M _).ne']
  rw [← EReal.coe_mul, ← EReal.coe_sub, ← EReal.coe_mul, var_math z M _ hz]

theorem fin_lp (v : S1x8x4096.Idx → EReal) (x : S1x4096.Idx → EReal) (T : ℕ) (Zt s : ℝ)
    (hv : ∀ r : Fin 8, v (ValueIdx.ix3 0 r (j 1)) = if T % 8 = r.val then (Zt : EReal) else 0) (hx : x j = (s : EReal)) (hT : z T = Zt * s) :
    k0_pay576 (F := Ideal) (k0_pay572 (F := Ideal) (k0_pay562 (F := Ideal) R11) (k0_pay568 (F := Ideal) R11 R12)) v x j = ((lp z T : ℝ) : EReal) := by
  obtain ⟨M, hM, g0, g2, g1⟩ := fin_stats y R11 R12 R13 R14 yy hyy cnt hc hP j
  unfold k0_pay576
  dsimp only
  have e1 : shapeCast S1x4096 (multiReduction (F := Ideal) (φ := .f32) .add [0] S4096 (shapeCast S8x4096 v shapeCasts_S1x8x4096_S8x4096) 0x00000000#32 reduces_S8x4096_S4096 (.inl rfl) rfl) shapeCasts_S4096_S1x4096 j = (Zt : EReal) := by
    rw [red8]
    have : ∀ r : Fin 8, shapeCast S8x4096 v shapeCasts_S1x8x4096_S8x4096 (ValueIdx.ix2 r (j 1)) = if r = ⟨T % 8, Nat.mod_lt _ (by omega)⟩ then (Zt : EReal) else 0 := fun r => by
      refine (shapeCast_apply v _ (ValueIdx.ix2 r (j 1)) (ValueIdx.ix3 0 r (j 1)) ?_).trans ((hv r).trans ?_)
      · rw [Shape.rowMajor_val_two, Shape.rowMajor_val_three]
        show (0 * 8 + r.val) * 4096 + (j 1).val = r.val * 4096 + (j 1).val
        omega
      · by_cases h : T % 8 = r.val
        · rw [if_pos h, if_pos (Fin.ext h.symm)]
        · rw [if_neg h, if_neg (fun e => h (congrArg Fin.val e).symm)]
    rw [sum_congr rfl fun r _ => this r]
    simp
  have e2 : shapeCast S1x4096 x shapeCasts_S1x4096_S1x4096 j = (s : EReal) := (congrFun (shapeCast_self x _) j).trans hx
  have e3 : k0_pay572 (F := Ideal) (k0_pay562 (F := Ideal) R11) (k0_pay568 (F := Ideal) R11 R12) j = ((M + Real.log (L0 (yy (j 1).val) M) * (Real.log 2)⁻¹ : ℝ) : EReal) := by
    unfold k0_pay572 k0_pay568
    show k0_pay562 (F := Ideal) R11 j + Ideal.log (k0_pay565 (F := Ideal) R11 R12 j) * Named.named (F := Ideal) κ "log2e" 0x3FB8AA3B#32 = _
    rw [IdealRules.named_const.ideal_named_scalar (φ := .f32) κ "log2e" 0x3FB8AA3B#32 _ rfl, hM, g0]
    rw [show Ideal.log ((L0 (yy (j 1).val) M : ℝ) : EReal) = ((Real.log (L0 (yy (j 1).val) M) : ℝ) : EReal) from if_neg (not_le.2 (L0_pos M _))]
    rw [← EReal.coe_mul, ← EReal.coe_add]
  rw [← lp_math z M _ hz Zt s T hT]
  exact lp_at _ _ _ _ _ j _ _ _ _ _ e1 e2 e3 (IdealRules.named_const.ideal_named_scalar (φ := .f32) κ "ln2" 0x3F317218#32 _ rfl)
    (IdealRules.named_const.ideal_named_scalar (φ := .f32) κ "log2e" 0x3FB8AA3B#32 _ rfl)
end

end Cert.KernelIdeal.Val

end
-- ==== Proof.VWb.lean ====
module

public import proofs.«01_k».proof.Proof.VStep
public import proofs.«01_k».proof.Proof.VFin

/-!
The pure facts about one grid point: the three blocks of scaled weight rows it writes, the fresh state of the
accumulators, and the seven rows of target log probabilities it writes at the last grid point.
-/

@[expose] public section
namespace Cert.KernelIdeal.Val
open Cert.KernelIdeal Cert.KernelIdeal.Gen Idealize.ShloMosaic

set_option maxRecDepth 100000
set_option maxHeartbeats 400000

theorem pay588_at (v : S1x1x2048.Idx → EReal) (u : S128x2048.Idx → EReal) (x : S128x2048.Idx) :
    k0_pay588 (F := Ideal) v u x = u x * v (ValueIdx.ix3 (0 : Fin 1) (0 : Fin 1) (x 1)) := by
  have e1 : ∀ q : S1x2048.Idx, shapeCast S1x2048 v shapeCasts_S1x1x2048_S1x2048 q = v (ValueIdx.ix3 (0 : Fin 1) (0 : Fin 1) (q 1)) := fun q =>
    shapeCast_apply v shapeCasts_S1x1x2048_S1x2048 q (ValueIdx.ix3 (0 : Fin 1) (0 : Fin 1) (q 1)) (by
      rw [Shape.rowMajor_val_two, Shape.rowMajor_val_three]
      have := (q 0).isLt
      show (0 * 1 + 0) * 2048 + (q 1).val = (q 0).val * 2048 + (q 1).val
      have h0 : (q 0).val < 1 := (q 0).isLt
      omega)
  unfold k0_pay588
  rw [shapeCast_self (mulf _ _) _]
  show (shapeCast S128x2048 u shapeCasts_S128x2048_S128x2048 x : EReal) * broadcastTo S128x2048 (shapeCast S1x2048 v shapeCasts_S1x1x2048_S1x2048) broadcasts_S1x2048_S128x2048 x = _
  rw [congrFun (shapeCast_self u _) x]
  congr 1
  refine (broadcastTo_apply _ _ x (ValueIdx.ix2 (0 : Fin 1) (x 1)) fun a => by
    match a with
    | 0 => rfl
    | 1 => rfl).trans ?_
  exact e1 _

theorem put_row {m n : ℕ} {R : ℕ} (X : (⟨2, ![R, n]⟩ : Shape).Idx → EReal) (o : ℕ)
    (w : (⟨2, ![m, n]⟩ : Shape).Idx → EReal) (i : (⟨2, ![R, n]⟩ : Shape).Idx) :
    (∀ h : o ≤ (i 0).val ∧ (i 0).val < o + m, VecWindow.put X ![o, 0] ![m, n] w i = w (ValueIdx.ix2 ⟨(i 0).val - o, by omega⟩ ⟨(i 1).val, (i 1).isLt⟩))
      ∧ (¬ (o ≤ (i 0).val ∧ (i 0).val < o + m) → VecWindow.put X ![o, 0] ![m, n] w i = X i) := by
  constructor
  · intro h
    unfold VecWindow.put
    have hall : ∀ a : Fin 2, (![o, 0] : Fin 2 → ℕ) a ≤ (i a).val ∧ (i a).val < (![o, 0] : Fin 2 → ℕ) a + (![m, n] : Fin 2 → ℕ) a := by
      intro a
      match a with
      | 0 => exact h
      | 1 => exact ⟨Nat.zero_le _, by show (i 1).val < 0 + n; rw [Nat.zero_add]; exact (i 1).isLt⟩
    refine (dif_pos hall).trans (congrArg w (funext fun a => ?_))
    match a with
    | 0 => rfl
    | 1 => exact Fin.ext (Nat.sub_zero _)
  · intro h
    unfold VecWindow.put
    have hall : ¬ ∀ a : Fin 2, (![o, 0] : Fin 2 → ℕ) a ≤ (i a).val ∧ (i a).val < (![o, 0] : Fin 2 → ℕ) a + (![m, n] : Fin 2 → ℕ) a := fun g => h (g 0)
    exact dif_neg hall

/-- The scaled weight rows of one grid point: code times scale. -/
def WIN (W : ℕ → ℕ → ℝ) (n : ℕ) (R2 : S384x2048.Idx → EReal) (R3 : S1x3x2048.Idx → EReal) : Prop :=
  ∀ (b : Fin 3) (x : S128x2048.Idx), R2 (ValueIdx.ix2 (⟨128 * b.val + (x 0).val, by have h1 : (x 0).val < 128 := (x 0).isLt; have := b.isLt; omega⟩ : Fin 384) (x 1)) * R3 (ValueIdx.ix3 (0 : Fin 1) b (x 1))
    = ((W (384 * n + (128 * b.val + (x 0).val)) (x 1).val : ℝ) : EReal)

theorem wput3 (W : ℕ → ℕ → ℝ) (n : ℕ) (R9 : S384x2048.Idx → EReal) (p0 p1 p2 : S128x2048.Idx → EReal)
    (h0 : ∀ x : S128x2048.Idx, p0 x = ((W (384 * n + (128 * 0 + (x 0).val)) (x 1).val : ℝ) : EReal))
    (h1 : ∀ x : S128x2048.Idx, p1 x = ((W (384 * n + (128 * 1 + (x 0).val)) (x 1).val : ℝ) : EReal))
    (h2 : ∀ x : S128x2048.Idx, p2 x = ((W (384 * n + (128 * 2 + (x 0).val)) (x 1).val : ℝ) : EReal)) :
    WP W n (VecWindow.put (VecWindow.put (VecWindow.put R9 ![0, 0] S128x2048.size p0) ![128, 0] S128x2048.size p1) ![256, 0] S128x2048.size p2) := by
  intro i
  have hi : (i 0).val < 384 := (i 0).isLt
  by_cases c2 : 256 ≤ (i 0).val ∧ (i 0).val < 256 + 128
  · refine ((put_row (m := 128) (n := 2048) (R := 384) _ 256 p2 i).1 c2).trans ((h2 _).trans ?_)
    show ((W (384 * n + (128 * 2 + ((i 0).val - 256))) (i 1).val : ℝ) : EReal) = _
    rw [show 384 * n + (128 * 2 + ((i 0).val - 256)) = 384 * n + (i 0).val by omega]
  refine ((put_row (m := 128) (n := 2048) (R := 384) _ 256 p2 i).2 c2).trans ?_
  by_cases c1 : 128 ≤ (i 0).val ∧ (i 0).val < 128 + 128
  · refine ((put_row (m := 128) (n := 2048) (R := 384) _ 128 p1 i).1 c1).trans ((h1 _).trans ?_)
    show ((W (384 * n + (128 * 1 + ((i 0).val - 128))) (i 1).val : ℝ) : EReal) = _
    rw [show 384 * n + (128 * 1 + ((i 0).val - 128)) = 384 * n + (i 0).val by omega]
  refine ((put_row (m := 128) (n := 2048) (R := 384) _ 128 p1 i).2 c1).trans ?_
  have c0 : 0 ≤ (i 0).val ∧ (i 0).val < 0 + 128 := by omega
  refine ((put_row (m := 128) (n := 2048) (R := 384) _ 0 p0 i).1 c0).trans ((h0 _).trans ?_)
  show ((W (384 * n + (128 * 0 + ((i 0).val - 0))) (i 1).val : ℝ) : EReal) = _
  rw [show 384 * n + (128 * 0 + ((i 0).val - 0)) = 384 * n + (i 0).val by omega]

/-- Seven rows put one after another: row `r` is what was put there. -/
theorem rput7 (X : S7x4096.Idx → EReal) (p0 p1 p2 p3 p4 p5 p6 : S1x4096.Idx → EReal) (G : ℕ → ℕ → EReal)
    (h0 : ∀ j : S1x4096.Idx, p0 j = G 0 (j 1).val) (h1 : ∀ j : S1x4096.Idx, p1 j = G 1 (j 1).val) (h2 : ∀ j : S1x4096.Idx, p2 j = G 2 (j 1).val)
    (h3 : ∀ j : S1x4096.Idx, p3 j = G 3 (j 1).val) (h4 : ∀ j : S1x4096.Idx, p4 j = G 4 (j 1).val) (h5 : ∀ j : S1x4096.Idx, p5 j = G 5 (j 1).val)
    (h6 : ∀ j : S1x4096.Idx, p6 j = G 6 (j 1).val) (i : S7x4096.Idx) :
    VecWindow.put (VecWindow.put (VecWindow.put (VecWindow.put (VecWindow.put (VecWindow.put (VecWindow.put X ![0, 0] S1x4096.size p0) ![1, 0] S1x4096.size p1)
      ![2, 0] S1x4096.size p2) ![3, 0] S1x4096.size p3) ![4, 0] S1x4096.size p4) ![5, 0] S1x4096.size p5) ![6, 0] S1x4096.size p6 i = G (i 0).val (i 1).val := by
  have hi : (i 0).val < 7 := (i 0).isLt
  have put1 : ∀ (X : S7x4096.Idx → EReal) (o : ℕ) (p : S1x4096.Idx → EReal), (∀ j : S1x4096.Idx, p j = G o (j 1).val) →
      (¬ (i 0).val = o → X i = G (i 0).val (i 1).val) → VecWindow.put X ![o, 0] S1x4096.size p i = G (i 0).val (i 1).val := by
    intro X o p hp hX
    by_cases c : o ≤ (i 0).val ∧ (i 0).val < o + 1
    · refine ((put_row (m := 1) (n := 4096) (R := 7) X o p i).1 c).trans ((hp _).trans ?_)
      show G o (i 1).val = _
      rw [show o = (i 0).val by omega]
    · exact ((put_row (m := 1) (n := 4096) (R := 7) X o p i).2 c).trans (hX (by omega))
  refine put1 _ 6 _ h6 fun n6 => put1 _ 5 _ h5 fun n5 => put1 _ 4 _ h4 fun n4 => put1 _ 3 _ h3 fun n3 => put1 _ 2 _ h2 fun n2 => put1 _ 1 _ h1 fun n1 => put1 _ 0 _ h0 fun n0 => ?_
  omega

/-- The accumulators as the first grid point sets them. -/
theorem scr_init (A W : ℕ → ℕ → ℝ) (S : ℕ → ℝ) (T : ℕ → ℕ → ℕ) (R10 : S2x384x512.Idx → EReal) :
    SCR A W S T 0 0 R10 (k0_pay584 (F := Ideal)) (k0_pay585 (F := Ideal)) (k0_pay586 (F := Ideal)) (k0_pay587 (F := Ideal)) (k0_pay583 (F := Ideal)) := by
  have c0 : ∀ t, cn 0 0 t = 0 := fun t => by unfold cn; split <;> rfl
  refine ⟨fun i => ?_, fun i => ?_, fun h => absurd h (by decide)⟩
  · have e1 : k0_pay584 (F := Ideal) i = Ideal.ofBits .f32 0xFCF0BDC2#32 := by unfold k0_pay584; rw [shapeCast_self]; rfl
    have e2 : k0_pay585 (F := Ideal) i = Ideal.ofBits .f32 0x00000000#32 := by unfold k0_pay585; rw [shapeCast_self]; rfl
    have e3 : k0_pay586 (F := Ideal) i = Ideal.ofBits .f32 0x00000000#32 := by unfold k0_pay586; rw [shapeCast_self]; rfl
    have e4 : k0_pay587 (F := Ideal) i = Ideal.ofBits .f32 0x00000000#32 := by unfold k0_pay587; rw [shapeCast_self]; rfl
    rw [e1, e2, e3, e4, c0]
    exact stat_init _
  · have e : k0_pay583 (F := Ideal) i = Ideal.ofBits .f32 0x00000000#32 := by unfold k0_pay583; rw [shapeCast_self]; rfl
    show k0_pay583 (F := Ideal) i = if T (i 0).val (i 2).val < 384 * cn 0 0 (i 2).val ∧ _ then _ else _
    refine e.trans (Ideal.ofBits_zero_f32.trans (if_neg (fun h => ?_)).symm)
    have h1 := h.1
    rw [c0] at h1
    exact Nat.not_lt_zero _ h1

theorem cond2_fin : ∀ n : Fin 131, Scalar.cmpi .ne (Scalar.extui (Scalar.cmpi .eq (BitVec.ofNat 32 n.val) 130#32) : BitVec 32) 0#32 = 1#1 ↔ n.val = 130 := by
  decide +kernel
theorem cond1_fin : ∀ n : Fin 131, Scalar.cmpi .ne (Scalar.extui (Scalar.cmpi .eq (BitVec.ofNat 32 n.val) 0#32) : BitVec 32) 0#32 = 1#1 ↔ n.val = 0 := by
  decide +kernel
theorem v41_eq : Scalar.muli (BitVec.ofNat 32 130) 384#32 = BitVec.ofInt 32 (384 * ((131 : ℕ) : ℤ) - 384) := by decide +kernel

end Cert.KernelIdeal.Val
end
-- ==== Proof.VBody.lean ====
module

public import proofs.«01_k».proof.Proof.VWb

@[expose] public section

set_option maxRecDepth 100000
set_option maxHeartbeats 2000000

/-! One grid point, at exact real values. -/

noncomputable section

namespace Cert.KernelIdeal.Val

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- One row's read of the weights and of their scales, at a place. -/
theorem read2 {e : EltTy} (v : View sig .tc .vmem S384x2048 e) (f : v.ty.Contents (Elt Ideal)) (o : ℕ) (inb : ∀ a, (![o, 0] : Fin 2 → ℕ) a + S128x2048.size a ≤ S384x2048.size a)
    (x : S128x2048.Idx) : v.readAt (Elt Ideal) (Rect.unit (s := S384x2048) ![o, 0] S128x2048.size inb).toLoadRect f x
      = v.read (Elt Ideal) f (ValueIdx.ix2 (⟨o + (x 0).val, by have h1 : (x 0).val < 128 := (x 0).isLt; have h2 : o + 128 ≤ 384 := inb 0; omega⟩ : Fin 384) (x 1)) :=
  congrArg (v.read (Elt Ideal) f) (funext fun a => Fin.ext (by
    match a with
    | 0 => show o + 1 * (x 0).val = o + (x 0).val; omega
    | 1 => show 0 + 1 * (x 1).val = (x 1).val; omega))

theorem read3 {e : EltTy} (v : View sig .tc .vmem S1x3x2048 e) (f : v.ty.Contents (Elt Ideal)) (o : Fin 3) (inb : ∀ a, (![0, o.val, 0] : Fin 3 → ℕ) a + S1x1x2048.size a ≤ S1x3x2048.size a)
    (t : Fin 2048) : v.readAt (Elt Ideal) (Rect.unit (s := S1x3x2048) ![0, o.val, 0] S1x1x2048.size inb).toLoadRect f (ValueIdx.ix3 (0 : Fin 1) (0 : Fin 1) t)
      = v.read (Elt Ideal) f (ValueIdx.ix3 (0 : Fin 1) o t) :=
  congrArg (v.read (Elt Ideal) f) (funext fun a => Fin.ext (by
    match a with
    | 0 => rfl
    | 1 => show o.val + 1 * 0 = o.val; omega
    | 2 => show 0 + 1 * t.val = t.val; omega))

theorem read15 {e : EltTy} (v : View sig .tc .vmem S7x8x4096 e) (f : v.ty.Contents (Elt Ideal)) (o : Fin 7) (inb : ∀ a, (![o.val, 0, 0] : Fin 3 → ℕ) a + S1x8x4096.size a ≤ S7x8x4096.size a)
    (r : Fin 8) (t : Fin 4096) : v.readAt (Elt Ideal) (Rect.unit (s := S7x8x4096) ![o.val, 0, 0] S1x8x4096.size inb).toLoadRect f (ValueIdx.ix3 (0 : Fin 1) r t)
      = v.read (Elt Ideal) f (ValueIdx.ix3 o r t) :=
  congrArg (v.read (Elt Ideal) f) (funext fun a => Fin.ext (by
    match a with
    | 0 => show o.val + 1 * 0 = o.val; omega
    | 1 => show 0 + 1 * r.val = r.val; omega
    | 2 => show 0 + 1 * t.val = t.val; omega))

theorem read4 {e : EltTy} (v : View sig .tc .vmem S8x4096 e) (f : v.ty.Contents (Elt Ideal)) (inb : ∀ a, (![0, 0] : Fin 2 → ℕ) a + S1x4096.size a ≤ S8x4096.size a)
    (j : S1x4096.Idx) : v.readAt (Elt Ideal) (Rect.unit (s := S8x4096) ![0, 0] S1x4096.size inb).toLoadRect f j
      = v.read (Elt Ideal) f (ValueIdx.ix2 (0 : Fin 8) (j 1)) :=
  congrArg (v.read (Elt Ideal) f) (funext fun a => Fin.ext (by
    have h0 : (j 0).val < 1 := (j 0).isLt
    match a with
    | 0 => show 0 + 1 * (j 0).val = 0; omega
    | 1 => show 0 + 1 * (j 1).val = (j 1).val; omega))

/-- One block of weight rows, scaled. -/
theorem blk (W : ℕ → ℕ → ℝ) (n : ℕ) (v2 : View sig .tc .vmem S384x2048 .fp8e4m3) (f2 : v2.ty.Contents (Elt Ideal)) (v3 : View sig .tc .vmem S1x3x2048 .f32) (f3 : v3.ty.Contents (Elt Ideal))
    (hW : WIN W n (v2.read (Elt Ideal) f2) (v3.read (Elt Ideal) f3)) (b : Fin 3) (o : ℕ) (ho : o = 128 * b.val)
    (inb : ∀ a, (![o, 0] : Fin 2 → ℕ) a + S128x2048.size a ≤ S384x2048.size a) (inb' : ∀ a, (![0, b.val, 0] : Fin 3 → ℕ) a + S1x1x2048.size a ≤ S1x3x2048.size a) (x : S128x2048.Idx) :
    k0_pay588 (F := Ideal) (v3.readAt (Elt Ideal) (Rect.unit (s := S1x3x2048) ![0, b.val, 0] S1x1x2048.size inb').toLoadRect f3)
      (v2.readAt (Elt Ideal) (Rect.unit (s := S384x2048) ![o, 0] S128x2048.size inb).toLoadRect f2) x = ((W (384 * n + (128 * b.val + (x 0).val)) (x 1).val : ℝ) : EReal) := by
  subst ho
  refine (pay588_at _ _ x).trans ?_
  refine (congrArg₂ (· * ·) (read2 v2 f2 _ inb x) (read3 v3 f3 b inb' (x 1))).trans (hW b x)

/-- What the first part of a grid point leaves: fresh accumulators at the first point, and the scaled weight rows. -/
theorem part64_val (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (n : ℕ) (hn : n < 131) (hi : (i 0).val = n) (A W : ℕ → ℕ → ℝ) (S : ℕ → ℝ) (T : ℕ → ℕ → ℕ)
    (R2 : S384x2048.Idx → EReal) (R3 : S1x3x2048.Idx → EReal) (hW : WIN W n R2 R3) (R9 : S384x2048.Idx → EReal)
    (R10 : S2x384x512.Idx → EReal) (R11 R12 R13 R14 : S8x4096.Idx → EReal) (R15 : S7x8x4096.Idx → EReal) (hS : 0 < n → SCR A W S T n 0 R10 R11 R12 R13 R14 R15) :
    iprop(owns (c : Thread nD τ) arg2 fullShare (R2 : S384x2048.Idx → Elt Ideal .fp8e4m3) ∗ owns (c : Thread nD τ) arg3 fullShare (R3 : S1x3x2048.Idx → Elt Ideal .f32)
      ∗ owns (c : Thread nD τ) arg9 fullShare (R9 : S384x2048.Idx → Elt Ideal .bf16) ∗ owns (c : Thread nD τ) arg10 fullShare (R10 : S2x384x512.Idx → Elt Ideal .f32)
      ∗ owns (c : Thread nD τ) arg11 fullShare (R11 : S8x4096.Idx → Elt Ideal .f32) ∗ owns (c : Thread nD τ) arg12 fullShare (R12 : S8x4096.Idx → Elt Ideal .f32)
      ∗ owns (c : Thread nD τ) arg13 fullShare (R13 : S8x4096.Idx → Elt Ideal .f32) ∗ owns (c : Thread nD τ) arg14 fullShare (R14 : S8x4096.Idx → Elt Ideal .f32)
      ∗ owns (c : Thread nD τ) arg15 fullShare (R15 : S7x8x4096.Idx → Elt Ideal .f32))
      ⊢ (wp frame (wpE (defs₀ (F := Ideal)) Variants.none (c : Thread nD τ) none) Set.univ (k0_part64 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun r => iprop(∃ (Q9 : S384x2048.Idx → EReal) (Q10 : S2x384x512.Idx → EReal) (Q11 Q12 Q13 Q14 : S8x4096.Idx → EReal) (Q15 : S7x8x4096.Idx → EReal),
            ⌜r.1 = BitVec.ofNat 32 n ∧ WP W n (VecWindow.put Q9 ![256, 0] S128x2048.size (k0_pay1 (F := Ideal) r.2)) ∧ SCR A W S T n 0 Q10 Q11 Q12 Q13 Q14 Q15⌝
            ∗ owns (c : Thread nD τ) arg2 fullShare (R2 : S384x2048.Idx → Elt Ideal .fp8e4m3) ∗ owns (c : Thread nD τ) arg3 fullShare (R3 : S1x3x2048.Idx → Elt Ideal .f32)
            ∗ owns (c : Thread nD τ) arg9 fullShare (Q9 : S384x2048.Idx → Elt Ideal .bf16) ∗ owns (c : Thread nD τ) arg10 fullShare (Q10 : S2x384x512.Idx → Elt Ideal .f32)
            ∗ owns (c : Thread nD τ) arg11 fullShare (Q11 : S8x4096.Idx → Elt Ideal .f32) ∗ owns (c : Thread nD τ) arg12 fullShare (Q12 : S8x4096.Idx → Elt Ideal .f32)
            ∗ owns (c : Thread nD τ) arg13 fullShare (Q13 : S8x4096.Idx → Elt Ideal .f32) ∗ owns (c : Thread nD τ) arg14 fullShare (Q14 : S8x4096.Idx → Elt Ideal .f32)
            ∗ owns (c : Thread nD τ) arg15 fullShare (Q15 : S7x8x4096.Idx → Elt Ideal .f32))) : sProp 𝕄) := by
  iintro ⟨H2, H3, H9, H10, H11, H12, H13, H14, H15⟩
  ihave H2 := (owns_open c arg2 _) $$ H2
  ihave H3 := (owns_open c arg3 _) $$ H3
  ihave H9 := (owns_open c arg9 _) $$ H9
  ihave H10 := (owns_open c arg10 _) $$ H10
  ihave H11 := (owns_open c arg11 _) $$ H11
  ihave H12 := (owns_open c arg12 _) $$ H12
  ihave H13 := (owns_open c arg13 _) $$ H13
  ihave H14 := (owns_open c arg14 _) $$ H14
  ihave H15 := (owns_open c arg15 _) $$ H15
  icases H2 with ⟨%X2, %e2, H2⟩
  icases H3 with ⟨%X3, %e3, H3⟩
  icases H9 with ⟨%X9, %e9, H9⟩
  icases H10 with ⟨%X10, %e10, H10⟩
  icases H11 with ⟨%X11, %e11, H11⟩
  icases H12 with ⟨%X12, %e12, H12⟩
  icases H13 with ⟨%X13, %e13, H13⟩
  icases H14 with ⟨%X14, %e14, H14⟩
  icases H15 with ⟨%X15, %e15, H15⟩
  subst e2 e3 e9 e10 e11 e12 e13 e14 e15
  simp only [k0_part64_eq_skeleton]
  unfold k0_part64_skel
  have hwp : WP W n (VecWindow.put (VecWindow.put (VecWindow.put (View.read (Elt Ideal) arg9.view X9) ![0, 0] S128x2048.size
      (k0_pay588 (F := Ideal) (arg3.view.readAt (Elt Ideal) (Rect.unit (s := S1x3x2048) ![0, 0, 0] S1x1x2048.size inb_S1x3x2048_S1x1x2048_0_0_0).toLoadRect X3) (arg2.view.readAt (Elt Ideal) (Rect.unit (s := S384x2048) ![0, 0] S128x2048.size inb_S384x2048_S128x2048_0_0).toLoadRect X2))) ![128, 0] S128x2048.size
      (k0_pay589 (F := Ideal) (arg3.view.readAt (Elt Ideal) (Rect.unit (s := S1x3x2048) ![0, 1, 0] S1x1x2048.size inb_S1x3x2048_S1x1x2048_0_1_0).toLoadRect X3) (arg2.view.readAt (Elt Ideal) (Rect.unit (s := S384x2048) ![128, 0] S128x2048.size inb_S384x2048_S128x2048_128_0).toLoadRect X2))) ![256, 0] S128x2048.size
      (k0_pay1 (F := Ideal) (k0_pay590 (F := Ideal) (arg3.view.readAt (Elt Ideal) (Rect.unit (s := S1x3x2048) ![0, 2, 0] S1x1x2048.size inb_S1x3x2048_S1x1x2048_0_2_0).toLoadRect X3) (arg2.view.readAt (Elt Ideal) (Rect.unit (s := S384x2048) ![256, 0] S128x2048.size inb_S384x2048_S128x2048_256_0).toLoadRect X2)))) :=
    wput3 W n _ _ _ _ (fun x => blk W n arg2.view X2 arg3.view X3 hW 0 0 rfl inb_S384x2048_S128x2048_0_0 inb_S1x3x2048_S1x1x2048_0_0_0 x)
      (fun x => blk W n arg2.view X2 arg3.view X3 hW 1 128 rfl inb_S384x2048_S128x2048_128_0 inb_S1x3x2048_S1x1x2048_0_1_0 x)
      (fun x => blk W n arg2.view X2 arg3.view X3 hW 2 256 rfl inb_S384x2048_S128x2048_256_0 inb_S1x3x2048_S1x1x2048_0_2_0 x)
  have hr : BitVec.ofNat 32 (i 0).val = BitVec.ofNat 32 n := by rw [hi]
  by_cases h1 : Scalar.cmpi .ne (Scalar.extui (Scalar.cmpi .eq (BitVec.ofNat 32 (i 0).val) 0#32) : BitVec 32) 0#32 = 1#1
  · have hn0 : n = 0 := hi.symm.trans ((cond1_fin (i 0)).1 h1)
    subst hn0
    sl_exec
    sl_step
    ihave H9 := (owns_close c arg9 _ (VecWindow.put (VecWindow.put (View.read (Elt Ideal) arg9.view X9) ![0, 0] S128x2048.size _) ![128, 0] S128x2048.size _) (by
      rw [View.read_writes_cons_put _ _ _ _ _ rfl, View.read_writes_cons_put _ _ _ _ _ rfl]; rfl)) $$ H9
    ihave H11 := (owns_close c arg11 _ (k0_pay584 (F := Ideal)) (View.read_writes_full _ _ _ _ _)) $$ H11
    ihave H12 := (owns_close c arg12 _ (k0_pay585 (F := Ideal)) (View.read_writes_full _ _ _ _ _)) $$ H12
    ihave H13 := (owns_close c arg13 _ (k0_pay586 (F := Ideal)) (View.read_writes_full _ _ _ _ _)) $$ H13
    ihave H14 := (owns_close c arg14 _ (k0_pay587 (F := Ideal)) (View.read_writes_full _ _ _ _ _)) $$ H14
    ihave H15 := (owns_close c arg15 _ (k0_pay583 (F := Ideal)) (View.read_writes_full _ _ _ _ _)) $$ H15
    ihave H10 := (owns_close c arg10 _ _ rfl) $$ H10
    ihave H2 := (owns_close c arg2 _ _ rfl) $$ H2
    ihave H3 := (owns_close c arg3 _ _ rfl) $$ H3
    iexists _, _, _, _, _, _, _
    isplitr; swap
    · isplitl [H2]; · iexact H2
      isplitl [H3]; · iexact H3
      isplitl [H9]; · iexact H9
      isplitl [H10]; · iexact H10
      isplitl [H11]; · iexact H11
      isplitl [H12]; · iexact H12
      isplitl [H13]; · iexact H13
      isplitl [H14]; · iexact H14
      iexact H15
    ipureintro
    exact ⟨hr, hwp, scr_init A W S T _⟩
  · have hn0 : n ≠ 0 := fun h => h1 ((cond1_fin (i 0)).2 (hi.trans h))
    sl_exec
    sl_step
    ihave H9 := (owns_close c arg9 _ (VecWindow.put (VecWindow.put (View.read (Elt Ideal) arg9.view X9) ![0, 0] S128x2048.size _) ![128, 0] S128x2048.size _) (by
      rw [View.read_writes_cons_put _ _ _ _ _ rfl, View.read_writes_cons_put _ _ _ _ _ rfl]; rfl)) $$ H9
    ihave H10 := (owns_close c arg10 _ _ rfl) $$ H10
    ihave H11 := (owns_close c arg11 _ _ rfl) $$ H11
    ihave H12 := (owns_close c arg12 _ _ rfl) $$ H12
    ihave H13 := (owns_close c arg13 _ _ rfl) $$ H13
    ihave H14 := (owns_close c arg14 _ _ rfl) $$ H14
    ihave H15 := (owns_close c arg15 _ _ rfl) $$ H15
    ihave H2 := (owns_close c arg2 _ _ rfl) $$ H2
    ihave H3 := (owns_close c arg3 _ _ rfl) $$ H3
    iexists _, _, _, _, _, _, _
    isplitr; swap
    · isplitl [H2]; · iexact H2
      isplitl [H3]; · iexact H3
      isplitl [H9]; · iexact H9
      isplitl [H10]; · iexact H10
      isplitl [H11]; · iexact H11
      isplitl [H12]; · iexact H12
      isplitl [H13]; · iexact H13
      isplitl [H14]; · iexact H14
      iexact H15
    ipureintro
    exact ⟨hr, hwp, hS (Nat.pos_of_ne_zero hn0)⟩

/-- The eight tiles of a grid point. -/
theorem t1_val (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (n : ℕ) (hn : n < 131) (ha : arg0 = BitVec.ofNat 32 n) (A W : ℕ → ℕ → ℝ) (S : ℕ → ℝ) (T : ℕ → ℕ → ℕ) (hT : ∀ r t, T r t < 50304)
    (R1 : S4096x2048.Idx → EReal) (hA : AP A R1) (R4 : S8x4096.Idx → EReal) (hX : XP S R4) (R5 : S7x4096.Idx → BitVec 32) (hTG : TG T R5) (R9 : S384x2048.Idx → EReal) (hW : WP W n R9) :
    I1 c arg1 arg4 arg5 arg9 arg10 arg11 arg12 arg13 arg14 arg15 A W S T R1 R4 R5 R9 n 0
      ⊢ (wp frame (wpE (defs₀ (F := Ideal)) Variants.none (c : Thread nD τ) none) Set.univ (Scf.Loop.for k0_t1_loop k0_t1_ok ⟨⟩ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0))
          (fun _ => I1 c arg1 arg4 arg5 arg9 arg10 arg11 arg12 arg13 arg14 arg15 A W S T R1 R4 R5 R9 n 8) : sProp 𝕄) :=
  for_inv c k0_t1_loop _ _ (fun J => I1 c arg1 arg4 arg5 arg9 arg10 arg11 arg12 arg13 arg14 arg15 A W S T R1 R4 R5 R9 n J)
    (fun k => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 n hn ha A W S T hT R1 hA R4 hX R5 hTG R9 hW k)

/-- The last tile's sums and picks, after the last grid point's tiles. -/
theorem part60_val (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (arg0 : BitVec 32) (h2 : k0_cond2 i = 1#1) (ha : arg0 = BitVec.ofNat 32 130) (A W : ℕ → ℕ → ℝ) (S : ℕ → ℝ) (T : ℕ → ℕ → ℕ) (hT : ∀ r t, T r t < 50304)
    (R4 : S8x4096.Idx → EReal) (hX : XP S R4) (R5 : S7x4096.Idx → BitVec 32) (hTG : TG T R5)
    (R10 : S2x384x512.Idx → EReal) (R11 R12 R13 R14 : S8x4096.Idx → EReal) (R15 : S7x8x4096.Idx → EReal) (hS : SCR A W S T 130 8 R10 R11 R12 R13 R14 R15) :
    iprop(owns (c : Thread nD τ) arg4 fullShare (R4 : S8x4096.Idx → Elt Ideal .f32) ∗ owns (c : Thread nD τ) arg5 fullShare (R5 : S7x4096.Idx → Elt Ideal .i32)
      ∗ owns (c : Thread nD τ) arg10 fullShare (R10 : S2x384x512.Idx → Elt Ideal .f32)
      ∗ owns (c : Thread nD τ) arg11 fullShare (R11 : S8x4096.Idx → Elt Ideal .f32) ∗ owns (c : Thread nD τ) arg12 fullShare (R12 : S8x4096.Idx → Elt Ideal .f32)
      ∗ owns (c : Thread nD τ) arg13 fullShare (R13 : S8x4096.Idx → Elt Ideal .f32) ∗ owns (c : Thread nD τ) arg14 fullShare (R14 : S8x4096.Idx → Elt Ideal .f32)
      ∗ owns (c : Thread nD τ) arg15 fullShare (R15 : S7x8x4096.Idx → Elt Ideal .f32))
      ⊢ (wp frame (wpE (defs₀ (F := Ideal)) Variants.none (c : Thread nD τ) none) Set.univ (k0_part60 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 h2)
          (fun r => iprop(∃ (Q11 Q12 Q13 Q14 : S8x4096.Idx → EReal) (Q15 : S7x8x4096.Idx → EReal),
            ⌜r = ⟨k0_pay562 (F := Ideal) Q11, k0_pay565 (F := Ideal) Q11 Q12, k0_pay566 (F := Ideal) Q11 Q12 Q13 Q14, k0_pay567 (F := Ideal) Q11 Q12 Q13, k0_pay568 (F := Ideal) Q11 Q12, k0_pay569 (F := Ideal) Q11 Q12 Q13⟩
              ∧ StatP (yOf (zr A W) S) (fun _ => 131) Q11 Q12 Q13 Q14 ∧ TZP (zr A W) T (fun _ _ => 131) Q15⌝
            ∗ owns (c : Thread nD τ) arg4 fullShare (R4 : S8x4096.Idx → Elt Ideal .f32) ∗ owns (c : Thread nD τ) arg5 fullShare (R5 : S7x4096.Idx → Elt Ideal .i32)
            ∗ owns (c : Thread nD τ) arg10 fullShare (R10 : S2x384x512.Idx → Elt Ideal .f32)
            ∗ owns (c : Thread nD τ) arg11 fullShare (Q11 : S8x4096.Idx → Elt Ideal .f32) ∗ owns (c : Thread nD τ) arg12 fullShare (Q12 : S8x4096.Idx → Elt Ideal .f32)
            ∗ owns (c : Thread nD τ) arg13 fullShare (Q13 : S8x4096.Idx → Elt Ideal .f32) ∗ owns (c : Thread nD τ) arg14 fullShare (Q14 : S8x4096.Idx → Elt Ideal .f32)
            ∗ owns (c : Thread nD τ) arg15 fullShare (Q15 : S7x8x4096.Idx → Elt Ideal .f32))) : sProp 𝕄) := by
  obtain ⟨hP, hQ, hZ⟩ := hS
  subst ha
  have hlast : ∀ t, 3584 ≤ t → cn 130 8 t = 130 := fun t h => by unfold cn; rw [if_neg (show ¬ t < 3584 by omega), if_neg (by decide)]
  have hfirst : ∀ t, t < 3584 → cn 130 8 t = 131 := fun t h => by
    unfold cn; rw [if_pos (show t < 3584 from h), if_pos (show t / 512 + 1 < 8 by omega)]
  have hZ' : 0 < 131 → ZP (zr A W) 1 (131 - 1) 7 R10 := fun _ => hZ (by decide)
  iintro ⟨H4, H5, H10, H11, H12, H13, H14, H15⟩
  simp only [k0_part60_eq_skeleton]
  unfold k0_part60_skel
  iapply (wp_seq c _ _ (fun _ => IS5 c arg4 arg10 arg11 arg12 arg13 arg14 (yOf (zr A W) S) (cn 130 8) R4 R10 131 4))
  isplitl [H4 H10 H11 H12 H13 H14]
  · iapply (loop5 c i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 130) h2 (zr A W) S (cn 130 8) R4 R10 hX 131 (by decide) hZ' (fun t h h' => hlast t h))
    unfold IS5
    iexists R11, R12, R13, R14
    isplitr
    · ipureintro
      exact StatP_congr _ _ _ (fun t => by rw [if_neg (fun h => absurd h.2 (by rw [Nat.mul_zero, Nat.add_zero]; exact Nat.not_lt.mpr h.1))]) _ _ _ _ hP
    isplitl [H4]; · iexact H4
    isplitl [H10]; · iexact H10
    isplitl [H11]; · iexact H11
    isplitl [H12]; · iexact H12
    isplitl [H13]; · iexact H13
    iexact H14
  iintro %u HI
  unfold IS5
  icases HI with ⟨%Q11, %Q12, %Q13, %Q14, %hP', H4, H10, H11, H12, H13, H14⟩
  iapply (wp_seq c _ _ (fun _ => IT c arg5 arg10 arg15 (zr A W) T R5 R10 (fun r t => if 3584 ≤ t ∧ t < 3584 + 512 then 131 else cn 130 8 t)))
  isplitl [H5 H10 H15]
  · iapply (loop6 c i arg1 harg1 arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 130) h2 _ _ (zr A W) T hT (fun _ t => cn 130 8 t) R5 hTG R10 131 (by decide) v41_eq io_ok hZ' (fun _ t _ h h' => hlast t h))
    unfold IT
    iexists R15
    isplitr
    · ipureintro; exact hQ
    isplitl [H5]; · iexact H5
    isplitl [H10]; · iexact H10
    iexact H15
  iintro %u' HI
  unfold IT
  icases HI with ⟨%Q15, %hQ', H5, H10, H15⟩
  ihave H11 := (owns_open c arg11 _) $$ H11
  ihave H12 := (owns_open c arg12 _) $$ H12
  ihave H13 := (owns_open c arg13 _) $$ H13
  ihave H14 := (owns_open c arg14 _) $$ H14
  icases H11 with ⟨%X11, %e11, H11⟩
  icases H12 with ⟨%X12, %e12, H12⟩
  icases H13 with ⟨%X13, %e13, H13⟩
  icases H14 with ⟨%X14, %e14, H14⟩
  subst e11 e12 e13 e14
  sl_exec
  sl_step
  ihave H11 := (owns_close c arg11 _ _ rfl) $$ H11
  ihave H12 := (owns_close c arg12 _ _ rfl) $$ H12
  ihave H13 := (owns_close c arg13 _ _ rfl) $$ H13
  ihave H14 := (owns_close c arg14 _ _ rfl) $$ H14
  iexists _, _, _, _, _
  isplitr; swap
  · isplitl [H4]; · iexact H4
    isplitl [H5]; · iexact H5
    isplitl [H10]; · iexact H10
    isplitl [H11]; · iexact H11
    isplitl [H12]; · iexact H12
    isplitl [H13]; · iexact H13
    isplitl [H14]; · iexact H14
    iexact H15
  ipureintro
  refine ⟨?_, StatP_congr' _ _ _ (fun t h => ?_) _ _ _ _ hP', TZP_congr _ _ _ _ _ (fun r t _ h => ?_) hQ'⟩
  · rw [View.readAt_full, View.readAt_full, View.readAt_full, View.readAt_full]
  · by_cases ht : 3584 ≤ t
    · rw [if_pos ⟨ht, by omega⟩]
    · rw [if_neg (fun g => ht g.1)]; exact hfirst t (by omega)
  · by_cases ht : 3584 ≤ t
    · exact if_pos ⟨ht, by omega⟩
    · exact (if_neg (fun g => ht g.1)).trans (hfirst t (by omega))

end Cert.KernelIdeal.Val
end
-- ==== Proof.VBody2.lean ====
module

public import proofs.«01_k».proof.Proof.VBody

@[expose] public section

set_option maxRecDepth 100000
set_option maxHeartbeats 2000000

/-! The last block of the kernel and one whole grid point, at exact real values. -/

noncomputable section

namespace Cert.KernelIdeal.Val

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A token's logits. -/
def zl (A W : ℕ → ℕ → ℝ) (S : ℕ → ℝ) (t v : ℕ) : ℝ := zr A W v t * S t

/-- The three results. -/
def OUT (A W : ℕ → ℕ → ℝ) (S : ℕ → ℝ) (T : ℕ → ℕ → ℕ) (R6 : S1x4096.Idx → EReal) (R7 : S1x4096.Idx → EReal) (R8 : S7x4096.Idx → EReal) : Prop :=
  (∀ j : S1x4096.Idx, R6 j = ((ENT (zl A W S (j 1).val) : ℝ) : EReal)) ∧ (∀ j : S1x4096.Idx, R7 j = ((VAR (zl A W S (j 1).val) : ℝ) : EReal))
    ∧ ∀ i : S7x4096.Idx, R8 i = ((lp (zl A W S (i 1).val) (T (i 0).val (i 1).val) : ℝ) : EReal)

/-- One row of the target log probabilities. -/
theorem orow (A W : ℕ → ℕ → ℝ) (S : ℕ → ℝ) (T : ℕ → ℕ → ℕ) (hT : ∀ r t, T r t < 50304) (Q11 : S8x4096.Idx → EReal) (Q12 : S8x4096.Idx → EReal) (Q13 : S8x4096.Idx → EReal) (Q14 : S8x4096.Idx → EReal)
    (hP : StatP (yOf (zr A W) S) (fun _ => 131) Q11 Q12 Q13 Q14) (v4 : View sig .tc .vmem S8x4096 .f32) (f4 : v4.ty.Contents (Elt Ideal)) (hX : XP S (v4.read (Elt Ideal) f4))
    (v15 : View sig .tc .vmem S7x8x4096 .f32) (f15 : v15.ty.Contents (Elt Ideal)) (hQ : TZP (zr A W) T (fun _ _ => 131) (v15.read (Elt Ideal) f15))
    (r : Fin 7) (inb : ∀ a, (![r.val, 0, 0] : Fin 3 → ℕ) a + S1x8x4096.size a ≤ S7x8x4096.size a) (inb4 : ∀ a, (![0, 0] : Fin 2 → ℕ) a + S1x4096.size a ≤ S8x4096.size a) (j : S1x4096.Idx) :
    k0_pay576 (F := Ideal) (k0_pay572 (F := Ideal) (k0_pay562 (F := Ideal) Q11) (k0_pay568 (F := Ideal) Q11 Q12))
      (v15.readAt (Elt Ideal) (Rect.unit (s := S7x8x4096) ![r.val, 0, 0] S1x8x4096.size inb).toLoadRect f15)
      (v4.readAt (Elt Ideal) (Rect.unit (s := S8x4096) ![0, 0] S1x4096.size inb4).toLoadRect f4) j
      = ((lp (zl A W S (j 1).val) (T r.val (j 1).val) : ℝ) : EReal) := by
  refine fin_lp (yOf (zr A W) S) Q11 Q12 Q13 Q14 (fun t v => zr A W v t * (S t * (Real.log 2)⁻¹)) (fun s t n => rfl) (fun _ => 131) (fun _ _ => rfl) hP j
    (zl A W S (j 1).val) (fun v => by unfold zl; ring) _ _ (T r.val (j 1).val) (zr A W (T r.val (j 1).val) (j 1).val) (S (j 1).val) (fun k => ?_) ?_ rfl
  · refine (read15 v15 f15 r inb k (j 1)).trans ((hQ _).trans ?_)
    show (if T r.val (j 1).val < 384 * 131 ∧ T r.val (j 1).val % 8 = k.val then ((zr A W (T r.val (j 1).val) (j 1).val : ℝ) : EReal) else 0) = _
    by_cases h : T r.val (j 1).val % 8 = k.val
    · exact (if_pos ⟨hT _ _, h⟩).trans (if_pos h).symm
    · exact (if_neg (fun g => h g.2)).trans (if_neg h).symm
  · exact (read4 v4 f4 inb4 j).trans (hX _)

theorem oent (A W : ℕ → ℕ → ℝ) (S : ℕ → ℝ) (Q11 : S8x4096.Idx → EReal) (Q12 : S8x4096.Idx → EReal) (Q13 : S8x4096.Idx → EReal) (Q14 : S8x4096.Idx → EReal)
    (hP : StatP (yOf (zr A W) S) (fun _ => 131) Q11 Q12 Q13 Q14) (j : S1x4096.Idx) :
    k0_pay570 (F := Ideal) (k0_pay569 (F := Ideal) Q11 Q12 Q13) j = ((ENT (zl A W S (j 1).val) : ℝ) : EReal) :=
  fin_ent (yOf (zr A W) S) Q11 Q12 Q13 Q14 (fun t v => zr A W v t * (S t * (Real.log 2)⁻¹)) (fun s t n => rfl) (fun _ => 131) (fun _ _ => rfl) hP j
    (zl A W S (j 1).val) (fun v => by unfold zl; ring)

theorem ovar (A W : ℕ → ℕ → ℝ) (S : ℕ → ℝ) (Q11 : S8x4096.Idx → EReal) (Q12 : S8x4096.Idx → EReal) (Q13 : S8x4096.Idx → EReal) (Q14 : S8x4096.Idx → EReal)
    (hP : StatP (yOf (zr A W) S) (fun _ => 131) Q11 Q12 Q13 Q14) (j : S1x4096.Idx) :
    k0_pay571 (F := Ideal) (k0_pay565 (F := Ideal) Q11 Q12) (k0_pay566 (F := Ideal) Q11 Q12 Q13 Q14) (k0_pay567 (F := Ideal) Q11 Q12 Q13) j = ((VAR (zl A W S (j 1).val) : ℝ) : EReal) :=
  fin_var (yOf (zr A W) S) Q11 Q12 Q13 Q14 (fun t v => zr A W v t * (S t * (Real.log 2)⁻¹)) (fun s t n => rfl) (fun _ => 131) (fun _ _ => rfl) hP j
    (zl A W S (j 1).val) (fun v => by unfold zl; ring)

/-- One grid point: from what the earlier points left, what this one leaves, and at the last one the three results. -/
theorem step (c : Dev nD) (i : grid0.Coords) (arg1 : Memref sig .tc .vmem S4096x2048 .fp8e4m3) (harg1 : arg1.IsWhole) (arg2 : Memref sig .tc .vmem S384x2048 .fp8e4m3) (harg2 : arg2.IsWhole) (arg3 : Memref sig .tc .vmem S1x3x2048 .f32) (harg3 : arg3.IsWhole) (arg4 : Memref sig .tc .vmem S8x4096 .f32) (harg4 : arg4.IsWhole) (arg5 : Memref sig .tc .vmem S7x4096 .i32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S7x4096 .f32) (harg8 : arg8.IsWhole) (arg9 : Memref sig .tc .vmem S384x2048 .bf16) (harg9 : arg9.IsWhole) (arg10 : Memref sig .tc .vmem S2x384x512 .f32) (harg10 : arg10.IsWhole) (arg11 : Memref sig .tc .vmem S8x4096 .f32) (harg11 : arg11.IsWhole) (arg12 : Memref sig .tc .vmem S8x4096 .f32) (harg12 : arg12.IsWhole) (arg13 : Memref sig .tc .vmem S8x4096 .f32) (harg13 : arg13.IsWhole) (arg14 : Memref sig .tc .vmem S8x4096 .f32) (harg14 : arg14.IsWhole) (arg15 : Memref sig .tc .vmem S7x8x4096 .f32) (harg15 : arg15.IsWhole) (n : ℕ) (hn : n < 131) (hi : (i 0).val = n) (A W : ℕ → ℕ → ℝ) (S : ℕ → ℝ) (T : ℕ → ℕ → ℕ) (hT : ∀ r t, T r t < 50304)
    (R1 : S4096x2048.Idx → EReal) (hA : AP A R1) (R2 : S384x2048.Idx → EReal) (R3 : S1x3x2048.Idx → EReal) (hW : WIN W n R2 R3) (R4 : S8x4096.Idx → EReal) (hX : XP S R4) (R5 : S7x4096.Idx → BitVec 32) (hTG : TG T R5)
    (R6 : S1x4096.Idx → EReal) (R7 : S1x4096.Idx → EReal) (R8 : S7x4096.Idx → EReal) (R9 : S384x2048.Idx → EReal) (R10 : S2x384x512.Idx → EReal) (R11 : S8x4096.Idx → EReal) (R12 : S8x4096.Idx → EReal) (R13 : S8x4096.Idx → EReal) (R14 : S8x4096.Idx → EReal) (R15 : S7x8x4096.Idx → EReal) (hS : 0 < n → SCR A W S T n 0 R10 R11 R12 R13 R14 R15) :
    iprop(owns (c : Thread nD τ) arg1 fullShare (R1 : S4096x2048.Idx → Elt Ideal .fp8e4m3)
      ∗ owns (c : Thread nD τ) arg2 fullShare (R2 : S384x2048.Idx → Elt Ideal .fp8e4m3)
      ∗ owns (c : Thread nD τ) arg3 fullShare (R3 : S1x3x2048.Idx → Elt Ideal .f32)
      ∗ owns (c : Thread nD τ) arg4 fullShare (R4 : S8x4096.Idx → Elt Ideal .f32)
      ∗ owns (c : Thread nD τ) arg5 fullShare (R5 : S7x4096.Idx → Elt Ideal .i32)
      ∗ owns (c : Thread nD τ) arg6 fullShare (R6 : S1x4096.Idx → Elt Ideal .f32)
      ∗ owns (c : Thread nD τ) arg7 fullShare (R7 : S1x4096.Idx → Elt Ideal .f32)
      ∗ owns (c : Thread nD τ) arg8 fullShare (R8 : S7x4096.Idx → Elt Ideal .f32)
      ∗ owns (c : Thread nD τ) arg9 fullShare (R9 : S384x2048.Idx → Elt Ideal .bf16)
      ∗ owns (c : Thread nD τ) arg10 fullShare (R10 : S2x384x512.Idx → Elt Ideal .f32)
      ∗ owns (c : Thread nD τ) arg11 fullShare (R11 : S8x4096.Idx → Elt Ideal .f32)
      ∗ owns (c : Thread nD τ) arg12 fullShare (R12 : S8x4096.Idx → Elt Ideal .f32)
      ∗ owns (c : Thread nD τ) arg13 fullShare (R13 : S8x4096.Idx → Elt Ideal .f32)
      ∗ owns (c : Thread nD τ) arg14 fullShare (R14 : S8x4096.Idx → Elt Ideal .f32)
      ∗ owns (c : Thread nD τ) arg15 fullShare (R15 : S7x8x4096.Idx → Elt Ideal .f32))
      ⊢ (wp frame (wpE (defs₀ (F := Ideal)) Variants.none (c : Thread nD τ) none) Set.univ (cc0_lm_head_entropy (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => iprop(∃ (Q6 : S1x4096.Idx → EReal) (Q7 : S1x4096.Idx → EReal) (Q8 : S7x4096.Idx → EReal) (Q9 : S384x2048.Idx → EReal) (Q10 : S2x384x512.Idx → EReal) (Q11 : S8x4096.Idx → EReal) (Q12 : S8x4096.Idx → EReal) (Q13 : S8x4096.Idx → EReal) (Q14 : S8x4096.Idx → EReal) (Q15 : S7x8x4096.Idx → EReal),
            ⌜(n = 130 → OUT A W S T Q6 Q7 Q8) ∧ (n < 130 → SCR A W S T (n + 1) 0 Q10 Q11 Q12 Q13 Q14 Q15)⌝
            ∗ owns (c : Thread nD τ) arg1 fullShare (R1 : S4096x2048.Idx → Elt Ideal .fp8e4m3)
      ∗ owns (c : Thread nD τ) arg2 fullShare (R2 : S384x2048.Idx → Elt Ideal .fp8e4m3)
      ∗ owns (c : Thread nD τ) arg3 fullShare (R3 : S1x3x2048.Idx → Elt Ideal .f32)
      ∗ owns (c : Thread nD τ) arg4 fullShare (R4 : S8x4096.Idx → Elt Ideal .f32)
      ∗ owns (c : Thread nD τ) arg5 fullShare (R5 : S7x4096.Idx → Elt Ideal .i32)
      ∗ owns (c : Thread nD τ) arg6 fullShare (Q6 : S1x4096.Idx → Elt Ideal .f32)
      ∗ owns (c : Thread nD τ) arg7 fullShare (Q7 : S1x4096.Idx → Elt Ideal .f32)
      ∗ owns (c : Thread nD τ) arg8 fullShare (Q8 : S7x4096.Idx → Elt Ideal .f32)
      ∗ owns (c : Thread nD τ) arg9 fullShare (Q9 : S384x2048.Idx → Elt Ideal .bf16)
      ∗ owns (c : Thread nD τ) arg10 fullShare (Q10 : S2x384x512.Idx → Elt Ideal .f32)
      ∗ owns (c : Thread nD τ) arg11 fullShare (Q11 : S8x4096.Idx → Elt Ideal .f32)
      ∗ owns (c : Thread nD τ) arg12 fullShare (Q12 : S8x4096.Idx → Elt Ideal .f32)
      ∗ owns (c : Thread nD τ) arg13 fullShare (Q13 : S8x4096.Idx → Elt Ideal .f32)
      ∗ owns (c : Thread nD τ) arg14 fullShare (Q14 : S8x4096.Idx → Elt Ideal .f32)
      ∗ owns (c : Thread nD τ) arg15 fullShare (Q15 : S7x8x4096.Idx → Elt Ideal .f32))) : sProp 𝕄) := by
  iintro ⟨H1, H2, H3, H4, H5, H6, H7, H8, H9, H10, H11, H12, H13, H14, H15⟩
  simp only [cc0_lm_head_entropy_eq_skeleton]
  unfold cc0_lm_head_entropy_skel
  iapply (wp_seq c _ _ _)
  isplitl [H2 H3 H9 H10 H11 H12 H13 H14 H15]
  · iapply (part64_val c i arg1 harg1 arg2 harg2 arg3 harg3 arg4 harg4 arg5 harg5 arg6 harg6 arg7 harg7 arg8 harg8 arg9 harg9 arg10 harg10 arg11 harg11 arg12 harg12 arg13 harg13 arg14 harg14 arg15 harg15 n hn hi A W S T R2 R3 hW R9 R10 R11 R12 R13 R14 R15 hS)
    isplitl [H2]; · iexact H2
    isplitl [H3]; · iexact H3
    isplitl [H9]; · iexact H9
    isplitl [H10]; · iexact H10
    isplitl [H11]; · iexact H11
    isplitl [H12]; · iexact H12
    isplitl [H13]; · iexact H13
    isplitl [H14]; · iexact H14
    iexact H15

  iintro %r HI
  icases HI with ⟨%P9, %P10, %P11, %P12, %P13, %P14, %P15, %hR, H2, H3, H9, H10, H11, H12, H13, H14, H15⟩
  obtain ⟨a0, v32⟩ := r
  obtain ⟨ha, hWP, hS'⟩ := hR
  ihave H9 := (owns_open c arg9 _) $$ H9
  icases H9 with ⟨%X9, %e9, H9⟩
  subst e9

  sl_exec
  ihave H9 := (owns_close c arg9 _ (VecWindow.put (View.read (Elt Ideal) arg9.view X9) ![256, 0] S128x2048.size (k0_pay1 (F := Ideal) v32)) (by
    rw [View.read_writes_cons_put _ _ _ _ _ rfl]; rfl)) $$ H9
  generalize VecWindow.put (View.read (Elt Ideal) arg9.view X9) ![256, 0] S128x2048.size (k0_pay1 (F := Ideal) v32) = Z9 at hWP
  iapply (wp_seq c _ _ (fun _ => I1 c arg1 arg4 arg5 arg9 arg10 arg11 arg12 arg13 arg14 arg15 A W S T R1 R4 R5 Z9 n 8))
  isplitl [H1 H4 H5 H9 H10 H11 H12 H13 H14 H15]
  · iapply (t1_val c i arg1 harg1 arg2 harg2 arg3 harg3 arg4 harg4 arg5 harg5 arg6 harg6 arg7 harg7 arg8 harg8 arg9 harg9 arg10 harg10 arg11 harg11 arg12 harg12 arg13 harg13 arg14 harg14 arg15 harg15 a0 n hn ha A W S T hT R1 hA R4 hX R5 hTG Z9 hWP)
    unfold I1
    iexists P10, P11, P12, P13, P14, P15
    isplitr
    · ipureintro; exact hS'
    isplitl [H1]; · iexact H1
    isplitl [H4]; · iexact H4
    isplitl [H5]; · iexact H5
    isplitl [H9]; · iexact H9
    isplitl [H10]; · iexact H10
    isplitl [H11]; · iexact H11
    isplitl [H12]; · iexact H12
    isplitl [H13]; · iexact H13
    isplitl [H14]; · iexact H14
    iexact H15

  iintro %u HI
  unfold I1
  icases HI with ⟨%Y10, %Y11, %Y12, %Y13, %Y14, %Y15, %hS2, H1, H4, H5, H9, H10, H11, H12, H13, H14, H15⟩
  by_cases h2 : k0_cond2 i = 1#1
  · have hn2 : n = 130 := hi.symm.trans ((cond2_fin (i 0)).1 h2)
    subst hn2
    rw [dif_pos h2]
    iapply (wp_seq c _ _ _)
    isplitl [H4 H5 H10 H11 H12 H13 H14 H15]
    · iapply (part60_val c i arg1 harg1 arg2 harg2 arg3 harg3 arg4 harg4 arg5 harg5 arg6 harg6 arg7 harg7 arg8 harg8 arg9 harg9 arg10 harg10 arg11 harg11 arg12 harg12 arg13 harg13 arg14 harg14 arg15 harg15 a0 h2 ha A W S T hT R4 hX R5 hTG Y10 Y11 Y12 Y13 Y14 Y15 hS2)
      isplitl [H4]; · iexact H4
      isplitl [H5]; · iexact H5
      isplitl [H10]; · iexact H10
      isplitl [H11]; · iexact H11
      isplitl [H12]; · iexact H12
      isplitl [H13]; · iexact H13
      isplitl [H14]; · iexact H14
      iexact H15

    iintro %r HI
    icases HI with ⟨%Q11, %Q12, %Q13, %Q14, %Q15, %hR, H4, H5, H10, H11, H12, H13, H14, H15⟩
    obtain ⟨hr, hP, hQ⟩ := hR
    subst hr
    ihave H4 := (owns_open c arg4 _) $$ H4
    ihave H6 := (owns_open c arg6 _) $$ H6
    ihave H7 := (owns_open c arg7 _) $$ H7
    ihave H8 := (owns_open c arg8 _) $$ H8
    ihave H15 := (owns_open c arg15 _) $$ H15
    icases H4 with ⟨%X4, %e4, H4⟩
    icases H6 with ⟨%X6, %e6, H6⟩
    icases H7 with ⟨%X7, %e7, H7⟩
    icases H8 with ⟨%X8, %e8, H8⟩
    icases H15 with ⟨%X15, %e15, H15⟩
    subst e4 e6 e7 e8 e15

    sl_exec
    sl_step
    have o0 := orow A W S T hT Q11 Q12 Q13 Q14 hP arg4.view X4 hX arg15.view X15 hQ
    have o6 := oent A W S Q11 Q12 Q13 Q14 hP
    have o7 := ovar A W S Q11 Q12 Q13 Q14 hP
    ihave H6 := (owns_close c arg6 _ (k0_pay570 (F := Ideal) (k0_pay569 (F := Ideal) Q11 Q12 Q13)) (View.read_writes_full _ _ _ _ _)) $$ H6
    ihave H7 := (owns_close c arg7 _ (k0_pay571 (F := Ideal) (k0_pay565 (F := Ideal) Q11 Q12) (k0_pay566 (F := Ideal) Q11 Q12 Q13 Q14) (k0_pay567 (F := Ideal) Q11 Q12 Q13)) (View.read_writes_full _ _ _ _ _)) $$ H7
    ihave H8 := (owns_close c arg8 _ (VecWindow.put (VecWindow.put (VecWindow.put (VecWindow.put (VecWindow.put (VecWindow.put (VecWindow.put (View.read (Elt Ideal) arg8.view X8)
      ![0, 0] S1x4096.size (k0_pay573 (F := Ideal) (k0_pay562 (F := Ideal) Q11) (k0_pay568 (F := Ideal) Q11 Q12) (arg15.view.readAt (Elt Ideal) (Rect.unit (s := S7x8x4096) ![0, 0, 0] S1x8x4096.size inb_S7x8x4096_S1x8x4096_0_0_0).toLoadRect X15) (arg4.view.readAt (Elt Ideal) (Rect.unit (s := S8x4096) ![0, 0] S1x4096.size inb_S8x4096_S1x4096_0_0).toLoadRect X4)))
      ![1, 0] S1x4096.size (k0_pay575 (F := Ideal) (k0_pay574 (F := Ideal) (k0_pay562 (F := Ideal) Q11) (k0_pay568 (F := Ideal) Q11 Q12) (arg15.view.readAt (Elt Ideal) (Rect.unit (s := S7x8x4096) ![1, 0, 0] S1x8x4096.size inb_S7x8x4096_S1x8x4096_1_0_0).toLoadRect X15) (arg4.view.readAt (Elt Ideal) (Rect.unit (s := S8x4096) ![0, 0] S1x4096.size inb_S8x4096_S1x4096_0_0).toLoadRect X4)) (Named.named (F := Ideal) κ "ln2" 0x3F317218#32)))
      ![2, 0] S1x4096.size (k0_pay576 (F := Ideal) (k0_pay572 (F := Ideal) (k0_pay562 (F := Ideal) Q11) (k0_pay568 (F := Ideal) Q11 Q12)) (arg15.view.readAt (Elt Ideal) (Rect.unit (s := S7x8x4096) ![2, 0, 0] S1x8x4096.size inb_S7x8x4096_S1x8x4096_2_0_0).toLoadRect X15) (arg4.view.readAt (Elt Ideal) (Rect.unit (s := S8x4096) ![0, 0] S1x4096.size inb_S8x4096_S1x4096_0_0).toLoadRect X4)))
      ![3, 0] S1x4096.size (k0_pay577 (F := Ideal) (k0_pay572 (F := Ideal) (k0_pay562 (F := Ideal) Q11) (k0_pay568 (F := Ideal) Q11 Q12)) (arg15.view.readAt (Elt Ideal) (Rect.unit (s := S7x8x4096) ![3, 0, 0] S1x8x4096.size inb_S7x8x4096_S1x8x4096_3_0_0).toLoadRect X15) (arg4.view.readAt (Elt Ideal) (Rect.unit (s := S8x4096) ![0, 0] S1x4096.size inb_S8x4096_S1x4096_0_0).toLoadRect X4)))
      ![4, 0] S1x4096.size (k0_pay579 (F := Ideal) (k0_pay572 (F := Ideal) (k0_pay562 (F := Ideal) Q11) (k0_pay568 (F := Ideal) Q11 Q12)) (k0_pay578 (F := Ideal) (arg15.view.readAt (Elt Ideal) (Rect.unit (s := S7x8x4096) ![4, 0, 0] S1x8x4096.size inb_S7x8x4096_S1x8x4096_4_0_0).toLoadRect X15)) (arg4.view.readAt (Elt Ideal) (Rect.unit (s := S8x4096) ![0, 0] S1x4096.size inb_S8x4096_S1x4096_0_0).toLoadRect X4)))
      ![5, 0] S1x4096.size (k0_pay580 (F := Ideal) (k0_pay572 (F := Ideal) (k0_pay562 (F := Ideal) Q11) (k0_pay568 (F := Ideal) Q11 Q12)) (arg15.view.readAt (Elt Ideal) (Rect.unit (s := S7x8x4096) ![5, 0, 0] S1x8x4096.size inb_S7x8x4096_S1x8x4096_5_0_0).toLoadRect X15) (arg4.view.readAt (Elt Ideal) (Rect.unit (s := S8x4096) ![0, 0] S1x4096.size inb_S8x4096_S1x4096_0_0).toLoadRect X4)))
      ![6, 0] S1x4096.size (k0_pay3 (F := Ideal) (k0_pay581 (F := Ideal) (k0_pay572 (F := Ideal) (k0_pay562 (F := Ideal) Q11) (k0_pay568 (F := Ideal) Q11 Q12)) (arg15.view.readAt (Elt Ideal) (Rect.unit (s := S7x8x4096) ![6, 0, 0] S1x8x4096.size inb_S7x8x4096_S1x8x4096_6_0_0).toLoadRect X15) (arg4.view.readAt (Elt Ideal) (Rect.unit (s := S8x4096) ![0, 0] S1x4096.size inb_S8x4096_S1x4096_0_0).toLoadRect X4)) (Named.named (F := Ideal) κ "ln2" 0x3F317218#32))) (by
      rw [View.read_writes_cons_put _ _ _ _ _ rfl, View.read_writes_cons_put _ _ _ _ _ rfl, View.read_writes_cons_put _ _ _ _ _ rfl, View.read_writes_cons_put _ _ _ _ _ rfl,
        View.read_writes_cons_put _ _ _ _ _ rfl, View.read_writes_cons_put _ _ _ _ _ rfl, View.read_writes_cons_put _ _ _ _ _ rfl]; rfl)) $$ H8
    ihave H4 := (owns_close c arg4 _ _ rfl) $$ H4
    ihave H15 := (owns_close c arg15 _ _ rfl) $$ H15
    iexists _, _, _, _, _, _, _, _, _, _
    isplitr; swap
    · skip
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

    ipureintro
    refine ⟨fun _ => ⟨o6, o7, fun i8 => ?_⟩, fun h => absurd h (by decide)⟩
    exact rput7 _ _ _ _ _ _ _ _ (fun r t => ((lp (zl A W S t) (T r t) : ℝ) : EReal))
      (fun j => o0 0 inb_S7x8x4096_S1x8x4096_0_0_0 inb_S8x4096_S1x4096_0_0 j) (fun j => o0 1 inb_S7x8x4096_S1x8x4096_1_0_0 inb_S8x4096_S1x4096_0_0 j)
      (fun j => o0 2 inb_S7x8x4096_S1x8x4096_2_0_0 inb_S8x4096_S1x4096_0_0 j) (fun j => o0 3 inb_S7x8x4096_S1x8x4096_3_0_0 inb_S8x4096_S1x4096_0_0 j)
      (fun j => o0 4 inb_S7x8x4096_S1x8x4096_4_0_0 inb_S8x4096_S1x4096_0_0 j) (fun j => o0 5 inb_S7x8x4096_S1x8x4096_5_0_0 inb_S8x4096_S1x4096_0_0 j)
      (fun j => o0 6 inb_S7x8x4096_S1x8x4096_6_0_0 inb_S8x4096_S1x4096_0_0 j) i8
  · have hn2 : n ≠ 130 := fun h => h2 ((cond2_fin (i 0)).2 (hi.trans h))
    rw [dif_neg h2]
    sl_step
    iexists _, _, _, _, _, _, _, _, _, _
    isplitr; swap
    · skip
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

    ipureintro
    refine ⟨fun h => absurd h hn2, fun _ => ?_⟩
    obtain ⟨hP, hQ, hZ⟩ := hS2
    refine ⟨StatP_congr' _ _ _ (fun t h => cn_next n t h) _ _ _ _ hP, TZP_congr _ _ _ _ _ (fun r t _ h => cn_next n t h) hQ, fun _ => ?_⟩
    exact hZ (by unfold cp; rw [if_neg (by decide)]; omega)

end Cert.KernelIdeal.Val
end
-- ==== Proof.VRun.lean ====
module

public import proofs.«01_k».proof.Proof.VBody2
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384
set_option maxHeartbeats 2000000

/-! The launch, at exact real values: from inputs whose decoded values are known to the three result arrays. -/

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

/-- The decoded inputs of one core. -/
structure Inp where
  A : ℕ → ℕ → ℝ
  W : ℕ → ℕ → ℝ
  S : ℕ → ℝ
  T : ℕ → ℕ → ℕ

/-- The region's input arrays hold the decoded inputs. -/
structure Good (m : (ℓ : Loc nD τ sig) → Buf (Elt Ideal) ℓ) (c : Dev nD) (d : Inp) : Prop where
  hA : AP d.A (V m c main_v2 : S4096x2048.Idx → EReal)
  hW : ∀ (n : Fin 131) (b : Fin 3) (x : Fin 128) (k : Fin 2048),
    HMul.hMul (α := EReal) (β := EReal) (γ := EReal) (V m c main_v1 (ValueIdx.ix2 (⟨384 * n.val + (128 * b.val + x.val), by omega⟩ : Fin 50304) k))
      (V m c main_v7 (ValueIdx.ix3 n b k)) = ((d.W (384 * n.val + (128 * b.val + x.val)) k.val : ℝ) : EReal)
  hX : XP d.S (V m c main_v4 : S8x4096.Idx → EReal)
  hG : TG d.T (V m c main_v9 : S7x4096.Idx → BitVec 32)
  hT : ∀ r t, d.T r t < 50304

/-- What is said of each window's buffer after a grid point. -/
def vafter (d : Inp) : (w : Fin 8) → Fin cfg0.N → (Y X : (win0 w).block.Idx → Elt Ideal (win0 w).elt) → Prop
  | 0 => fun _ Y X => X = Y
  | 1 => fun _ Y X => X = Y
  | 2 => fun _ Y X => X = Y
  | 3 => fun _ Y X => X = Y
  | 4 => fun _ Y X => X = Y
  | 5 => fun t _ X => t.val = 130 → ∀ j : S1x4096.Idx, (X j : EReal) = ((ENT (zl d.A d.W d.S (j 1).val) : ℝ) : EReal)
  | 6 => fun t _ X => t.val = 130 → ∀ j : S1x4096.Idx, (X j : EReal) = ((VAR (zl d.A d.W d.S (j 1).val) : ℝ) : EReal)
  | 7 => fun t _ X => t.val = 130 → ∀ i : S7x4096.Idx, (X i : EReal) = ((lp (zl d.A d.W d.S (i 1).val) (d.T (i 0).val (i 1).val) : ℝ) : EReal)
  | ⟨_ + 8, h⟩ => absurd h (Nat.not_lt.2 (Nat.le_add_left _ _))

/-- The scratch buffers before grid point `n`. -/
def vscr (c : Dev nD) (d : Inp) (n : ℕ) : sProp 𝕄 :=
  iprop((∃ (R9 : S384x2048.Idx → EReal) (R10 : S2x384x512.Idx → EReal) (R11 R12 R13 R14 : S8x4096.Idx → EReal) (R15 : S7x8x4096.Idx → EReal),
      ⌜0 < n → n < 131 → SCR d.A d.W d.S d.T n 0 R10 R11 R12 R13 R14 R15⌝
    ∗ owns (c : Thread nD τ) (Memref.whole cc0_scratch0) fullShare (R9 : S384x2048.Idx → Elt Ideal .bf16)
    ∗ owns (c : Thread nD τ) (Memref.whole cc0_scratch1) fullShare (R10 : S2x384x512.Idx → Elt Ideal .f32)
    ∗ owns (c : Thread nD τ) (Memref.whole cc0_scratch2) fullShare (R11 : S8x4096.Idx → Elt Ideal .f32)
    ∗ owns (c : Thread nD τ) (Memref.whole cc0_scratch3) fullShare (R12 : S8x4096.Idx → Elt Ideal .f32)
    ∗ owns (c : Thread nD τ) (Memref.whole cc0_scratch4) fullShare (R13 : S8x4096.Idx → Elt Ideal .f32)
    ∗ owns (c : Thread nD τ) (Memref.whole cc0_scratch5) fullShare (R14 : S8x4096.Idx → Elt Ideal .f32)
    ∗ owns (c : Thread nD τ) (Memref.whole cc0_scratch6) fullShare (R15 : S7x8x4096.Idx → Elt Ideal .f32)) ∗ ∃ r, prngReg c r)

theorem ΦA_eq (c : Dev nD) : (Pipeline.ΦA (U := UR sig nD τ) spec0 c : sProp 𝕄) =
    iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d) ∗ (∃ d, owns (c : Thread nD τ) (Memref.whole cc0_scratch5) fullShare d)
      ∗ (∃ d, owns (c : Thread nD τ) (Memref.whole cc0_scratch6) fullShare d)) ∗ ∃ r, prngReg c r) := by
  unfold Pipeline.ΦA; rw [scopedRest0_eq]; simp only [owns_whole]; try rfl

theorem vscr_in (c : Dev nD) (d : Inp) : (Pipeline.ΦA (U := UR sig nD τ) spec0 c : sProp 𝕄) ⊢ vscr c d 0 := by
  rw [ΦA_eq]
  unfold vscr
  iintro ⟨⟨⟨%d0, S0⟩, ⟨%d1, S1⟩, ⟨%d2, S2⟩, ⟨%d3, S3⟩, ⟨%d4, S4⟩, ⟨%d5, S5⟩, ⟨%d6, S6⟩⟩, Hr⟩
  isplitl [S0 S1 S2 S3 S4 S5 S6]
  · iexists d0, d1, d2, d3, d4, d5, d6
    isplitr
    · ipureintro; exact fun h => absurd h (Nat.lt_irrefl _)
    isplitl [S0]; · iexact S0
    isplitl [S1]; · iexact S1
    isplitl [S2]; · iexact S2
    isplitl [S3]; · iexact S3
    isplitl [S4]; · iexact S4
    isplitl [S5]; · iexact S5
    iexact S6
  iexact Hr

theorem vscr_out (c : Dev nD) (d : Inp) (n : ℕ) : vscr c d n ⊢ (Pipeline.ΦA (U := UR sig nD τ) spec0 c : sProp 𝕄) := by
  rw [ΦA_eq]
  unfold vscr
  iintro ⟨⟨%d0, %d1, %d2, %d3, %d4, %d5, %d6, -, S0, S1, S2, S3, S4, S5, S6⟩, Hr⟩
  isplitl [S0 S1 S2 S3 S4 S5 S6]
  · isplitl [S0]; · iexists d0; iexact S0
    isplitl [S1]; · iexists d1; iexact S1
    isplitl [S2]; · iexists d2; iexact S2
    isplitl [S3]; · iexists d3; iexact S3
    isplitl [S4]; · iexists d4; iexact S4
    isplitl [S5]; · iexists d5; iexact S5
    iexists d6; iexact S6
  iexact Hr

/-- The proof data: the arrays as the region finds them, and what each grid point leaves. -/
def vdat (m : (ℓ : Loc nD τ sig) → Buf (Elt Ideal) ℓ) (D : Dev nD → Inp) (c : Dev nD) : RDat τ (Elt Ideal) Unit ℕ (UR sig nD τ) ℕ cfg0 c where
  A w := V m c (Pipeline.arrRef spec0 w)
  after := vafter (D c)
  Φ t := vscr c (D c) t.val
  q _ := fullShare
  owed _ := 0

theorem coords_val : ∀ t : Fin grid0.N, (grid0.coords t 0).val = t.val := by decide +kernel

section
variable (m : (ℓ : Loc nD τ sig) → Buf (Elt Ideal) ℓ) (D : Dev nD → Inp) (c : Dev nD)

theorem fet0 (t : Fin cfg0.N) (d) (j : S4096x2048.Idx) : (vdat m D c).fetched 0 t d j = V m c main_v2 j := by
  unfold RDat.fetched
  unfold Pipeline.Window.fill
  rw [dif_pos (((cfg0.win 0).moved_iff _ j).mpr fun a => (j a).isLt)]
  refine congrArg (V m c main_v2) (funext fun a => Fin.ext ?_)
  match a with
  | 0 => show 0 * 4096 + 1 * (j 0).val = (j 0).val; omega
  | 1 => show 0 * 2048 + 1 * (j 1).val = (j 1).val; omega
theorem fet1 (t : Fin cfg0.N) (d) (j : S384x2048.Idx) : (vdat m D c).fetched 1 t d j
    = V m c main_v1 (ValueIdx.ix2 (⟨384 * t.val + (j 0).val, by have h : (j 0).val < 384 := (j 0).isLt; have h' : t.val < 131 := N_0 ▸ t.isLt; omega⟩ : Fin 50304) (j 1)) := by
  unfold RDat.fetched
  unfold Pipeline.Window.fill
  rw [dif_pos (((cfg0.win 1).moved_iff _ j).mpr fun a => (j a).isLt)]
  have h' : t.val < 131 := N_0 ▸ t.isLt
  refine congrArg (V m c main_v1) (funext fun a => Fin.ext ?_)
  match a with
  | 0 =>
    show (BitVec.ofNat 32 (grid0.coords t 0).val).toNat * 384 + 1 * (j 0).val = 384 * t.val + (j 0).val
    rw [coords_val, BitVec.toNat_ofNat, Nat.mod_eq_of_lt (by omega)]; omega
  | 1 => show 0 * 2048 + 1 * (j 1).val = (j 1).val; omega
theorem fet2 (t : Fin cfg0.N) (d) (j : S1x3x2048.Idx) : (vdat m D c).fetched 2 t d j
    = V m c main_v7 (ValueIdx.ix3 (⟨t.val, N_0 ▸ t.isLt⟩ : Fin 131) (j 1) (j 2)) := by
  unfold RDat.fetched
  unfold Pipeline.Window.fill
  rw [dif_pos (((cfg0.win 2).moved_iff _ j).mpr fun a => (j a).isLt)]
  have h' : t.val < 131 := N_0 ▸ t.isLt
  refine congrArg (V m c main_v7) (funext fun a => Fin.ext ?_)
  match a with
  | 0 =>
    show (BitVec.ofNat 32 (grid0.coords t 0).val).toNat * 1 + 1 * (j 0).val = t.val
    have h0 : (j 0).val < 1 := (j 0).isLt
    rw [coords_val, BitVec.toNat_ofNat, Nat.mod_eq_of_lt (by omega)]; omega
  | 1 => show 0 * 3 + 1 * (j 1).val = (j 1).val; omega
  | 2 => show 0 * 2048 + 1 * (j 2).val = (j 2).val; omega
theorem fet3 (t : Fin cfg0.N) (d) (j : S8x4096.Idx) : (vdat m D c).fetched 3 t d j = V m c main_v4 j := by
  unfold RDat.fetched
  unfold Pipeline.Window.fill
  rw [dif_pos (((cfg0.win 3).moved_iff _ j).mpr fun a => (j a).isLt)]
  refine congrArg (V m c main_v4) (funext fun a => Fin.ext ?_)
  match a with
  | 0 => show 0 * 8 + 1 * (j 0).val = (j 0).val; omega
  | 1 => show 0 * 4096 + 1 * (j 1).val = (j 1).val; omega
theorem fet4 (t : Fin cfg0.N) (d) (j : S7x4096.Idx) : (vdat m D c).fetched 4 t d j = V m c main_v9 j := by
  unfold RDat.fetched
  unfold Pipeline.Window.fill
  rw [dif_pos (((cfg0.win 4).moved_iff _ j).mpr fun a => (j a).isLt)]
  refine congrArg (V m c main_v9) (funext fun a => Fin.ext ?_)
  match a with
  | 0 => show 0 * 7 + 1 * (j 0).val = (j 0).val; omega
  | 1 => show 0 * 4096 + 1 * (j 1).val = (j 1).val; omega

/-- What the body finds in each input window. -/
theorem fnd0 (t : Fin cfg0.N) (Y) (h : (vdat m D c).Finds 0 t Y) (j : S4096x2048.Idx) : Y j = V m c main_v2 j := by
  obtain ⟨d, rfl⟩ := RDat.finds_in_eq_fetched (vdat m D c) 0 rfl (fun _ _ _ => rfl) (fun _ _ _ h => h) t Y h
  exact fet0 m D c t d j
theorem fnd1 (t : Fin cfg0.N) (Y) (h : (vdat m D c).Finds 1 t Y) : ∃ d, Y = (vdat m D c).fetched 1 t d :=
  RDat.finds_in_eq_fetched (vdat m D c) 1 rfl (fun _ _ _ => rfl) (fun _ _ _ h => h) t Y h
theorem fnd2 (t : Fin cfg0.N) (Y) (h : (vdat m D c).Finds 2 t Y) : ∃ d, Y = (vdat m D c).fetched 2 t d :=
  RDat.finds_in_eq_fetched (vdat m D c) 2 rfl (fun _ _ _ => rfl) (fun _ _ _ h => h) t Y h
theorem fnd3 (t : Fin cfg0.N) (Y) (h : (vdat m D c).Finds 3 t Y) (j : S8x4096.Idx) : Y j = V m c main_v4 j := by
  obtain ⟨d, rfl⟩ := RDat.finds_in_eq_fetched (vdat m D c) 3 rfl (fun _ _ _ => rfl) (fun _ _ _ h => h) t Y h
  exact fet3 m D c t d j
theorem fnd4 (t : Fin cfg0.N) (Y) (h : (vdat m D c).Finds 4 t Y) (j : S7x4096.Idx) : Y j = V m c main_v9 j := by
  obtain ⟨d, rfl⟩ := RDat.finds_in_eq_fetched (vdat m D c) 4 rfl (fun _ _ _ => rfl) (fun _ _ _ h => h) t Y h
  exact fet4 m D c t d j

theorem sound_body (hG : Good m c (D c)) (t : Fin cfg0.N)
    (Y : (w : Fin cfg0.W) → (cfg0.win w).block.Idx → (Elt Ideal) (cfg0.win w).elt) (hY : ∀ w, (vdat m D c).Finds w t (Y w)) :
    iprop((vdat m D c).Φ t.castSucc ∗ (vdat m D c).owesAt () t.castSucc
        ∗ iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7)))
      ⊢ (wp frame (wpE (defs₀ (F := Ideal)) Variants.none (c : Thread nD τ) none) Set.univ (bodyAt0 t) (fun _ =>
          iprop((vdat m D c).Φ t.succ ∗ (vdat m D c).owesAt () t.succ
            ∗ iprop((∃ X, ⌜(vdat m D c).after 0 t (Y 0) X⌝ ∗ owns (c : Thread nD τ) (st0_0 t) fullShare X) ∗ (∃ X, ⌜(vdat m D c).after 1 t (Y 1) X⌝ ∗ owns (c : Thread nD τ) (st0_1 t) fullShare X) ∗ (∃ X, ⌜(vdat m D c).after 2 t (Y 2) X⌝ ∗ owns (c : Thread nD τ) (st0_2 t) fullShare X) ∗ (∃ X, ⌜(vdat m D c).after 3 t (Y 3) X⌝ ∗ owns (c : Thread nD τ) (st0_3 t) fullShare X) ∗ (∃ X, ⌜(vdat m D c).after 4 t (Y 4) X⌝ ∗ owns (c : Thread nD τ) (st0_4 t) fullShare X) ∗ (∃ X, ⌜(vdat m D c).after 5 t (Y 5) X⌝ ∗ owns (c : Thread nD τ) (st0_5 t) fullShare X) ∗ (∃ X, ⌜(vdat m D c).after 6 t (Y 6) X⌝ ∗ owns (c : Thread nD τ) (st0_6 t) fullShare X) ∗ (∃ X, ⌜(vdat m D c).after 7 t (Y 7) X⌝ ∗ owns (c : Thread nD τ) (st0_7 t) fullShare X)))) : sProp 𝕄) := by
  rw [show (vdat m D c).Φ t.succ = vscr c (D c) (t.val + 1) from rfl, show (vdat m D c).Φ t.castSucc = vscr c (D c) t.val from rfl,
    show (vdat m D c).owesAt () t.succ = (vdat m D c).owesAt () t.castSucc from rfl]
  have ht : t.val < 131 := N_0 ▸ t.isLt
  have hA : AP (D c).A (Y 0) := fun j => (fnd0 m D c t _ (hY 0) j).trans (hG.hA j)
  have hX : XP (D c).S (Y 3) := fun j => (fnd3 m D c t _ (hY 3) j).trans (hG.hX j)
  have hTG : TG (D c).T (Y 4) := fun j => (fnd4 m D c t _ (hY 4) j).trans (hG.hG j)
  have hW : WIN (D c).W t.val (Y 1) (Y 2) := fun b x => by
    obtain ⟨d1, e1⟩ := fnd1 m D c t _ (hY 1)
    obtain ⟨d2, e2⟩ := fnd2 m D c t _ (hY 2)
    rw [e1, e2]
    exact (congrArg₂ (fun a b : EReal => a * b) (fet1 m D c t d1 _) (fet2 m D c t d2 _)).trans (hG.hW ⟨t.val, ht⟩ b (x 0) (x 1))
  unfold bodyAt0 vscr
  iintro ⟨⟨⟨%s9, %s10, %s11, %s12, %s13, %s14, %s15, %hS, S9, S10, S11, S12, S13, S14, S15⟩, Hr⟩, HO, H1, H2, H3, H4, H5, H6, H7, H8⟩
  iapply (wp_wand_r Idealize.ShloMosaic.frame (wpE (defs₀ (F := Ideal)) Variants.none (c : Thread nD τ) none) Set.univ)
  isplitl [S9 S10 S11 S12 S13 S14 S15 H1 H2 H3 H4 H5 H6 H7 H8]
  · iapply (step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) t.val ht (coords_val t) (D c).A (D c).W (D c).S (D c).T hG.hT (Y 0) hA (Y 1) (Y 2) hW (Y 3) hX (Y 4) hTG (Y 5) (Y 6) (Y 7) s9 s10 s11 s12 s13 s14 s15 (fun h => hS h ht))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S9]; · iexact S9
    isplitl [S10]; · iexact S10
    isplitl [S11]; · iexact S11
    isplitl [S12]; · iexact S12
    isplitl [S13]; · iexact S13
    isplitl [S14]; · iexact S14
    iexact S15
  · iintro %_ ⟨%Q6, %Q7, %Q8, %Q9, %Q10, %Q11, %Q12, %Q13, %Q14, %Q15, %hQ, H1, H2, H3, H4, H5, H6, H7, H8, S9, S10, S11, S12, S13, S14, S15⟩
    isplitl [S9 S10 S11 S12 S13 S14 S15 Hr]
    · isplitl [S9 S10 S11 S12 S13 S14 S15]
      · iexists Q9, Q10, Q11, Q12, Q13, Q14, Q15
        isplitr
        · ipureintro; exact fun _ h => hQ.2 (by omega)
        isplitl [S9]; · iexact S9
        isplitl [S10]; · iexact S10
        isplitl [S11]; · iexact S11
        isplitl [S12]; · iexact S12
        isplitl [S13]; · iexact S13
        isplitl [S14]; · iexact S14
        iexact S15
      iexact Hr
    isplitl [HO]; · iexact HO
    isplitl [H1]; · iexists (Y 0); isplitr; · ipureintro; exact rfl
                    iexact H1
    isplitl [H2]; · iexists (Y 1); isplitr; · ipureintro; exact rfl
                    iexact H2
    isplitl [H3]; · iexists (Y 2); isplitr; · ipureintro; exact rfl
                    iexact H3
    isplitl [H4]; · iexists (Y 3); isplitr; · ipureintro; exact rfl
                    iexact H4
    isplitl [H5]; · iexists (Y 4); isplitr; · ipureintro; exact rfl
                    iexact H5
    isplitl [H6]; · iexists Q6; isplitr; · ipureintro; exact fun h => (hQ.1 h).1
                    iexact H6
    isplitl [H7]; · iexists Q7; isplitr; · ipureintro; exact fun h => (hQ.1 h).2.1
                    iexact H7
    iexists Q8; isplitr; · ipureintro; exact fun h => (hQ.1 h).2.2
    iexact H8
end

theorem defs₀_row (t : Fin cfg0.N) : defs₀ (F := Ideal) .tc cfg0.body (cfg0.bodyArgs t (cfg0.slots t)) = bodyAt0 t := by
  unfold defs₀; rw [Defs.onTc_tc]

theorem body_obligation (m : (ℓ : Loc nD τ sig) → Buf (Elt Ideal) ℓ) (D : Dev nD → Inp) (c : Dev nD) (hG : Good m c (D c)) :
    (vdat m D c).BodyObligation (defs₀ (F := Ideal)) Variants.none () Set.univ := fun t Y hY => by
  rw [bigSep_W0, bigSep_W0, defs₀_row]
  exact triple_restated (sound_body m D c hG t Y hY) rfl .rfl fun _ => .rfl

set_option backward.isDefEq.respectTransparency.types false in
/-- Every execution of @main ends, with the arrays as the grid points leave them. -/
theorem run_main (m : (ℓ : Loc nD τ sig) → Buf (Elt Ideal) ℓ) (g : Dev nD → PrngReg) (D : Dev nD → Inp) (hG : ∀ c, Good m c (D c)) :
    θ_run defs (onTc (τ := τ) (main (F := Ideal))) (s₀ m g)
      (fun r => RDat.FramePost (cfgs 0) (vdat m D) (V m) r ∧ r.2.sem = fun _ => 0) :=
  RDat.θ_run_frame_track (Q' := _) cfgs (0 : Fin 1) launch0 defs₀ Variants.none (vdat m D) m g main
    (hbody := fun c => body_obligation m D c (hG c)) (hshare := fun c w => by unfold RDat.share; split <;> rfl)
    (howed := fun _ _ => rfl) (V := V m) (hmain := hmain m Variants.none) (hA := fun _ _ => rfl)
    (hin := fun c => vscr_in c (D c)) (hout := fun c => vscr_out c (D c) _) (hQ' := fun _ h => h)

theorem whole5 : (cfg0.win 5).WholeAt (⟨130, by decide⟩ : Fin cfg0.N) := by decide +kernel
theorem whole6 : (cfg0.win 6).WholeAt (⟨130, by decide⟩ : Fin cfg0.N) := by decide +kernel
theorem whole7 : (cfg0.win 7).WholeAt (⟨130, by decide⟩ : Fin cfg0.N) := by decide +kernel

/-- The three result arrays and the arguments at the end. -/
theorem final_out (m : (ℓ : Loc nD τ sig) → Buf (Elt Ideal) ℓ) (D : Dev nD → Inp) {r : PUnit × MemSt nD τ sig (Elt Ideal)}
    (h : RDat.FramePost (cfgs 0) (vdat m D) (V m) r) (c : Dev nD) :
    (∀ j : S1x4096.Idx, (r.2.mem ((c : Thread nD τ).loc main_v10_0) j : EReal) = ((ENT (zl (D c).A (D c).W (D c).S (j 1).val) : ℝ) : EReal))
      ∧ (∀ j : S1x4096.Idx, (r.2.mem ((c : Thread nD τ).loc main_v10_1) j : EReal) = ((VAR (zl (D c).A (D c).W (D c).S (j 1).val) : ℝ) : EReal))
      ∧ (∀ i : S7x4096.Idx, (r.2.mem ((c : Thread nD τ).loc main_v10_2) i : EReal) = ((lp (zl (D c).A (D c).W (D c).S (i 1).val) ((D c).T (i 0).val (i 1).val) : ℝ) : EReal)) := by
  refine ⟨fun j => ?_, fun j => ?_, fun j => ?_⟩
  · obtain ⟨X, ⟨Y, hY, hX⟩, e⟩ := RDat.ArrAt.emb_eq_of_wholeAt (rd := vdat m D c) ((h c).1 5) whole5
    exact (e j).trans (hX rfl j)
  · obtain ⟨X, ⟨Y, hY, hX⟩, e⟩ := RDat.ArrAt.emb_eq_of_wholeAt (rd := vdat m D c) ((h c).1 6) whole6
    exact (e j).trans (hX rfl j)
  · obtain ⟨X, ⟨Y, hY, hX⟩, e⟩ := RDat.ArrAt.emb_eq_of_wholeAt (rd := vdat m D c) ((h c).1 7) whole7
    exact (e j).trans (hX rfl j)

theorem final_arg (m : (ℓ : Loc nD τ sig) → Buf (Elt Ideal) ℓ) (D : Dev nD → Inp) {r : PUnit × MemSt nD τ sig (Elt Ideal)}
    (h : RDat.FramePost (cfgs 0) (vdat m D) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

end Cert.KernelIdeal.Val

end
-- ==== Proof.VHost.lean ====
module

public import proofs.«01_k».proof.Proof.VRun
public import Idealize.ShloMosaic.Lib.StableHlo.RunRead

@[expose] public section

set_option maxRecDepth 16384
set_option maxHeartbeats 1000000

/-! The kernel's host operations: what the region's input arrays hold of the arguments. -/

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (c : Dev nD)

theorem V_v1 : (V m c main_v1 : S50304x2048.Idx → EReal)
    = bitcastToFloat (F := Ideal) .fp8e4m3 (m ((c : Thread nD τ).loc main_arg2)) := by
  show StableHlo.after hostOps0 _ _ = _
  after_reads_simp

theorem V_v2 : (V m c main_v2 : S4096x2048.Idx → EReal)
    = shapeCast S4096x2048 (bitcastToFloat (F := Ideal) .fp8e4m3 (m ((c : Thread nD τ).loc main_arg0))) shapeCasts_S4x1024x2048_S4096x2048 := by
  show StableHlo.after hostOps0 _ _ = _
  after_reads_simp
  rfl

theorem V_v4 : (V m c main_v4 : S8x4096.Idx → EReal)
    = broadcastInDim S8x4096 ![0, 1] bcast_S1x4096_S8x4096_0_1
        (shapeCast S1x4096 (m ((c : Thread nD τ).loc main_arg1) : S4x1024.Idx → EReal) shapeCasts_S4x1024_S1x4096) := by
  show StableHlo.after hostOps0 _ _ = _
  after_reads_simp
  rfl

theorem V_v7 : (V m c main_v7 : S131x3x2048.Idx → EReal)
    = shapeCast S131x3x2048 (shapeCast S393x2048 (broadcastInDim S393x16x128 ![0, 1] bcast_S393x16_S393x16x128_0_1
        (m ((c : Thread nD τ).loc main_arg3) : S393x16.Idx → EReal)) shapeCasts_S393x16x128_S393x2048) shapeCasts_S393x2048_S131x3x2048 := by
  show StableHlo.after hostOps0 _ _ = _
  after_reads_simp
  rfl

theorem V_v9 : (V m c main_v9 : S7x4096.Idx → BitVec 32)
    = transpose S7x4096 [1, 0] (shapeCast S4096x7 (m ((c : Thread nD τ).loc main_arg4) : S4x1024x7.Idx → BitVec 32) shapeCasts_S4x1024x7_S4096x7)
        transposes_S4096x7_S7x4096_1_0 := by
  show StableHlo.after hostOps0 _ _ = _
  after_reads_simp
  rfl

/-- The decoded inputs, read off the arguments. -/
def inp (a0 : S4x1024x2048.Idx → BitVec 8) (a1 : S4x1024.Idx → EReal) (a2 : S50304x2048.Idx → BitVec 8)
    (a3 : S393x16.Idx → EReal) (a4 : S4x1024x7.Idx → BitVec 32) : Inp where
  A t d := EReal.toReal (Ideal.ofBits .fp8e4m3 (a0 (ValueIdx.ix3 (⟨t / 1024 % 4, Nat.mod_lt _ (by omega)⟩ : Fin 4) (⟨t % 1024, Nat.mod_lt _ (by omega)⟩ : Fin 1024) (⟨d % 2048, Nat.mod_lt _ (by omega)⟩ : Fin 2048))))
  W v d := EReal.toReal (Ideal.ofBits .fp8e4m3 (a2 (ValueIdx.ix2 (⟨v % 50304, Nat.mod_lt _ (by omega)⟩ : Fin 50304) (⟨d % 2048, Nat.mod_lt _ (by omega)⟩ : Fin 2048))))
    * EReal.toReal (a3 (ValueIdx.ix2 (⟨v / 128 % 393, Nat.mod_lt _ (by omega)⟩ : Fin 393) (⟨d / 128 % 16, Nat.mod_lt _ (by omega)⟩ : Fin 16)))
  S t := EReal.toReal (a1 (ValueIdx.ix2 (⟨t / 1024 % 4, Nat.mod_lt _ (by omega)⟩ : Fin 4) (⟨t % 1024, Nat.mod_lt _ (by omega)⟩ : Fin 1024)))
  T r t := (a4 (ValueIdx.ix3 (⟨t / 1024 % 4, Nat.mod_lt _ (by omega)⟩ : Fin 4) (⟨t % 1024, Nat.mod_lt _ (by omega)⟩ : Fin 1024) (⟨r % 7, Nat.mod_lt _ (by omega)⟩ : Fin 7))).toNat

/-- What the precondition says of the arguments. -/
structure Fine (a0 : S4x1024x2048.Idx → BitVec 8) (a1 : S4x1024.Idx → EReal) (a2 : S50304x2048.Idx → BitVec 8)
    (a3 : S393x16.Idx → EReal) (a4 : S4x1024x7.Idx → BitVec 32) : Prop where
  h0 : ∀ i, ∃ r : ℝ, Ideal.ofBits .fp8e4m3 (a0 i) = (r : EReal)
  h2 : ∀ i, ∃ r : ℝ, Ideal.ofBits .fp8e4m3 (a2 i) = (r : EReal)
  h1 : ∀ i, ∃ r : ℝ, a1 i = (r : EReal)
  h3 : ∀ i, ∃ r : ℝ, a3 i = (r : EReal)
  h4 : ∀ i, (a4 i).toNat < 50304

theorem toReal_of (x : EReal) (h : ∃ r : ℝ, x = (r : EReal)) : x = ((EReal.toReal x : ℝ) : EReal) := by
  obtain ⟨r, rfl⟩ := h
  rw [EReal.toReal_coe]

section
variable {a0 : S4x1024x2048.Idx → BitVec 8} {a1 : S4x1024.Idx → EReal} {a2 : S50304x2048.Idx → BitVec 8}
    {a3 : S393x16.Idx → EReal} {a4 : S4x1024x7.Idx → BitVec 32} (h : Fine a0 a1 a2 a3 a4)
include h

theorem inp_A (b : Fin 4) (s : Fin 1024) (d : Fin 2048) :
    Ideal.ofBits .fp8e4m3 (a0 (ValueIdx.ix3 b s d)) = (((inp a0 a1 a2 a3 a4).A (1024 * b.val + s.val) d.val : ℝ) : EReal) := by
  refine (toReal_of _ (h.h0 _)).trans ?_
  have e1 : (⟨(1024 * b.val + s.val) / 1024 % 4, Nat.mod_lt _ (by omega)⟩ : Fin 4) = b := Fin.ext (by show (1024 * b.val + s.val) / 1024 % 4 = b.val; omega)
  have e2 : (⟨(1024 * b.val + s.val) % 1024, Nat.mod_lt _ (by omega)⟩ : Fin 1024) = s := Fin.ext (by show (1024 * b.val + s.val) % 1024 = s.val; omega)
  have e3 : (⟨d.val % 2048, Nat.mod_lt _ (by omega)⟩ : Fin 2048) = d := Fin.ext (by show d.val % 2048 = d.val; omega)
  unfold inp
  dsimp only
  rw [e1, e2, e3]

theorem inp_S (b : Fin 4) (s : Fin 1024) :
    a1 (ValueIdx.ix2 b s) = (((inp a0 a1 a2 a3 a4).S (1024 * b.val + s.val) : ℝ) : EReal) := by
  refine (toReal_of _ (h.h1 _)).trans ?_
  have e1 : (⟨(1024 * b.val + s.val) / 1024 % 4, Nat.mod_lt _ (by omega)⟩ : Fin 4) = b := Fin.ext (by show (1024 * b.val + s.val) / 1024 % 4 = b.val; omega)
  have e2 : (⟨(1024 * b.val + s.val) % 1024, Nat.mod_lt _ (by omega)⟩ : Fin 1024) = s := Fin.ext (by show (1024 * b.val + s.val) % 1024 = s.val; omega)
  unfold inp
  dsimp only
  rw [e1, e2]

theorem inp_W (v : Fin 50304) (d : Fin 2048) (n : Fin 393) (k : Fin 16) (hn : n.val = v.val / 128) (hk : k.val = d.val / 128) :
    Ideal.ofBits .fp8e4m3 (a2 (ValueIdx.ix2 v d)) * a3 (ValueIdx.ix2 n k) = (((inp a0 a1 a2 a3 a4).W v.val d.val : ℝ) : EReal) := by
  rw [toReal_of _ (h.h2 (ValueIdx.ix2 v d)), toReal_of _ (h.h3 (ValueIdx.ix2 n k)), ← EReal.coe_mul]
  have e1 : (⟨v.val % 50304, Nat.mod_lt _ (by omega)⟩ : Fin 50304) = v := Fin.ext (by show v.val % 50304 = v.val; omega)
  have e3 : (⟨d.val % 2048, Nat.mod_lt _ (by omega)⟩ : Fin 2048) = d := Fin.ext (by show d.val % 2048 = d.val; omega)
  have e4 : (⟨v.val / 128 % 393, Nat.mod_lt _ (by omega)⟩ : Fin 393) = n := Fin.ext (by show v.val / 128 % 393 = n.val; omega)
  have e5 : (⟨d.val / 128 % 16, Nat.mod_lt _ (by omega)⟩ : Fin 16) = k := Fin.ext (by show d.val / 128 % 16 = k.val; omega)
  unfold inp
  dsimp only
  rw [e1, e3, e4, e5]

omit h in
theorem inp_T (b : Fin 4) (s : Fin 1024) (r : Fin 7) :
    (a4 (ValueIdx.ix3 b s r)).toNat = (inp a0 a1 a2 a3 a4).T r.val (1024 * b.val + s.val) := by
  have e1 : (⟨(1024 * b.val + s.val) / 1024 % 4, Nat.mod_lt _ (by omega)⟩ : Fin 4) = b := Fin.ext (by show (1024 * b.val + s.val) / 1024 % 4 = b.val; omega)
  have e2 : (⟨(1024 * b.val + s.val) % 1024, Nat.mod_lt _ (by omega)⟩ : Fin 1024) = s := Fin.ext (by show (1024 * b.val + s.val) % 1024 = s.val; omega)
  have e3 : (⟨r.val % 7, Nat.mod_lt _ (by omega)⟩ : Fin 7) = r := Fin.ext (by show r.val % 7 = r.val; omega)
  unfold inp
  dsimp only
  rw [e1, e2, e3]

theorem inp_T_lt (r t : ℕ) : (inp a0 a1 a2 a3 a4).T r t < 50304 := h.h4 _
end

/-- The arguments of one core, decoded. -/
abbrev dinp : Inp := inp (m ((c : Thread nD τ).loc main_arg0)) (m ((c : Thread nD τ).loc main_arg1)) (m ((c : Thread nD τ).loc main_arg2))
  (m ((c : Thread nD τ).loc main_arg3)) (m ((c : Thread nD τ).loc main_arg4))

abbrev MFine : Prop := Fine (m ((c : Thread nD τ).loc main_arg0)) (m ((c : Thread nD τ).loc main_arg1)) (m ((c : Thread nD τ).loc main_arg2))
  (m ((c : Thread nD τ).loc main_arg3)) (m ((c : Thread nD τ).loc main_arg4))

theorem good (h : MFine m c) : Good m c (dinp m c) where
  hA := by
    rw [V_v2]
    intro i
    have b0 : (i 0).val < 4096 := (i 0).isLt
    have b1 : (i 1).val < 2048 := (i 1).isLt
    refine (shapeCast_apply _ _ i (ValueIdx.ix3 (⟨(i 0).val / 1024, by omega⟩ : Fin 4) (⟨(i 0).val % 1024, by omega⟩ : Fin 1024) (⟨(i 1).val, b1⟩ : Fin 2048)) ?_).trans ?_
    · rw [Shape.rowMajor_val_three, Shape.rowMajor_val_two]
      show ((i 0).val / 1024 * 1024 + (i 0).val % 1024) * 2048 + (i 1).val = (i 0).val * 2048 + (i 1).val
      omega
    · refine (inp_A h _ _ _).trans ?_
      show (((dinp m c).A (1024 * ((i 0).val / 1024) + (i 0).val % 1024) (i 1).val : ℝ) : EReal) = _
      rw [Nat.div_add_mod]
  hW := by
    intro n b x k
    rw [V_v7, V_v1]
    have q : shapeCast S131x3x2048 (shapeCast S393x2048 (broadcastInDim S393x16x128 ![0, 1] bcast_S393x16_S393x16x128_0_1
        (m ((c : Thread nD τ).loc main_arg3) : S393x16.Idx → EReal)) shapeCasts_S393x16x128_S393x2048) shapeCasts_S393x2048_S131x3x2048 (ValueIdx.ix3 n b k)
        = (m ((c : Thread nD τ).loc main_arg3) : S393x16.Idx → EReal) (ValueIdx.ix2 (⟨3 * n.val + b.val, by omega⟩ : Fin 393) (⟨k.val / 128, by omega⟩ : Fin 16)) := by
      refine (shapeCast_apply _ _ _ (ValueIdx.ix2 (⟨3 * n.val + b.val, by omega⟩ : Fin 393) k) ?_).trans ?_
      · rw [Shape.rowMajor_val_three, Shape.rowMajor_val_two]
        show (3 * n.val + b.val) * 2048 + k.val = (n.val * 3 + b.val) * 2048 + k.val
        omega
      · refine (shapeCast_apply _ _ _ (ValueIdx.ix3 (⟨3 * n.val + b.val, by omega⟩ : Fin 393) (⟨k.val / 128, by omega⟩ : Fin 16) (⟨k.val % 128, by omega⟩ : Fin 128)) ?_).trans ?_
        · rw [Shape.rowMajor_val_three, Shape.rowMajor_val_two]
          show ((3 * n.val + b.val) * 16 + k.val / 128) * 128 + k.val % 128 = (3 * n.val + b.val) * 2048 + k.val
          omega
        · exact congrArg (m ((c : Thread nD τ).loc main_arg3) : S393x16.Idx → EReal) (by funext a; fin_cases a <;> rfl)
    rw [q]
    exact inp_W h ⟨384 * n.val + (128 * b.val + x.val), by omega⟩ k ⟨3 * n.val + b.val, by omega⟩ ⟨k.val / 128, by omega⟩
      (by show 3 * n.val + b.val = (384 * n.val + (128 * b.val + x.val)) / 128; omega) rfl
  hX := by
    rw [V_v4]
    intro i
    have b1 : (i 1).val < 4096 := (i 1).isLt
    have q : broadcastInDim S8x4096 ![0, 1] bcast_S1x4096_S8x4096_0_1
        (shapeCast S1x4096 (m ((c : Thread nD τ).loc main_arg1) : S4x1024.Idx → EReal) shapeCasts_S4x1024_S1x4096) i
        = shapeCast S1x4096 (m ((c : Thread nD τ).loc main_arg1) : S4x1024.Idx → EReal) shapeCasts_S4x1024_S1x4096 (ValueIdx.ix2 (0 : Fin 1) (⟨(i 1).val, b1⟩ : Fin 4096)) :=
      congrArg (shapeCast S1x4096 (m ((c : Thread nD τ).loc main_arg1) : S4x1024.Idx → EReal) shapeCasts_S4x1024_S1x4096) (by funext a; fin_cases a <;> rfl)
    rw [q]
    refine (shapeCast_apply _ _ _ (ValueIdx.ix2 (⟨(i 1).val / 1024, by omega⟩ : Fin 4) (⟨(i 1).val % 1024, by omega⟩ : Fin 1024)) ?_).trans ?_
    · rw [Shape.rowMajor_val_two, Shape.rowMajor_val_two]
      show (i 1).val / 1024 * 1024 + (i 1).val % 1024 = 0 * 4096 + (i 1).val
      omega
    · refine (inp_S h _ _).trans ?_
      show (((dinp m c).S (1024 * ((i 1).val / 1024) + (i 1).val % 1024) : ℝ) : EReal) = _
      rw [Nat.div_add_mod]
  hG := by
    rw [V_v9]
    intro i
    have b0 : (i 0).val < 7 := (i 0).isLt
    have b1 : (i 1).val < 4096 := (i 1).isLt
    have q : transpose S7x4096 [1, 0] (shapeCast S4096x7 (m ((c : Thread nD τ).loc main_arg4) : S4x1024x7.Idx → BitVec 32) shapeCasts_S4x1024x7_S4096x7)
        transposes_S4096x7_S7x4096_1_0 i
        = shapeCast S4096x7 (m ((c : Thread nD τ).loc main_arg4) : S4x1024x7.Idx → BitVec 32) shapeCasts_S4x1024x7_S4096x7 (ValueIdx.ix2 (⟨(i 1).val, b1⟩ : Fin 4096) (⟨(i 0).val, b0⟩ : Fin 7)) :=
      congrArg (shapeCast S4096x7 (m ((c : Thread nD τ).loc main_arg4) : S4x1024x7.Idx → BitVec 32) shapeCasts_S4x1024x7_S4096x7) (by funext a; fin_cases a <;> rfl)
    rw [q]
    refine (shapeCast_apply _ _ _ (ValueIdx.ix3 (⟨(i 1).val / 1024, by omega⟩ : Fin 4) (⟨(i 1).val % 1024, by omega⟩ : Fin 1024) (⟨(i 0).val, b0⟩ : Fin 7)) ?_).trans ?_
    · rw [Shape.rowMajor_val_three, Shape.rowMajor_val_two]
      show ((i 1).val / 1024 * 1024 + (i 1).val % 1024) * 7 + (i 0).val = (i 1).val * 7 + (i 0).val
      omega
    · have e := inp_T (a0 := m ((c : Thread nD τ).loc main_arg0)) (a1 := m ((c : Thread nD τ).loc main_arg1)) (a2 := m ((c : Thread nD τ).loc main_arg2)) (a3 := m ((c : Thread nD τ).loc main_arg3)) (a4 := m ((c : Thread nD τ).loc main_arg4))
        (⟨(i 1).val / 1024, by omega⟩ : Fin 4) (⟨(i 1).val % 1024, by omega⟩ : Fin 1024) (⟨(i 0).val, b0⟩ : Fin 7)
      have e' : 1024 * ((i 1).val / 1024) + (i 1).val % 1024 = (i 1).val := Nat.div_add_mod _ _
      dsimp only at e
      rw [e'] at e
      rw [← e]
      exact (BitVec.ofNat_toNat 32 _ |>.trans (BitVec.setWidth_eq _)).symm
  hT := fun r t => inp_T_lt h r t

end Cert.KernelIdeal.Val

end
-- ==== Proof.VGather.lean ====
module

public import proofs.«01_k».proof.Proof.VMath
public import Idealize.ShloMosaic.PureOps
public import Idealize.ShloMosaic.Lib.ValueIdxCore

@[expose] public section

/-! The take-along-the-last-axis gather of the reference, read at one index. -/

noncomputable section

namespace Cert.KernelIdeal.Val

open Idealize.ShloMosaic

variable {α : Type}

/-- The dimension numbers of a gather along the last axis of a rank-3 operand with two batching axes. -/
abbrev takeLast (B S N R : Nat)
    (wf : GatherDims.WF ⟨3, ![B, S, N]⟩ ⟨4, ![B, S, R, 1]⟩ ⟨3, ![B, S, R]⟩ [] [2] [0, 1] [2] [0, 1] 3 ![1, 1, 1]) :
    GatherDims ⟨3, ![B, S, N]⟩ ⟨4, ![B, S, R, 1]⟩ ⟨3, ![B, S, R]⟩ where
  offsetDims := []
  collapsedSliceDims := [2]
  operandBatchingDims := [0, 1]
  startIndicesBatchingDims := [0, 1]
  startIndexMap := [2]
  indexVectorDim := 3
  sliceSizes := ![1, 1, 1]
  wf := wf

/-- The start index read by result index `(b, s, r)`. -/
abbrev lastIdx {B S R : Nat} (y : (⟨3, ![B, S, R]⟩ : Shape).Idx) : (⟨4, ![B, S, R, 1]⟩ : Shape).Idx :=
  fun a => match a with
    | ⟨0, _⟩ => ⟨(y 0).val, (y 0).isLt⟩ | ⟨1, _⟩ => ⟨(y 1).val, (y 1).isLt⟩ | ⟨2, _⟩ => ⟨(y 2).val, (y 2).isLt⟩
    | ⟨3, _⟩ => ⟨0, Nat.one_pos⟩

/-- The gather at `(b, s, r)`: the operand at `(b, s, idx[b, s, r, 0])`, read signed and clamped. -/
theorem gather_last_apply {B S N R w : Nat} (hN : 0 < N)
    (wf : GatherDims.WF ⟨3, ![B, S, N]⟩ ⟨4, ![B, S, R, 1]⟩ ⟨3, ![B, S, R]⟩ [] [2] [0, 1] [2] [0, 1] 3 ![1, 1, 1])
    (x : (⟨3, ![B, S, N]⟩ : Shape).Idx → α) (idx : IVec ⟨4, ![B, S, R, 1]⟩ w) (y : (⟨3, ![B, S, R]⟩ : Shape).Idx) :
    Host.gather (takeLast B S N R wf) x idx y
      = x (ValueIdx.ix3 ⟨(y 0).val, (y 0).isLt⟩ ⟨(y 1).val, (y 1).isLt⟩
          ⟨min (idx (lastIdx y)).toInt.toNat (N - 1), by omega⟩) := by
  unfold Host.gather
  congr 1
  funext a
  refine Fin.ext ?_
  show (takeLast B S N R wf).start y idx a + (takeLast B S N R wf).batchCoord y a
      + (takeLast B S N R wf).offCoord y a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_cons_self),
      GatherDims.offCoord_eq_zero _ _ _ (fun h => ((GatherDims.mem_sKept _ _).mp h).2 List.mem_cons_self)]
    simp only [Nat.zero_add, Nat.add_zero]
    unfold GatherDims.batchCoord
    rw [dif_pos List.mem_cons_self]
    rfl
  · rw [GatherDims.start_batching _ _ _ _ (List.mem_cons_of_mem _ List.mem_cons_self),
      GatherDims.offCoord_eq_zero _ _ _ (fun h => ((GatherDims.mem_sKept _ _).mp h).2 (List.mem_cons_of_mem _ List.mem_cons_self))]
    simp only [Nat.zero_add, Nat.add_zero]
    unfold GatherDims.batchCoord
    rw [dif_pos (List.mem_cons_of_mem _ List.mem_cons_self)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeLast B S N R wf).startIndexMap from List.mem_singleton.mpr rfl)]
    have hsi : (takeLast B S N R wf).siIdx y ⟨List.idxOf (2 : Fin 3) (takeLast B S N R wf).startIndexMap,
        List.idxOf_lt_length_iff.2 (List.mem_singleton.mpr rfl)⟩ = lastIdx y := by
      funext b; refine Fin.ext ?_
      match b with
      | ⟨0, _⟩ => rfl
      | ⟨1, _⟩ => rfl
      | ⟨2, _⟩ => rfl
      | ⟨3, _⟩ => rfl
    rw [hsi]
    rfl

end Cert.KernelIdeal.Val

end
-- ==== Proof.VRefA.lean ====
module

public import proofs.«01_k».proof.Proof.VHost
public import proofs.«01_k».proof.Proof.VFin
public import proofs.«01_k».proof.Proof.VGather
public import proofs.«01_k».proof.Proof.Gen.ReferenceIdeal
public import Idealize.ShloMosaic.Lib.Pointwise.Reduce
public import Idealize.ShloMosaic.Lib.Pointwise.Contract
public import Idealize.ShloMosaic.Lib.IdealHost

@[expose] public section

set_option maxRecDepth 16384
set_option maxHeartbeats 1000000

/-! The reference's mathematics as functions of its decoded inputs, read at an index. -/

noncomputable section

namespace Cert.ReferenceIdeal.Val

open Cert.ReferenceIdeal Cert.ReferenceIdeal.Gen
open Idealize.ShloMosaic
open Cert.KernelIdeal.Val (lp ENT VAR zr zl sum_real fold_real)

/-- The weights times their block scales. -/
def WD (w : S50304x2048.Idx → EReal) (a3 : S393x16.Idx → EReal) : S50304x2048.Idx → EReal :=
  shapeCast S50304x2048 (mulf (F := Ideal) (φ := .bf16) (shapeCast S393x128x16x128 w shapeCasts_S50304x2048_S393x128x16x128)
    (broadcastInDim S393x128x16x128 ![0, 1, 2, 3] bcast_S393x1x16x1_S393x128x16x128_0_1_2_3
      (broadcastInDim S393x1x16x1 ![0, 2] bcast_S393x16_S393x1x16x1_0_2
        (truncf (F := Ideal) (φ := .f32) .bf16 a3 bitsLt_bf16_f32)))) shapeCasts_S393x128x16x128_S50304x2048

/-- The logits. -/
def LG (x : S4x1024x2048.Idx → EReal) (w : S50304x2048.Idx → EReal) (a1 : S4x1024.Idx → EReal) (a3 : S393x16.Idx → EReal) :
    S4x1024x50304.Idx → EReal :=
  mulf (F := Ideal) (φ := .f32) (Host.dotGeneral (F := Ideal) (φ₁ := .bf16) (φ₂ := .bf16) dot_S4x1024x2048_S50304x2048_S4x1024x50304_2_1_01_0_n_n none x (WD w a3))
    (broadcastInDim S4x1024x50304 ![0, 1, 2] bcast_S4x1024x1_S4x1024x50304_0_1_2 (broadcastInDim S4x1024x1 ![0, 1] bcast_S4x1024_S4x1024x1_0_1 a1))

theorem WD_apply (w : S50304x2048.Idx → EReal) (a3 : S393x16.Idx → EReal) (v : Fin 50304) (d : Fin 2048) :
    WD w a3 (ValueIdx.ix2 v d) = w (ValueIdx.ix2 v d) * a3 (ValueIdx.ix2 (⟨v.val / 128, by omega⟩ : Fin 393) (⟨d.val / 128, by omega⟩ : Fin 16)) := by
  unfold WD
  refine (shapeCast_apply _ _ _ (ValueIdx.ix4 (⟨v.val / 128, by omega⟩ : Fin 393) (⟨v.val % 128, by omega⟩ : Fin 128) (⟨d.val / 128, by omega⟩ : Fin 16) (⟨d.val % 128, by omega⟩ : Fin 128)) ?_).trans ?_
  · rw [Shape.rowMajor_val_four, Shape.rowMajor_val_two]
    show ((v.val / 128 * 128 + v.val % 128) * 16 + d.val / 128) * 128 + d.val % 128 = v.val * 2048 + d.val
    omega
  · refine congrArg₂ (fun a b : EReal => a * b) ?_ ?_
    · refine shapeCast_apply _ _ _ (ValueIdx.ix2 v d) ?_
      rw [Shape.rowMajor_val_four, Shape.rowMajor_val_two]
      show v.val * 2048 + d.val = ((v.val / 128 * 128 + v.val % 128) * 16 + d.val / 128) * 128 + d.val % 128
      omega
    · exact congrArg a3 (by funext a; fin_cases a <;> rfl)

theorem LG_apply (A W : ℕ → ℕ → ℝ) (S : ℕ → ℝ) (x : S4x1024x2048.Idx → EReal) (w : S50304x2048.Idx → EReal) (a1 : S4x1024.Idx → EReal) (a3 : S393x16.Idx → EReal)
    (hx : ∀ i : S4x1024x2048.Idx, x i = ((A (1024 * (i 0).val + (i 1).val) (i 2).val : ℝ) : EReal))
    (hw : ∀ i : S50304x2048.Idx, WD w a3 i = ((W (i 0).val (i 1).val : ℝ) : EReal))
    (hs : ∀ (b : Fin 4) (s : Fin 1024), a1 (ValueIdx.ix2 b s) = ((S (1024 * b.val + s.val) : ℝ) : EReal))
    (b : Fin 4) (s : Fin 1024) (v : Fin 50304) :
    LG x w a1 a3 (ValueIdx.ix3 b s v) = ((zl A W S (1024 * b.val + s.val) v.val : ℝ) : EReal) := by
  have e1 : Host.dotGeneral (F := Ideal) (φ₁ := .bf16) (φ₂ := .bf16) dot_S4x1024x2048_S50304x2048_S4x1024x50304_2_1_01_0_n_n none x (WD w a3) (ValueIdx.ix3 b s v)
      = ((zr A W v.val (1024 * b.val + s.val) : ℝ) : EReal) := by
    refine (Ideal.matmul_apply₁ dot_S4x1024x2048_S50304x2048_S4x1024x50304_2_1_01_0_n_n rfl rfl x (WD w a3) (fun _ => 0) _).trans ?_
    rw [zero_add]
    unfold zr
    rw [← sum_real]
    refine Finset.sum_congr rfl fun d _ => ?_
    rw [hx, hw, EReal.coe_mul, mul_comm]
    rfl
  have e2 : broadcastInDim S4x1024x50304 ![0, 1, 2] bcast_S4x1024x1_S4x1024x50304_0_1_2 (broadcastInDim S4x1024x1 ![0, 1] bcast_S4x1024_S4x1024x1_0_1 a1) (ValueIdx.ix3 b s v)
      = ((S (1024 * b.val + s.val) : ℝ) : EReal) := (congrArg a1 (by funext a; fin_cases a <;> rfl)).trans (hs b s)
  show (_ : EReal) * _ = _
  unfold zl
  rw [EReal.coe_mul]
  exact congrArg₂ (fun a b : EReal => a * b) e1 e2

end Cert.ReferenceIdeal.Val

end
-- ==== Proof.VRefB.lean ====
module

public import proofs.«01_k».proof.Proof.VHost
public import proofs.«01_k».proof.Proof.VFin
public import proofs.«01_k».proof.Proof.VGather
public import proofs.«01_k».proof.Proof.Gen.ReferenceIdeal
public import Idealize.ShloMosaic.Lib.Pointwise.Reduce
public import Idealize.ShloMosaic.Lib.Pointwise.Contract
public import Idealize.ShloMosaic.Lib.IdealHost

@[expose] public section

set_option maxRecDepth 16384
set_option maxHeartbeats 1000000

/-! The reference's mathematics as functions of its decoded inputs, read at an index. -/

noncomputable section

namespace Cert.ReferenceIdeal.Val

open Cert.ReferenceIdeal Cert.ReferenceIdeal.Gen
open Idealize.ShloMosaic
open Cert.KernelIdeal.Val (lp ENT VAR zr zl sum_real fold_real)

/-- A row's value spread over its words. -/
def SP (y : S4x1024.Idx → EReal) : S4x1024x50304.Idx → EReal :=
  broadcastInDim S4x1024x50304 ![0, 1, 2] bcast_S4x1024x1_S4x1024x50304_0_1_2 (broadcastInDim S4x1024x1 ![0, 1] bcast_S4x1024_S4x1024x1_0_1 y)

theorem SP_apply (y : S4x1024.Idx → EReal) (b : Fin 4) (s : Fin 1024) (v : Fin 50304) : SP y (ValueIdx.ix3 b s v) = y (ValueIdx.ix2 b s) :=
  congrArg y (by funext a; fin_cases a <;> rfl)

/-- The maximum along the last axis of a rank-3 array, read at an index. -/
theorem reduce_max {n0 n1 n2 : ℕ} {u : Shape} (x : (⟨3, ![n0, n1, n2]⟩ : Shape).Idx → EReal) (c : u.Idx → EReal)
    (h : (⟨3, ![n0, n1, n2]⟩ : Shape).ReducesTo [2] ⟨2, ![n0, n1]⟩) (hu : 0 < u.numel) (b : Fin n0) (s : Fin n1) :
    Host.reduce (FloatOps.maximumf (F := Ideal) (φ := .f32)) x c h hu (ValueIdx.ix2 b s)
      = (Finset.univ : Finset (Fin n2)).fold max (c (Shape.Idx.first hu)) (fun k => x (ValueIdx.ix3 b s k)) := by
  rw [show (FloatOps.maximumf (F := Ideal) (φ := .f32)) = (max : EReal → EReal → EReal) from rfl]
  rw [Host.reduce_eq_fold]
  exact Shape.ReducesTo.fold_fiber_r3_a2 h (ValueIdx.ix2 b s) max _ x

/-- The sum along the last axis of a rank-3 array, read at an index. -/
theorem reduce_sum {n0 n1 n2 : ℕ} {u : Shape} (x : (⟨3, ![n0, n1, n2]⟩ : Shape).Idx → EReal) (c : u.Idx → EReal)
    (h : (⟨3, ![n0, n1, n2]⟩ : Shape).ReducesTo [2] ⟨2, ![n0, n1]⟩) (hu : 0 < u.numel) (b : Fin n0) (s : Fin n1) :
    Host.reduceAdd (F := Ideal) (φ := .f32) x c h hu (ValueIdx.ix2 b s)
      = c (Shape.Idx.first hu) + ∑ k : Fin n2, x (ValueIdx.ix3 b s k) :=
  Ideal.hostReduceAdd_r3_a2 h x (c (Shape.Idx.first hu)) (ValueIdx.ix2 b s)

/-- A row's sum. -/
def RS (x : S4x1024x50304.Idx → EReal) : S4x1024.Idx → EReal :=
  Host.reduceAdd (F := Ideal) (φ := .f32) x (constant (F := Ideal) S_ .f32 0x00000000#32) reducesTo_S4x1024x50304_S4x1024_d2 h_S_

theorem RS_apply (x : S4x1024x50304.Idx → EReal) (b : Fin 4) (s : Fin 1024) : RS x (ValueIdx.ix2 b s) = ∑ v : Fin 50304, x (ValueIdx.ix3 b s v) := by
  unfold RS
  refine (reduce_sum x _ _ _ b s).trans ?_
  rw [show (constant (F := Ideal) S_ .f32 0x00000000#32 : S_.Idx → EReal) (Shape.Idx.first h_S_) = 0 from Ideal.ofBits_zero_f32, zero_add]

theorem RS_real (f : ℕ → ℝ) (x : S4x1024x50304.Idx → EReal) (b : Fin 4) (s : Fin 1024)
    (h : ∀ v : Fin 50304, x (ValueIdx.ix3 b s v) = ((f v.val : ℝ) : EReal)) :
    RS x (ValueIdx.ix2 b s) = ((∑ v ∈ Finset.range 50304, f v : ℝ) : EReal) := by
  rw [RS_apply, Finset.sum_range, ← sum_real]
  exact Finset.sum_congr rfl fun v _ => h v

/-- The maximum along the last axis of real numbers is a real number. -/
theorem reduce_max_real {n0 n1 n2 : ℕ} (hn : 0 < n2) (x : (⟨3, ![n0, n1, n2]⟩ : Shape).Idx → EReal)
    (h : (⟨3, ![n0, n1, n2]⟩ : Shape).ReducesTo [2] ⟨2, ![n0, n1]⟩) (hu : 0 < S_.numel) (b : Fin n0) (s : Fin n1)
    (hr : ∀ k : Fin n2, ∃ r : ℝ, x (ValueIdx.ix3 b s k) = (r : EReal)) :
    ∃ M : ℝ, Host.reduce (FloatOps.maximumf (F := Ideal) (φ := .f32)) x (constant (F := Ideal) S_ .f32 0xFF800000#32) h hu (ValueIdx.ix2 b s) = (M : EReal) := by
  obtain ⟨M, hM⟩ := fold_real n2 hn (fun v => x (ValueIdx.ix3 b s v)) hr
  exact ⟨M, (reduce_max x _ h hu b s).trans hM⟩

theorem max_bot_real {s : Shape} (h : S_.BroadcastsInDim s (![] : Fin 0 → Fin s.rank)) (y : s.Idx → EReal) (i : s.Idx) (M : ℝ) (hM : y i = (M : EReal)) :
    maximumf (F := Ideal) (φ := .f32) (broadcastInDim s ![] h (constant (F := Ideal) S_ .f32 0xFF800000#32)) y i = (M : EReal) := by
  have hb : Ideal.ofBits .f32 0xFF800000#32 = ⊥ := by simp [Ideal.ofBits, Ideal.ieee]
  show max (Ideal.ofBits .f32 0xFF800000#32 : EReal) (y i) = _
  rw [hM, hb]
  exact max_eq_right bot_le

/-- A row's maximum. -/
def RM (x : S4x1024x50304.Idx → EReal) : S4x1024.Idx → EReal :=
  maximumf (F := Ideal) (φ := .f32) (broadcastInDim S4x1024 ![] bcast_S_S4x1024 (constant (F := Ideal) S_ .f32 0xFF800000#32))
    (Host.reduce (FloatOps.maximumf (F := Ideal) (φ := .f32)) x (constant (F := Ideal) S_ .f32 0xFF800000#32) reducesTo_S4x1024x50304_S4x1024_d2 h_S_)

theorem RM_real (f : ℕ → ℝ) (x : S4x1024x50304.Idx → EReal) (b : Fin 4) (s : Fin 1024)
    (h : ∀ v : Fin 50304, x (ValueIdx.ix3 b s v) = ((f v.val : ℝ) : EReal)) : ∃ M : ℝ, RM x (ValueIdx.ix2 b s) = (M : EReal) := by
  obtain ⟨M, hM⟩ := reduce_max_real (by omega) x reducesTo_S4x1024x50304_S4x1024_d2 h_S_ b s (fun v => ⟨_, h v⟩)
  refine ⟨M, ?_⟩
  unfold RM
  exact max_bot_real _ _ _ M hM

/-- The logarithm of a row's value spread over its words. -/
def SL (y : S4x1024.Idx → EReal) : S4x1024x50304.Idx → EReal :=
  broadcastInDim S4x1024x50304 ![0, 1, 2] bcast_S4x1024x1_S4x1024x50304_0_1_2 (Host.log (F := Ideal) (φ := .f32)
    (broadcastInDim S4x1024x1 ![0, 1] bcast_S4x1024_S4x1024x1_0_1 y))

theorem SL_apply (y : S4x1024.Idx → EReal) (b : Fin 4) (s : Fin 1024) (v : Fin 50304) : SL y (ValueIdx.ix3 b s v) = Ideal.log (y (ValueIdx.ix2 b s)) :=
  congrArg (fun i => Ideal.log (y i)) (by funext a; fin_cases a <;> rfl)

/-- The logits less their row's maximum. -/
def DX (x : S4x1024x50304.Idx → EReal) : S4x1024x50304.Idx → EReal := subf (F := Ideal) (φ := .f32) x (SP (RM x))

/-- The log-softmax of the logits. -/
def LS (x : S4x1024x50304.Idx → EReal) : S4x1024x50304.Idx → EReal :=
  subf (F := Ideal) (φ := .f32) (DX x) (SL (RS (Host.exp (F := Ideal) (φ := .f32) (DX x))))

theorem lp_shift (z : ℕ → ℝ) (M : ℝ) (v : ℕ) :
    z v - M - Real.log (∑ u ∈ Finset.range 50304, Real.exp (z u - M)) = lp z v := by
  have hp : 0 < ∑ u ∈ Finset.range 50304, Real.exp (z u) := Finset.sum_pos (fun u _ => Real.exp_pos _) ⟨0, by simp⟩
  have e : ∑ u ∈ Finset.range 50304, Real.exp (z u - M) = (∑ u ∈ Finset.range 50304, Real.exp (z u)) * Real.exp (-M) := by
    rw [Finset.sum_mul]
    exact Finset.sum_congr rfl fun u _ => by rw [← Real.exp_add]; ring_nf
  rw [e, Real.log_mul hp.ne' (Real.exp_pos _).ne', Real.log_exp]
  unfold lp
  ring

theorem sub_real (x y : S4x1024x50304.Idx → EReal) (i : S4x1024x50304.Idx) (p q : ℝ) (hx : x i = (p : EReal)) (hy : y i = (q : EReal)) :
    subf (F := Ideal) (φ := .f32) x y i = ((p - q : ℝ) : EReal) := by
  rw [EReal.coe_sub, ← hx, ← hy]
  rfl

theorem exp_real (x : S4x1024x50304.Idx → EReal) (i : S4x1024x50304.Idx) (p : ℝ) (hx : x i = (p : EReal)) :
    Host.exp (F := Ideal) (φ := .f32) x i = ((Real.exp p : ℝ) : EReal) := by
  show Ideal.exp (x i) = _
  rw [hx]
  rfl

theorem mul_real (x y : S4x1024x50304.Idx → EReal) (i : S4x1024x50304.Idx) (p q : ℝ) (hx : x i = (p : EReal)) (hy : y i = (q : EReal)) :
    mulf (F := Ideal) (φ := .f32) x y i = ((p * q : ℝ) : EReal) := by
  rw [EReal.coe_mul, ← hx, ← hy]
  rfl

theorem add_real (x y : S4x1024x50304.Idx → EReal) (i : S4x1024x50304.Idx) (p q : ℝ) (hx : x i = (p : EReal)) (hy : y i = (q : EReal)) :
    addf (F := Ideal) (φ := .f32) x y i = ((p + q : ℝ) : EReal) := by
  rw [EReal.coe_add, ← hx, ← hy]
  rfl

theorem LS_apply (z : ℕ → ℝ) (x : S4x1024x50304.Idx → EReal) (b : Fin 4) (s : Fin 1024)
    (h : ∀ v : Fin 50304, x (ValueIdx.ix3 b s v) = ((z v.val : ℝ) : EReal)) (v : Fin 50304) :
    LS x (ValueIdx.ix3 b s v) = ((lp z v.val : ℝ) : EReal) := by
  obtain ⟨M, hM⟩ := RM_real z x b s h
  have e5 : ∀ u : Fin 50304, DX x (ValueIdx.ix3 b s u) = ((z u.val - M : ℝ) : EReal) := fun u =>
    sub_real x (SP (RM x)) _ _ _ (h u) ((SP_apply _ b s u).trans hM)
  have e7 := RS_real (fun u => Real.exp (z u - M)) (Host.exp (F := Ideal) (φ := .f32) (DX x)) b s (fun u => exp_real _ _ _ (e5 u))
  have hp : 0 < ∑ u ∈ Finset.range 50304, Real.exp (z u - M) := Finset.sum_pos (fun u _ => Real.exp_pos _) ⟨0, by simp⟩
  rw [← lp_shift z M v.val]
  refine sub_real (DX x) _ _ _ _ (e5 v) ?_
  rw [SL_apply, e7]
  exact if_neg (not_le.2 hp)

/-- A row's entropy. -/
def EN (l : S4x1024x50304.Idx → EReal) : S4x1024.Idx → EReal :=
  Host.negf (F := Ideal) (φ := .f32) (RS (mulf (F := Ideal) (φ := .f32) (Host.exp (F := Ideal) (φ := .f32) l) l))

theorem neg_real (y : S4x1024.Idx → EReal) (i : S4x1024.Idx) (p : ℝ) (hy : y i = (p : EReal)) :
    Host.negf (F := Ideal) (φ := .f32) y i = ((-p : ℝ) : EReal) := by
  rw [EReal.coe_neg, ← hy]
  rfl

theorem EN_apply (z : ℕ → ℝ) (l : S4x1024x50304.Idx → EReal) (b : Fin 4) (s : Fin 1024)
    (h : ∀ v : Fin 50304, l (ValueIdx.ix3 b s v) = ((lp z v.val : ℝ) : EReal)) : EN l (ValueIdx.ix2 b s) = ((ENT z : ℝ) : EReal) :=
  neg_real _ _ _ (RS_real (fun u => Real.exp (lp z u) * lp z u) _ b s (fun u => mul_real _ _ _ _ _ (exp_real _ _ _ (h u)) (h u)))

/-- A row's variance of the log-probability. -/
def VA (l : S4x1024x50304.Idx → EReal) : S4x1024.Idx → EReal :=
  RS (mulf (F := Ideal) (φ := .f32) (Host.exp (F := Ideal) (φ := .f32) l)
    (mulf (F := Ideal) (φ := .f32) (addf (F := Ideal) (φ := .f32) l (SP (EN l))) (addf (F := Ideal) (φ := .f32) l (SP (EN l)))))

theorem VA_apply (z : ℕ → ℝ) (l : S4x1024x50304.Idx → EReal) (b : Fin 4) (s : Fin 1024)
    (h : ∀ v : Fin 50304, l (ValueIdx.ix3 b s v) = ((lp z v.val : ℝ) : EReal)) : VA l (ValueIdx.ix2 b s) = ((VAR z : ℝ) : EReal) := by
  have e : ∀ u : Fin 50304, addf (F := Ideal) (φ := .f32) l (SP (EN l)) (ValueIdx.ix3 b s u) = ((lp z u.val + ENT z : ℝ) : EReal) := fun u =>
    add_real _ _ _ _ _ (h u) ((SP_apply _ b s u).trans (EN_apply z l b s h))
  exact RS_real (fun u => Real.exp (lp z u) * ((lp z u + ENT z) * (lp z u + ENT z))) _ b s
    (fun u => mul_real _ _ _ _ _ (exp_real _ _ _ (h u)) (mul_real _ _ _ _ _ (e u) (e u)))

end Cert.ReferenceIdeal.Val

end
-- ==== Proof.VRefT.lean ====
module

public import proofs.«01_k».proof.Proof.VRefA
public import proofs.«01_k».proof.Proof.Gen.ReferenceIdeal
public import Idealize.ShloMosaic.Lib.ReduceAll
public import Idealize.ShloMosaic.Lib.Affine

@[expose] public section

set_option maxRecDepth 16384
set_option maxHeartbeats 1000000

/-! The reference's pick of each target's log-probability, read at an index. -/

noncomputable section

namespace Cert.ReferenceIdeal.Val

open Cert.ReferenceIdeal Cert.ReferenceIdeal.Gen
open Idealize.ShloMosaic
open Cert.KernelIdeal.Val (takeLast lastIdx gather_last_apply)

/-- The targets, a negative one counted from the vocabulary's end. -/
def TW (a4 : S4x1024x7.Idx → BitVec 32) : S4x1024x7.Idx → BitVec 32 :=
  select (cmpi .slt a4 (broadcastInDim S4x1024x7 ![] bcast_S_S4x1024x7 (constantI S_ 32 0#32)))
    (addi a4 (broadcastInDim S4x1024x7 ![] bcast_S_S4x1024x7 (constantI S_ 32 50304#32))) a4

/-- The targets as start indices. -/
def TI (a4 : S4x1024x7.Idx → BitVec 32) : S4x1024x7x1.Idx → BitVec 32 :=
  shapeCast S4x1024x7x1 (TW a4) shapeCasts_S4x1024x7_S4x1024x7x1

/-- Whether each target names a word. -/
def TB (i5 : S4x1024x7x1.Idx → BitVec 32) : S4x1024x7.Idx → BitVec 1 :=
  Host.reduce IntOp.andi
    (andi (cmpi .sge i5 (broadcastInDim S4x1024x7x1 ![] bcast_S_S4x1024x7x1 (constantI S_ 32 0#32)))
      (cmpi .sle i5 (broadcastInDim S4x1024x7x1 ![0, 1, 2, 3] bcast_S1x1x1x1_S4x1024x7x1_0_1_2_3
        (broadcastInDim S1x1x1x1 ![3] bcast_S1_S1x1x1x1_3 (constantI S1 32 50303#32)))))
    (constantI S_ 1 1#1) reducesTo_S4x1024x7x1_S4x1024x7_d3 h_S_

/-- The targets' log-probabilities. -/
def TK (l : S4x1024x50304.Idx → EReal) (a4 : S4x1024x7.Idx → BitVec 32) : S4x1024x7.Idx → EReal :=
  select (TB (TI a4)) (Host.gather gather_S4x1024x50304_S4x1024x7x1_S4x1024x7_n_2_01_01_2_3_111 l (TI a4))
    (broadcastInDim S4x1024x7 ![] bcast_S_S4x1024x7 (constant (F := Ideal) S_ .f32 0x7FC00000#32))

theorem toInt_of (b : BitVec 32) (h : b.toNat < 50304) : b.toInt = b.toNat := by
  rw [BitVec.toInt_eq_toNat_cond]
  split <;> omega

theorem TW_eq (a4 : S4x1024x7.Idx → BitVec 32) (h : ∀ i, (a4 i).toNat < 50304) : TW a4 = a4 := by
  funext i
  have e : ¬ IntOp.cmpi .slt (a4 i) 0#32 = 1#1 := fun q => by
    have := IntOp.cmpi_slt.1 q
    rw [toInt_of _ (h i)] at this
    have e1 : (0#32).toInt = 0 := rfl
    omega
  exact if_neg e

theorem TI_lt (a4 : S4x1024x7.Idx → BitVec 32) (h : ∀ i, (a4 i).toNat < 50304) (j : S4x1024x7x1.Idx) : (TI a4 j).toNat < 50304 := by
  unfold TI
  rw [TW_eq a4 h]
  exact h _

theorem TI_last (a4 : S4x1024x7.Idx → BitVec 32) (h : ∀ i, (a4 i).toNat < 50304) (b : Fin 4) (s : Fin 1024) (r : Fin 7) :
    TI a4 (lastIdx (ValueIdx.ix3 b s r)) = a4 (ValueIdx.ix3 b s r) := by
  unfold TI
  rw [TW_eq a4 h]
  refine shapeCast_apply _ _ _ (ValueIdx.ix3 b s r) ?_
  rw [Shape.rowMajor_val_four, Shape.rowMajor_val_three]
  show (b.val * 1024 + s.val) * 7 + r.val = ((b.val * 1024 + s.val) * 7 + r.val) * 1 + 0
  omega

theorem TB_one (i5 : S4x1024x7x1.Idx → BitVec 32) (h : ∀ i, (i5 i).toNat < 50304) (j : S4x1024x7.Idx) : TB i5 j = 1#1 := by
  unfold TB
  refine Host.reduce_andi_one _ _ _ _ j rfl fun i => ?_
  refine IntOp.andi_eq_one.2 ⟨IntOp.cmpi_sge.2 ?_, IntOp.cmpi_sle.2 ?_⟩
  · show (0#32).toInt ≤ (i5 i).toInt
    rw [toInt_of _ (h i)]
    have e1 : (0#32).toInt = 0 := rfl
    omega
  · show (i5 i).toInt ≤ (50303#32).toInt
    rw [toInt_of _ (h i)]
    have e1 : (50303#32).toInt = 50303 := rfl
    have := h i
    omega

theorem select_one (c : S4x1024x7.Idx → BitVec 1) (x y : S4x1024x7.Idx → EReal) (i : S4x1024x7.Idx) (hc : c i = 1#1) : select c x y i = x i :=
  if_pos hc

theorem TK_apply (l : S4x1024x50304.Idx → EReal) (a4 : S4x1024x7.Idx → BitVec 32) (h : ∀ i, (a4 i).toNat < 50304)
    (b : Fin 4) (s : Fin 1024) (r : Fin 7) :
    TK l a4 (ValueIdx.ix3 b s r) = l (ValueIdx.ix3 b s ⟨(a4 (ValueIdx.ix3 b s r)).toNat, h _⟩) := by
  unfold TK
  rw [select_one _ _ _ _ (TB_one _ (TI_lt a4 h) _)]
  refine (gather_last_apply (B := 4) (S := 1024) (N := 50304) (R := 7) (by omega) gather_S4x1024x50304_S4x1024x7x1_S4x1024x7_n_2_01_01_2_3_111_wf l (TI a4) (ValueIdx.ix3 b s r)).trans ?_
  have e : min (TI a4 (lastIdx (ValueIdx.ix3 b s r))).toInt.toNat (50304 - 1) = (a4 (ValueIdx.ix3 b s r)).toNat := by
    rw [TI_last a4 h, toInt_of _ (h _)]
    have := h (ValueIdx.ix3 b s r)
    omega
  exact congrArg (fun q : Fin 50304 => l (ValueIdx.ix3 b s q)) (Fin.ext e)

end Cert.ReferenceIdeal.Val

end
-- ==== Proof.VRefS.lean ====
module

public import proofs.«01_k».proof.Proof.VRefA
public import proofs.«01_k».proof.Proof.VRefB
public import proofs.«01_k».proof.Proof.VRefT
public import proofs.«01_k».proof.Proof.Gen.ReferenceIdeal.Launch
public import Idealize.ShloMosaic.Lib.StableHlo.RunRead

@[expose] public section

set_option maxRecDepth 16384
set_option maxHeartbeats 1000000

/-! The reference's host operations, a stretch at a time. -/

noncomputable section

namespace Cert.ReferenceIdeal.Val

open Cert.ReferenceIdeal Cert.ReferenceIdeal.Gen
open Idealize.ShloMosaic Idealize.ShloMosaic.TcCoe

variable (V : Valuation τ sig (Elt Ideal))

theorem st1 : (StableHlo.after hostOps1 V (Proc.devRef .tc main_v12) : S4x1024x50304.Idx → EReal)
    = LG (V (Proc.devRef .tc main_v2_0)) (V (Proc.devRef .tc main_v2_1)) (V (Proc.devRef .tc main_arg1)) (V (Proc.devRef .tc main_arg3)) := by
  after_reads_simp
  rfl

theorem st2 : (StableHlo.after hostOps1_1 V (Proc.devRef .tc main_v13) : S4x1024x50304.Idx → EReal)
    = LS (V (Proc.devRef .tc main_v12)) := by
  after_reads_simp
  simp only [StableHlo.TRef.ofBuf_toBuf]
  unfold LS SL DX SP RS RM
  rfl

theorem st3a : (StableHlo.after hostOps1_2 V (Proc.devRef .tc main_v17) : S4x1024.Idx → EReal)
    = EN (V (Proc.devRef .tc main_v13)) := by
  after_reads_simp
  rfl

theorem st3b : (StableHlo.after hostOps1_2 V (Proc.devRef .tc main_v23) : S4x1024.Idx → EReal)
    = VA (V (Proc.devRef .tc main_v13)) := by
  after_reads_simp
  rfl

theorem st3c : (StableHlo.after hostOps1_2 V (Proc.devRef .tc main_v13) : S4x1024x50304.Idx → EReal)
    = V (Proc.devRef .tc main_v13) := by
  after_reads_simp

set_option maxRecDepth 400000 in
theorem st4 : (StableHlo.after hostOps1_3 V (Proc.devRef .tc main_v24) : S4x1024x7.Idx → EReal)
    = TK (V (Proc.devRef .tc main_v13)) (V (Proc.devRef .tc main_arg4)) := by
  after_reads_simp
  rfl

theorem st5a : (StableHlo.after hostOps1_4 V (Proc.devRef .tc main_v25) : S1x4096.Idx → EReal)
    = shapeCast S1x4096 (V (Proc.devRef .tc main_v17) : S4x1024.Idx → EReal) shapeCasts_S4x1024_S1x4096 := by
  after_reads_simp
  rfl

theorem st5b : (StableHlo.after hostOps1_4 V (Proc.devRef .tc main_v26) : S1x4096.Idx → EReal)
    = shapeCast S1x4096 (V (Proc.devRef .tc main_v23) : S4x1024.Idx → EReal) shapeCasts_S4x1024_S1x4096 := by
  after_reads_simp
  rfl

theorem st5c : (StableHlo.after hostOps1_4 V (Proc.devRef .tc main_v28) : S7x4096.Idx → EReal)
    = transpose S7x4096 [1, 0] (shapeCast S4096x7 (V (Proc.devRef .tc main_v24) : S4x1024x7.Idx → EReal) shapeCasts_S4x1024x7_S4096x7)
        transposes_S4096x7_S7x4096_1_0 := by
  after_reads_simp
  rfl

theorem k1 : StableHlo.after hostOps1 V (Proc.devRef .tc main_arg4) = V (Proc.devRef .tc main_arg4) := by
  after_reads_simp

theorem k2 : StableHlo.after hostOps1_1 V (Proc.devRef .tc main_arg4) = V (Proc.devRef .tc main_arg4) := by
  after_reads_simp

theorem k3 : StableHlo.after hostOps1_2 V (Proc.devRef .tc main_arg4) = V (Proc.devRef .tc main_arg4) := by
  after_reads_simp

theorem k4a : StableHlo.after hostOps1_3 V (Proc.devRef .tc main_v17) = V (Proc.devRef .tc main_v17) := by
  after_reads_simp

theorem k4b : StableHlo.after hostOps1_3 V (Proc.devRef .tc main_v23) = V (Proc.devRef .tc main_v23) := by
  after_reads_simp

/-- The five stretches after the region, from contents `V`. -/
abbrev tail : Valuation τ sig (Elt Ideal) :=
  StableHlo.after hostOps1_4 (StableHlo.after hostOps1_3 (StableHlo.after hostOps1_2 (StableHlo.after hostOps1_1 (StableHlo.after hostOps1 V))))

/-- The log-probabilities the stretches compute. -/
abbrev tl : S4x1024x50304.Idx → EReal :=
  LS (LG (V (Proc.devRef .tc main_v2_0)) (V (Proc.devRef .tc main_v2_1)) (V (Proc.devRef .tc main_arg1)) (V (Proc.devRef .tc main_arg3)))

theorem tail_v25 : (tail V (Proc.devRef .tc main_v25) : S1x4096.Idx → EReal) = shapeCast S1x4096 (EN (tl V)) shapeCasts_S4x1024_S1x4096 := by
  rw [tail, st5a, k4a, st3a, st2, st1]

theorem tail_v26 : (tail V (Proc.devRef .tc main_v26) : S1x4096.Idx → EReal) = shapeCast S1x4096 (VA (tl V)) shapeCasts_S4x1024_S1x4096 := by
  rw [tail, st5b, k4b, st3b, st2, st1]

theorem tail_v28 : (tail V (Proc.devRef .tc main_v28) : S7x4096.Idx → EReal)
    = transpose S7x4096 [1, 0] (shapeCast S4096x7 (TK (tl V) (V (Proc.devRef .tc main_arg4))) shapeCasts_S4x1024x7_S4096x7)
        transposes_S4096x7_S7x4096_1_0 := by
  rw [tail, st5c, st4, st3c, st2, st1, k3, k2, k1]

end Cert.ReferenceIdeal.Val

end
-- ==== Proof.VRefM.lean ====
module

public import proofs.«01_k».proof.Proof.VRefA
public import proofs.«01_k».proof.Proof.VRefB
public import proofs.«01_k».proof.Proof.VRefT
public import proofs.«01_k».proof.Proof.VHost

@[expose] public section

set_option maxRecDepth 16384
set_option maxHeartbeats 1000000

/-! The reference's three results, element by element, on finite inputs. -/

noncomputable section

namespace Cert.ReferenceIdeal.Val

open Cert.ReferenceIdeal Cert.ReferenceIdeal.Gen
open Cert.KernelIdeal.Val (zl lp ENT VAR Inp inp Fine inp_A inp_S inp_W inp_T)
open Idealize.ShloMosaic

/-- The values the codes of an array stand for. -/
def dec {S : Shape} (a : S.Idx → BitVec 8) : S.Idx → EReal := fun i => Ideal.ofBits .fp8e4m3 (a i)

section
variable {a0 : S4x1024x2048.Idx → BitVec 8} {a1 : S4x1024.Idx → EReal} {a2 : S50304x2048.Idx → BitVec 8}
    {a3 : S393x16.Idx → EReal} {a4 : S4x1024x7.Idx → BitVec 32} (h : Fine a0 a1 a2 a3 a4)
include h

theorem lg (b : Fin 4) (s : Fin 1024) (v : Fin 50304) :
    LG (dec a0) (dec a2) a1 a3 (ValueIdx.ix3 b s v)
      = ((zl (inp a0 a1 a2 a3 a4).A (inp a0 a1 a2 a3 a4).W (inp a0 a1 a2 a3 a4).S (1024 * b.val + s.val) v.val : ℝ) : EReal) := by
  refine LG_apply _ _ _ (dec a0) (dec a2) a1 a3 (fun i => ?_) (fun i => ?_) (fun b s => inp_S h b s) b s v
  · have e : i = ValueIdx.ix3 (i 0) (i 1) (i 2) := by funext a; fin_cases a <;> rfl
    exact (congrArg (dec a0) e).trans (inp_A h (i 0) (i 1) (i 2))
  · have e : i = ValueIdx.ix2 (i 0) (i 1) := by funext a; fin_cases a <;> rfl
    refine ((congrArg (WD (dec a2) a3) e).trans (WD_apply _ _ (i 0) (i 1))).trans ?_
    exact inp_W h (i 0) (i 1) _ _ rfl rfl

theorem ls (b : Fin 4) (s : Fin 1024) (v : Fin 50304) :
    LS (LG (dec a0) (dec a2) a1 a3) (ValueIdx.ix3 b s v)
      = ((lp (zl (inp a0 a1 a2 a3 a4).A (inp a0 a1 a2 a3 a4).W (inp a0 a1 a2 a3 a4).S (1024 * b.val + s.val)) v.val : ℝ) : EReal) :=
  LS_apply _ _ b s (fun u => lg h b s u) v

theorem res_ent (j : S1x4096.Idx) :
    shapeCast S1x4096 (EN (LS (LG (dec a0) (dec a2) a1 a3))) shapeCasts_S4x1024_S1x4096 j
      = ((ENT (zl (inp a0 a1 a2 a3 a4).A (inp a0 a1 a2 a3 a4).W (inp a0 a1 a2 a3 a4).S (j 1).val) : ℝ) : EReal) := by
  have b0 : (j 0).val < 1 := (j 0).isLt
  have b1 : (j 1).val < 4096 := (j 1).isLt
  refine (shapeCast_apply _ _ _ (ValueIdx.ix2 (⟨(j 1).val / 1024, by omega⟩ : Fin 4) (⟨(j 1).val % 1024, by omega⟩ : Fin 1024)) ?_).trans ?_
  · rw [Shape.rowMajor_val_two, Shape.rowMajor_val_two]
    show (j 1).val / 1024 * 1024 + (j 1).val % 1024 = (j 0).val * 4096 + (j 1).val
    omega
  · refine (EN_apply _ _ _ _ (fun v => ls h _ _ v)).trans ?_
    show ((ENT (zl _ _ _ (1024 * ((j 1).val / 1024) + (j 1).val % 1024)) : ℝ) : EReal) = _
    rw [Nat.div_add_mod]

theorem res_var (j : S1x4096.Idx) :
    shapeCast S1x4096 (VA (LS (LG (dec a0) (dec a2) a1 a3))) shapeCasts_S4x1024_S1x4096 j
      = ((VAR (zl (inp a0 a1 a2 a3 a4).A (inp a0 a1 a2 a3 a4).W (inp a0 a1 a2 a3 a4).S (j 1).val) : ℝ) : EReal) := by
  have b0 : (j 0).val < 1 := (j 0).isLt
  have b1 : (j 1).val < 4096 := (j 1).isLt
  refine (shapeCast_apply _ _ _ (ValueIdx.ix2 (⟨(j 1).val / 1024, by omega⟩ : Fin 4) (⟨(j 1).val % 1024, by omega⟩ : Fin 1024)) ?_).trans ?_
  · rw [Shape.rowMajor_val_two, Shape.rowMajor_val_two]
    show (j 1).val / 1024 * 1024 + (j 1).val % 1024 = (j 0).val * 4096 + (j 1).val
    omega
  · refine (VA_apply _ _ _ _ (fun v => ls h _ _ v)).trans ?_
    show ((VAR (zl _ _ _ (1024 * ((j 1).val / 1024) + (j 1).val % 1024)) : ℝ) : EReal) = _
    rw [Nat.div_add_mod]

theorem res_tok (i : S7x4096.Idx) :
    transpose S7x4096 [1, 0] (shapeCast S4096x7 (TK (LS (LG (dec a0) (dec a2) a1 a3)) a4) shapeCasts_S4x1024x7_S4096x7)
        transposes_S4096x7_S7x4096_1_0 i
      = ((lp (zl (inp a0 a1 a2 a3 a4).A (inp a0 a1 a2 a3 a4).W (inp a0 a1 a2 a3 a4).S (i 1).val)
          ((inp a0 a1 a2 a3 a4).T (i 0).val (i 1).val) : ℝ) : EReal) := by
  have b0 : (i 0).val < 7 := (i 0).isLt
  have b1 : (i 1).val < 4096 := (i 1).isLt
  have q : transpose S7x4096 [1, 0] (shapeCast S4096x7 (TK (LS (LG (dec a0) (dec a2) a1 a3)) a4) shapeCasts_S4x1024x7_S4096x7)
        transposes_S4096x7_S7x4096_1_0 i
      = shapeCast S4096x7 (TK (LS (LG (dec a0) (dec a2) a1 a3)) a4) shapeCasts_S4x1024x7_S4096x7 (ValueIdx.ix2 (⟨(i 1).val, b1⟩ : Fin 4096) (⟨(i 0).val, b0⟩ : Fin 7)) :=
    congrArg (shapeCast S4096x7 (TK (LS (LG (dec a0) (dec a2) a1 a3)) a4) shapeCasts_S4x1024x7_S4096x7) (by funext a; fin_cases a <;> rfl)
  rw [q]
  refine (shapeCast_apply _ _ _ (ValueIdx.ix3 (⟨(i 1).val / 1024, by omega⟩ : Fin 4) (⟨(i 1).val % 1024, by omega⟩ : Fin 1024) (⟨(i 0).val, b0⟩ : Fin 7)) ?_).trans ?_
  · rw [Shape.rowMajor_val_three, Shape.rowMajor_val_two]
    show ((i 1).val / 1024 * 1024 + (i 1).val % 1024) * 7 + (i 0).val = (i 1).val * 7 + (i 0).val
    omega
  · have e := inp_T (a0 := a0) (a1 := a1) (a2 := a2) (a3 := a3) (a4 := a4)
      (⟨(i 1).val / 1024, by omega⟩ : Fin 4) (⟨(i 1).val % 1024, by omega⟩ : Fin 1024) (⟨(i 0).val, b0⟩ : Fin 7)
    have e' : 1024 * ((i 1).val / 1024) + (i 1).val % 1024 = (i 1).val := Nat.div_add_mod _ _
    dsimp only at e
    rw [e'] at e
    refine ((TK_apply _ a4 h.h4 _ _ _).trans (ls h _ _ _)).trans ?_
    dsimp only
    rw [e', e]
end

end Cert.ReferenceIdeal.Val

end
-- ==== Proof.VRefRun.lean ====
module

public import proofs.«01_k».proof.Proof.VRefS
public import proofs.«01_k».proof.Proof.VRefM
public import proofs.«01_k».proof.Proof.Gen.ReferenceIdeal.Frame
public import Idealize.ShloMosaic.Lib.StableHlo.RunRead
public import Idealize.ShloMosaic.Lib.Pipeline.ValueKit

@[expose] public section

set_option maxRecDepth 16384
set_option maxHeartbeats 200000

/-! What the reference's one region leaves (the two arrays of codes, decoded), and what its run ends with. -/

noncomputable section

namespace Cert.ReferenceIdeal.Val

open Cert.ReferenceIdeal Cert.ReferenceIdeal.Gen
open Cert.KernelIdeal.Val (zl lp ENT VAR Inp inp Fine)
open Idealize.ShloMosaic Idealize.ShloMosaic.TcCoe Idealize.SL.Sem
open Idealize.ShloMosaic.Pipeline (Dat)

/-- A whole-shape store leaves its payload. -/
theorem out2 (x0 : Vec Ideal S4x1024x2048 .fp8e4m3) (x1 : Vec Ideal S50304x2048 .fp8e4m3) (j : S4x1024x2048.Idx) :
    out0_2 x0 x1 j = x0 j := by
  unfold out0_2
  rw [View.canon_cons_unit_lit _ _ _ (by decide), View.ld_unit_lit _ _ (by decide)]
  unfold k0_pay1
  exact shapeCast_apply x0 _ j j rfl

theorem out3 (x0 : Vec Ideal S4x1024x2048 .fp8e4m3) (x1 : Vec Ideal S50304x2048 .fp8e4m3) (j : S50304x2048.Idx) :
    out0_3 x0 x1 j = x1 j := by
  unfold out0_3
  rw [View.canon_cons_unit_lit _ _ _ (by decide), View.ld_unit_lit _ _ (by decide)]
  unfold k0_pay2
  exact shapeCast_apply x1 _ j j rfl

variable (m : (ℓ : Loc nD τ sig) → Buf (Elt Ideal) ℓ) (c : Dev nD)

theorem V_v0 : (V m c main_v0 : S4x1024x2048.Idx → EReal) = dec (m ((c : Thread nD τ).loc main_arg0)) := by
  show StableHlo.after hostOps0 _ _ = _
  after_reads_simp
  rfl

theorem V_v1 : (V m c main_v1 : S50304x2048.Idx → EReal) = dec (m ((c : Thread nD τ).loc main_arg2)) := by
  show StableHlo.after hostOps0 _ _ = _
  after_reads_simp
  rfl

theorem iblk0 (t : Fin cfg0.N) (j : S4x1024x2048.Idx) : (iblk m c 0 t : S4x1024x2048.Idx → EReal) j = (V m c main_v0 : S4x1024x2048.Idx → EReal) j := by
  show (V m c main_v0 : S4x1024x2048.Idx → EReal) (((cfg0.win 0).blk t).view.emb j) = _
  refine congrArg (V m c main_v0 : S4x1024x2048.Idx → EReal) (funext fun a => Fin.ext ?_)
  exact (cfg0.win 0).rect_emb_val_of_index_zero t a rfl j

theorem iblk1 (t : Fin cfg0.N) (j : S50304x2048.Idx) : (iblk m c 1 t : S50304x2048.Idx → EReal) j = (V m c main_v1 : S50304x2048.Idx → EReal) j := by
  show (V m c main_v1 : S50304x2048.Idx → EReal) (((cfg0.win 1).blk t).view.emb j) = _
  refine congrArg (V m c main_v1 : S50304x2048.Idx → EReal) (funext fun a => Fin.ext ?_)
  exact (cfg0.win 1).rect_emb_val_of_index_zero t a rfl j

theorem key2 (t : Fin cfg0.N) (j : S4x1024x2048.Idx) : ((dats m 0 c).after 2 t : S4x1024x2048.Idx → EReal) j = dec (S := S4x1024x2048) (m ((c : Thread nD τ).loc main_arg0)) j := by
  rw [after0_2]
  exact (out2 (iblk m c 0 t) (iblk m c 1 t) j).trans ((iblk0 m c t j).trans (congrFun (V_v0 m c) j))

theorem whole2 : (cfg0.win 2).WholeAt (⟨0, by decide⟩ : Fin cfg0.N) := by decide +kernel

theorem arr2 : ((dats m 0 c).arrAt 2 cfg0.N : S4x1024x2048.Idx → EReal) = dec (S := S4x1024x2048) (m ((c : Thread nD τ).loc main_arg0)) := by
  funext i
  exact ((dats m 0 c).arrAt_emb_eq_after_last 2 _ whole2 i).trans (key2 m c _ i)

theorem key3 (t : Fin cfg0.N) (j : S50304x2048.Idx) : ((dats m 0 c).after 3 t : S50304x2048.Idx → EReal) j = dec (S := S50304x2048) (m ((c : Thread nD τ).loc main_arg2)) j := by
  rw [after0_3]
  exact (out3 (iblk m c 0 t) (iblk m c 1 t) j).trans ((iblk1 m c t j).trans (congrFun (V_v1 m c) j))

theorem whole3 : (cfg0.win 3).WholeAt (⟨0, by decide⟩ : Fin cfg0.N) := by decide +kernel

theorem arr3 : ((dats m 0 c).arrAt 3 cfg0.N : S50304x2048.Idx → EReal) = dec (S := S50304x2048) (m ((c : Thread nD τ).loc main_arg2)) := by
  funext i
  exact ((dats m 0 c).arrAt_emb_eq_after_last 3 _ whole3 i).trans (key3 m c _ i)

/-- The buffers as the region leaves them. -/
abbrev U : Valuation τ sig (Elt Ideal) := Pipeline.withArrays spec0 c (V0 m c) fun w => (dats m 0 c).arrAt w cfg0.N

theorem inj : Function.Injective (Pipeline.arrRef spec0) := by decide

theorem U_x : (U m c (Proc.devRef .tc main_v2_0) : S4x1024x2048.Idx → EReal) = dec (m ((c : Thread nD τ).loc main_arg0)) :=
  (Pipeline.withArrays_arr spec0 inj c (V0 m c) (fun w => (dats m 0 c).arrAt w cfg0.N) 2).trans (arr2 m c)

theorem U_w : (U m c (Proc.devRef .tc main_v2_1) : S50304x2048.Idx → EReal) = dec (m ((c : Thread nD τ).loc main_arg2)) :=
  (Pipeline.withArrays_arr spec0 inj c (V0 m c) (fun w => (dats m 0 c).arrAt w cfg0.N) 3).trans (arr3 m c)

theorem U_a1 : U m c (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)

theorem U_a3 : U m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)

theorem U_a4 : U m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)

theorem tl_U : tl (U m c) = LS (LG (dec (m ((c : Thread nD τ).loc main_arg0))) (dec (m ((c : Thread nD τ).loc main_arg2)))
    (m ((c : Thread nD τ).loc main_arg1)) (m ((c : Thread nD τ).loc main_arg3))) := by
  rw [tl, U_x, U_w, U_a1, U_a3]

/-- The buffers after the lines that follow the region. -/
abbrev W : (c : Dev nD) → (b : Ref sig .tc) → Buf (Elt Ideal) ((c : Thread nD τ).loc b) :=
  Pipeline.afterTail₀ cfgs (dats m) 0 (V0 m) [hostOps1, hostOps1_1, hostOps1_2, hostOps1_3, hostOps1_4]

theorem W_eq (b : Ref sig .tc) : W m c b = tail (U m c) (Proc.devRef .tc b) := by
  unfold W Pipeline.afterTail₀ tail
  simp only [List.flatten_cons, List.flatten_nil, List.append_nil, StableHlo.after_append]

/-- The arguments of one core, decoded. -/
abbrev dinp : Inp := inp (m ((c : Thread nD τ).loc main_arg0)) (m ((c : Thread nD τ).loc main_arg1)) (m ((c : Thread nD τ).loc main_arg2))
  (m ((c : Thread nD τ).loc main_arg3)) (m ((c : Thread nD τ).loc main_arg4))

abbrev MFine : Prop := Fine (m ((c : Thread nD τ).loc main_arg0)) (m ((c : Thread nD τ).loc main_arg1)) (m ((c : Thread nD τ).loc main_arg2))
  (m ((c : Thread nD τ).loc main_arg3)) (m ((c : Thread nD τ).loc main_arg4))

theorem W_v25 (h : MFine m c) (j : S1x4096.Idx) : (W m c main_v25 : S1x4096.Idx → EReal) j
    = ((ENT (zl (dinp m c).A (dinp m c).W (dinp m c).S (j 1).val) : ℝ) : EReal) := by
  rw [W_eq, tail_v25, tl_U]
  exact res_ent h j

theorem W_v26 (h : MFine m c) (j : S1x4096.Idx) : (W m c main_v26 : S1x4096.Idx → EReal) j
    = ((VAR (zl (dinp m c).A (dinp m c).W (dinp m c).S (j 1).val) : ℝ) : EReal) := by
  rw [W_eq, tail_v26, tl_U]
  exact res_var h j

theorem W_v28 (h : MFine m c) (i : S7x4096.Idx) : (W m c main_v28 : S7x4096.Idx → EReal) i
    = ((lp (zl (dinp m c).A (dinp m c).W (dinp m c).S (i 1).val) ((dinp m c).T (i 0).val (i 1).val) : ℝ) : EReal) := by
  rw [W_eq, tail_v28, tl_U, U_a4]
  exact res_tok h i

end Cert.ReferenceIdeal.Val

end
-- ==== Proof.VAlg.lean ====
module

public import proofs.«01_k».proof.Defs
public import proofs.«01_k».proof.Proof.VPre
public import proofs.«01_k».proof.Proof.VHost
public import proofs.«01_k».proof.Proof.VRefRun

@[expose] public section

set_option maxRecDepth 16384

/-! The kernel and the reference end with the same three results. -/

noncomputable section

namespace Cert.Alg

open Idealize.ShloMosaic Idealize.ShloMosaic.TcCoe Idealize.SL.Sem
open Cert.KernelIdeal.Val (zl lp ENT VAR Inp)

/-- The three results of one core's decoded inputs. -/
def r0 (D : Inp) : Cert.KernelIdeal.S1x4096.Idx → EReal := fun j => ((ENT (zl D.A D.W D.S (j 1).val) : ℝ) : EReal)
def r1 (D : Inp) : Cert.KernelIdeal.S1x4096.Idx → EReal := fun j => ((VAR (zl D.A D.W D.S (j 1).val) : ℝ) : EReal)
def r2 (D : Inp) : Cert.KernelIdeal.S7x4096.Idx → EReal := fun i => ((lp (zl D.A D.W D.S (i 1).val) (D.T (i 0).val (i 1).val) : ℝ) : EReal)

section Kernel
open Cert.KernelIdeal Cert.KernelIdeal.Gen Cert.KernelIdeal.Val

theorem kernel (m : (ℓ : Loc nD τ sig) → Buf (Elt Ideal) ℓ) (g : Dev nD → PrngReg) (h : ∀ c, MFine m c) :
    θ_run (defs (F := Ideal)) (onTc (τ := τ) (main (F := Ideal))) ⟨m, fun _ => 0, g⟩ (fun r => ∀ c : Dev nD,
      r.2.mem ((c.tc : Thread nD τ).loc main_v10_0) = r0 (dinp m c)
      ∧ r.2.mem ((c.tc : Thread nD τ).loc main_v10_1) = r1 (dinp m c)
      ∧ r.2.mem ((c.tc : Thread nD τ).loc main_v10_2) = r2 (dinp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ q c =>
    have o := final_out m (fun c => dinp m c) q.1 c
    ⟨funext o.1, funext o.2.1, funext o.2.2, final_arg m (fun c => dinp m c) q.1 c⟩)
    (run_main m g (fun c => dinp m c) (fun c => good m c (h c)))
end Kernel

section Reference
open Cert.ReferenceIdeal Cert.ReferenceIdeal.Gen Cert.ReferenceIdeal.Val

theorem reference (m : (ℓ : Loc nD τ sig) → Buf (Elt Ideal) ℓ) (g : Dev nD → PrngReg) (h : ∀ c, MFine m c) :
    θ_run (defs (F := Ideal)) (onTc (τ := τ) (main (F := Ideal))) ⟨m, fun _ => 0, g⟩ (fun r => ∀ c : Dev nD,
      r.2.mem ((c.tc : Thread nD τ).loc main_v25) = r0 (Cert.ReferenceIdeal.Val.dinp m c)
      ∧ r.2.mem ((c.tc : Thread nD τ).loc main_v26) = r1 (Cert.ReferenceIdeal.Val.dinp m c)
      ∧ r.2.mem ((c.tc : Thread nD τ).loc main_v28) = r2 (Cert.ReferenceIdeal.Val.dinp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ q c =>
    ⟨((q.1 c).2 main_v25 (Pipeline.mem_restRefs_of main_v25 (by decide) (by decide))).trans (funext fun j => W_v25 m c (h c) j),
     ((q.1 c).2 main_v26 (Pipeline.mem_restRefs_of main_v26 (by decide) (by decide))).trans (funext fun j => W_v26 m c (h c) j),
     ((q.1 c).2 main_v28 (Pipeline.mem_restRefs_of main_v28 (by decide) (by decide))).trans (funext fun j => W_v28 m c (h c) j),
     q.2 c⟩)
    (θ_run_and (run_main m g) (unchanged m g))
end Reference

theorem fine (m : (ℓ : Loc Cert.KernelIdeal.nD Cert.KernelIdeal.τ Cert.KernelIdeal.sig) → Buf (Elt Ideal) ℓ)
    (h : Cert.Pre_KernelIdeal_inputs_in_range m) (c : Dev Cert.KernelIdeal.nD) : Cert.KernelIdeal.Val.MFine m c :=
  have q := Cert.Pre_inputs_in_range.Val.read _ _ _ _ _ (h c)
  ⟨q.1, q.2.1, q.2.2.1, q.2.2.2.1, q.2.2.2.2⟩

theorem algebraic : Cert.algebraic_KernelIdeal_ReferenceIdeal_pre_inputs_in_range := by
  intro m g m' g' hpre hm
  have hk := fine m hpre
  have e : ∀ c, Cert.ReferenceIdeal.Val.dinp m' c = Cert.KernelIdeal.Val.dinp m c := fun c => by
    obtain ⟨e0, e1, e2, e3, e4⟩ := hm c
    show Cert.KernelIdeal.Val.inp _ _ _ _ _ = Cert.KernelIdeal.Val.inp _ _ _ _ _
    rw [e0, e1, e2, e3, e4]
  have hr : ∀ c, Cert.ReferenceIdeal.Val.MFine m' c := fun c => by
    obtain ⟨e0, e1, e2, e3, e4⟩ := hm c
    show Cert.KernelIdeal.Val.Fine _ _ _ _ _
    rw [e0, e1, e2, e3, e4]
    exact hk c
  refine ⟨fun c => r0 (Cert.KernelIdeal.Val.dinp m c), fun c => r1 (Cert.KernelIdeal.Val.dinp m c), fun c => r2 (Cert.KernelIdeal.Val.dinp m c), kernel m g hk, ?_⟩
  refine (θ_run Cert.ReferenceIdeal.defs _ _).mono (fun _ q c => ?_) (reference m' g' hr)
  have qc := q c
  rw [e c] at qc
  exact qc

end Cert.Alg

end
-- ==== Proof.lean ====
/-
  The proof of `Cert.Claim`: the frames of the kernel, of its idealization and of the reference, that the idealization
  is the sanctioned one, and that the idealized kernel and the reference end with equal results.
-/
module

public import proofs.«01_k».proof.Defs
public import proofs.«01_k».proof.Proof.KBody
public import proofs.«01_k».proof.Proof.IBody
public import proofs.«01_k».proof.Proof.VAlg
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_inputs_in_range.Val.facts,
  fun m g _ => (θ_run Cert.Kernel.defs _ _).mono (fun _ h => ⟨fun c => Cert.Kernel.Hand.final_arg m h.1 c, h.2⟩) (Cert.Kernel.Hand.run_main m g),
  fun m g _ => (θ_run Cert.KernelIdeal.defs _ _).mono (fun _ h => ⟨fun c => Cert.KernelIdeal.Hand.final_arg m h.1 c, h.2⟩) (Cert.KernelIdeal.Hand.run_main m g),
  fun m g _ => (θ_run Cert.KernelIdeal.defs _ _).mono (fun _ h => ⟨fun c => Cert.KernelIdeal.Hand.final_arg m h.1 c, h.2⟩) (Cert.KernelIdeal.Hand.run_main m g),
  fun m g _ => Cert.ReferenceIdeal.Gen.frame m g,
  fun m g _ => Cert.ReferenceIdeal.Gen.frame m g,
  ⟨IdealRules.named_const.statement Cert.KernelIdeal.κ "log2e" .f32 0x3FB8AA3B#32 _ rfl,
   IdealRules.named_const.statement Cert.KernelIdeal.κ "ln2" .f32 0x3F317218#32 _ rfl,
   IdealRules.named_const.statement Cert.KernelIdeal.κ "ln2_sq" .f32 0x3EF5FDF0#32 _ rfl⟩,
  Cert.Alg.algebraic⟩

end Cert.Proof

end
